-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)) (v7 : (c : Dev Cert.Kernel3Ideal.nD) → Buf (Elt Ideal) ((c.tc : Thread Cert.Kernel3Ideal.nD Cert.Kernel3Ideal.τ).loc Cert.Kernel3Ideal.main_v0_7)) (v8 : (c : Dev Cert.Kernel3Ideal.nD) → Buf (Elt Ideal) ((c.tc : Thread Cert.Kernel3Ideal.nD Cert.Kernel3Ideal.τ).loc Cert.Kernel3Ideal.main_v0_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_v0_7) = v7 c
          ∧ r.2.mem ((c.tc : Thread Cert.Kernel3Ideal.nD Cert.Kernel3Ideal.τ).loc Cert.Kernel3Ideal.main_v0_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v88) = v0 c
          ∧ r.2.mem ((c.tc : Thread Cert.Reference3Ideal.nD Cert.Reference3Ideal.τ).loc Cert.Reference3Ideal.main_v85) = v1 c
          ∧ r.2.mem ((c.tc : Thread Cert.Reference3Ideal.nD Cert.Reference3Ideal.τ).loc Cert.Reference3Ideal.main_v78) = v2 c
          ∧ r.2.mem ((c.tc : Thread Cert.Reference3Ideal.nD Cert.Reference3Ideal.τ).loc Cert.Reference3Ideal.main_v75) = v3 c
          ∧ r.2.mem ((c.tc : Thread Cert.Reference3Ideal.nD Cert.Reference3Ideal.τ).loc Cert.Reference3Ideal.main_v89) = v4 c
          ∧ r.2.mem ((c.tc : Thread Cert.Reference3Ideal.nD Cert.Reference3Ideal.τ).loc Cert.Reference3Ideal.main_v90) = v5 c
          ∧ r.2.mem ((c.tc : Thread Cert.Reference3Ideal.nD Cert.Reference3Ideal.τ).loc Cert.Reference3Ideal.main_v91) = v6 c
          ∧ r.2.mem ((c.tc : Thread Cert.Reference3Ideal.nD Cert.Reference3Ideal.τ).loc Cert.Reference3Ideal.main_v92) = v7 c
          ∧ r.2.mem ((c.tc : Thread Cert.Reference3Ideal.nD Cert.Reference3Ideal.τ).loc Cert.Reference3Ideal.main_v93) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_v7) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v44) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S2048x768 : Shape := ⟨2, ![2048, 768]⟩
abbrev S2048x256 : Shape := ⟨2, ![2048, 256]⟩
abbrev S_ : Shape := ⟨0, ![]⟩

class Facts : Prop where
  bcast_S_S2048x768 : S_.BroadcastsInDim S2048x768 (![] : Fin 0 → Fin S2048x768.rank)
  bcast_S_S2048x256 : S_.BroadcastsInDim S2048x256 (![] : Fin 0 → Fin S2048x256.rank)

variable [Facts]

def fn {F : FTy → Type} [FloatOps F] (main_arg0 : FVec F S2048x768 .f32) (main_arg1 : FVec F S2048x256 .f32) : IVec S2048x768 1 × IVec S2048x256 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  (main_v2, main_v5)
-- ==== Pre_finite2.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2816x1024 : S_.BroadcastsInDim S2816x1024 (![] : Fin 0 → Fin S2816x1024.rank)
  bcast_S_S2048x2816 : S_.BroadcastsInDim S2048x2816 (![] : Fin 0 → Fin S2048x2816.rank)

variable [Facts]

def fn {F : FTy → Type} [FloatOps F] (main_arg0 : FVec F S2048x1024 .bf16) (main_arg1 : FVec F S2816x1024 .bf16) (main_arg2 : FVec F S2048x2816 .f32) (main_arg3 : FVec F S2048x2816 .f32) : IVec S2048x1024 1 × IVec S2816x1024 1 × IVec S2048x2816 1 × IVec S2048x2816 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S2048x2816 .f32 := Host.absf main_arg2
  let main_cst_1 : FVec F S_ .f32 := constant S_ .f32 0x7F800000#32
  let main_v9 : FVec F S2048x2816 .f32 := broadcastInDim S2048x2816 ![] bcast_S_S2048x2816 main_cst_1
  let main_v10 : IVec S2048x2816 1 := cmpf .olt main_v8 main_v9
  let main_v11 : FVec F S2048x2816 .f32 := Host.absf main_arg3
  let main_cst_2 : FVec F S_ .f32 := constant S_ .f32 0x7F800000#32
  let main_v12 : FVec F S2048x2816 .f32 := broadcastInDim S2048x2816 ![] bcast_S_S2048x2816 main_cst_2
  let main_v13 : IVec S2048x2816 1 := cmpf .olt main_v11 main_v12
  (main_v3, main_v7, main_v10, main_v13)
-- ==== Kernel.lean ====
abbrev S2048x768 : Shape := ⟨2, ![2048, 768]⟩
abbrev S2048x256 : Shape := ⟨2, ![2048, 256]⟩
abbrev S2048x4x64 : Shape := ⟨3, ![2048, 4, 64]⟩
abbrev S4x2048x64 : Shape := ⟨3, ![4, 2048, 64]⟩
abbrev S_ : Shape := ⟨0, ![]⟩
abbrev S4x2048x2048 : Shape := ⟨3, ![4, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x2048x4x512 : Shape := ⟨4, ![4, 2048, 4, 512]⟩
abbrev S4x2048x4 : Shape := ⟨3, ![4, 2048, 4]⟩
abbrev S4x2048x128 : Shape := ⟨3, ![4, 2048, 128]⟩
abbrev S4x128x64 : Shape := ⟨3, ![4, 128, 64]⟩
abbrev S4x128x128 : Shape := ⟨3, ![4, 128, 128]⟩
abbrev S256x256 : Shape := ⟨2, ![256, 256]⟩
abbrev S128x128 : Shape := ⟨2, ![128, 128]⟩
abbrev S1x128x64 : Shape := ⟨3, ![1, 128, 64]⟩
abbrev S128x64 : Shape := ⟨2, ![128, 64]⟩
abbrev S1x128x128 : Shape := ⟨3, ![1, 128, 128]⟩
abbrev S128x1 : Shape := ⟨2, ![128, 1]⟩
abbrev S1x512x64 : Shape := ⟨3, ![1, 512, 64]⟩
abbrev S512x64 : Shape := ⟨2, ![512, 64]⟩
abbrev S128 : Shape := ⟨1, ![128]⟩
abbrev S128x512 : Shape := ⟨2, ![128, 512]⟩
abbrev S128x256 : Shape := ⟨2, ![128, 256]⟩

abbrev nBuf : Space → Nat
  | .hbm => 55
  | .vmem => 12
  | .smem => 0
  | _ => 0

abbrev bufTy : (tb : Table) → Fin (tcTables nBuf tb) → BufTy
  | .hbm, ⟨0, _⟩ => ⟨S2048x768, .f32⟩
  | .hbm, ⟨1, _⟩ => ⟨S2048x256, .f32⟩
  | .hbm, ⟨2, _⟩ => ⟨S2048x256, .f32⟩
  | .hbm, ⟨3, _⟩ => ⟨S2048x4x64, .f32⟩
  | .hbm, ⟨4, _⟩ => ⟨S4x2048x64, .f32⟩
  | .hbm, ⟨5, _⟩ => ⟨S_, .f32⟩
  | .hbm, ⟨6, _⟩ => ⟨S4x2048x64, .f32⟩
  | .hbm, ⟨7, _⟩ => ⟨S4x2048x64, .f32⟩
  | .hbm, ⟨8, _⟩ => ⟨S2048x256, .f32⟩
  | .hbm, ⟨9, _⟩ => ⟨S2048x4x64, .f32⟩
  | .hbm, ⟨10, _⟩ => ⟨S4x2048x64, .f32⟩
  | .hbm, ⟨11, _⟩ => ⟨S2048x256, .f32⟩
  | .hbm, ⟨12, _⟩ => ⟨S2048x4x64, .f32⟩
  | .hbm, ⟨13, _⟩ => ⟨S4x2048x64, .f32⟩
  | .hbm, ⟨14, _⟩ => ⟨S2048x4x64, .f32⟩
  | .hbm, ⟨15, _⟩ => ⟨S4x2048x64, .f32⟩
  | .hbm, ⟨16, _⟩ => ⟨S4x2048x2048, .f32⟩
  | .hbm, ⟨17, _⟩ => ⟨S2048, .i32⟩
  | .hbm, ⟨18, _⟩ => ⟨S1x2048, .i32⟩
  | .hbm, ⟨19, _⟩ => ⟨S2048, .i32⟩
  | .hbm, ⟨20, _⟩ => ⟨S2048x1, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .i1⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S_, .f32⟩
  | .hbm, ⟨43, _⟩ => ⟨S4x2048x2048, .i1⟩
  | .hbm, ⟨44, _⟩ => ⟨S4x2048x2048, .f32⟩
  | .hbm, ⟨45, _⟩ => ⟨S4x2048x2048, .f32⟩
  | .hbm, ⟨46, _⟩ => ⟨S4x2048x4x512, .f32⟩
  | .hbm, ⟨47, _⟩ => ⟨S_, .f32⟩
  | .hbm, ⟨48, _⟩ => ⟨S4x2048x4, .f32⟩
  | .hbm, ⟨49, _⟩ => ⟨S_, .i32⟩
  | .hbm, ⟨50, _⟩ => ⟨S_, .f32⟩
  | .hbm, ⟨51, _⟩ => ⟨S4x2048x128, .f32⟩
  | .hbm, ⟨52, _⟩ => ⟨S4x2048x64, .f32⟩
  | .hbm, ⟨53, _⟩ => ⟨S4x2048x64, .f32⟩
  | .hbm, ⟨54, _⟩ => ⟨S4x2048x64, .f32⟩
  | .local _ .vmem, ⟨0, _⟩ => ⟨S4x128x64, .f32⟩
  | .local _ .vmem, ⟨1, _⟩ => ⟨S4x128x64, .f32⟩
  | .local _ .vmem, ⟨2, _⟩ => ⟨S4x2048x64, .f32⟩
  | .local _ .vmem, ⟨3, _⟩ => ⟨S4x2048x64, .f32⟩
  | .local _ .vmem, ⟨4, _⟩ => ⟨S4x128x64, .f32⟩
  | .local _ .vmem, ⟨5, _⟩ => ⟨S4x128x64, .f32⟩
  | .local _ .vmem, ⟨6, _⟩ => ⟨S4x128x128, .f32⟩
  | .local _ .vmem, ⟨7, _⟩ => ⟨S4x128x128, .f32⟩
  | .local _ .vmem, ⟨8, _⟩ => ⟨S4x128x64, .f32⟩
  | .local _ .vmem, ⟨9, _⟩ => ⟨S4x128x64, .f32⟩
  | .local _ .vmem, ⟨10, _⟩ => ⟨S4x2048x64, .f32⟩
  | .local _ .vmem, ⟨11, _⟩ => ⟨S4x2048x64, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v22 : Ref sig .tc := ⟨.hbm, 40, rfl⟩
abbrev main_cst_0 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_c : Ref sig .tc := ⟨.hbm, 49, rfl⟩
abbrev main_call2_v0 : Ref sig .tc := ⟨.hbm, 50, rfl⟩
abbrev main_v26 : Ref sig .tc := ⟨.hbm, 51, rfl⟩
abbrev main_v27_0 : Ref sig .tc := ⟨.hbm, 52, rfl⟩
abbrev main_v27_1 : Ref sig .tc := ⟨.hbm, 53, rfl⟩
abbrev main_v27_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

@[reducible] def k0_t1_loop (i : grid0.Coords) : Scf.Loop 32 :=
  let c0_i32_46 : BitVec 32 := 0#32
  let arg0 : BitVec 32 := BitVec.ofNat 32 (i 0).val
  let c0_i32_40 : BitVec 32 := 0#32
  let v47 : BitVec 1 := Scalar.cmpi .sgt arg0 c0_i32_40
  let v48 : BitVec 32 := Scalar.extui v47
  let c0_i32_41 : BitVec 32 := 0#32
  let v49 : BitVec 1 := Scalar.cmpi .slt arg0 c0_i32_41
  let v50 : BitVec 32 := Scalar.extui v49
  let v51 : BitVec 32 := Scalar.subi v48 v50
  let c4_i32 : BitVec 32 := 4#32
  let c0_i32_42 : BitVec 32 := 0#32
  let v52 : BitVec 1 := Scalar.cmpi .sgt c4_i32 c0_i32_42
  let v53 : BitVec 32 := Scalar.extui v52
  let c0_i32_43 : BitVec 32 := 0#32
  let v54 : BitVec 1 := Scalar.cmpi .slt c4_i32 c0_i32_43
  let v55 : BitVec 32 := Scalar.extui v54
  let v56 : BitVec 32 := Scalar.subi v53 v55
  let v57 : BitVec 1 := Scalar.cmpi .ne v51 v56
  let v58 : BitVec 32 := Scalar.remsi arg0 c4_i32
  let c0_i32_44 : BitVec 32 := 0#32
  let v59 : BitVec 1 := Scalar.cmpi .ne v58 c0_i32_44
  let v60 : BitVec 1 := Scalar.andi v57 v59
  let v46 : BitVec 32 := Scalar.divsi arg0 c4_i32
  let c1_i32 : BitVec 32 := 1#32
  let v61 : BitVec 32 := Scalar.subi v46 c1_i32
  let v62 : BitVec 32 := Scalar.select v60 v61 v46
  let c1_i32_45 : BitVec 32 := 1#32
  let v63 : BitVec 32 := Scalar.addi v62 c1_i32_45
  let v64 : BitVec 32 := Scalar.subi v63 c0_i32_46
  let c1_i32_47 : BitVec 32 := 1#32
  let v66 : BitVec 32 := Scalar.divsi v64 c1_i32_47
  let v67 : BitVec 32 := Scalar.muli v66 c1_i32_47
  let v68 : BitVec 32 := Scalar.addi c0_i32_46 v67
  let c1_i32_48 : BitVec 32 := 1#32
  ⟨c0_i32_46, v68, c1_i32_48⟩
def k0_mult1 (i : grid0.Coords) (k0_t1 : Fin (k0_t1_loop i).trips) : BitVec 32 :=
  let c0_i32_46 : BitVec 32 := 0#32
  let c1_i32_48 : BitVec 32 := 1#32
  let arg9 : BitVec 32 := Scf.iv c0_i32_46 c1_i32_48 k0_t1
  let c512_i32 : BitVec 32 := 512#32
  let v83 : BitVec 32 := Scalar.muli arg9 c512_i32
  v83
def k0_off1 (i : grid0.Coords) (k0_t1 : Fin (k0_t1_loop i).trips) : Fin 3 → Nat :=
  let c0_62 : Index := 0#32
  let c0_i32_46 : BitVec 32 := 0#32
  let c1_i32_48 : BitVec 32 := 1#32
  let arg9 : BitVec 32 := Scf.iv c0_i32_46 c1_i32_48 k0_t1
  let c512_i32 : BitVec 32 := 512#32
  let v83 : BitVec 32 := Scalar.muli arg9 c512_i32
  let v84 : BitVec 32 := v83
  let v85 : Index := Scalar.indexCast v84
  let c0_63 : Index := 0#32
  ![0, v85.toNat, 0]
def k0_off2 (i : grid0.Coords) (k0_t1 : Fin (k0_t1_loop i).trips) : Fin 3 → Nat :=
  let c1_97 : Index := 1#32
  let c0_i32_46 : BitVec 32 := 0#32
  let c1_i32_48 : BitVec 32 := 1#32
  let arg9 : BitVec 32 := Scf.iv c0_i32_46 c1_i32_48 k0_t1
  let c512_i32 : BitVec 32 := 512#32
  let v83 : BitVec 32 := Scalar.muli arg9 c512_i32
  let v84 : BitVec 32 := v83
  let v231 : Index := Scalar.indexCast v84
  let c0_98 : Index := 0#32
  ![1, v231.toNat, 0]
def k0_off3 (i : grid0.Coords) (k0_t1 : Fin (k0_t1_loop i).trips) : Fin 3 → Nat :=
  let c2_133 : Index := 2#32
  let c0_i32_46 : BitVec 32 := 0#32
  let c1_i32_48 : BitVec 32 := 1#32
  let arg9 : BitVec 32 := Scf.iv c0_i32_46 c1_i32_48 k0_t1
  let c512_i32 : BitVec 32 := 512#32
  let v83 : BitVec 32 := Scalar.muli arg9 c512_i32
  let v84 : BitVec 32 := v83
  let v377 : Index := Scalar.indexCast v84
  let c0_134 : Index := 0#32
  ![2, v377.toNat, 0]
def k0_off4 (i : grid0.Coords) (k0_t1 : Fin (k0_t1_loop i).trips) : Fin 3 → Nat :=
  let c3_169 : Index := 3#32
  let c0_i32_46 : BitVec 32 := 0#32
  let c1_i32_48 : BitVec 32 := 1#32
  let arg9 : BitVec 32 := Scf.iv c0_i32_46 c1_i32_48 k0_t1
  let c512_i32 : BitVec 32 := 512#32
  let v83 : BitVec 32 := Scalar.muli arg9 c512_i32
  let v84 : BitVec 32 := v83
  let v523 : Index := Scalar.indexCast v84
  let c0_170 : Index := 0#32
  ![3, v523.toNat, 0]
@[reducible] def k0_t2_loop (i : grid0.Coords) : Scf.Loop 32 :=
  let c0_i32_46 : BitVec 32 := 0#32
  let arg0 : BitVec 32 := BitVec.ofNat 32 (i 0).val
  let c0_i32_40 : BitVec 32 := 0#32
  let v47 : BitVec 1 := Scalar.cmpi .sgt arg0 c0_i32_40
  let v48 : BitVec 32 := Scalar.extui v47
  let c0_i32_41 : BitVec 32 := 0#32
  let v49 : BitVec 1 := Scalar.cmpi .slt arg0 c0_i32_41
  let v50 : BitVec 32 := Scalar.extui v49
  let v51 : BitVec 32 := Scalar.subi v48 v50
  let c4_i32 : BitVec 32 := 4#32
  let c0_i32_42 : BitVec 32 := 0#32
  let v52 : BitVec 1 := Scalar.cmpi .sgt c4_i32 c0_i32_42
  let v53 : BitVec 32 := Scalar.extui v52
  let c0_i32_43 : BitVec 32 := 0#32
  let v54 : BitVec 1 := Scalar.cmpi .slt c4_i32 c0_i32_43
  let v55 : BitVec 32 := Scalar.extui v54
  let v56 : BitVec 32 := Scalar.subi v53 v55
  let v57 : BitVec 1 := Scalar.cmpi .ne v51 v56
  let v58 : BitVec 32 := Scalar.remsi arg0 c4_i32
  let c0_i32_44 : BitVec 32 := 0#32
  let v59 : BitVec 1 := Scalar.cmpi .ne v58 c0_i32_44
  let v60 : BitVec 1 := Scalar.andi v57 v59
  let v46 : BitVec 32 := Scalar.divsi arg0 c4_i32
  let c1_i32 : BitVec 32 := 1#32
  let v61 : BitVec 32 := Scalar.subi v46 c1_i32
  let v62 : BitVec 32 := Scalar.select v60 v61 v46
  let c1_i32_45 : BitVec 32 := 1#32
  let v63 : BitVec 32 := Scalar.addi v62 c1_i32_45
  let v64 : BitVec 32 := Scalar.subi v63 c0_i32_46
  let c1_i32_47 : BitVec 32 := 1#32
  let v66 : BitVec 32 := Scalar.divsi v64 c1_i32_47
  let v67 : BitVec 32 := Scalar.muli v66 c1_i32_47
  let v68 : BitVec 32 := Scalar.addi c0_i32_46 v67
  let v65 : BitVec 32 := Scalar.addi c0_i32_46 v64
  let c1_i32_49 : BitVec 32 := 1#32
  ⟨v68, v65, c1_i32_49⟩
def k0_mult2 (i : grid0.Coords) (k0_t2 : Fin (k0_t2_loop i).trips) : BitVec 32 :=
  let c0_i32_46 : BitVec 32 := 0#32
  let arg0 : BitVec 32 := BitVec.ofNat 32 (i 0).val
  let c0_i32_40 : BitVec 32 := 0#32
  let v47 : BitVec 1 := Scalar.cmpi .sgt arg0 c0_i32_40
  let v48 : BitVec 32 := Scalar.extui v47
  let c0_i32_41 : BitVec 32 := 0#32
  let v49 : BitVec 1 := Scalar.cmpi .slt arg0 c0_i32_41
  let v50 : BitVec 32 := Scalar.extui v49
  let v51 : BitVec 32 := Scalar.subi v48 v50
  let c4_i32 : BitVec 32 := 4#32
  let c0_i32_42 : BitVec 32 := 0#32
  let v52 : BitVec 1 := Scalar.cmpi .sgt c4_i32 c0_i32_42
  let v53 : BitVec 32 := Scalar.extui v52
  let c0_i32_43 : BitVec 32 := 0#32
  let v54 : BitVec 1 := Scalar.cmpi .slt c4_i32 c0_i32_43
  let v55 : BitVec 32 := Scalar.extui v54
  let v56 : BitVec 32 := Scalar.subi v53 v55
  let v57 : BitVec 1 := Scalar.cmpi .ne v51 v56
  let v58 : BitVec 32 := Scalar.remsi arg0 c4_i32
  let c0_i32_44 : BitVec 32 := 0#32
  let v59 : BitVec 1 := Scalar.cmpi .ne v58 c0_i32_44
  let v60 : BitVec 1 := Scalar.andi v57 v59
  let v46 : BitVec 32 := Scalar.divsi arg0 c4_i32
  let c1_i32 : BitVec 32 := 1#32
  let v61 : BitVec 32 := Scalar.subi v46 c1_i32
  let v62 : BitVec 32 := Scalar.select v60 v61 v46
  let c1_i32_45 : BitVec 32 := 1#32
  let v63 : BitVec 32 := Scalar.addi v62 c1_i32_45
  let v64 : BitVec 32 := Scalar.subi v63 c0_i32_46
  let c1_i32_47 : BitVec 32 := 1#32
  let v66 : BitVec 32 := Scalar.divsi v64 c1_i32_47
  let v67 : BitVec 32 := Scalar.muli v66 c1_i32_47
  let v68 : BitVec 32 := Scalar.addi c0_i32_46 v67
  let c1_i32_49 : BitVec 32 := 1#32
  let arg9 : BitVec 32 := Scf.iv v68 c1_i32_49 k0_t2
  let c512_i32 : BitVec 32 := 512#32
  let v83 : BitVec 32 := Scalar.muli arg9 c512_i32
  v83
def k0_off5 (i : grid0.Coords) (k0_t2 : Fin (k0_t2_loop i).trips) : Fin 3 → Nat :=
  let c0_62 : Index := 0#32
  let c0_i32_46 : BitVec 32 := 0#32
  let arg0 : BitVec 32 := BitVec.ofNat 32 (i 0).val
  let c0_i32_40 : BitVec 32 := 0#32
  let v47 : BitVec 1 := Scalar.cmpi .sgt arg0 c0_i32_40
  let v48 : BitVec 32 := Scalar.extui v47
  let c0_i32_41 : BitVec 32 := 0#32
  let v49 : BitVec 1 := Scalar.cmpi .slt arg0 c0_i32_41
  let v50 : BitVec 32 := Scalar.extui v49
  let v51 : BitVec 32 := Scalar.subi v48 v50
  let c4_i32 : BitVec 32 := 4#32
  let c0_i32_42 : BitVec 32 := 0#32
  let v52 : BitVec 1 := Scalar.cmpi .sgt c4_i32 c0_i32_42
  let v53 : BitVec 32 := Scalar.extui v52
  let c0_i32_43 : BitVec 32 := 0#32
  let v54 : BitVec 1 := Scalar.cmpi .slt c4_i32 c0_i32_43
  let v55 : BitVec 32 := Scalar.extui v54
  let v56 : BitVec 32 := Scalar.subi v53 v55
  let v57 : BitVec 1 := Scalar.cmpi .ne v51 v56
  let v58 : BitVec 32 := Scalar.remsi arg0 c4_i32
  let c0_i32_44 : BitVec 32 := 0#32
  let v59 : BitVec 1 := Scalar.cmpi .ne v58 c0_i32_44
  let v60 : BitVec 1 := Scalar.andi v57 v59
  let v46 : BitVec 32 := Scalar.divsi arg0 c4_i32
  let c1_i32 : BitVec 32 := 1#32
  let v61 : BitVec 32 := Scalar.subi v46 c1_i32
  let v62 : BitVec 32 := Scalar.select v60 v61 v46
  let c1_i32_45 : BitVec 32 := 1#32
  let v63 : BitVec 32 := Scalar.addi v62 c1_i32_45
  let v64 : BitVec 32 := Scalar.subi v63 c0_i32_46
  let c1_i32_47 : BitVec 32 := 1#32
  let v66 : BitVec 32 := Scalar.divsi v64 c1_i32_47
  let v67 : BitVec 32 := Scalar.muli v66 c1_i32_47
  let v68 : BitVec 32 := Scalar.addi c0_i32_46 v67
  let c1_i32_49 : BitVec 32 := 1#32
  let arg9 : BitVec 32 := Scf.iv v68 c1_i32_49 k0_t2
  let c512_i32 : BitVec 32 := 512#32
  let v83 : BitVec 32 := Scalar.muli arg9 c512_i32
  let v84 : BitVec 32 := v83
  let v85 : Index := Scalar.indexCast v84
  let c0_63 : Index := 0#32
  ![0, v85.toNat, 0]
def k0_off6 (i : grid0.Coords) (k0_t2 : Fin (k0_t2_loop i).trips) : Fin 3 → Nat :=
  let c1_97 : Index := 1#32
  let c0_i32_46 : BitVec 32 := 0#32
  let arg0 : BitVec 32 := BitVec.ofNat 32 (i 0).val
  let c0_i32_40 : BitVec 32 := 0#32
  let v47 : BitVec 1 := Scalar.cmpi .sgt arg0 c0_i32_40
  let v48 : BitVec 32 := Scalar.extui v47
  let c0_i32_41 : BitVec 32 := 0#32
  let v49 : BitVec 1 := Scalar.cmpi .slt arg0 c0_i32_41
  let v50 : BitVec 32 := Scalar.extui v49
  let v51 : BitVec 32 := Scalar.subi v48 v50
  let c4_i32 : BitVec 32 := 4#32
  let c0_i32_42 : BitVec 32 := 0#32
  let v52 : BitVec 1 := Scalar.cmpi .sgt c4_i32 c0_i32_42
  let v53 : BitVec 32 := Scalar.extui v52
  let c0_i32_43 : BitVec 32 := 0#32
  let v54 : BitVec 1 := Scalar.cmpi .slt c4_i32 c0_i32_43
  let v55 : BitVec 32 := Scalar.extui v54
  let v56 : BitVec 32 := Scalar.subi v53 v55
  let v57 : BitVec 1 := Scalar.cmpi .ne v51 v56
  let v58 : BitVec 32 := Scalar.remsi arg0 c4_i32
  let c0_i32_44 : BitVec 32 := 0#32
  let v59 : BitVec 1 := Scalar.cmpi .ne v58 c0_i32_44
  let v60 : BitVec 1 := Scalar.andi v57 v59
  let v46 : BitVec 32 := Scalar.divsi arg0 c4_i32
  let c1_i32 : BitVec 32 := 1#32
  let v61 : BitVec 32 := Scalar.subi v46 c1_i32
  let v62 : BitVec 32 := Scalar.select v60 v61 v46
  let c1_i32_45 : BitVec 32 := 1#32
  let v63 : BitVec 32 := Scalar.addi v62 c1_i32_45
  let v64 : BitVec 32 := Scalar.subi v63 c0_i32_46
  let c1_i32_47 : BitVec 32 := 1#32
  let v66 : BitVec 32 := Scalar.divsi v64 c1_i32_47
  let v67 : BitVec 32 := Scalar.muli v66 c1_i32_47
  let v68 : BitVec 32 := Scalar.addi c0_i32_46 v67
  let c1_i32_49 : BitVec 32 := 1#32
  let arg9 : BitVec 32 := Scf.iv v68 c1_i32_49 k0_t2
  let c512_i32 : BitVec 32 := 512#32
  let v83 : BitVec 32 := Scalar.muli arg9 c512_i32
  let v84 : BitVec 32 := v83
  let v231 : Index := Scalar.indexCast v84
  let c0_98 : Index := 0#32
  ![1, v231.toNat, 0]
def k0_off7 (i : grid0.Coords) (k0_t2 : Fin (k0_t2_loop i).trips) : Fin 3 → Nat :=
  let c2_133 : Index := 2#32
  let c0_i32_46 : BitVec 32 := 0#32
  let arg0 : BitVec 32 := BitVec.ofNat 32 (i 0).val
  let c0_i32_40 : BitVec 32 := 0#32
  let v47 : BitVec 1 := Scalar.cmpi .sgt arg0 c0_i32_40
  let v48 : BitVec 32 := Scalar.extui v47
  let c0_i32_41 : BitVec 32 := 0#32
  let v49 : BitVec 1 := Scalar.cmpi .slt arg0 c0_i32_41
  let v50 : BitVec 32 := Scalar.extui v49
  let v51 : BitVec 32 := Scalar.subi v48 v50
  let c4_i32 : BitVec 32 := 4#32
  let c0_i32_42 : BitVec 32 := 0#32
  let v52 : BitVec 1 := Scalar.cmpi .sgt c4_i32 c0_i32_42
  let v53 : BitVec 32 := Scalar.extui v52
  let c0_i32_43 : BitVec 32 := 0#32
  let v54 : BitVec 1 := Scalar.cmpi .slt c4_i32 c0_i32_43
  let v55 : BitVec 32 := Scalar.extui v54
  let v56 : BitVec 32 := Scalar.subi v53 v55
  let v57 : BitVec 1 := Scalar.cmpi .ne v51 v56
  let v58 : BitVec 32 := Scalar.remsi arg0 c4_i32
  let c0_i32_44 : BitVec 32 := 0#32
  let v59 : BitVec 1 := Scalar.cmpi .ne v58 c0_i32_44
  let v60 : BitVec 1 := Scalar.andi v57 v59
  let v46 : BitVec 32 := Scalar.divsi arg0 c4_i32
  let c1_i32 : BitVec 32 := 1#32
  let v61 : BitVec 32 := Scalar.subi v46 c1_i32
  let v62 : BitVec 32 := Scalar.select v60 v61 v46
  let c1_i32_45 : BitVec 32 := 1#32
  let v63 : BitVec 32 := Scalar.addi v62 c1_i32_45
  let v64 : BitVec 32 := Scalar.subi v63 c0_i32_46
  let c1_i32_47 : BitVec 32 := 1#32
  let v66 : BitVec 32 := Scalar.divsi v64 c1_i32_47
  let v67 : BitVec 32 := Scalar.muli v66 c1_i32_47
  let v68 : BitVec 32 := Scalar.addi c0_i32_46 v67
  let c1_i32_49 : BitVec 32 := 1#32
  let arg9 : BitVec 32 := Scf.iv v68 c1_i32_49 k0_t2
  let c512_i32 : BitVec 32 := 512#32
  let v83 : BitVec 32 := Scalar.muli arg9 c512_i32
  let v84 : BitVec 32 := v83
  let v377 : Index := Scalar.indexCast v84
  let c0_134 : Index := 0#32
  ![2, v377.toNat, 0]
def k0_off8 (i : grid0.Coords) (k0_t2 : Fin (k0_t2_loop i).trips) : Fin 3 → Nat :=
  let c3_169 : Index := 3#32
  let c0_i32_46 : BitVec 32 := 0#32
  let arg0 : BitVec 32 := BitVec.ofNat 32 (i 0).val
  let c0_i32_40 : BitVec 32 := 0#32
  let v47 : BitVec 1 := Scalar.cmpi .sgt arg0 c0_i32_40
  let v48 : BitVec 32 := Scalar.extui v47
  let c0_i32_41 : BitVec 32 := 0#32
  let v49 : BitVec 1 := Scalar.cmpi .slt arg0 c0_i32_41
  let v50 : BitVec 32 := Scalar.extui v49
  let v51 : BitVec 32 := Scalar.subi v48 v50
  let c4_i32 : BitVec 32 := 4#32
  let c0_i32_42 : BitVec 32 := 0#32
  let v52 : BitVec 1 := Scalar.cmpi .sgt c4_i32 c0_i32_42
  let v53 : BitVec 32 := Scalar.extui v52
  let c0_i32_43 : BitVec 32 := 0#32
  let v54 : BitVec 1 := Scalar.cmpi .slt c4_i32 c0_i32_43
  let v55 : BitVec 32 := Scalar.extui v54
  let v56 : BitVec 32 := Scalar.subi v53 v55
  let v57 : BitVec 1 := Scalar.cmpi .ne v51 v56
  let v58 : BitVec 32 := Scalar.remsi arg0 c4_i32
  let c0_i32_44 : BitVec 32 := 0#32
  let v59 : BitVec 1 := Scalar.cmpi .ne v58 c0_i32_44
  let v60 : BitVec 1 := Scalar.andi v57 v59
  let v46 : BitVec 32 := Scalar.divsi arg0 c4_i32
  let c1_i32 : BitVec 32 := 1#32
  let v61 : BitVec 32 := Scalar.subi v46 c1_i32
  let v62 : BitVec 32 := Scalar.select v60 v61 v46
  let c1_i32_45 : BitVec 32 := 1#32
  let v63 : BitVec 32 := Scalar.addi v62 c1_i32_45
  let v64 : BitVec 32 := Scalar.subi v63 c0_i32_46
  let c1_i32_47 : BitVec 32 := 1#32
  let v66 : BitVec 32 := Scalar.divsi v64 c1_i32_47
  let v67 : BitVec 32 := Scalar.muli v66 c1_i32_47
  let v68 : BitVec 32 := Scalar.addi c0_i32_46 v67
  let c1_i32_49 : BitVec 32 := 1#32
  let arg9 : BitVec 32 := Scf.iv v68 c1_i32_49 k0_t2
  let c512_i32 : BitVec 32 := 512#32
  let v83 : BitVec 32 := Scalar.muli arg9 c512_i32
  let v84 : BitVec 32 := v83
  let v523 : Index := Scalar.indexCast v84
  let c0_170 : Index := 0#32
  ![3, v523.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x2048x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2048x768 : Shape := ⟨2, ![2048, 768]⟩
abbrev S2048x256 : Shape := ⟨2, ![2048, 256]⟩
abbrev S2048x4x64 : Shape := ⟨3, ![2048, 4, 64]⟩
abbrev S_ : Shape := ⟨0, ![]⟩
abbrev S4x2048x2048 : Shape := ⟨3, ![4, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x64x2048 : Shape := ⟨3, ![4, 64, 2048]⟩
abbrev S4x2048x64 : Shape := ⟨3, ![4, 2048, 64]⟩

abbrev nBuf : Space → Nat
  | .hbm => 170
  | .vmem => 0
  | .smem => 0
  | _ => 0

abbrev hbmTy0_0 (i : Nat) : BufTy := match i % 128 with
  | 0 => ⟨S2048x768, .f32⟩
  | 1 => ⟨S2048x256, .f32⟩
  | 2 => ⟨S2048x256, .f32⟩
  | 3 => ⟨S2048x256, .f32⟩
  | 4 => ⟨S2048x256, .f32⟩
  | 5 => ⟨S2048x4x64, .f32⟩
  | 6 => ⟨S_, .f32⟩
  | 7 => ⟨S2048x4x64, .f32⟩
  | 8 => ⟨S2048x4x64, .f32⟩
  | 9 => ⟨S2048x4x64, .f32⟩
  | 10 => ⟨S2048x4x64, .f32⟩
  | 11 => ⟨S4x2048x2048, .f32⟩
  | 12 => ⟨S2048, .i32⟩
  | 13 => ⟨S2048x1, .i32⟩
  | 14 => ⟨S2048, .i32⟩
  | 15 => ⟨S1x2048, .i32⟩
  | 16 => ⟨S2048x2048, .i32⟩
  | 17 => ⟨S2048x2048, .i32⟩
  | 18 => ⟨S2048x2048, .i1⟩
  | 19 => ⟨S4x2048x2048, .f32⟩
  | 20 => ⟨S4x2048x2048, .f32⟩
  | 21 => ⟨S_, .f32⟩
  | 22 => ⟨S4x2048x2048, .f32⟩
  | 23 => ⟨S4x2048x2048, .f32⟩
  | 24 => ⟨S4x2048x2048, .f32⟩
  | 25 => ⟨S4x2048x2048, .f32⟩
  | 26 => ⟨S4x2048x2048, .i1⟩
  | 27 => ⟨S4x2048x2048, .f32⟩
  | 28 => ⟨S4x2048x2048, .f32⟩
  | 29 => ⟨S4x2048x2048, .f32⟩
  | 30 => ⟨S4x2048x2048, .f32⟩
  | 31 => ⟨S4x2048x2048, .f32⟩
  | 32 => ⟨S4x2048x2048, .f32⟩
  | 33 => ⟨S4x2048x2048, .f32⟩
  | 34 => ⟨S4x2048x2048, .f32⟩
  | 35 => ⟨S_, .f32⟩
  | 36 => ⟨S4x2048x2048, .f32⟩
  | 37 => ⟨S4x2048x2048, .i1⟩
  | 38 => ⟨S_, .f32⟩
  | 39 => ⟨S4x2048x2048, .f32⟩
  | 40 => ⟨S4x2048x2048, .f32⟩
  | 41 => ⟨S_, .f32⟩
  | 42 => ⟨S4x2048x2048, .f32⟩
  | 43 => ⟨S4x2048x2048, .i1⟩
  | 44 => ⟨S_, .f32⟩
  | 45 => ⟨S4x2048x2048, .f32⟩
  | 46 => ⟨S4x2048x2048, .f32⟩
  | 47 => ⟨S4x2048x2048, .f32⟩
  | 48 => ⟨S4x2048x2048, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S4x2048x2048, .f32⟩
  | 57 => ⟨S4x2048x2048, .i1⟩
  | 58 => ⟨S_, .f32⟩
  | 59 => ⟨S4x2048x2048, .f32⟩
  | 60 => ⟨S4x2048x2048, .f32⟩
  | 61 => ⟨S4x2048x2048, .f32⟩
  | 62 => ⟨S4x2048x2048, .f32⟩
  | 63 => ⟨S4x2048x2048, .f32⟩
  | 64 => ⟨S_, .f32⟩
  | 65 => ⟨S4x2048x2048, .f32⟩
  | 66 => ⟨S4x2048x2048, .f32⟩
  | 67 => ⟨S4x2048x2048, .f32⟩
  | 68 => ⟨S_, .f32⟩
  | 69 => ⟨S_, .f32⟩
  | 70 => ⟨S4x2048x2048, .i1⟩
  | 71 => ⟨S4x2048x2048, .f32⟩
  | 72 => ⟨S4x2048x2048, .f32⟩
  | 73 => ⟨S_, .f32⟩
  | 74 => ⟨S4x2048x2048, .f32⟩
  | 75 => ⟨S4x2048x2048, .f32⟩
  | 76 => ⟨S_, .f32⟩
  | 77 => ⟨S4x2048x2048, .f32⟩
  | 78 => ⟨S4x2048x2048, .f32⟩
  | 79 => ⟨S4x2048x2048, .f32⟩
  | 80 => ⟨S4x2048x2048, .f32⟩
  | 81 => ⟨S4x2048x2048, .i1⟩
  | 82 => ⟨S4x2048x2048, .f32⟩
  | 83 => ⟨S4x2048x2048, .f32⟩
  | 84 => ⟨S4x2048x2048, .f32⟩
  | 85 => ⟨S4x2048x2048, .f32⟩
  | 86 => ⟨S4x2048x2048, .f32⟩
  | 87 => ⟨S4x2048x2048, .f32⟩
  | 88 => ⟨S4x2048x2048, .f32⟩
  | 89 => ⟨S4x2048x2048, .f32⟩
  | 90 => ⟨S_, .f32⟩
  | 91 => ⟨S4x2048x2048, .f32⟩
  | 92 => ⟨S4x2048x2048, .i1⟩
  | 93 => ⟨S_, .f32⟩
  | 94 => ⟨S4x2048x2048, .f32⟩
  | 95 => ⟨S4x2048x2048, .f32⟩
  | 96 => ⟨S_, .f32⟩
  | 97 => ⟨S4x2048x2048, .f32⟩
  | 98 => ⟨S4x2048x2048, .i1⟩
  | 99 => ⟨S_, .f32⟩
  | 100 => ⟨S4x2048x2048, .f32⟩
  | 101 => ⟨S4x2048x2048, .f32⟩
  | 102 => ⟨S4x2048x2048, .f32⟩
  | 103 => ⟨S4x2048x2048, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S4x2048x2048, .f32⟩
  | 112 => ⟨S4x2048x2048, .i1⟩
  | 113 => ⟨S_, .f32⟩
  | 114 => ⟨S4x2048x2048, .f32⟩
  | 115 => ⟨S4x2048x2048, .f32⟩
  | 116 => ⟨S4x2048x2048, .f32⟩
  | 117 => ⟨S4x2048x2048, .f32⟩
  | 118 => ⟨S4x2048x2048, .f32⟩
  | 119 => ⟨S_, .f32⟩
  | 120 => ⟨S4x2048x2048, .f32⟩
  | 121 => ⟨S4x2048x2048, .f32⟩
  | 122 => ⟨S4x2048x2048, .f32⟩
  | 123 => ⟨S_, .f32⟩
  | 124 => ⟨S_, .f32⟩
  | 125 => ⟨S4x2048x2048, .f32⟩
  | 126 => ⟨S4x2048x2048, .f32⟩
  | 127 => ⟨S4x2048x2048, .f32⟩
  | _ => ⟨S2048x768, .f32⟩

abbrev hbmTy0_1 (i : Nat) : BufTy := match i % 128 with
  | 0 => ⟨S4x2048x2048, .f32⟩
  | 1 => ⟨S_, .f32⟩
  | 2 => ⟨S_, .f32⟩
  | 3 => ⟨S4x2048x2048, .i1⟩
  | 4 => ⟨S4x2048x2048, .f32⟩
  | 5 => ⟨S4x2048x2048, .f32⟩
  | 6 => ⟨S_, .f32⟩
  | 7 => ⟨S4x2048x2048, .f32⟩
  | 8 => ⟨S4x64x2048, .f32⟩
  | 9 => ⟨S2048x4x64, .f32⟩
  | 10 => ⟨S2048x4x64, .f32⟩
  | 11 => ⟨S4x64x2048, .f32⟩
  | 12 => ⟨S4x2048x2048, .f32⟩
  | 13 => ⟨S4x64x2048, .f32⟩
  | 14 => ⟨S2048x4x64, .f32⟩
  | 15 => ⟨S_, .f32⟩
  | 16 => ⟨S4x2048x2048, .f32⟩
  | 17 => ⟨S4x2048x2048, .f32⟩
  | 18 => ⟨S4x2048x2048, .f32⟩
  | 19 => ⟨S4x2048x2048, .f32⟩
  | 20 => ⟨S_, .f32⟩
  | 21 => ⟨S_, .f32⟩
  | 22 => ⟨S4x2048x2048, .f32⟩
  | 23 => ⟨S4x2048x2048, .f32⟩
  | 24 => ⟨S4x2048x2048, .f32⟩
  | 25 => ⟨S4x2048x2048, .f32⟩
  | 26 => ⟨S4x2048x2048, .f32⟩
  | 27 => ⟨S_, .f32⟩
  | 28 => ⟨S4x2048x2048, .f32⟩
  | 29 => ⟨S4x2048x2048, .f32⟩
  | 30 => ⟨S4x2048x2048, .f32⟩
  | 31 => ⟨S4x2048x2048, .f32⟩
  | 32 => ⟨S4x2048x2048, .f32⟩
  | 33 => ⟨S4x2048x2048, .f32⟩
  | 34 => ⟨S4x2048x2048, .f32⟩
  | 35 => ⟨S4x2048x64, .f32⟩
  | 36 => ⟨S2048x4x64, .f32⟩
  | 37 => ⟨S4x2048x64, .f32⟩
  | 38 => ⟨S2048x4x64, .f32⟩
  | 39 => ⟨S4x2048x64, .f32⟩
  | 40 => ⟨S4x2048x64, .f32⟩
  | 41 => ⟨S4x2048x64, .f32⟩
  | _ => ⟨S2048x768, .f32⟩

abbrev hbmTy (i : Nat) : BufTy := match i / 128 with
  | 0 => hbmTy0_0 i
  | 1 => hbmTy0_1 i
  | _ => ⟨S2048x768, .f32⟩

abbrev bufTy : (tb : Table) → Fin (tcTables nBuf tb) → BufTy
  | .hbm, ⟨i, _⟩ => hbmTy i
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v17_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v17_2 : Ref sig .tc := ⟨.hbm, 66, rfl⟩
abbrev main_v17_0 : Ref sig .tc := ⟨.hbm, 67, rfl⟩
abbrev main_cst_0 : Ref sig .tc := ⟨.hbm, 68, rfl⟩
abbrev main_call1_v0 : Ref sig .tc := ⟨.hbm, 69, rfl⟩
abbrev main_v18_1 : Ref sig .tc := ⟨.hbm, 70, rfl⟩
abbrev main_call1_v2 : Ref sig .tc := ⟨.hbm, 71, rfl⟩
abbrev main_v18_0 : Ref sig .tc := ⟨.hbm, 72, rfl⟩
abbrev main_call1_cst : Ref sig .tc := ⟨.hbm, 73, rfl⟩
abbrev main_v18_2 : Ref sig .tc := ⟨.hbm, 74, rfl⟩
abbrev main_call2_v0 : Ref sig .tc := ⟨.hbm, 75, rfl⟩
abbrev main_call2_call0_cst : Ref sig .tc := ⟨.hbm, 76, rfl⟩
abbrev main_call2_call0_v0 : Ref sig .tc := ⟨.hbm, 77, rfl⟩
abbrev main_call2_call0_v1 : Ref sig .tc := ⟨.hbm, 78, rfl⟩
abbrev main_call2_call0_v2 : Ref sig .tc := ⟨.hbm, 79, rfl⟩
abbrev main_call2_call0_v3 : Ref sig .tc := ⟨.hbm, 80, rfl⟩
abbrev main_call2_call0_v4 : Ref sig .tc := ⟨.hbm, 81, rfl⟩
abbrev main_call2_call0_v5 : Ref sig .tc := ⟨.hbm, 82, rfl⟩
abbrev main_call2_call0_v6 : Ref sig .tc := ⟨.hbm, 83, rfl⟩
abbrev main_call2_call0_v7 : Ref sig .tc := ⟨.hbm, 84, rfl⟩
abbrev main_call2_call0_v8 : Ref sig .tc := ⟨.hbm, 85, rfl⟩
abbrev main_call2_call0_v9 : Ref sig .tc := ⟨.hbm, 86, rfl⟩
abbrev main_call2_call0_v10 : Ref sig .tc := ⟨.hbm, 87, rfl⟩
abbrev main_call2_call0_v11 : Ref sig .tc := ⟨.hbm, 88, rfl⟩
abbrev main_call2_v1_0 : Ref sig .tc := ⟨.hbm, 89, rfl⟩
abbrev main_call2_call0_cst_0 : Ref sig .tc := ⟨.hbm, 90, rfl⟩
abbrev main_call2_call0_v13 : Ref sig .tc := ⟨.hbm, 91, rfl⟩
abbrev main_call2_call0_v14 : Ref sig .tc := ⟨.hbm, 92, rfl⟩
abbrev main_call2_call0_cst_1 : Ref sig .tc := ⟨.hbm, 93, rfl⟩
abbrev main_call2_call0_v15 : Ref sig .tc := ⟨.hbm, 94, rfl⟩
abbrev main_call2_call0_v16 : Ref sig .tc := ⟨.hbm, 95, rfl⟩
abbrev main_call2_call0_cst_2 : Ref sig .tc := ⟨.hbm, 96, rfl⟩
abbrev main_call2_call0_v17 : Ref sig .tc := ⟨.hbm, 97, rfl⟩
abbrev main_call2_call0_v18 : Ref sig .tc := ⟨.hbm, 98, rfl⟩
abbrev main_call2_call0_cst_3 : Ref sig .tc := ⟨.hbm, 99, rfl⟩
abbrev main_call2_call0_v19 : Ref sig .tc := ⟨.hbm, 100, rfl⟩
abbrev main_call2_call0_v20 : Ref sig .tc := ⟨.hbm, 101, rfl⟩
abbrev main_call2_call0_v21 : Ref sig .tc := ⟨.hbm, 102, rfl⟩
abbrev main_v19_1 : Ref sig .tc := ⟨.hbm, 103, rfl⟩
abbrev main_call2_call0_cst_4 : Ref sig .tc := ⟨.hbm, 104, rfl⟩
abbrev main_call2_call0_cst_5 : Ref sig .tc := ⟨.hbm, 105, rfl⟩
abbrev main_call2_call0_v23 : Ref sig .tc := ⟨.hbm, 106, rfl⟩
abbrev main_call2_call0_cst_6 : Ref sig .tc := ⟨.hbm, 107, rfl⟩
abbrev main_call2_call0_cst_7 : Ref sig .tc := ⟨.hbm, 108, rfl⟩
abbrev main_call2_call0_v24 : Ref sig .tc := ⟨.hbm, 109, rfl⟩
abbrev main_call2_call0_cst_8 : Ref sig .tc := ⟨.hbm, 110, rfl⟩
abbrev main_call2_call0_v25 : Ref sig .tc := ⟨.hbm, 111, rfl⟩
abbrev main_call2_call0_v26 : Ref sig .tc := ⟨.hbm, 112, rfl⟩
abbrev main_call2_call0_cst_9 : Ref sig .tc := ⟨.hbm, 113, rfl⟩
abbrev main_call2_call0_v27 : Ref sig .tc := ⟨.hbm, 114, rfl⟩
abbrev main_call2_call0_v28 : Ref sig .tc := ⟨.hbm, 115, rfl⟩
abbrev main_call2_call0_v29 : Ref sig .tc := ⟨.hbm, 116, rfl⟩
abbrev main_call2_call0_v30 : Ref sig .tc := ⟨.hbm, 117, rfl⟩
abbrev main_call2_call0_v31 : Ref sig .tc := ⟨.hbm, 118, rfl⟩
abbrev main_call2_call0_cst_10 : Ref sig .tc := ⟨.hbm, 119, rfl⟩
abbrev main_call2_call0_v32 : Ref sig .tc := ⟨.hbm, 120, rfl⟩
abbrev main_v19_2 : Ref sig .tc := ⟨.hbm, 121, rfl⟩
abbrev main_v19_0 : Ref sig .tc := ⟨.hbm, 122, rfl⟩
abbrev main_call3_cst : Ref sig .tc := ⟨.hbm, 123, rfl⟩
abbrev main_call3_v0 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_cst_1 : Ref sig .tc := ⟨.hbm, 129, rfl⟩
abbrev main_call4_v0 : Ref sig .tc := ⟨.hbm, 130, rfl⟩
abbrev main_v24_1 : Ref sig .tc := ⟨.hbm, 131, rfl⟩
abbrev main_call4_v2 : Ref sig .tc := ⟨.hbm, 132, rfl⟩
abbrev main_v24_0 : Ref sig .tc := ⟨.hbm, 133, rfl⟩
abbrev main_call4_cst : Ref sig .tc := ⟨.hbm, 134, rfl⟩
abbrev main_v24_2 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_call5_cst : Ref sig .tc := ⟨.hbm, 143, rfl⟩
abbrev main_call5_v0 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_call6_cst : Ref sig .tc := ⟨.hbm, 148, rfl⟩
abbrev main_call6_v0 : Ref sig .tc := ⟨.hbm, 149, rfl⟩
abbrev main_v35 : Ref sig .tc := ⟨.hbm, 150, rfl⟩
abbrev main_v36 : Ref sig .tc := ⟨.hbm, 151, rfl⟩
abbrev main_call7_v0 : Ref sig .tc := ⟨.hbm, 152, rfl⟩
abbrev main_call7_v1 : Ref sig .tc := ⟨.hbm, 153, rfl⟩
abbrev main_v37 : Ref sig .tc := ⟨.hbm, 154, rfl⟩
abbrev main_call8_cst : Ref sig .tc := ⟨.hbm, 155, rfl⟩
abbrev main_call8_v0 : Ref sig .tc := ⟨.hbm, 156, rfl⟩
abbrev main_v38 : Ref sig .tc := ⟨.hbm, 157, rfl⟩
abbrev main_call9_v0 : Ref sig .tc := ⟨.hbm, 158, rfl⟩
abbrev main_call9_v1 : Ref sig .tc := ⟨.hbm, 159, rfl⟩
abbrev main_v39 : Ref sig .tc := ⟨.hbm, 160, rfl⟩
abbrev main_v40 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_v45 : Ref sig .tc := ⟨.hbm, 166, rfl⟩
abbrev main_v46 : Ref sig .tc := ⟨.hbm, 167, rfl⟩
abbrev main_v47 : Ref sig .tc := ⟨.hbm, 168, rfl⟩
abbrev main_v48 : Ref sig .tc := ⟨.hbm, 169, rfl⟩

abbrev nD : Nat := 1
abbrev τ : Topo := Topo.v7x

variable {F : FTy → Type} [FloatOps F]
-- ==== Kernel2.lean ====
abbrev S2048x1024 : Shape := ⟨2, ![2048, 1024]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .hbm, ⟨3, _⟩ => ⟨S2048x2816, .f32⟩
  | .hbm, ⟨4, _⟩ => ⟨S2048x2816, .bf16⟩
  | .hbm, ⟨5, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .hbm, ⟨3, _⟩ => ⟨S2048x2816, .f32⟩
  | .hbm, ⟨4, _⟩ => ⟨S2816x1024, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x1024, .f32⟩
  | .hbm, ⟨20, _⟩ => ⟨S2048x1024, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .bf16⟩
  | .hbm, ⟨29, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== Kernel3.lean ====
abbrev S2048x1024 : Shape := ⟨2, ![2048, 1024]⟩
abbrev S2048x256 : Shape := ⟨2, ![2048, 256]⟩
abbrev S2048x6144 : Shape := ⟨2, ![2048, 6144]⟩
abbrev S256x1024 : Shape := ⟨2, ![256, 1024]⟩
abbrev S256x2048 : Shape := ⟨2, ![256, 2048]⟩
abbrev S2048x4096 : Shape := ⟨2, ![2048, 4096]⟩
abbrev S256x256 : Shape := ⟨2, ![256, 256]⟩
abbrev S256x4096 : Shape := ⟨2, ![256, 4096]⟩

abbrev nBuf : Space → Nat
  | .hbm => 19
  | .vmem => 40
  | .smem => 0
  | _ => 0

abbrev bufTy : (tb : Table) → Fin (tcTables nBuf tb) → BufTy
  | .hbm, ⟨0, _⟩ => ⟨S2048x1024, .f32⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S2048x6144, .f32⟩
  | .hbm, ⟨6, _⟩ => ⟨S256x1024, .bf16⟩
  | .hbm, ⟨7, _⟩ => ⟨S256x2048, .bf16⟩
  | .hbm, ⟨8, _⟩ => ⟨S256x1024, .bf16⟩
  | .hbm, ⟨9, _⟩ => ⟨S256x1024, .bf16⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x4096, .bf16⟩
  | .hbm, ⟨15, _⟩ => ⟨S256x1024, .bf16⟩
  | .hbm, ⟨16, _⟩ => ⟨S256x2048, .bf16⟩
  | .hbm, ⟨17, _⟩ => ⟨S256x1024, .bf16⟩
  | .hbm, ⟨18, _⟩ => ⟨S256x1024, .bf16⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x2048, .bf16⟩
  | .local _ .vmem, ⟨20, _⟩ => ⟨S256x1024, .bf16⟩
  | .local _ .vmem, ⟨21, _⟩ => ⟨S256x1024, .bf16⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x4096, .bf16⟩
  | .local _ .vmem, ⟨31, _⟩ => ⟨S256x4096, .bf16⟩
  | .local _ .vmem, ⟨32, _⟩ => ⟨S256x1024, .bf16⟩
  | .local _ .vmem, ⟨33, _⟩ => ⟨S256x2048, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .f32⟩
  | .local _ .vmem, ⟨37, _⟩ => ⟨S256x2048, .f32⟩
  | .local _ .vmem, ⟨38, _⟩ => ⟨S256x1024, .f32⟩
  | .local _ .vmem, ⟨39, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem19_0 : DmaSem sig := 33
abbrev cc0_sem20_0 : DmaSem sig := 34
abbrev cc0_sem21_0 : DmaSem sig := 35

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v146 : BitVec 1 := Scalar.cmpi .eq arg0 c7_i32
  let v147 : BitVec 32 := Scalar.extui v146
  let c0_i32_102 : BitVec 32 := 0#32
  let v148 : BitVec 1 := Scalar.cmpi .ne v147 c0_i32_102
  v148

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x2048 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference3Ideal.lean ====
abbrev S2048x1024 : Shape := ⟨2, ![2048, 1024]⟩
abbrev S2048x256 : Shape := ⟨2, ![2048, 256]⟩
abbrev S2048x6144 : Shape := ⟨2, ![2048, 6144]⟩
abbrev S256x1024 : Shape := ⟨2, ![256, 1024]⟩
abbrev S256x2048 : Shape := ⟨2, ![256, 2048]⟩
abbrev S2048x4096 : Shape := ⟨2, ![2048, 4096]⟩
abbrev S2048x2048 : Shape := ⟨2, ![2048, 2048]⟩
abbrev S_ : Shape := ⟨0, ![]⟩
abbrev S2048x4x1024 : Shape := ⟨3, ![2048, 4, 1024]⟩
abbrev S2048x1x1024 : Shape := ⟨3, ![2048, 1, 1024]⟩
abbrev S1024x256 : Shape := ⟨2, ![1024, 256]⟩

abbrev nBuf : Space → Nat
  | .hbm => 114
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S2048x256, .bf16⟩
  | .hbm, ⟨5, _⟩ => ⟨S2048x6144, .f32⟩
  | .hbm, ⟨6, _⟩ => ⟨S256x1024, .bf16⟩
  | .hbm, ⟨7, _⟩ => ⟨S256x2048, .bf16⟩
  | .hbm, ⟨8, _⟩ => ⟨S256x1024, .bf16⟩
  | .hbm, ⟨9, _⟩ => ⟨S256x1024, .bf16⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x4096, .f32⟩
  | .hbm, ⟨15, _⟩ => ⟨S256x1024, .f32⟩
  | .hbm, ⟨16, _⟩ => ⟨S256x2048, .f32⟩
  | .hbm, ⟨17, _⟩ => ⟨S256x1024, .f32⟩
  | .hbm, ⟨18, _⟩ => ⟨S256x1024, .f32⟩
  | .hbm, ⟨19, _⟩ => ⟨S2048x1024, .f32⟩
  | .hbm, ⟨20, _⟩ => ⟨S2048x2048, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x4096, .f32⟩
  | .hbm, ⟨39, _⟩ => ⟨S2048x4096, .f32⟩
  | .hbm, ⟨40, _⟩ => ⟨S_, .f32⟩
  | .hbm, ⟨41, _⟩ => ⟨S2048x4096, .f32⟩
  | .hbm, ⟨42, _⟩ => ⟨S2048x4096, .f32⟩
  | .hbm, ⟨43, _⟩ => ⟨S_, .f32⟩
  | .hbm, ⟨44, _⟩ => ⟨S2048x4096, .f32⟩
  | .hbm, ⟨45, _⟩ => ⟨S2048x4096, .f32⟩
  | .hbm, ⟨46, _⟩ => ⟨S_, .f32⟩
  | .hbm, ⟨47, _⟩ => ⟨S2048x4096, .f32⟩
  | .hbm, ⟨48, _⟩ => ⟨S2048x4096, .f32⟩
  | .hbm, ⟨49, _⟩ => ⟨S2048x4096, .f32⟩
  | .hbm, ⟨50, _⟩ => ⟨S2048x4x1024, .f32⟩
  | .hbm, ⟨51, _⟩ => ⟨S2048x1x1024, .f32⟩
  | .hbm, ⟨52, _⟩ => ⟨S2048x1024, .f32⟩
  | .hbm, ⟨53, _⟩ => ⟨S2048x1024, .f32⟩
  | .hbm, ⟨54, _⟩ => ⟨S2048x1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1x1024, .f32⟩
  | .hbm, ⟨71, _⟩ => ⟨S_, .f32⟩
  | .hbm, ⟨72, _⟩ => ⟨S2048x4x1024, .f32⟩
  | .hbm, ⟨73, _⟩ => ⟨S2048x1024, .f32⟩
  | .hbm, ⟨74, _⟩ => ⟨S2048x1024, .f32⟩
  | .hbm, ⟨75, _⟩ => ⟨S2048x1x1024, .f32⟩
  | .hbm, ⟨76, _⟩ => ⟨S_, .f32⟩
  | .hbm, ⟨77, _⟩ => ⟨S2048x4x1024, .f32⟩
  | .hbm, ⟨78, _⟩ => ⟨S2048x4x1024, .f32⟩
  | .hbm, ⟨79, _⟩ => ⟨S2048x1024, .f32⟩
  | .hbm, ⟨80, _⟩ => ⟨S2048x1024, .f32⟩
  | .hbm, ⟨81, _⟩ => ⟨S2048x1x1024, .f32⟩
  | .hbm, ⟨82, _⟩ => ⟨S_, .f32⟩
  | .hbm, ⟨83, _⟩ => ⟨S2048x4x1024, .f32⟩
  | .hbm, ⟨84, _⟩ => ⟨S2048x4x1024, .f32⟩
  | .hbm, ⟨85, _⟩ => ⟨S2048x1024, .f32⟩
  | .hbm, ⟨86, _⟩ => ⟨S2048x1024, .f32⟩
  | .hbm, ⟨87, _⟩ => ⟨S2048x1x1024, .f32⟩
  | .hbm, ⟨88, _⟩ => ⟨S_, .f32⟩
  | .hbm, ⟨89, _⟩ => ⟨S2048x4x1024, .f32⟩
  | .hbm, ⟨90, _⟩ => ⟨S2048x4x1024, .f32⟩
  | .hbm, ⟨91, _⟩ => ⟨S2048x4096, .f32⟩
  | .hbm, ⟨92, _⟩ => ⟨S2048x4096, .f32⟩
  | .hbm, ⟨93, _⟩ => ⟨S1024x256, .f32⟩
  | .hbm, ⟨94, _⟩ => ⟨S256x1024, .f32⟩
  | .hbm, ⟨95, _⟩ => ⟨S2048x256, .f32⟩
  | .hbm, ⟨96, _⟩ => ⟨S1024x256, .f32⟩
  | .hbm, ⟨97, _⟩ => ⟨S256x1024, .f32⟩
  | .hbm, ⟨98, _⟩ => ⟨S2048x256, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x2048, .f32⟩
  | .hbm, ⟨103, _⟩ => ⟨S2048x256, .f32⟩
  | .hbm, ⟨104, _⟩ => ⟨S256x2048, .f32⟩
  | .hbm, ⟨105, _⟩ => ⟨S2048x256, .f32⟩
  | .hbm, ⟨106, _⟩ => ⟨S1024x256, .f32⟩
  | .hbm, ⟨107, _⟩ => ⟨S256x1024, .f32⟩
  | .hbm, ⟨108, _⟩ => ⟨S2048x256, .f32⟩
  | .hbm, ⟨109, _⟩ => ⟨S2048x4096, .bf16⟩
  | .hbm, ⟨110, _⟩ => ⟨S256x1024, .bf16⟩
  | .hbm, ⟨111, _⟩ => ⟨S256x2048, .bf16⟩
  | .hbm, ⟨112, _⟩ => ⟨S256x1024, .bf16⟩
  | .hbm, ⟨113, _⟩ => ⟨S256x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_5 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_6 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_7 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩

abbrev nD : Nat := 1
abbrev τ : Topo := Topo.v7x

variable {F : FTy → Type} [FloatOps F]
-- ==== Kernel4.lean ====
abbrev S2048x1024 : Shape := ⟨2, ![2048, 1024]⟩
abbrev S1024x5632 : Shape := ⟨2, ![1024, 5632]⟩
abbrev S2048x2816 : Shape := ⟨2, ![2048, 2816]⟩
abbrev S1024x256 : Shape := ⟨2, ![1024, 256]⟩
abbrev S2048x256 : Shape := ⟨2, ![2048, 256]⟩

abbrev nBuf : Space → Nat
  | .hbm => 5
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x2816, .f32⟩
  | .hbm, ⟨3, _⟩ => ⟨S2048x2816, .f32⟩
  | .hbm, ⟨4, _⟩ => ⟨S2048x2816, .bf16⟩
  | .local _ .vmem, ⟨0, _⟩ => ⟨S2048x1024, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .bf16⟩
  | .local _ .vmem, ⟨10, _⟩ => ⟨S2048x256, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel5.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x2816, .f32⟩
  | .hbm, ⟨3, _⟩ => ⟨S2816x1024, .f32⟩
  | .hbm, ⟨4, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x2816 : Shape := ⟨2, ![2048, 2816]⟩
abbrev S2048x1024 : Shape := ⟨2, ![2048, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S2048x1024 : Shape := ⟨2, ![2048, 1024]⟩
abbrev S2048x5632 : Shape := ⟨2, ![2048, 5632]⟩
abbrev S1024x5632 : Shape := ⟨2, ![1024, 5632]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S1024x5632, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S2048x5632 : Shape := ⟨2, ![2048, 5632]⟩
abbrev S5632x1024 : Shape := ⟨2, ![5632, 1024]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S2048x1024, .f32⟩
  | .hbm, ⟨3, _⟩ => ⟨S2048x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S2048x5632 : Shape := ⟨2, ![2048, 5632]⟩
abbrev S1024x5632 : Shape := ⟨2, ![1024, 5632]⟩
abbrev S2048x1024 : Shape := ⟨2, ![2048, 1024]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x5632 : Shape := ⟨2, ![2048, 5632]⟩
abbrev S1024x5632 : Shape := ⟨2, ![1024, 5632]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1024x5632, .bf16⟩
  | .hbm, ⟨2, _⟩ => ⟨S1024x5632, .f32⟩
  | .hbm, ⟨3, _⟩ => ⟨S2048x5632, .f32⟩
  | .hbm, ⟨4, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S2048x1024 : Shape := ⟨2, ![2048, 1024]⟩
abbrev S1024x6144 : Shape := ⟨2, ![1024, 6144]⟩
abbrev S2048x6144 : Shape := ⟨2, ![2048, 6144]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x6144, .bf16⟩
  | .hbm, ⟨2, _⟩ => ⟨S2048x6144, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S1024x6144 : Shape := ⟨2, ![1024, 6144]⟩
abbrev S2048x6144 : Shape := ⟨2, ![2048, 6144]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x6144, .bf16⟩
  | .hbm, ⟨2, _⟩ => ⟨S2048x1024, .f32⟩
  | .hbm, ⟨3, _⟩ => ⟨S1024x6144, .f32⟩
  | .hbm, ⟨4, _⟩ => ⟨S2048x6144, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S2048x1024 : Shape := ⟨2, ![2048, 1024]⟩
abbrev S2048x6144 : Shape := ⟨2, ![2048, 6144]⟩
abbrev S1024x6144 : Shape := ⟨2, ![1024, 6144]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S1024x6144, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S2048x6144 : Shape := ⟨2, ![2048, 6144]⟩
abbrev S6144x1024 : Shape := ⟨2, ![6144, 1024]⟩
abbrev S1024x6144 : Shape := ⟨2, ![1024, 6144]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x6144, .bf16⟩
  | .hbm, ⟨2, _⟩ => ⟨S2048x1024, .f32⟩
  | .hbm, ⟨3, _⟩ => ⟨S2048x6144, .f32⟩
  | .hbm, ⟨4, _⟩ => ⟨S6144x1024, .f32⟩
  | .hbm, ⟨5, _⟩ => ⟨S1024x6144, .f32⟩
  | .hbm, ⟨6, _⟩ => ⟨S1024x6144, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S2048x6144 : Shape := ⟨2, ![2048, 6144]⟩
abbrev S1024x6144 : Shape := ⟨2, ![1024, 6144]⟩
abbrev S2048x1024 : Shape := ⟨2, ![2048, 1024]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6144, .bf16⟩
  | .hbm, ⟨1, _⟩ => ⟨S1024x6144, .bf16⟩
  | .hbm, ⟨2, _⟩ => ⟨S2048x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x6144 : Shape := ⟨2, ![2048, 6144]⟩
abbrev S1024x6144 : Shape := ⟨2, ![1024, 6144]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x6144, .bf16⟩
  | .hbm, ⟨1, _⟩ => ⟨S1024x6144, .bf16⟩
  | .hbm, ⟨2, _⟩ => ⟨S1024x6144, .f32⟩
  | .hbm, ⟨3, _⟩ => ⟨S2048x6144, .f32⟩
  | .hbm, ⟨4, _⟩ => ⟨S2048x1024, .f32⟩
  | _, _ => ⟨S2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S1024x1024, .f32⟩
  | .hbm, ⟨3, _⟩ => ⟨S2048x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2048x1024 : Shape := ⟨2, ![2048, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2048x256 : Shape := ⟨2, ![2048, 256]⟩
abbrev S2048x6144 : Shape := ⟨2, ![2048, 6144]⟩
abbrev S256x1024 : Shape := ⟨2, ![256, 1024]⟩
abbrev S256x2048 : Shape := ⟨2, ![256, 2048]⟩
abbrev S2048x1024 : Shape := ⟨2, ![2048, 1024]⟩
abbrev S256x256 : Shape := ⟨2, ![256, 256]⟩

abbrev nBuf : Space → Nat
  | .hbm => 10
  | .vmem => 22
  | .smem => 0
  | _ => 0

abbrev bufTy : (tb : Table) → Fin (tcTables nBuf tb) → BufTy
  | .hbm, ⟨0, _⟩ => ⟨S2048x256, .bf16⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S2048x6144, .f32⟩
  | .hbm, ⟨5, _⟩ => ⟨S256x1024, .bf16⟩
  | .hbm, ⟨6, _⟩ => ⟨S256x2048, .bf16⟩
  | .hbm, ⟨7, _⟩ => ⟨S256x1024, .bf16⟩
  | .hbm, ⟨8, _⟩ => ⟨S256x1024, .bf16⟩
  | .hbm, ⟨9, _⟩ => ⟨S2048x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x2048, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference15Ideal.lean ====
abbrev S2048x256 : Shape := ⟨2, ![2048, 256]⟩
abbrev S2048x6144 : Shape := ⟨2, ![2048, 6144]⟩
abbrev S256x1024 : Shape := ⟨2, ![256, 1024]⟩
abbrev S256x2048 : Shape := ⟨2, ![256, 2048]⟩
abbrev S2048x4096 : Shape := ⟨2, ![2048, 4096]⟩
abbrev S2048x1024 : Shape := ⟨2, ![2048, 1024]⟩
abbrev S2048x2048 : Shape := ⟨2, ![2048, 2048]⟩
abbrev S_ : Shape := ⟨0, ![]⟩
abbrev S2048x4x1024 : Shape := ⟨3, ![2048, 4, 1024]⟩
abbrev S2048x1x1024 : Shape := ⟨3, ![2048, 1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x256, .bf16⟩
  | .hbm, ⟨1, _⟩ => ⟨S2048x256, .bf16⟩
  | .hbm, ⟨2, _⟩ => ⟨S2048x256, .bf16⟩
  | .hbm, ⟨3, _⟩ => ⟨S2048x256, .bf16⟩
  | .hbm, ⟨4, _⟩ => ⟨S2048x6144, .f32⟩
  | .hbm, ⟨5, _⟩ => ⟨S256x1024, .bf16⟩
  | .hbm, ⟨6, _⟩ => ⟨S256x2048, .bf16⟩
  | .hbm, ⟨7, _⟩ => ⟨S256x1024, .bf16⟩
  | .hbm, ⟨8, _⟩ => ⟨S256x1024, .bf16⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S2048x4096, .f32⟩
  | .hbm, ⟨14, _⟩ => ⟨S256x1024, .f32⟩
  | .hbm, ⟨15, _⟩ => ⟨S256x2048, .f32⟩
  | .hbm, ⟨16, _⟩ => ⟨S256x1024, .f32⟩
  | .hbm, ⟨17, _⟩ => ⟨S256x1024, .f32⟩
  | .hbm, ⟨18, _⟩ => ⟨S2048x1024, .f32⟩
  | .hbm, ⟨19, _⟩ => ⟨S2048x2048, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x4096, .f32⟩
  | .hbm, ⟨34, _⟩ => ⟨S2048x4096, .f32⟩
  | .hbm, ⟨35, _⟩ => ⟨S_, .f32⟩
  | .hbm, ⟨36, _⟩ => ⟨S2048x4096, .f32⟩
  | .hbm, ⟨37, _⟩ => ⟨S2048x4096, .f32⟩
  | .hbm, ⟨38, _⟩ => ⟨S_, .f32⟩
  | .hbm, ⟨39, _⟩ => ⟨S2048x4096, .f32⟩
  | .hbm, ⟨40, _⟩ => ⟨S2048x4096, .f32⟩
  | .hbm, ⟨41, _⟩ => ⟨S2048x4x1024, .f32⟩
  | .hbm, ⟨42, _⟩ => ⟨S2048x1x1024, .f32⟩
  | .hbm, ⟨43, _⟩ => ⟨S2048x1024, .f32⟩
  | .hbm, ⟨44, _⟩ => ⟨S2048x1024, .f32⟩
  | .hbm, ⟨45, _⟩ => ⟨S2048x1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .bf16⟩
  | _, _ => ⟨S2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Proof.Prelude.lean ====
/-
  The arrays that the kernel's five inputs are blocks of, as the host code leaves them.
-/
module

public import proofs.«01_k».proof.Proof.Gen.KernelIdeal.Frame
public import Idealize.ShloMosaic.Lib.Claim
public import Idealize.ShloMosaic.Lib.StableHlo.ReadAt

@[expose] public section

set_option maxRecDepth 8192

noncomputable section

namespace Cert.KernelIdeal.Gen

open Idealize.ShloMosaic Idealize.ShloMosaic.TcCoe

variable {F : FTy → Type} [FloatOps F] (m : (ℓ : Loc nD τ sig) → Buf (Elt F) ℓ)

/-- The heads of a matrix of 2048 rows, one after another. -/
def headsOf (x : S2048x256.Idx → F .f32) : FVec F S4x2048x64 .f32 :=
  transpose S4x2048x64 [1, 0, 2] (shapeCast S2048x4x64 x shapeCasts_S2048x256_S2048x4x64) transposes_S2048x4x64_S4x2048x64_1_0_2

/-- The scaled queries, of the projection. -/
def queriesOf (p : S2048x768.Idx → F .f32) : FVec F S4x2048x64 .f32 :=
  mulf (headsOf (extractStridedSlice S2048x256 ![0, 0] p slices_S2048x768_S2048x256_0_0))
    (broadcastInDim S4x2048x64 ![] bcast_S_S4x2048x64 (constant S_ .f32 0x3E000000#32))

def keysOf (p : S2048x768.Idx → F .f32) : FVec F S4x2048x64 .f32 :=
  headsOf (extractStridedSlice S2048x256 ![0, 256] p slices_S2048x768_S2048x256_0_256)

def valuesOf (p : S2048x768.Idx → F .f32) : FVec F S4x2048x64 .f32 :=
  headsOf (extractStridedSlice S2048x256 ![0, 512] p slices_S2048x768_S2048x256_0_512)

theorem V_queries (c : Dev nD) : V m c main_v4 = queriesOf (m ((c : Thread nD τ).loc main_arg0)) := by
  entry_read; rfl
theorem V_keys (c : Dev nD) : V m c main_v7 = keysOf (m ((c : Thread nD τ).loc main_arg0)) := by
  entry_read; rfl
theorem V_values (c : Dev nD) : V m c main_v10 = valuesOf (m ((c : Thread nD τ).loc main_arg0)) := by
  entry_read; rfl
theorem V_outs (c : Dev nD) : V m c main_v12 = headsOf (m ((c : Thread nD τ).loc main_arg1)) := by
  entry_read; rfl

/-- The scores. -/
def scoresOf (q k : FVec F S4x2048x64 .f32) : FVec F S4x2048x2048 .f32 :=
  Host.dotGeneral dot_S4x2048x64_S4x2048x64_S4x2048x2048_2_2_1_1_0_0 none q k

/-- Keys before the row. -/
def before : IVec S2048x2048 1 :=
  cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

/-- Zero, everywhere. -/
def zeros : FVec F S4x2048x2048 .f32 := broadcastInDim S4x2048x2048 ![] bcast_S_S4x2048x2048 (constant S_ .f32 0x00000000#32)

/-- `log (1 + exp x)`. -/
def softplusOf (x : FVec F S4x2048x2048 .f32) : FVec F S4x2048x2048 .f32 :=
  select (cmpf .une (subf x zeros) (subf x zeros)) (addf x zeros)
    (addf (maximumf x zeros) (Host.log1p (Host.exp (Host.negf (Host.absf (subf x zeros))))))

/-- The logarithms of what the keys leave. -/
def keepsOf (z : FVec F S4x2048x2048 .f32) : FVec F S4x2048x2048 .f32 :=
  select (broadcastInDim S4x2048x2048 ![1, 2] bcast_S2048x2048_S4x2048x2048_1_2 before)
    (Host.negf (softplusOf (Host.negf (Host.negf z)))) zeros

/-- Their sums over each block of 512 keys, and zeros up to 128 columns. -/
def sumsOf (l : FVec F S4x2048x2048 .f32) : FVec F S4x2048x128 .f32 :=
  pad S4x2048x128 ![0, 0, 0] ![0, 0, 124] ![0, 0, 0]
    (Host.reduceAdd (shapeCast S4x2048x4x512 l shapeCasts_S4x2048x2048_S4x2048x4x512) (constant S_ .f32 0x00000000#32)
      reducesTo_S4x2048x4x512_S4x2048x4_d3 h_S_)
    (sitofp .f32 (constantI S_ 32 0#32)) pads_S4x2048x4_S4x2048x128_000_000_01240 h_S_

/-! ## The sums, read a stretch of host operations at a time -/

section Stretches

variable (W : Valuation τ sig (Elt F))

theorem stretch1_keeps : StableHlo.after hostOps0_1 W (Proc.devRef .tc main_v22) = Host.negf (softplusOf (Host.negf (W (Proc.devRef .tc main_v21)))) := by
  after_reads_simp; rfl
theorem stretch1_mask : StableHlo.after hostOps0_1 W (Proc.devRef .tc main_v20) = W (Proc.devRef .tc main_v20) := by
  after_reads_simp
theorem stretch2_keeps : StableHlo.after hostOps0_2 W (Proc.devRef .tc main_v22) = W (Proc.devRef .tc main_v22) := by
  after_reads_simp
theorem stretch2_mask : StableHlo.after hostOps0_2 W (Proc.devRef .tc main_v20) = W (Proc.devRef .tc main_v20) := by
  after_reads_simp
theorem stretch2_zero : StableHlo.after hostOps0_2 W (Proc.devRef .tc main_cst_0) = constant S_ .f32 0x00000000#32 := by
  after_reads_simp
theorem stretch3 : StableHlo.after hostOps0_3 W (Proc.devRef .tc main_v23)
    = select (broadcastInDim S4x2048x2048 ![1, 2] bcast_S2048x2048_S4x2048x2048_1_2 (W (Proc.devRef .tc main_v20)))
        (W (Proc.devRef .tc main_v22)) (broadcastInDim S4x2048x2048 ![] bcast_S_S4x2048x2048 (W (Proc.devRef .tc main_cst_0))) := by
  after_reads_simp; rfl
theorem stretch45 : StableHlo.after hostOps0_5 (StableHlo.after hostOps0_4 W) (Proc.devRef .tc main_v26) = sumsOf (W (Proc.devRef .tc main_v23)) := by
  after_reads_simp; rfl

end Stretches

theorem stretch0_scores (W : Valuation τ sig (Elt F)) : StableHlo.after hostOps0 W (Proc.devRef .tc main_v21)
    = Host.negf (scoresOf (queriesOf (W (Proc.devRef .tc main_arg0))) (keysOf (W (Proc.devRef .tc main_arg0)))) := by
  after_reads_simp; rfl
theorem stretch0_mask (W : Valuation τ sig (Elt F)) : StableHlo.after hostOps0 W (Proc.devRef .tc main_v20) = before := by
  after_reads_simp; rfl

theorem V_sums (c : Dev nD) : V m c main_v26
    = sumsOf (keepsOf (scoresOf (queriesOf (m ((c : Thread nD τ).loc main_arg0))) (keysOf (m ((c : Thread nD τ).loc main_arg0))))) := by
  unfold V
  simp only [List.flatten_cons, List.flatten_nil, List.append_nil, StableHlo.after_append]
  rw [stretch45, stretch3, stretch2_keeps, stretch2_mask, stretch2_zero, stretch1_keeps, stretch1_mask, stretch0_scores, stretch0_mask]
  rfl

end Cert.KernelIdeal.Gen

end
-- ==== Proof.Maths.lean ====
/-
  The gradient of stick-breaking attention, over the reals, of one head: rows are numbered by naturals below 2048.
-/
module

public import Idealize.ShloMosaic.PureOps.Ideal
public import Idealize.ShloMosaic.Lib.WordCmp

@[expose] public section

noncomputable section

namespace Cert.StickBreaking

open Idealize.ShloMosaic

/-! ## The mathematics -/

/-- `log (1 - σ z)`, written so that no exponential overflows. -/
def logKeep (z : ℝ) : ℝ := min (0 - z) 0 - Real.log (1 + Real.exp (0 - |z|))

/-- The logistic function. -/
def sigma (z : ℝ) : ℝ := 1 / (1 + Real.exp (0 - z))

section Head

-- The queries, keys, values and the gradients of the outputs of one head.
variable (q k v g : ℕ → Fin 64 → ℝ)

/-- The score of key `s` for row `t`. -/
def score (t s : ℕ) : ℝ := ∑ d : Fin 64, q t d * k s d

/-- The logarithm of what key `s` leaves of row `t`'s stick; nothing is taken at or after the row. -/
def keep (t s : ℕ) : ℝ := if s < t then logKeep (score q k t s) else 0

/-- Row `t`'s weight of key `s`: what the keys between them leave, times the key's own share. -/
def weight (t s : ℕ) : ℝ :=
  if s < t then Real.exp (logKeep (score q k t s) + score q k t s + ∑ j ∈ Finset.Ico (s + 1) 2048, keep q k t j) else 0

/-- The gradient of the logarithm of the weight. -/
def gradLog (t s : ℕ) : ℝ := weight q k t s * ∑ d : Fin 64, g t d * v s d

/-- The gradient of the score. -/
def gradScore (t s : ℕ) : ℝ :=
  if s < t then gradLog q k v g t s * (1 - sigma (score q k t s)) - sigma (score q k t s) * ∑ j ∈ Finset.range s, gradLog q k v g t j
  else 0

/-- The gradient of the queries. -/
def gradQ (t : ℕ) (d : Fin 64) : ℝ := ∑ s ∈ Finset.range 2048, gradScore q k v g t s * k s d

/-- The gradient of the keys. -/
def gradK (s : ℕ) (d : Fin 64) : ℝ := ∑ t ∈ Finset.range 2048, gradScore q k v g t s * q t d

/-- The gradient of the values. -/
def gradV (s : ℕ) (d : Fin 64) : ℝ := ∑ t ∈ Finset.range 2048, weight q k t s * g t d

theorem keep_of_le {t s : ℕ} (h : t ≤ s) : keep q k t s = 0 := if_neg (by omega)
theorem weight_of_le {t s : ℕ} (h : t ≤ s) : weight q k t s = 0 := if_neg (by omega)
theorem gradLog_of_le {t s : ℕ} (h : t ≤ s) : gradLog q k v g t s = 0 := by rw [gradLog, weight_of_le q k h, zero_mul]
theorem gradScore_of_le {t s : ℕ} (h : t ≤ s) : gradScore q k v g t s = 0 := if_neg (by omega)

/-- Keys from the row on add nothing to its query's gradient. -/
theorem gradQ_eq {t n : ℕ} (h : t ≤ n) (hn : n ≤ 2048) (d : Fin 64) :
    ∑ s ∈ Finset.range n, gradScore q k v g t s * k s d = gradQ q k v g t d := by
  unfold gradQ
  refine Finset.sum_subset (Finset.range_mono hn) fun s _ hs => ?_
  rw [Finset.mem_range, not_lt] at hs
  rw [gradScore_of_le q k v g (h.trans hs), zero_mul]

end Head

/-! ## Sums -/

/-- A sum over an index of `Fin n` whose terms depend on the number alone. -/
theorem sum_fin (n : ℕ) (f : ℕ → ℝ) : ∑ x : Fin n, f x = ∑ j ∈ Finset.range n, f j := (Finset.sum_range f).symm

/-- Product with a triangle of ones, from the row on. -/
theorem sum_from (n c : ℕ) (f : ℕ → ℝ) : ∑ x : Fin n, f x * (if c ≤ (x : ℕ) then 1 else 0) = ∑ j ∈ Finset.Ico c n, f j := by
  rw [sum_fin n fun j => f j * (if c ≤ j then 1 else 0)]
  simp only [mul_ite, mul_one, mul_zero]
  rw [← Finset.sum_filter]
  congr 1
  ext j; simp only [Finset.mem_filter, Finset.mem_range, Finset.mem_Ico]; omega

/-- Product with a triangle of ones, up to the row. -/
theorem sum_upto (n c : ℕ) (hc : c < n) (f : ℕ → ℝ) :
    ∑ x : Fin n, f x * (if (x : ℕ) ≤ c then 1 else 0) = ∑ j ∈ Finset.range (c + 1), f j := by
  rw [sum_fin n fun j => f j * (if j ≤ c then 1 else 0)]
  simp only [mul_ite, mul_one, mul_zero]
  rw [← Finset.sum_filter]
  congr 1
  ext j; simp only [Finset.mem_filter, Finset.mem_range]; omega

/-- A sum over an interval that begins at `a`. -/
theorem sum_shift (a m n : ℕ) (f : ℕ → ℝ) : ∑ j ∈ Finset.Ico m n, f (a + j) = ∑ j ∈ Finset.Ico (a + m) (a + n), f j :=
  by rw [Finset.sum_Ico_add f m n a, Nat.add_comm a m, Nat.add_comm a n]

theorem sum_shift_range (a n : ℕ) (f : ℕ → ℝ) : ∑ j ∈ Finset.range n, f (a + j) = ∑ j ∈ Finset.Ico a (a + n), f j := by
  rw [Finset.range_eq_Ico, sum_shift]; rfl

/-! ## Real numbers among the extended reals -/

/-- A sum of reals is the same among the extended reals. -/
theorem coe_sum {ι : Type*} (s : Finset ι) (f : ι → ℝ) : ∑ x ∈ s, ((f x : ℝ) : EReal) = ((∑ x ∈ s, f x : ℝ) : EReal) := by
  classical
  induction s using Finset.induction_on with
  | empty => rfl
  | insert a s ha ih => rw [Finset.sum_insert ha, Finset.sum_insert ha, ih, EReal.coe_add]

theorem coe_min (x y : ℝ) : min (x : EReal) y = ((min x y : ℝ) : EReal) := (EReal.coe_strictMono.monotone.map_min).symm
theorem coe_max (x y : ℝ) : max (x : EReal) y = ((max x y : ℝ) : EReal) := (EReal.coe_strictMono.monotone.map_max).symm

theorem log1p_exp (x : ℝ) : Ideal.log1p (Ideal.exp (x : EReal)) = ((Real.log (1 + Real.exp x) : ℝ) : EReal) := by
  have h : ¬ (1 + Real.exp x ≤ 0) := by have := Real.exp_pos x; linarith
  rw [Ideal.exp_coe, Ideal.log1p, ← EReal.coe_one, ← EReal.coe_add, Ideal.log_coe, if_neg h]

theorem coe_zero_sub (x : ℝ) : (0 : EReal) - (x : EReal) = ((0 - x : ℝ) : EReal) := by rw [EReal.coe_sub, EReal.coe_zero]

theorem absf_coe (x : ℝ) : FloatOps.absf (F := Idealize.ShloMosaic.Ideal) (φ := .f32) (x : EReal) = ((|x| : ℝ) : EReal) := by
  show max (x : EReal) (-(x : EReal)) = _
  rw [← EReal.coe_neg, coe_max]; rfl

/-- The kernel's `log (1 - σ z)` at a real. -/
theorem logKeep_coe (z : ℝ) : min (0 - (z : EReal)) 0 - Ideal.log1p (Ideal.exp (0 - FloatOps.absf (F := Idealize.ShloMosaic.Ideal) (φ := .f32) (z : EReal)))
    = ((logKeep z : ℝ) : EReal) := by
  rw [absf_coe, coe_zero_sub, coe_zero_sub, log1p_exp, ← EReal.coe_zero, coe_min, ← EReal.coe_sub]; rfl

/-- The kernel's logistic function at a real. -/
theorem sigma_coe (z : ℝ) : Ideal.div 1 (1 + Ideal.exp (0 - (z : EReal))) = ((sigma z : ℝ) : EReal) := by
  have h : (1 + Real.exp (0 - z)) ≠ 0 := by have := Real.exp_pos (0 - z); linarith
  rw [coe_zero_sub, Ideal.exp_coe, ← EReal.coe_one, ← EReal.coe_add, Ideal.div_coe h, ← EReal.coe_mul, one_mul]; rfl

theorem select_ite {α : Type} (p : Prop) [Decidable p] (a b : α) : Scalar.select (if p then 1#1 else 0#1) a b = if p then a else b := by
  by_cases h : p <;> simp [Scalar.select, h]

theorem coe_ite (p : Prop) [Decidable p] (a b : ℝ) : (if p then (a : EReal) else (b : EReal)) = ((if p then a else b : ℝ) : EReal) := by
  split <;> rfl

/-! ## Small words -/

theorem ofBool_ite (p : Prop) [Decidable p] : BitVec.ofBool (decide p) = if p then 1#1 else 0#1 := by
  by_cases h : p <;> simp [h]

theorem slt_ite {a b : ℕ} (ha : a < 2 ^ 31) (hb : b < 2 ^ 31) :
    IntOp.cmpi .slt (BitVec.ofNat 32 a) (BitVec.ofNat 32 b) = if a < b then 1#1 else 0#1 := by
  rw [WordCmp.cmpi_slt_ofNat ha hb, ofBool_ite]
theorem sgt_ite {a b : ℕ} (ha : a < 2 ^ 31) (hb : b < 2 ^ 31) :
    IntOp.cmpi .sgt (BitVec.ofNat 32 a) (BitVec.ofNat 32 b) = if b < a then 1#1 else 0#1 := by
  rw [WordCmp.cmpi_sgt_ofNat ha hb, ofBool_ite]
theorem sge_ite {a b : ℕ} (ha : a < 2 ^ 31) (hb : b < 2 ^ 31) :
    IntOp.cmpi .sge (BitVec.ofNat 32 a) (BitVec.ofNat 32 b) = if b ≤ a then 1#1 else 0#1 := by
  rw [WordCmp.cmpi_sge_ofNat ha hb, ofBool_ite]
theorem sle_ite {a b : ℕ} (ha : a < 2 ^ 31) (hb : b < 2 ^ 31) :
    IntOp.cmpi .sle (BitVec.ofNat 32 a) (BitVec.ofNat 32 b) = if a ≤ b then 1#1 else 0#1 := by
  rw [WordCmp.cmpi_sle_ofNat ha hb, ofBool_ite]

/-- A truth value as a float. -/
theorem sitofp_ite (p : Prop) [Decidable p] :
    FloatOps.sitofp (F := Idealize.ShloMosaic.Ideal) .f32 (BitVec.setWidth 32 (if p then 1#1 else 0#1)) = (((if p then 1 else 0 : ℝ)) : EReal) := by
  by_cases h : p
  · simp only [if_pos h]; show (((BitVec.setWidth 32 1#1).toInt : ℝ) : EReal) = _
    rw [show (BitVec.setWidth 32 1#1).toInt = 1 by decide]; norm_num
  · simp only [if_neg h]; show (((BitVec.setWidth 32 0#1).toInt : ℝ) : EReal) = _
    rw [show (BitVec.setWidth 32 0#1).toInt = 0 by decide]; norm_num

end Cert.StickBreaking

end
-- ==== Proof.Softplus.lean ====
/-
  The logistic function's logarithm and its slope, on real numbers and on real numbers among the extended reals.
-/
module

public import proofs.«01_k».proof.Proof.Maths

@[expose] public section

namespace Cert.StickBreaking

open Idealize.ShloMosaic

/-- `log (1 + exp x)`, as it is computed without overflow. -/
noncomputable def softplus (x : ℝ) : ℝ := max x 0 + Real.log (1 + Real.exp (-|x|))

theorem softplus_eq (x : ℝ) : softplus x = Real.log (1 + Real.exp x) := by
  unfold softplus
  rcases le_total 0 x with h | h
  · rw [max_eq_left h, abs_of_nonneg h]
    have e : 1 + Real.exp x = Real.exp x * (1 + Real.exp (-x)) := by rw [mul_add, mul_one, ← Real.exp_add]; simp [add_comm]
    rw [e, Real.log_mul (Real.exp_pos x).ne' (by have := Real.exp_pos (-x); linarith), Real.log_exp]
  · rw [max_eq_right h, abs_of_nonpos h, neg_neg, zero_add]

theorem neg_softplus (z : ℝ) : -softplus z = logKeep z := by
  have e : min (0 - z) 0 = -max z 0 := by rw [zero_sub]; rcases le_total z 0 with h | h <;> simp [h]
  unfold softplus logKeep
  rw [zero_sub |z|, e]; ring

theorem neg_softplus_neg (z : ℝ) : -softplus (-z) = logKeep z + z := by
  have e : max (-z) 0 = -(min (0 - z) 0 + z) + (min (0 - z) 0 + max (-z) 0 + z) := by ring
  have e' : min (0 - z) 0 + max (-z) 0 = -z := by rw [zero_sub]; exact (min_add_max (-z) 0).trans (add_zero _)
  unfold softplus logKeep
  rw [abs_neg, zero_sub |z|]; linarith

theorem exp_sub_softplus (x : ℝ) : Real.exp (x - softplus x) = sigma x := by
  have h : 0 < 1 + Real.exp x := by have := Real.exp_pos x; linarith
  rw [softplus_eq, Real.exp_sub, Real.exp_log h, sigma, zero_sub, Real.exp_neg]
  have := (Real.exp_pos x).ne'
  field_simp
  ring

theorem sigma_neg (z : ℝ) : sigma (-z) = 1 - sigma z := by
  have h : 0 < Real.exp z := Real.exp_pos z
  rw [sigma, sigma, zero_sub, zero_sub, neg_neg, Real.exp_neg]
  field_simp
  ring

theorem softplus_coe (x : ℝ) :
    max (x : EReal) 0 + Ideal.log1p (Ideal.exp (-FloatOps.absf (F := Idealize.ShloMosaic.Ideal) (φ := .f32) (x : EReal))) = ((softplus x : ℝ) : EReal) := by
  rw [absf_coe, ← EReal.coe_neg, log1p_exp, ← EReal.coe_zero, coe_max, ← EReal.coe_add]
  rfl

end Cert.StickBreaking
-- ==== Proof.Entries.lean ====
/-
  The queries, keys, values and output gradients of finite arguments, as real numbers.
-/
module

public import proofs.«01_k».proof.Proof.Softplus
public import Idealize.ShloMosaic.Lib.Pointwise

@[expose] public section

noncomputable section

namespace Cert.StickBreaking

open Idealize.ShloMosaic

variable {R C : ℕ}

/-- A matrix of real numbers. -/
def IsReal (x : (Shape.mk 2 ![R, C]).Idx → EReal) : Prop := ∀ y, x y = ((x y).toReal : EReal)

/-- An entry of a matrix, zero outside it. -/
def entry (x : (Shape.mk 2 ![R, C]).Idx → EReal) (t j : ℕ) : ℝ := if h : t < R ∧ j < C then (x (ix2 ⟨t, h.1⟩ ⟨j, h.2⟩)).toReal else 0

theorem entry_coe {x : (Shape.mk 2 ![R, C]).Idx → EReal} (hx : IsReal x) (t : Fin R) (j : Fin C) : x (ix2 t j) = (entry x t j : EReal) := by
  rw [entry, dif_pos ⟨t.isLt, j.isLt⟩]; exact hx _

/-- The scaled queries: columns 0 to 255, 64 to a head. -/
def qOf (p : (Shape.mk 2 ![2048, 768]).Idx → EReal) (h : Fin 4) (t : ℕ) (d : Fin 64) : ℝ := entry p t (h * 64 + d) * (1 / 8)
/-- The keys: columns 256 to 511. -/
def kOf (p : (Shape.mk 2 ![2048, 768]).Idx → EReal) (h : Fin 4) (t : ℕ) (d : Fin 64) : ℝ := entry p t (256 + (h * 64 + d))
/-- The values: columns 512 to 767. -/
def vOf (p : (Shape.mk 2 ![2048, 768]).Idx → EReal) (h : Fin 4) (t : ℕ) (d : Fin 64) : ℝ := entry p t (512 + (h * 64 + d))
/-- The gradients of the heads' outputs. -/
def gOf (g : (Shape.mk 2 ![2048, 256]).Idx → EReal) (h : Fin 4) (t : ℕ) (d : Fin 64) : ℝ := entry g t (h * 64 + d)

/-- An eighth, as a word. -/
theorem eighth : Ideal.ofBits .f32 0x3E000000#32 = ((1 / 8 : ℝ) : EReal) := by
  simp [Ideal.ofBits, Ideal.ieee, -EReal.coe_mul, -EReal.coe_neg]; norm_num

theorem top_bits : Ideal.ofBits .f32 0x7F800000#32 = ⊤ := by
  simp [Ideal.ofBits, Ideal.ieee]

end Cert.StickBreaking

end
-- ==== Proof.PreludeAt.lean ====
/-
  The kernel's five inputs as real numbers, of finite arguments.
-/
module

public import proofs.«01_k».proof.Proof.Prelude
public import proofs.«01_k».proof.Proof.Entries

@[expose] public section

set_option maxRecDepth 8192

noncomputable section

namespace Cert.KernelIdeal.Gen

open Idealize.ShloMosaic Cert.StickBreaking

/-! ## Each array at an index -/

theorem heads_at (x : FVec Ideal S2048x256 .f32) (h : Fin 4) (t : Fin 2048) (d : Fin 64) :
    headsOf (F := Ideal) x (ix3 h t d) = x (ix2 t (⟨h * 64 + d, by omega⟩ : Fin 256)) := by
  pointwise [headsOf]
theorem queries_at (p : FVec Ideal S2048x768 .f32) (h : Fin 4) (t : Fin 2048) (d : Fin 64) :
    queriesOf (F := Ideal) p (ix3 h t d) = p (ix2 t (⟨h * 64 + d, by omega⟩ : Fin 768)) * ((1 / 8 : ℝ) : EReal) := by
  rw [← eighth]; pointwise [queriesOf, headsOf]
theorem keys_at (p : FVec Ideal S2048x768 .f32) (h : Fin 4) (t : Fin 2048) (d : Fin 64) :
    keysOf (F := Ideal) p (ix3 h t d) = p (ix2 t (⟨256 + (h * 64 + d), by omega⟩ : Fin 768)) := by
  pointwise [keysOf, headsOf]
theorem values_at (p : FVec Ideal S2048x768 .f32) (h : Fin 4) (t : Fin 2048) (d : Fin 64) :
    valuesOf (F := Ideal) p (ix3 h t d) = p (ix2 t (⟨512 + (h * 64 + d), by omega⟩ : Fin 768)) := by
  pointwise [valuesOf, headsOf]
theorem scores_at (q k : FVec Ideal S4x2048x64 .f32) (h : Fin 4) (t s : Fin 2048) :
    scoresOf (F := Ideal) q k (ix3 h t s) = ∑ d : Fin 64, q (ix3 h t d) * k (ix3 h s d) := by
  pointwise [scoresOf]
theorem before_at (h : Fin 4) (t s : Fin 2048) :
    broadcastInDim S4x2048x2048 ![1, 2] bcast_S2048x2048_S4x2048x2048_1_2 before (ix3 h t s) = if (s : ℕ) < t then 1#1 else 0#1 := by
  rw [← slt_ite (by omega) (by omega)]; pointwise [before]
theorem keeps_at (z : FVec Ideal S4x2048x2048 .f32) (h : Fin 4) (t s : Fin 2048) :
    keepsOf z (ix3 h t s) = if (s : ℕ) < t then -softplusOf (Host.negf (Host.negf z)) (ix3 h t s) else 0 := by
  rw [← select_ite, ← before_at h t s]; pointwise [keepsOf, zeros]
theorem softplus_at {x : FVec Ideal S4x2048x2048 .f32} {h : Fin 4} {t s : Fin 2048} {z : ℝ} (hz : x (ix3 h t s) = z) :
    softplusOf x (ix3 h t s) = (softplus z : EReal) := by
  have e : softplusOf x (ix3 h t s) = if x (ix3 h t s) ≠ x (ix3 h t s) then x (ix3 h t s)
      else max (x (ix3 h t s)) 0 + Ideal.log1p (Ideal.exp (-FloatOps.absf (F := Ideal) (φ := .f32) (x (ix3 h t s)))) := by pointwise [softplusOf, zeros]
  rw [e, if_neg (fun hn => hn rfl), hz, softplus_coe]
theorem sums_at (l : FVec Ideal S4x2048x2048 .f32) (h : Fin 4) (t : Fin 2048) (b : Fin 128) :
    sumsOf l (ix3 h t b) = if hb : (b : ℕ) < 4 then ∑ c : Fin 512, l (ix3 h t (⟨b * 512 + c, by omega⟩ : Fin 2048)) else 0 := by
  have z : FloatOps.sitofp (F := Ideal) .f32 (0#32) = 0 := by show (((0#32).toInt : ℝ) : EReal) = 0; simp
  pointwise [sumsOf, z]

/-! ## Real entries -/

section Finite

variable {p : FVec Ideal S2048x768 .f32} {g : FVec Ideal S2048x256 .f32} (hp : IsReal p) (hg : IsReal g)

include hp in
theorem queries_real (h : Fin 4) (t : Fin 2048) (d : Fin 64) : queriesOf (F := Ideal) p (ix3 h t d) = (qOf p h t d : EReal) := by
  rw [queries_at, entry_coe hp, ← EReal.coe_mul]; rfl
include hp in
theorem keys_real (h : Fin 4) (t : Fin 2048) (d : Fin 64) : keysOf (F := Ideal) p (ix3 h t d) = (kOf p h t d : EReal) := by
  rw [keys_at, entry_coe hp]; rfl
include hp in
theorem values_real (h : Fin 4) (t : Fin 2048) (d : Fin 64) : valuesOf (F := Ideal) p (ix3 h t d) = (vOf p h t d : EReal) := by
  rw [values_at, entry_coe hp]; rfl
include hg in
theorem outs_real (h : Fin 4) (t : Fin 2048) (d : Fin 64) : headsOf (F := Ideal) g (ix3 h t d) = (gOf g h t d : EReal) := by
  rw [heads_at, entry_coe hg]; rfl

include hp

theorem scores_real (h : Fin 4) (t s : Fin 2048) :
    scoresOf (F := Ideal) (queriesOf p) (keysOf p) (ix3 h t s) = (score (qOf p h) (kOf p h) t s : EReal) := by
  rw [scores_at]
  simp only [queries_real hp, keys_real hp, ← EReal.coe_mul]
  exact coe_sum _ _

theorem keeps_real (h : Fin 4) (t s : Fin 2048) :
    keepsOf (scoresOf (F := Ideal) (queriesOf p) (keysOf p)) (ix3 h t s) = (keep (qOf p h) (kOf p h) t s : EReal) := by
  have n : Host.negf (Host.negf (scoresOf (F := Ideal) (queriesOf p) (keysOf p))) (ix3 h t s) = (score (qOf p h) (kOf p h) t s : EReal) := by
    have e : Host.negf (Host.negf (scoresOf (F := Ideal) (queriesOf p) (keysOf p))) (ix3 h t s)
        = - -(scoresOf (F := Ideal) (queriesOf p) (keysOf p)) (ix3 h t s) := by pointwise
    rw [e, neg_neg, scores_real hp]
  rw [keeps_at, softplus_at n, ← EReal.coe_neg, neg_softplus, ← EReal.coe_zero, coe_ite]
  rfl

theorem sums_real (h : Fin 4) (t : Fin 2048) (b : Fin 128) :
    sumsOf (keepsOf (scoresOf (F := Ideal) (queriesOf p) (keysOf p))) (ix3 h t b)
      = ((if (b : ℕ) < 4 then ∑ j ∈ Finset.Ico (512 * (b : ℕ)) (512 * b + 512), keep (qOf p h) (kOf p h) t j else 0 : ℝ) : EReal) := by
  rw [sums_at]
  by_cases hb : (b : ℕ) < 4
  · rw [dif_pos hb, if_pos hb]
    simp only [keeps_real hp]
    rw [coe_sum, ← sum_shift_range (512 * (b : ℕ)) 512, ← sum_fin 512 fun c => keep (qOf p h) (kOf p h) t (512 * b + c)]
    simp only [Nat.mul_comm (b : ℕ) 512]
  · rw [dif_neg hb, if_neg hb, EReal.coe_zero]

end Finite

end Cert.KernelIdeal.Gen

end
-- ==== Proof.Closed.lean ====
module

public import proofs.«01_k».proof.Proof.Gen.KernelIdeal.Loops

/-! # The two loops' trips and the places their loads and stores go to

The main loop of grid point `i` runs over the key blocks `0 … i / 4`; the loop for what is left has no trip.
Trip `k` of the main loop touches, for head `h`, rows `512 k … 512 k + 511` of head `h`'s keys. -/

@[expose] public section

namespace Cert.KernelIdeal.Gen

open Idealize.ShloMosaic

theorem trips1_eq : ∀ i : grid0.Coords, (k0_t1_loop i).trips = (i 0).val / 4 + 1 := by decide +kernel

theorem trips2_eq : ∀ i : grid0.Coords, (k0_t2_loop i).trips = 0 := by decide +kernel

theorem off1_eq : ∀ (i : grid0.Coords) (k : Fin (k0_t1_loop i).trips), k0_off1 i k = ![0, 512 * k.val, 0] := by
  decide +kernel
theorem off2_eq : ∀ (i : grid0.Coords) (k : Fin (k0_t1_loop i).trips), k0_off2 i k = ![1, 512 * k.val, 0] := by
  decide +kernel
theorem off3_eq : ∀ (i : grid0.Coords) (k : Fin (k0_t1_loop i).trips), k0_off3 i k = ![2, 512 * k.val, 0] := by
  decide +kernel
theorem off4_eq : ∀ (i : grid0.Coords) (k : Fin (k0_t1_loop i).trips), k0_off4 i k = ![3, 512 * k.val, 0] := by
  decide +kernel

instance closedOff1 (i : grid0.Coords) (k : Fin (k0_t1_loop i).trips) : ClosedOff (k0_off1 i k) := ⟨_, off1_eq i k⟩
instance closedOff2 (i : grid0.Coords) (k : Fin (k0_t1_loop i).trips) : ClosedOff (k0_off2 i k) := ⟨_, off2_eq i k⟩
instance closedOff3 (i : grid0.Coords) (k : Fin (k0_t1_loop i).trips) : ClosedOff (k0_off3 i k) := ⟨_, off3_eq i k⟩
instance closedOff4 (i : grid0.Coords) (k : Fin (k0_t1_loop i).trips) : ClosedOff (k0_off4 i k) := ⟨_, off4_eq i k⟩

end Cert.KernelIdeal.Gen

end
-- ==== Proof.Trip.lean ====
module

public import proofs.«01_k».proof.Proof.Closed

@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What the loop carries: the four heads' gradients of the queries, and the four heads' sums of
what the rows got from the blocks before. -/
abbrev Acc (F : FTy → Type) := FVec F S128x64 .f32 × FVec F S128x64 .f32 × FVec F S128x64 .f32 × FVec F S128x64 .f32 × FVec F S128x1 .f32 × FVec F S128x1 .f32 × FVec F S128x1 .f32 × FVec F S128x1 .f32

/-! ## One head's block of 512 keys, as values

`q`, `d`, `s` are the rows' queries, the gradients of their outputs and their sums per block; `kb`, `vb`
the block's keys and values; `left` what the rows got from the blocks before. -/

section Head

variable (i : grid0.Coords) (arg0 : BitVec 32) (v5 v9 : FVec F S256x256 .bf16) (v10 : IVec S128x128 32)
  (k : Fin (k0_t1_loop i).trips) (q d : FVec F S128x64 .f32) (s : FVec F S128x128 .f32)
  (kb vb : Vec F S1x512x64 .f32) (left : FVec F S128x1 .f32)

/-- The attention weights' gradient times the weights: `a · (do vᵀ)`. -/
def tileE : FVec F S128x512 .f32 :=
  k0_pay23 v5 d (k0_pay12 vb) (k0_pay13 i v10 s 0#32 1#32 k) (k0_pay14 q kb) (k0_pay15 i arg0 0#32 1#32 k)
    (k0_pay16 q kb) (k0_pay17 i arg0 q 0#32 1#32 k kb) (k0_pay18 i arg0 q 0#32 1#32 k kb)
    (constant S256x256 .f32 0x00000000#32)

/-- The gradient of the scores. -/
def tileDz : FVec F S128x512 .bf16 :=
  k0_pay27 v9 left (k0_pay14 q kb) (k0_pay15 i arg0 0#32 1#32 k) (tileE i arg0 v5 v10 k q d s kb vb)
    (k0_pay25 v5 d (k0_pay12 vb) (k0_pay13 i v10 s 0#32 1#32 k) (k0_pay14 q kb) (k0_pay15 i arg0 0#32 1#32 k)
      (k0_pay16 q kb) (k0_pay17 i arg0 q 0#32 1#32 k kb) (k0_pay18 i arg0 q 0#32 1#32 k kb)
      (constant S256x256 .f32 0x00000000#32))
    (k0_pay26 v5 v9 d (k0_pay12 vb) (k0_pay13 i v10 s 0#32 1#32 k) (k0_pay14 q kb) (k0_pay15 i arg0 0#32 1#32 k)
      (k0_pay16 q kb) (k0_pay17 i arg0 q 0#32 1#32 k kb) (k0_pay18 i arg0 q 0#32 1#32 k kb)
      (constant S256x256 .f32 0x00000000#32))

/-- The values' gradient after the block, from what it was. -/
def stepDv (old : Vec F S1x512x64 .f32) : Vec F S1x512x64 .f32 :=
  k0_pay24 v5 d (k0_pay13 i v10 s 0#32 1#32 k) (k0_pay14 q kb) (k0_pay15 i arg0 0#32 1#32 k)
    (k0_pay16 q kb) (k0_pay17 i arg0 q 0#32 1#32 k kb) (k0_pay18 i arg0 q 0#32 1#32 k kb)
    (constant S256x256 .f32 0x00000000#32) old

/-- The keys' gradient after the block, from what it was. -/
def stepDk (old : Vec F S1x512x64 .f32) : Vec F S1x512x64 .f32 :=
  k0_pay28 v9 q left (k0_pay14 q kb) (k0_pay15 i arg0 0#32 1#32 k) (tileE i arg0 v5 v10 k q d s kb vb)
    (k0_pay25 v5 d (k0_pay12 vb) (k0_pay13 i v10 s 0#32 1#32 k) (k0_pay14 q kb) (k0_pay15 i arg0 0#32 1#32 k)
      (k0_pay16 q kb) (k0_pay17 i arg0 q 0#32 1#32 k kb) (k0_pay18 i arg0 q 0#32 1#32 k kb)
      (constant S256x256 .f32 0x00000000#32))
    (k0_pay26 v5 v9 d (k0_pay12 vb) (k0_pay13 i v10 s 0#32 1#32 k) (k0_pay14 q kb) (k0_pay15 i arg0 0#32 1#32 k)
      (k0_pay16 q kb) (k0_pay17 i arg0 q 0#32 1#32 k kb) (k0_pay18 i arg0 q 0#32 1#32 k kb)
      (constant S256x256 .f32 0x00000000#32)) old

/-- The queries' gradient after the block, from what it was. -/
def stepDq (old : FVec F S128x64 .f32) : FVec F S128x64 .f32 :=
  k0_pay29 old (k0_pay11 kb) (tileDz i arg0 v5 v9 v10 k q d s kb vb left)

/-- What the rows got from the blocks up to this one. -/
def stepLeft : FVec F S128x1 .f32 := k0_pay30 left (tileE i arg0 v5 v10 k q d s kb vb)

end Head

/-! ## One trip, all four heads -/

variable (i : grid0.Coords) (arg1 : Memref sig .tc .vmem S4x128x64 .f32) (harg1 : arg1.IsWhole) (arg2 : Memref sig .tc .vmem S4x2048x64 .f32) (harg2 : arg2.IsWhole) (arg3 : Memref sig .tc .vmem S4x2048x64 .f32) (harg3 : arg3.IsWhole) (arg4 : Memref sig .tc .vmem S4x128x64 .f32) (harg4 : arg4.IsWhole) (arg5 : Memref sig .tc .vmem S4x128x128 .f32) (harg5 : arg5.IsWhole) (arg6 : Memref sig .tc .vmem S4x128x64 .f32) (harg6 : arg6.IsWhole) (arg7 : Memref sig .tc .vmem S4x2048x64 .f32) (harg7 : arg7.IsWhole) (arg8 : Memref sig .tc .vmem S4x2048x64 .f32) (harg8 : arg8.IsWhole) (arg0 : BitVec 32) (v5 : FVec F S256x256 .bf16) (v9 : FVec F S256x256 .bf16) (v10 : IVec S128x128 32) (v15 : FVec F S128x64 .f32) (v17 : FVec F S128x64 .f32) (v19 : FVec F S128x64 .f32) (v21 : FVec F S128x64 .f32) (v23 : FVec F S128x64 .f32) (v25 : FVec F S128x64 .f32) (v27 : FVec F S128x64 .f32) (v29 : FVec F S128x64 .f32) (v31 : FVec F S128x128 .f32) (v33 : FVec F S128x128 .f32) (v35 : FVec F S128x128 .f32) (v37 : FVec F S128x128 .f32)

/-- The rows that trip `k` touches of each head. -/
abbrev rect1 (k : Fin (k0_t1_loop i).trips) : Rect S4x2048x64 := Rect.unit (k0_off1 i k) S1x512x64.size (k0_off1_inb i k)
abbrev rect2 (k : Fin (k0_t1_loop i).trips) : Rect S4x2048x64 := Rect.unit (k0_off2 i k) S1x512x64.size (k0_off2_inb i k)
abbrev rect3 (k : Fin (k0_t1_loop i).trips) : Rect S4x2048x64 := Rect.unit (k0_off3 i k) S1x512x64.size (k0_off3_inb i k)
abbrev rect4 (k : Fin (k0_t1_loop i).trips) : Rect S4x2048x64 := Rect.unit (k0_off4 i k) S1x512x64.size (k0_off4_inb i k)

variable (X2 : BufTy.Contents (Elt F) arg2.view.ty) (X3 : BufTy.Contents (Elt F) arg3.view.ty)

/-- What trip `k` carries on, from what it was carried. -/
def tripR (k : Fin (k0_t1_loop i).trips) (acc : Acc F) : Acc F :=
  (stepDq i arg0 v5 v9 v10 k v15 v23 v31 (arg2.view.readAt (Elt F) (rect1 i k).toLoadRect X2) (arg3.view.readAt (Elt F) (rect1 i k).toLoadRect X3) acc.2.2.2.2.1 acc.1,
   stepDq i arg0 v5 v9 v10 k v17 v25 v33 (arg2.view.readAt (Elt F) (rect2 i k).toLoadRect X2) (arg3.view.readAt (Elt F) (rect2 i k).toLoadRect X3) acc.2.2.2.2.2.1 acc.2.1,
   stepDq i arg0 v5 v9 v10 k v19 v27 v35 (arg2.view.readAt (Elt F) (rect3 i k).toLoadRect X2) (arg3.view.readAt (Elt F) (rect3 i k).toLoadRect X3) acc.2.2.2.2.2.2.1 acc.2.2.1,
   stepDq i arg0 v5 v9 v10 k v21 v29 v37 (arg2.view.readAt (Elt F) (rect4 i k).toLoadRect X2) (arg3.view.readAt (Elt F) (rect4 i k).toLoadRect X3) acc.2.2.2.2.2.2.2 acc.2.2.2.1,
   stepLeft i arg0 v5 v10 k v15 v23 v31 (arg2.view.readAt (Elt F) (rect1 i k).toLoadRect X2) (arg3.view.readAt (Elt F) (rect1 i k).toLoadRect X3) acc.2.2.2.2.1,
   stepLeft i arg0 v5 v10 k v17 v25 v33 (arg2.view.readAt (Elt F) (rect2 i k).toLoadRect X2) (arg3.view.readAt (Elt F) (rect2 i k).toLoadRect X3) acc.2.2.2.2.2.1,
   stepLeft i arg0 v5 v10 k v19 v27 v35 (arg2.view.readAt (Elt F) (rect3 i k).toLoadRect X2) (arg3.view.readAt (Elt F) (rect3 i k).toLoadRect X3) acc.2.2.2.2.2.2.1,
   stepLeft i arg0 v5 v10 k v21 v29 v37 (arg2.view.readAt (Elt F) (rect4 i k).toLoadRect X2) (arg3.view.readAt (Elt F) (rect4 i k).toLoadRect X3) acc.2.2.2.2.2.2.2)

/-- What trip `k` stores into the keys' gradient, the last store first. -/
def tripK (k : Fin (k0_t1_loop i).trips) (acc : Acc F) (f7 : BufTy.Contents (Elt F) arg7.view.ty) : List (View.Piece (Elt F) S4x2048x64 .f32) :=
  [⟨rect4 i k, stepDk i arg0 v5 v9 v10 k v21 v29 v37 (arg2.view.readAt (Elt F) (rect4 i k).toLoadRect X2) (arg3.view.readAt (Elt F) (rect4 i k).toLoadRect X3) acc.2.2.2.2.2.2.2 (arg7.view.readAt (Elt F) (rect4 i k).toLoadRect f7)⟩,
   ⟨rect3 i k, stepDk i arg0 v5 v9 v10 k v19 v27 v35 (arg2.view.readAt (Elt F) (rect3 i k).toLoadRect X2) (arg3.view.readAt (Elt F) (rect3 i k).toLoadRect X3) acc.2.2.2.2.2.2.1 (arg7.view.readAt (Elt F) (rect3 i k).toLoadRect f7)⟩,
   ⟨rect2 i k, stepDk i arg0 v5 v9 v10 k v17 v25 v33 (arg2.view.readAt (Elt F) (rect2 i k).toLoadRect X2) (arg3.view.readAt (Elt F) (rect2 i k).toLoadRect X3) acc.2.2.2.2.2.1 (arg7.view.readAt (Elt F) (rect2 i k).toLoadRect f7)⟩,
   ⟨rect1 i k, stepDk i arg0 v5 v9 v10 k v15 v23 v31 (arg2.view.readAt (Elt F) (rect1 i k).toLoadRect X2) (arg3.view.readAt (Elt F) (rect1 i k).toLoadRect X3) acc.2.2.2.2.1 (arg7.view.readAt (Elt F) (rect1 i k).toLoadRect f7)⟩]

/-- What trip `k` stores into the values' gradient, the last store first. -/
def tripV (k : Fin (k0_t1_loop i).trips) (f8 : BufTy.Contents (Elt F) arg8.view.ty) : List (View.Piece (Elt F) S4x2048x64 .f32) :=
  [⟨rect4 i k, stepDv i arg0 v5 v10 k v21 v29 v37 (arg2.view.readAt (Elt F) (rect4 i k).toLoadRect X2) (arg8.view.readAt (Elt F) (rect4 i k).toLoadRect f8)⟩,
   ⟨rect3 i k, stepDv i arg0 v5 v10 k v19 v27 v35 (arg2.view.readAt (Elt F) (rect3 i k).toLoadRect X2) (arg8.view.readAt (Elt F) (rect3 i k).toLoadRect f8)⟩,
   ⟨rect2 i k, stepDv i arg0 v5 v10 k v17 v25 v33 (arg2.view.readAt (Elt F) (rect2 i k).toLoadRect X2) (arg8.view.readAt (Elt F) (rect2 i k).toLoadRect f8)⟩,
   ⟨rect1 i k, stepDv i arg0 v5 v10 k v15 v23 v31 (arg2.view.readAt (Elt F) (rect1 i k).toLoadRect X2) (arg8.view.readAt (Elt F) (rect1 i k).toLoadRect f8)⟩]

/-- What a trip touches: the keys and the values (`arg2`, `arg3`) at `X2`, `X3`, and the two
gradients that it adds to (`arg7`, `arg8`) at `f7`, `f8`. -/
abbrev Trip (c : Dev nD) (f7 : BufTy.Contents (Elt F) arg7.view.ty) (f8 : BufTy.Contents (Elt F) arg8.view.ty) : sProp 𝕄G :=
  iprop((arg2.view.loc (c : Thread nD τ) ↦[arg2.view.set]{fullShare} X2) ∗ (arg3.view.loc (c : Thread nD τ) ↦[arg3.view.set]{fullShare} X3) ∗ (arg7.view.loc (c : Thread nD τ) ↦[arg7.view.set]{fullShare} f7) ∗ (arg8.view.loc (c : Thread nD τ) ↦[arg8.view.set]{fullShare} f8))

set_option maxHeartbeats 2000000 in
/-- One trip of the main loop: what it carries on and what it stores. -/
theorem trip (𝒱 : Variants) (c : Dev nD) (bd : Option 𝒱.V) (k : Fin (k0_t1_loop i).trips) (E : Set ℕ) (acc : Acc F)
    (f7 : BufTy.Contents (Elt F) arg7.view.ty) (f8 : BufTy.Contents (Elt F) arg8.view.ty) :
      Trip (F := F) arg2 arg3 arg7 arg8 X2 X3 c f7 f8
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg0 v5 v9 v10 v15 v17 v19 v21 v23 v25 v27 v29 v31 v33 v35 v37 k acc)
          (fun yld => iprop(⌜yld = tripR i arg2 arg3 arg0 v5 v9 v10 v15 v17 v19 v21 v23 v25 v27 v29 v31 v33 v35 v37 X2 X3 k acc⌝ ∗ Trip (F := F) arg2 arg3 arg7 arg8 X2 X3 c
            (arg7.view.writes (Elt F) f7 (tripK i arg2 arg3 arg7 arg0 v5 v9 v10 v15 v17 v19 v21 v23 v25 v27 v29 v31 v33 v35 v37 X2 X3 k acc f7))
            (arg8.view.writes (Elt F) f8 (tripV i arg2 arg8 arg0 v5 v10 v15 v17 v19 v21 v23 v25 v27 v29 v31 v33 v35 v37 X2 k f8)))) := by
  unfold k0_t1_body
  iintro ⟨H2, H3, H7, H8⟩
  sl_exec
  sl_step
  isplitr
  · ipureintro; rfl
  isplitl [H2]
  · iexact H2
  isplitl [H3]
  · iexact H3
  isplitl [H7]
  · iexact H7
  iexact H8

end Cert.KernelIdeal.Gen

end
-- ==== Proof.Loop.lean ====
module

public import proofs.«01_k».proof.Proof.Trip

@[expose] public section

set_option maxRecDepth 8192

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (i : grid0.Coords) (arg1 : Memref sig .tc .vmem S4x128x64 .f32) (harg1 : arg1.IsWhole) (arg2 : Memref sig .tc .vmem S4x2048x64 .f32) (harg2 : arg2.IsWhole) (arg3 : Memref sig .tc .vmem S4x2048x64 .f32) (harg3 : arg3.IsWhole) (arg4 : Memref sig .tc .vmem S4x128x64 .f32) (harg4 : arg4.IsWhole) (arg5 : Memref sig .tc .vmem S4x128x128 .f32) (harg5 : arg5.IsWhole) (arg6 : Memref sig .tc .vmem S4x128x64 .f32) (harg6 : arg6.IsWhole) (arg7 : Memref sig .tc .vmem S4x2048x64 .f32) (harg7 : arg7.IsWhole) (arg8 : Memref sig .tc .vmem S4x2048x64 .f32) (harg8 : arg8.IsWhole) (arg0 : BitVec 32) (v5 : FVec F S256x256 .bf16) (v9 : FVec F S256x256 .bf16) (v10 : IVec S128x128 32) (v15 : FVec F S128x64 .f32) (v17 : FVec F S128x64 .f32) (v19 : FVec F S128x64 .f32) (v21 : FVec F S128x64 .f32) (v23 : FVec F S128x64 .f32) (v25 : FVec F S128x64 .f32) (v27 : FVec F S128x64 .f32) (v29 : FVec F S128x64 .f32) (v31 : FVec F S128x128 .f32) (v33 : FVec F S128x128 .f32) (v35 : FVec F S128x128 .f32) (v37 : FVec F S128x128 .f32)

variable (X2 : BufTy.Contents (Elt F) arg2.view.ty) (X3 : BufTy.Contents (Elt F) arg3.view.ty)
  (G7 : BufTy.Contents (Elt F) arg7.view.ty) (G8 : BufTy.Contents (Elt F) arg8.view.ty) (init : Acc F)

/-- Before trip `k`: what is carried, and what the trips before stored into the keys' and the values'
gradient, the last store first, over what these held when the loop began (`G7`, `G8`). -/
def st : ℕ → Acc F × List (View.Piece (Elt F) S4x2048x64 .f32) × List (View.Piece (Elt F) S4x2048x64 .f32)
  | 0 => (init, [], [])
  | k + 1 =>
    if h : k < (k0_t1_loop i).trips then
      (tripR i arg2 arg3 arg0 v5 v9 v10 v15 v17 v19 v21 v23 v25 v27 v29 v31 v33 v35 v37 X2 X3 ⟨k, h⟩ (st k).1,
       tripK i arg2 arg3 arg7 arg0 v5 v9 v10 v15 v17 v19 v21 v23 v25 v27 v29 v31 v33 v35 v37 X2 X3 ⟨k, h⟩ (st k).1 (arg7.view.writes (Elt F) G7 (st k).2.1) ++ (st k).2.1,
       tripV i arg2 arg8 arg0 v5 v10 v15 v17 v19 v21 v23 v25 v27 v29 v31 v33 v35 v37 X2 ⟨k, h⟩ (arg8.view.writes (Elt F) G8 (st k).2.2) ++ (st k).2.2)
    else st k

theorem st_succ (k : Fin (k0_t1_loop i).trips) :
    st i arg2 arg3 arg7 arg8 arg0 v5 v9 v10 v15 v17 v19 v21 v23 v25 v27 v29 v31 v33 v35 v37 X2 X3 G7 G8 init (k.val + 1) =
      (tripR i arg2 arg3 arg0 v5 v9 v10 v15 v17 v19 v21 v23 v25 v27 v29 v31 v33 v35 v37 X2 X3 k (st i arg2 arg3 arg7 arg8 arg0 v5 v9 v10 v15 v17 v19 v21 v23 v25 v27 v29 v31 v33 v35 v37 X2 X3 G7 G8 init k.val).1,
       tripK i arg2 arg3 arg7 arg0 v5 v9 v10 v15 v17 v19 v21 v23 v25 v27 v29 v31 v33 v35 v37 X2 X3 k (st i arg2 arg3 arg7 arg8 arg0 v5 v9 v10 v15 v17 v19 v21 v23 v25 v27 v29 v31 v33 v35 v37 X2 X3 G7 G8 init k.val).1 (arg7.view.writes (Elt F) G7 (st i arg2 arg3 arg7 arg8 arg0 v5 v9 v10 v15 v17 v19 v21 v23 v25 v27 v29 v31 v33 v35 v37 X2 X3 G7 G8 init k.val).2.1) ++ (st i arg2 arg3 arg7 arg8 arg0 v5 v9 v10 v15 v17 v19 v21 v23 v25 v27 v29 v31 v33 v35 v37 X2 X3 G7 G8 init k.val).2.1,
       tripV i arg2 arg8 arg0 v5 v10 v15 v17 v19 v21 v23 v25 v27 v29 v31 v33 v35 v37 X2 k (arg8.view.writes (Elt F) G8 (st i arg2 arg3 arg7 arg8 arg0 v5 v9 v10 v15 v17 v19 v21 v23 v25 v27 v29 v31 v33 v35 v37 X2 X3 G7 G8 init k.val).2.2) ++ (st i arg2 arg3 arg7 arg8 arg0 v5 v9 v10 v15 v17 v19 v21 v23 v25 v27 v29 v31 v33 v35 v37 X2 X3 G7 G8 init k.val).2.2) := by
  rw [st, dif_pos k.isLt]

/-- Before trip `k`: the keys and the values as they were, the two gradients with the earlier trips'
stores in them, and what is carried. -/
abbrev inv1 (c : Dev nD) (k : ℕ) (acc : Acc F) : sProp 𝕄G :=
  iprop((arg2.view.loc (c : Thread nD τ) ↦[arg2.view.set]{fullShare} X2) ∗ (arg3.view.loc (c : Thread nD τ) ↦[arg3.view.set]{fullShare} X3)
    ∗ (∃ f, (arg7.view.loc (c : Thread nD τ) ↦[arg7.view.set]{fullShare} f) ∗ ⌜f = arg7.view.writes (Elt F) G7 (st i arg2 arg3 arg7 arg8 arg0 v5 v9 v10 v15 v17 v19 v21 v23 v25 v27 v29 v31 v33 v35 v37 X2 X3 G7 G8 init k).2.1⌝)
    ∗ (∃ f, (arg8.view.loc (c : Thread nD τ) ↦[arg8.view.set]{fullShare} f) ∗ ⌜f = arg8.view.writes (Elt F) G8 (st i arg2 arg3 arg7 arg8 arg0 v5 v9 v10 v15 v17 v19 v21 v23 v25 v27 v29 v31 v33 v35 v37 X2 X3 G7 G8 init k).2.2⌝)
    ∗ ⌜acc = (st i arg2 arg3 arg7 arg8 arg0 v5 v9 v10 v15 v17 v19 v21 v23 v25 v27 v29 v31 v33 v35 v37 X2 X3 G7 G8 init k).1⌝)

set_option warn.classDefReducibility false in
/-- The main loop by its invariant. -/
@[sl_loop] def loopInv1 (𝒱 : Variants) (c : Dev nD) (bd : Option 𝒱.V) (E : Set ℕ) :
    LoopInvTy_k0_t1 (F := F) Unit ℕ (UR sig nD τ) ℕ 𝒱 c bd E i arg1 harg1 arg2 harg2 arg3 harg3 arg4 harg4 arg5 harg5 arg6 harg6 arg7 harg7 arg8 harg8 arg0 v5 v9 v10 v15 v17 v19 v21 v23 v25 v27 v29 v31 v33 v35 v37 init where
  inv := inv1 (F := F) i arg2 arg3 arg7 arg8 arg0 v5 v9 v10 v15 v17 v19 v21 v23 v25 v27 v29 v31 v33 v35 v37 X2 X3 G7 G8 init c
  step k acc := by
    iintro ⟨H2, H3, ⟨%f7, H7, %h7⟩, ⟨%f8, H8, %h8⟩, %hacc⟩
    subst hacc
    iapply (wp_wand_r Idealize.ShloMosaic.frame (wpE (defs₀ (F := F)) 𝒱 (c : Thread nD τ) bd) E)
    isplitl [H2 H3 H7 H8]
    · iapply (trip (F := F) i arg1 harg1 arg2 harg2 arg3 harg3 arg4 harg4 arg5 harg5 arg6 harg6 arg7 harg7 arg8 harg8 arg0 v5 v9 v10 v15 v17 v19 v21 v23 v25 v27 v29 v31 v33 v35 v37 X2 X3 𝒱 c bd k E (st i arg2 arg3 arg7 arg8 arg0 v5 v9 v10 v15 v17 v19 v21 v23 v25 v27 v29 v31 v33 v35 v37 X2 X3 G7 G8 init k.val).1 f7 f8)
      isplitl [H2]; · iexact H2
      isplitl [H3]; · iexact H3
      isplitl [H7]; · iexact H7
      iexact H8
    · iintro %yld ⟨%hres, H2, H3, H7, H8⟩
      isplitl [H2]; · iexact H2
      isplitl [H3]; · iexact H3
      simp only [st_succ]
      isplitl [H7]
      · iexists _; isplitl [H7]; · iexact H7
        ipureintro; rw [h7, ← View.writes_append]
      isplitl [H8]
      · iexists _; isplitl [H8]; · iexact H8
        ipureintro; rw [h8, ← View.writes_append]
      ipureintro; exact hres

set_option warn.classDefReducibility false in
/-- The loop for what is left has no trip: what is carried stays. -/
@[sl_loop] def loopInv2 (𝒱 : Variants) (c : Dev nD) (bd : Option 𝒱.V) (E : Set ℕ) (v68 : BitVec 32) :
    LoopInvTy_k0_t2 (F := F) Unit ℕ (UR sig nD τ) ℕ 𝒱 c bd E i arg1 harg1 arg2 harg2 arg3 harg3 arg4 harg4 arg5 harg5 arg6 harg6 arg7 harg7 arg8 harg8 arg0 v5 v9 v10 v15 v17 v19 v21 v23 v25 v27 v29 v31 v33 v35 v37 v68 init where
  inv := fun _ acc => iprop(⌜acc = init⌝)
  step k acc := (Nat.not_lt_zero _ (Nat.lt_of_lt_of_eq k.isLt (trips2_eq i))).elim

end Cert.KernelIdeal.Gen

end
-- ==== Proof.Model.lean ====
module

public import proofs.«01_k».proof.Proof.Loop
public import Idealize.ShloMosaic.Lib.WritesUnit
public import Idealize.ShloMosaic.Lib.Pointwise.Index
public import Idealize.ShloMosaic.Lib.Pipeline.FrameBody

@[expose] public section

set_option maxRecDepth 8192

noncomputable section

namespace Cert.KernelIdeal.Gen

open Idealize.ShloMosaic Idealize.ShloMosaic.TcCoe Idealize.ShloMosaic.Tactic

variable {F : FTy → Type} [FloatOps F]

/-! ## The point's arrays as plain functions

What one grid point computes, without the memory it computes in. -/

/-- Head `h`'s 128 rows of a block of queries (or of the gradients of their outputs). -/
def headRows (x : Vec F S4x128x64 .f32) (h : Fin 4) : FVec F S128x64 .f32 :=
  k0_pay177 (View.ld x (Rect.unit (s := S4x128x64) ![h.val, 0, 0] S1x128x64.size (by revert h; decide)))

/-- Head `h`'s 128 rows of the sums per block. -/
def headSums (x : Vec F S4x128x128 .f32) (h : Fin 4) : FVec F S128x128 .f32 :=
  k0_pay185 (View.ld x (Rect.unit (s := S4x128x128) ![h.val, 0, 0] S1x128x128.size (by revert h; decide)))

/-- Head `h`'s block `k` of 512 keys (or values, or their gradients). -/
def keyBlock (x : Vec F S4x2048x64 .f32) (h : Fin 4) (k : Fin 4) : Vec F S1x512x64 .f32 :=
  View.ld x (Rect.unit (s := S4x2048x64) ![h.val, 512 * k.val, 0] S1x512x64.size (by revert h k; decide))

theorem trips1_le (i : grid0.Coords) : (k0_t1_loop i).trips ≤ 4 := by
  rw [trips1_eq]; have : (i 0).val < 16 := (i 0).isLt; omega

/-- A trip is a block of keys. -/
def blockOf {i : grid0.Coords} (k : Fin (k0_t1_loop i).trips) : Fin 4 := ⟨k.val, k.isLt.trans_le (trips1_le i)⟩

/-- The column numbers of a block of sums. -/
abbrev colIota : IVec S128x128 32 := iota .tc S128x128 32 [1] iota_S128x128_d1_w32

section Point

variable (i : grid0.Coords) (q d : Fin 4 → FVec F S128x64 .f32) (s : Fin 4 → FVec F S128x128 .f32)
  (x1 x2 : Vec F S4x2048x64 .f32)

/-- What head `h`'s rows got from the first `n` blocks of keys. -/
def leftAt (h : Fin 4) : ℕ → FVec F S128x1 .f32
  | 0 => k0_pay193
  | n + 1 => if hn : n < (k0_t1_loop i).trips then
      stepLeft i (BitVec.ofNat 32 (i 0).val) k0_pay173 colIota ⟨n, hn⟩ (q h) (d h) (s h)
        (keyBlock x1 h (blockOf ⟨n, hn⟩)) (keyBlock x2 h (blockOf ⟨n, hn⟩)) (leftAt h n)
    else leftAt h n

/-- Head `h`'s gradient of the queries from the first `n` blocks of keys. -/
def dqAt (h : Fin 4) : ℕ → FVec F S128x64 .f32
  | 0 => k0_pay189
  | n + 1 => if hn : n < (k0_t1_loop i).trips then
      stepDq i (BitVec.ofNat 32 (i 0).val) k0_pay173 k0_pay174 colIota ⟨n, hn⟩ (q h) (d h) (s h)
        (keyBlock x1 h (blockOf ⟨n, hn⟩)) (keyBlock x2 h (blockOf ⟨n, hn⟩)) (leftAt i q d s x1 x2 h n) (dqAt h n)
    else dqAt h n

/-- Head `h`'s gradient of block `k` of the keys, from what it was. -/
def dkBlock (h : Fin 4) (k : Fin (k0_t1_loop i).trips) (old : Vec F S1x512x64 .f32) : Vec F S1x512x64 .f32 :=
  stepDk i (BitVec.ofNat 32 (i 0).val) k0_pay173 k0_pay174 colIota k (q h) (d h) (s h)
    (keyBlock x1 h (blockOf k)) (keyBlock x2 h (blockOf k)) (leftAt i q d s x1 x2 h k.val) old

/-- Head `h`'s gradient of block `k` of the values, from what it was. -/
def dvBlock (h : Fin 4) (k : Fin (k0_t1_loop i).trips) (old : Vec F S1x512x64 .f32) : Vec F S1x512x64 .f32 :=
  stepDv i (BitVec.ofNat 32 (i 0).val) k0_pay173 colIota k (q h) (d h) (s h) (keyBlock x1 h (blockOf k)) old

/-- What the loop carries before trip `n`. -/
def accAt (n : ℕ) : Acc F :=
  (dqAt i q d s x1 x2 0 n, dqAt i q d s x1 x2 1 n, dqAt i q d s x1 x2 2 n, dqAt i q d s x1 x2 3 n,
   leftAt i q d s x1 x2 0 n, leftAt i q d s x1 x2 1 n, leftAt i q d s x1 x2 2 n, leftAt i q d s x1 x2 3 n)

/-- A row's place in its block of 512. -/
def inBlock (y : S4x2048x64.Idx) : S1x512x64.Idx :=
  ix3 (n0 := 1) (n1 := 512) (n2 := 64) 0 ⟨(y 1).val % 512, Nat.mod_lt _ (by decide)⟩ (y 2)

/-- The blocks before the `n`th put through `step`, the rest as it was. -/
def blocksTo (n : ℕ) (step : Fin 4 → Fin (k0_t1_loop i).trips → Vec F S1x512x64 .f32 → Vec F S1x512x64 .f32)
    (x : Vec F S4x2048x64 .f32) : Vec F S4x2048x64 .f32 := fun y =>
  if hn : (y 1).val / 512 < n ∧ (y 1).val / 512 < (k0_t1_loop i).trips then
    step (y 0) ⟨(y 1).val / 512, hn.2⟩ (keyBlock x (y 0) (blockOf ⟨(y 1).val / 512, hn.2⟩)) (inBlock y)
  else x y

end Point

/-! ## Trips in memory against the plain functions -/

section Mem

variable {i : grid0.Coords} (m : Memref sig .tc .vmem S4x2048x64 .f32)

theorem ld_congr {α : Type} {s : Shape} (x : s.Idx → α) {off off' size : Fin s.rank → ℕ} (h : off = off')
    (inb : ∀ a, off a + size a ≤ s.size a) (inb' : ∀ a, off' a + size a ≤ s.size a) :
    (fun j => x ((Rect.unit off size inb).idx j)) = (fun j => x ((Rect.unit off' size inb').idx j)) := by
  subst h; rfl

theorem rect1_read (k : Fin (k0_t1_loop i).trips) (f : BufTy.Contents (Elt F) m.view.ty) :
    m.view.readAt (Elt F) (rect1 i k).toLoadRect f = keyBlock (m.view.read (Elt F) f) 0 (blockOf k) :=
  ld_congr (m.view.read (Elt F) f) (off1_eq i k) _ _
theorem rect2_read (k : Fin (k0_t1_loop i).trips) (f : BufTy.Contents (Elt F) m.view.ty) :
    m.view.readAt (Elt F) (rect2 i k).toLoadRect f = keyBlock (m.view.read (Elt F) f) 1 (blockOf k) :=
  ld_congr (m.view.read (Elt F) f) (off2_eq i k) _ _
theorem rect3_read (k : Fin (k0_t1_loop i).trips) (f : BufTy.Contents (Elt F) m.view.ty) :
    m.view.readAt (Elt F) (rect3 i k).toLoadRect f = keyBlock (m.view.read (Elt F) f) 2 (blockOf k) :=
  ld_congr (m.view.read (Elt F) f) (off3_eq i k) _ _
theorem rect4_read (k : Fin (k0_t1_loop i).trips) (f : BufTy.Contents (Elt F) m.view.ty) :
    m.view.readAt (Elt F) (rect4 i k).toLoadRect f = keyBlock (m.view.read (Elt F) f) 3 (blockOf k) :=
  ld_congr (m.view.read (Elt F) f) (off4_eq i k) _ _

/-- Four stores of a trip, read at an index. -/
theorem read_trip (k : Fin (k0_t1_loop i).trips) (f : BufTy.Contents (Elt F) m.view.ty)
    (L : List (View.Piece (Elt F) S4x2048x64 .f32)) (w : Fin 4 → Vec F S1x512x64 .f32) (y : S4x2048x64.Idx) :
    m.view.read (Elt F) (m.view.writes (Elt F) f
      ([⟨rect4 i k, w 3⟩, ⟨rect3 i k, w 2⟩, ⟨rect2 i k, w 1⟩, ⟨rect1 i k, w 0⟩] ++ L)) y =
      if (y 1).val / 512 = k.val then w (y 0) (inBlock y) else m.view.read (Elt F) (m.view.writes (Elt F) f L) y := by
  have hmiss : ∀ {off off' : Fin 3 → ℕ} (inb) (w) (L) (heq : off = off') (hne : ∃ a : Fin 3, (y a).val < off' a ∨ off' a + S1x512x64.size a ≤ (y a).val),
      m.view.read (Elt F) (m.view.writes (Elt F) f ((⟨Rect.unit (s := S4x2048x64) off S1x512x64.size inb, w⟩ : View.Piece (Elt F) S4x2048x64 .f32) :: L)) y
        = m.view.read (Elt F) (m.view.writes (Elt F) f L) y :=
    fun inb w L heq hne => View.read_writes_cons_unit_of_not_mem m.view f inb w L y heq hne.choose hne.choose_spec
  have hhit : ∀ {off off' : Fin 3 → ℕ} (inb) (w : Vec F S1x512x64 .f32) (L) (heq : off = off') (h : ∀ a : Fin 3, (y a).val = off' a + (inBlock y a).val),
      m.view.read (Elt F) (m.view.writes (Elt F) f ((⟨Rect.unit (s := S4x2048x64) off S1x512x64.size inb, w⟩ : View.Piece (Elt F) S4x2048x64 .f32) :: L)) y
        = w (inBlock y) :=
    fun inb w L heq h => View.read_writes_cons_unit_of_mem m.view f inb w L y (inBlock y) heq h
  have h0 : (y 0).val < 4 := (y 0).isLt
  have hdm := Nat.div_add_mod (y 1).val 512
  have hml := Nat.mod_lt (y 1).val (show 512 > 0 by decide)
  by_cases hk : (y 1).val / 512 = k.val
  · rw [if_pos hk]
    have hin : ∀ h : ℕ, (y 0).val = h → ∀ a : Fin 3, (y a).val = ![h, 512 * k.val, 0] a + (inBlock y a).val := by
      intro h hh a
      match a with
      | ⟨0, _⟩ => show (y 0).val = h + 0; omega
      | ⟨1, _⟩ => show (y 1).val = 512 * k.val + (y 1).val % 512; omega
      | ⟨2, _⟩ => show (y 2).val = 0 + (y 2).val; omega
    have hout : ∀ h : ℕ, (y 0).val ≠ h → ∃ a : Fin 3, (y a).val < ![h, 512 * k.val, 0] a ∨ ![h, 512 * k.val, 0] a + S1x512x64.size a ≤ (y a).val := by
      intro h hh
      refine ⟨0, ?_⟩
      show (y 0).val < h ∨ h + 1 ≤ (y 0).val
      omega
    simp only [List.cons_append, List.nil_append]
    obtain h3 | h2 | h1 | h0 : (y 0).val = 3 ∨ (y 0).val = 2 ∨ (y 0).val = 1 ∨ (y 0).val = 0 := by omega
    · rw [hhit _ _ _ (off4_eq i k) (hin 3 h3), show y 0 = (3 : Fin 4) from Fin.ext h3]
    · rw [hmiss _ _ _ (off4_eq i k) (hout 3 (by omega)), hhit _ _ _ (off3_eq i k) (hin 2 h2), show y 0 = (2 : Fin 4) from Fin.ext h2]
    · rw [hmiss _ _ _ (off4_eq i k) (hout 3 (by omega)), hmiss _ _ _ (off3_eq i k) (hout 2 (by omega)),
        hhit _ _ _ (off2_eq i k) (hin 1 h1), show y 0 = (1 : Fin 4) from Fin.ext h1]
    · rw [hmiss _ _ _ (off4_eq i k) (hout 3 (by omega)), hmiss _ _ _ (off3_eq i k) (hout 2 (by omega)),
        hmiss _ _ _ (off2_eq i k) (hout 1 (by omega)), hhit _ _ _ (off1_eq i k) (hin 0 h0), show y 0 = (0 : Fin 4) from Fin.ext h0]
  · rw [if_neg hk]
    have hout : ∀ h : ℕ, ∃ a : Fin 3, (y a).val < ![h, 512 * k.val, 0] a ∨ ![h, 512 * k.val, 0] a + S1x512x64.size a ≤ (y a).val := by
      intro h
      refine ⟨1, ?_⟩
      show (y 1).val < 512 * k.val ∨ 512 * k.val + 512 ≤ (y 1).val
      omega
    simp only [List.cons_append, List.nil_append]
    rw [hmiss _ _ _ (off4_eq i k) (hout 3), hmiss _ _ _ (off3_eq i k) (hout 2), hmiss _ _ _ (off2_eq i k) (hout 1),
      hmiss _ _ _ (off1_eq i k) (hout 0)]

/-- A block read after earlier blocks were put through `step` is as it was. -/
theorem keyBlock_blocksTo (k : Fin (k0_t1_loop i).trips) (step) (x : Vec F S4x2048x64 .f32) (h : Fin 4) :
    keyBlock (blocksTo i k.val step x) h (blockOf k) = keyBlock x h (blockOf k) := by
  funext j
  show blocksTo i k.val step x _ = x _
  unfold blocksTo
  rw [dif_neg]
  rintro ⟨hlt, -⟩
  have : (j 1).val < 512 := (j 1).isLt
  have h1 : ((512 * k.val + 1 * (j 1).val) / 512 : ℕ) < k.val := hlt
  omega

/-- One more block. -/
theorem blocksTo_succ (k : Fin (k0_t1_loop i).trips) (step) (x : Vec F S4x2048x64 .f32) (y : S4x2048x64.Idx) :
    blocksTo i (k.val + 1) step x y =
      if (y 1).val / 512 = k.val then step (y 0) k (keyBlock x (y 0) (blockOf k)) (inBlock y) else blocksTo i k.val step x y := by
  unfold blocksTo
  by_cases hk : (y 1).val / 512 = k.val
  · have hn : (y 1).val / 512 < k.val + 1 ∧ (y 1).val / 512 < (k0_t1_loop i).trips := ⟨by omega, by have := k.isLt; omega⟩
    rw [if_pos hk, dif_pos hn]
    have : (⟨(y 1).val / 512, hn.2⟩ : Fin (k0_t1_loop i).trips) = k := Fin.ext hk
    rw [this]
  · rw [if_neg hk]
    by_cases hn : (y 1).val / 512 < k.val ∧ (y 1).val / 512 < (k0_t1_loop i).trips
    · rw [dif_pos hn, dif_pos ⟨by omega, hn.2⟩]
    · rw [dif_neg hn, dif_neg (by omega)]

end Mem

section St

variable (i : grid0.Coords) (arg2 : Memref sig .tc .vmem S4x2048x64 .f32) (arg3 : Memref sig .tc .vmem S4x2048x64 .f32)
  (arg7 : Memref sig .tc .vmem S4x2048x64 .f32) (arg8 : Memref sig .tc .vmem S4x2048x64 .f32)
  (q d : Fin 4 → FVec F S128x64 .f32) (s : Fin 4 → FVec F S128x128 .f32)
  (X2 : BufTy.Contents (Elt F) arg2.view.ty) (X3 : BufTy.Contents (Elt F) arg3.view.ty)
  (G7 : BufTy.Contents (Elt F) arg7.view.ty) (G8 : BufTy.Contents (Elt F) arg8.view.ty)

/-- The loop's state over the heads' rows `q`, `d`, `s`, from nothing. -/
abbrev stOf (n : ℕ) := st i arg2 arg3 arg7 arg8 (BitVec.ofNat 32 (i 0).val) k0_pay173 k0_pay174 colIota (q 0) (q 1) (q 2) (q 3)
  (d 0) (d 1) (d 2) (d 3) (s 0) (s 1) (s 2) (s 3) X2 X3 G7 G8
  (k0_pay189, k0_pay190, k0_pay191, k0_pay192, k0_pay193, k0_pay194, k0_pay195, k0_pay196) n

set_option maxHeartbeats 1000000 in
/-- What the loop carries, what it leaves in the keys' gradient and in the values' gradient. -/
theorem stOf_eq : ∀ n : ℕ, n ≤ (k0_t1_loop i).trips →
    (stOf i arg2 arg3 arg7 arg8 q d s X2 X3 G7 G8 n).1 = accAt i q d s (arg2.view.read (Elt F) X2) (arg3.view.read (Elt F) X3) n
    ∧ arg7.view.read (Elt F) (arg7.view.writes (Elt F) G7 (stOf i arg2 arg3 arg7 arg8 q d s X2 X3 G7 G8 n).2.1)
      = blocksTo i n (dkBlock i q d s (arg2.view.read (Elt F) X2) (arg3.view.read (Elt F) X3)) (arg7.view.read (Elt F) G7)
    ∧ arg8.view.read (Elt F) (arg8.view.writes (Elt F) G8 (stOf i arg2 arg3 arg7 arg8 q d s X2 X3 G7 G8 n).2.2)
      = blocksTo i n (dvBlock i q d s (arg2.view.read (Elt F) X2)) (arg8.view.read (Elt F) G8) := by
  intro n
  induction n with
  | zero =>
    intro _
    refine ⟨rfl, ?_, ?_⟩
    · funext y; unfold blocksTo; rw [dif_neg (by omega)]; rfl
    · funext y; unfold blocksTo; rw [dif_neg (by omega)]; rfl
  | succ n ih =>
    intro hn
    have hnt : n < (k0_t1_loop i).trips := by omega
    obtain ⟨ha, hk, hv⟩ := ih (by omega)
    have hs := st_succ i arg2 arg3 arg7 arg8 (BitVec.ofNat 32 (i 0).val) k0_pay173 k0_pay174 colIota (q 0) (q 1) (q 2) (q 3)
      (d 0) (d 1) (d 2) (d 3) (s 0) (s 1) (s 2) (s 3) X2 X3 G7 G8
      (k0_pay189, k0_pay190, k0_pay191, k0_pay192, k0_pay193, k0_pay194, k0_pay195, k0_pay196) (⟨n, hnt⟩ : Fin (k0_t1_loop i).trips)
    simp only at hs
    change stOf i arg2 arg3 arg7 arg8 q d s X2 X3 G7 G8 (n + 1) = _ at hs
    generalize stOf i arg2 arg3 arg7 arg8 q d s X2 X3 G7 G8 (n + 1) = σ' at hs ⊢
    dsimp only [stOf] at ha hk hv
    generalize st i arg2 arg3 arg7 arg8 (BitVec.ofNat 32 (i 0).val) k0_pay173 k0_pay174 colIota (q 0) (q 1) (q 2) (q 3)
      (d 0) (d 1) (d 2) (d 3) (s 0) (s 1) (s 2) (s 3) X2 X3 G7 G8
      (k0_pay189, k0_pay190, k0_pay191, k0_pay192, k0_pay193, k0_pay194, k0_pay195, k0_pay196) n = σ at hs ha hk hv
    obtain ⟨σ1, σ2, σ3⟩ := σ
    subst hs
    simp only at ha hk hv ⊢
    subst ha
    let wk : Fin 4 → Vec F S1x512x64 .f32 := fun h => dkBlock i q d s (arg2.view.read (Elt F) X2) (arg3.view.read (Elt F) X3) h (⟨n, hnt⟩ : Fin (k0_t1_loop i).trips)
      (keyBlock (blocksTo i n (dkBlock i q d s (arg2.view.read (Elt F) X2) (arg3.view.read (Elt F) X3)) (arg7.view.read (Elt F) G7)) h (blockOf (⟨n, hnt⟩ : Fin (k0_t1_loop i).trips)))
    let wv : Fin 4 → Vec F S1x512x64 .f32 := fun h => dvBlock i q d s (arg2.view.read (Elt F) X2) h (⟨n, hnt⟩ : Fin (k0_t1_loop i).trips)
      (keyBlock (blocksTo i n (dvBlock i q d s (arg2.view.read (Elt F) X2)) (arg8.view.read (Elt F) G8)) h (blockOf (⟨n, hnt⟩ : Fin (k0_t1_loop i).trips)))
    refine ⟨?_, ?_, ?_⟩
    · unfold tripR
      simp only [rect1_read, rect2_read, rect3_read, rect4_read]
      unfold accAt
      simp only [leftAt, dqAt, dif_pos (show n < (k0_t1_loop i).trips by omega)]
    · have hw : ∀ L, tripK i arg2 arg3 arg7 (BitVec.ofNat 32 (i 0).val) k0_pay173 k0_pay174 colIota (q 0) (q 1) (q 2) (q 3)
          (d 0) (d 1) (d 2) (d 3) (s 0) (s 1) (s 2) (s 3) X2 X3 (⟨n, hnt⟩ : Fin (k0_t1_loop i).trips) (accAt i q d s (arg2.view.read (Elt F) X2) (arg3.view.read (Elt F) X3) n)
          (arg7.view.writes (Elt F) G7 σ2) ++ L = [⟨rect4 i (⟨n, hnt⟩ : Fin (k0_t1_loop i).trips), wk 3⟩, ⟨rect3 i (⟨n, hnt⟩ : Fin (k0_t1_loop i).trips), wk 2⟩, ⟨rect2 i (⟨n, hnt⟩ : Fin (k0_t1_loop i).trips), wk 1⟩, ⟨rect1 i (⟨n, hnt⟩ : Fin (k0_t1_loop i).trips), wk 0⟩] ++ L := by
        intro L
        unfold tripK
        simp only [rect1_read, rect2_read, rect3_read, rect4_read, hk, accAt, wk, dkBlock]
      rw [hw]
      funext y
      rw [read_trip, blocksTo_succ (⟨n, hnt⟩ : Fin (k0_t1_loop i).trips), hk]
      simp only [wk, keyBlock_blocksTo (⟨n, hnt⟩ : Fin (k0_t1_loop i).trips)]
    · have hw : ∀ L, tripV i arg2 arg8 (BitVec.ofNat 32 (i 0).val) k0_pay173 colIota (q 0) (q 1) (q 2) (q 3)
          (d 0) (d 1) (d 2) (d 3) (s 0) (s 1) (s 2) (s 3) X2 (⟨n, hnt⟩ : Fin (k0_t1_loop i).trips)
          (arg8.view.writes (Elt F) G8 σ3) ++ L = [⟨rect4 i (⟨n, hnt⟩ : Fin (k0_t1_loop i).trips), wv 3⟩, ⟨rect3 i (⟨n, hnt⟩ : Fin (k0_t1_loop i).trips), wv 2⟩, ⟨rect2 i (⟨n, hnt⟩ : Fin (k0_t1_loop i).trips), wv 1⟩, ⟨rect1 i (⟨n, hnt⟩ : Fin (k0_t1_loop i).trips), wv 0⟩] ++ L := by
        intro L
        unfold tripV
        simp only [rect1_read, rect2_read, rect3_read, rect4_read, hv, wv, dvBlock]
      rw [hw]
      funext y
      rw [read_trip, blocksTo_succ (⟨n, hnt⟩ : Fin (k0_t1_loop i).trips), hv]
      simp only [wv, keyBlock_blocksTo (⟨n, hnt⟩ : Fin (k0_t1_loop i).trips)]

end St

end Cert.KernelIdeal.Gen

end
-- ==== Proof.Tile.lean ====
/-
  One head's block of 512 keys at one grid point, read at an index over the extended reals: where the rows and the keys are real
  numbers, so is everything that the block computes, and it is what the mathematics says.
-/
module

public import proofs.«01_k».proof.Proof.Model
public import proofs.«01_k».proof.Proof.Maths
public import proofs.«01_k».proof.Defs
public import Idealize.ShloMosaic.Lib.Pointwise

@[expose] public section

set_option maxRecDepth 8192

noncomputable section

namespace Cert.KernelIdeal.Gen

open Idealize.ShloMosaic Cert.StickBreaking

/-! ## Triangles of ones -/

theorem lower_apply (r d : Fin 256) : k0_pay173 (F := Ideal) (ix2 r d) = (((if (d : ℕ) ≤ r then 1 else 0 : ℝ)) : EReal) := by
  pointwise [k0_pay173]
  rw [sge_ite (by omega) (by omega), sitofp_ite]

theorem upper_apply (r d : Fin 256) : k0_pay174 (F := Ideal) (ix2 r d) = (((if (r : ℕ) ≤ d then 1 else 0 : ℝ)) : EReal) := by
  pointwise [k0_pay174]
  rw [sle_ite (by omega) (by omega), sitofp_ite]

/-- A row of reals against the lower triangle, its rounding error (nothing, over the reals) added: the sum from an index on. -/
theorem sum_lower (f : ℕ → ℝ) (c : Fin 256) :
    ∑ x : Fin 256, ((f x : ℝ) : EReal) * (((if (c : ℕ) ≤ x then 1 else 0 : ℝ)) : EReal)
      + ∑ x : Fin 256, (((f x : ℝ) : EReal) - ((f x : ℝ) : EReal)) * (((if (c : ℕ) ≤ x then 1 else 0 : ℝ)) : EReal)
      = ((∑ j ∈ Finset.Ico (c : ℕ) 256, f j : ℝ) : EReal) := by
  simp only [← EReal.coe_sub, ← EReal.coe_mul, coe_sum, ← EReal.coe_add, sub_self, zero_mul, Finset.sum_const_zero, add_zero, sum_from]

/-- The same of the upper triangle: the sum up to an index. -/
theorem sum_upper (f : ℕ → ℝ) (c : Fin 256) :
    ∑ x : Fin 256, ((f x : ℝ) : EReal) * (((if (x : ℕ) ≤ c then 1 else 0 : ℝ)) : EReal)
      + ∑ x : Fin 256, (((f x : ℝ) : EReal) - ((f x : ℝ) : EReal)) * (((if (x : ℕ) ≤ c then 1 else 0 : ℝ)) : EReal)
      = ((∑ j ∈ Finset.range ((c : ℕ) + 1), f j : ℝ) : EReal) := by
  simp only [← EReal.coe_sub, ← EReal.coe_mul, coe_sum, ← EReal.coe_add, sub_self, zero_mul, Finset.sum_const_zero, add_zero,
    sum_upto 256 _ c.isLt]

/-! ## One block -/

section Block

variable (i : grid0.Coords) (k : Fin (k0_t1_loop i).trips)
variable (q d : FVec Ideal S128x64 .f32) (s : FVec Ideal S128x128 .f32) (kb vb : Vec Ideal S1x512x64 .f32) (left : FVec Ideal S128x1 .f32)
variable (Q K V G : ℕ → Fin 64 → ℝ)

/-- The row's number. -/
abbrev rowOf (r : Fin 128) : ℕ := 128 * (i 0).val + r
/-- The key's number. -/
abbrev keyOf (c : Fin 512) : ℕ := 512 * k.val + c

theorem k_lt : k.val < 4 := k.isLt.trans_le (trips1_le i)
theorem i_lt : (i 0).val < 16 := (i 0).isLt

/-- The block's scores. -/
theorem score_apply (hq : ∀ r x, q (ix2 r x) = (Q (rowOf i r) x : EReal)) (hk : ∀ c x, kb (ix3 0 c x) = (K (keyOf i k c) x : EReal))
    (r : Fin 128) (c : Fin 512) : k0_pay14 q kb (ix2 r c) = (score Q K (rowOf i r) (keyOf i k c) : EReal) := by
  have e : k0_pay14 q kb (ix2 r c) = ∑ x : Fin 64, q (ix2 r x) * kb (ix3 0 c x) := by pointwise [k0_pay14, k0_pay11]
  rw [e]
  simp only [hq, hk, ← EReal.coe_mul, coe_sum]; rfl

/-- The mask: keys before the row. -/
theorem mask_apply (r : Fin 128) (c : Fin 512) :
    k0_pay15 i (BitVec.ofNat 32 (i 0).val) 0#32 1#32 k (ix2 r c) = if keyOf i k c < rowOf i r then 1#1 else 0#1 := by
  have hk := k_lt i k; have hi := i_lt i
  have e : k0_pay15 i (BitVec.ofNat 32 (i 0).val) 0#32 1#32 k (ix2 r c)
      = IntOp.cmpi .slt (IntOp.addi (BitVec.ofNat 32 c) (Scalar.muli (Scf.iv 0#32 1#32 k.val) 512#32))
          (IntOp.addi (BitVec.ofNat 32 r) (Scalar.muli (BitVec.ofNat 32 (i 0).val) 128#32)) := by
    pointwise [k0_pay15]
  have e1 : IntOp.addi (BitVec.ofNat 32 c) (Scalar.muli (Scf.iv 0#32 1#32 k.val) 512#32) = BitVec.ofNat 32 (keyOf i k c) := by
    apply BitVec.eq_of_toNat_eq
    simp [Scf.iv, IntOp.addi, Scalar.muli, IntOp.muli, keyOf]
    omega
  have e2 : IntOp.addi (BitVec.ofNat 32 r) (Scalar.muli (BitVec.ofNat 32 (i 0).val) 128#32) = BitVec.ofNat 32 (rowOf i r) := by
    apply BitVec.eq_of_toNat_eq
    simp [IntOp.addi, Scalar.muli, IntOp.muli, rowOf]
    omega
  rw [e, e1, e2, slt_ite (by show 512 * k.val + c.val < _; omega) (by show 128 * (i 0).val + r.val < _; omega)]

/-- The logarithms of what the keys leave. -/
theorem logKeep_apply (hq : ∀ r x, q (ix2 r x) = (Q (rowOf i r) x : EReal)) (hk : ∀ c x, kb (ix3 0 c x) = (K (keyOf i k c) x : EReal))
    (r : Fin 128) (c : Fin 512) : k0_pay16 q kb (ix2 r c) = (logKeep (score Q K (rowOf i r) (keyOf i k c)) : EReal) := by
  have e : k0_pay16 q kb (ix2 r c) = min (0 - k0_pay14 q kb (ix2 r c)) 0
      - Ideal.log1p (Ideal.exp (0 - FloatOps.absf (F := Ideal) (φ := .f32) (k0_pay14 q kb (ix2 r c)))) := by pointwise [k0_pay16]
  rw [e, score_apply i k q kb Q K hq hk, logKeep_coe]

theorem keep_apply (hq : ∀ r x, q (ix2 r x) = (Q (rowOf i r) x : EReal)) (hk : ∀ c x, kb (ix3 0 c x) = (K (keyOf i k c) x : EReal))
    (r : Fin 128) (c : Fin 512) :
    k0_pay17 i (BitVec.ofNat 32 (i 0).val) q 0#32 1#32 k kb (ix2 r c) = (keep Q K (rowOf i r) (keyOf i k c) : EReal) := by
  have e : k0_pay17 i (BitVec.ofNat 32 (i 0).val) q 0#32 1#32 k kb (ix2 r c)
      = Scalar.select (k0_pay15 i (BitVec.ofNat 32 (i 0).val) 0#32 1#32 k (ix2 r c)) (k0_pay16 q kb (ix2 r c)) 0 := by pointwise [k0_pay17]
  rw [e, mask_apply, logKeep_apply i k q kb Q K hq hk, select_ite, ← EReal.coe_zero, coe_ite]; rfl

/-- What the blocks to the right of this one leave. -/
theorem right_apply (hs : ∀ (r : Fin 128) (l : Fin 128), s (ix2 r l)
      = ((if (l : ℕ) < 4 then ∑ j ∈ Finset.Ico (512 * (l : ℕ)) (512 * l + 512), keep Q K (rowOf i r) j else 0 : ℝ) : EReal))
    (r : Fin 128) :
    k0_pay13 i colIota s 0#32 1#32 k (ix2 r 0) = ((∑ j ∈ Finset.Ico (512 * (k.val + 1)) 2048, keep Q K (rowOf i r) j : ℝ) : EReal) := by
  have hk := k_lt i k
  have e : k0_pay13 i colIota s 0#32 1#32 k (ix2 r 0)
      = ∑ x : Fin 128, Scalar.select (IntOp.cmpi .sgt (BitVec.ofNat 32 x) (Scf.iv 0#32 1#32 k.val)) (s (ix2 r x)) 0 := by
    pointwise [k0_pay13, colIota]
  have e1 : Scf.iv 0#32 1#32 k.val = BitVec.ofNat 32 k.val := by
    simp [Scf.iv]
  rw [e, e1]
  have e2 : ∀ x : Fin 128, Scalar.select (IntOp.cmpi .sgt (BitVec.ofNat 32 x) (BitVec.ofNat 32 k.val)) (s (ix2 r x)) 0
      = ((if k.val < (x : ℕ) then (if (x : ℕ) < 4 then ∑ j ∈ Finset.Ico (512 * (x : ℕ)) (512 * x + 512), keep Q K (rowOf i r) j else 0) else 0 : ℝ) : EReal) := by
    intro x
    rw [sgt_ite (by omega) (by omega), select_ite, hs, ← EReal.coe_zero, coe_ite]
  simp only [e2, coe_sum]
  congr 1
  generalize keep Q K (rowOf i r) = f
  rw [sum_fin 128 fun x => if k.val < x then (if x < 4 then ∑ j ∈ Finset.Ico (512 * x) (512 * x + 512), f j else 0) else 0]
  rw [show (128 : ℕ) = 4 + 124 from rfl, Finset.sum_range_add]
  rw [Finset.sum_eq_zero (s := Finset.range 124) (fun x _ => by rw [if_neg (show ¬ (4 + x < 4) by omega)]; simp), add_zero]
  have hI : ∀ a b c : ℕ, a ≤ b → b ≤ c → ∑ j ∈ Finset.Ico a b, f j + ∑ j ∈ Finset.Ico b c, f j = ∑ j ∈ Finset.Ico a c, f j :=
    fun a b c h h' => Finset.sum_Ico_consecutive f h h'
  simp only [Finset.sum_range_succ, Finset.sum_range_zero]
  have : k.val = 0 ∨ k.val = 1 ∨ k.val = 2 ∨ k.val = 3 := by omega
  rcases this with h | h | h | h <;> simp only [h] <;> norm_num
  · rw [hI 512 1024 1536 (by norm_num) (by norm_num), hI 512 1536 2048 (by norm_num) (by norm_num)]
  · rw [hI 1024 1536 2048 (by norm_num) (by norm_num)]

end Block

end Cert.KernelIdeal.Gen

end
-- ==== Proof.TileGrad.lean ====
/-
  One head's block of 512 keys at one grid point, continued: the weights, their gradients, and what the block adds.
-/
module

public import proofs.«01_k».proof.Proof.Tile

@[expose] public section

set_option maxRecDepth 8192

noncomputable section

namespace Cert.KernelIdeal.Gen

open Idealize.ShloMosaic Cert.StickBreaking

/-! ## Sums within a block, in halves of 256 -/

/-- The left half's sums from an index on. -/
theorem left_suffix (v : FVec Ideal S128x512 .f32) (f : ℕ → ℝ) (r : Fin 128) (hv : ∀ x : Fin 512, v (ix2 r x) = (f x : EReal))
    (e : FVec Ideal S256x256 .bf16)
    (h0 : ∀ x : Fin 256, e (ix2 (⟨r, by omega⟩ : Fin 256) x) = v (ix2 r ⟨x, by omega⟩))
    (h1 : ∀ x : Fin 256, e (ix2 (⟨128 + r, by omega⟩ : Fin 256) x) = v (ix2 r ⟨x, by omega⟩) - v (ix2 r ⟨x, by omega⟩)) (c : Fin 256) :
    k0_pay19 k0_pay173 e (constant S256x256 .f32 0x00000000#32) (ix2 r c) = ((∑ j ∈ Finset.Ico (c : ℕ) 256, f j : ℝ) : EReal) := by
  have a : k0_pay19 k0_pay173 e (constant S256x256 .f32 0x00000000#32) (ix2 r c)
      = ∑ x : Fin 256, e (ix2 (⟨r, by omega⟩ : Fin 256) x) * k0_pay173 (F := Ideal) (ix2 x c)
        + ∑ x : Fin 256, e (ix2 (⟨128 + r, by omega⟩ : Fin 256) x) * k0_pay173 (F := Ideal) (ix2 x c) := by pointwise [k0_pay19]
  rw [a]
  simp only [h0, h1, lower_apply, hv]
  exact sum_lower f c

/-- The right half's sums from an index on. -/
theorem right_suffix (v : FVec Ideal S128x512 .f32) (f : ℕ → ℝ) (r : Fin 128) (hv : ∀ x : Fin 512, v (ix2 r x) = (f x : EReal)) (c : Fin 256) :
    k0_pay20 k0_pay173 v (ix2 r c) = ((∑ j ∈ Finset.Ico (256 + (c : ℕ)) 512, f j : ℝ) : EReal) := by
  have a : k0_pay20 k0_pay173 v (ix2 r c)
      = ∑ x : Fin 256, v (ix2 r ⟨256 + x, by omega⟩) * k0_pay173 (F := Ideal) (ix2 x c)
        + ∑ x : Fin 256, (v (ix2 r ⟨256 + x, by omega⟩) - v (ix2 r ⟨256 + x, by omega⟩)) * k0_pay173 (F := Ideal) (ix2 x c) := by
    pointwise [k0_pay20]
  rw [a]
  simp only [lower_apply, hv]
  rw [← sum_shift 256 c 256 f]
  exact sum_lower (fun x => f (256 + x)) c

section Block

variable (i : grid0.Coords) (k : Fin (k0_t1_loop i).trips)
variable (q d : FVec Ideal S128x64 .f32) (s : FVec Ideal S128x128 .f32) (kb vb : Vec Ideal S1x512x64 .f32) (left : FVec Ideal S128x1 .f32)
variable (Q K V G : ℕ → Fin 64 → ℝ)

/-- The rows and keys of a block are real numbers, and so are the sums that come with it. -/
structure Reals : Prop where
  hq : ∀ r x, q (ix2 r x) = (Q (rowOf i r) x : EReal)
  hk : ∀ c x, kb (ix3 0 c x) = (K (keyOf i k c) x : EReal)
  hs : ∀ (r : Fin 128) (l : Fin 128), s (ix2 r l)
      = ((if (l : ℕ) < 4 then ∑ j ∈ Finset.Ico (512 * (l : ℕ)) (512 * l + 512), keep Q K (rowOf i r) j else 0 : ℝ) : EReal)
  hd : ∀ r x, d (ix2 r x) = (G (rowOf i r) x : EReal)

variable {i k q d s kb vb left Q K V G}

/-- The block's weights. -/
def tileA (i : grid0.Coords) (k : Fin (k0_t1_loop i).trips) (q : FVec Ideal S128x64 .f32) (s : FVec Ideal S128x128 .f32)
    (kb : Vec Ideal S1x512x64 .f32) : FVec Ideal S128x512 .f32 :=
  k0_pay22 k0_pay173 (k0_pay13 i colIota s 0#32 1#32 k) (k0_pay14 q kb) (k0_pay15 i (BitVec.ofNat 32 (i 0).val) 0#32 1#32 k)
    (k0_pay16 q kb) (k0_pay17 i (BitVec.ofNat 32 (i 0).val) q 0#32 1#32 k kb) (k0_pay18 i (BitVec.ofNat 32 (i 0).val) q 0#32 1#32 k kb)
    (constant S256x256 .f32 0x00000000#32)

theorem weight_apply (H : Reals i k q d s kb Q K G) (r : Fin 128) (c : Fin 512) :
    tileA i k q s kb (ix2 r c) = (weight Q K (rowOf i r) (keyOf i k c) : EReal) := by
  have hk4 := k_lt i k
  have hv : ∀ x : Fin 512, k0_pay17 i (BitVec.ofNat 32 (i 0).val) q 0#32 1#32 k kb (ix2 r x) = (keep Q K (rowOf i r) (512 * k.val + x) : EReal) :=
    fun x => keep_apply i k q kb Q K H.hq H.hk r x
  have hl := left_suffix (k0_pay17 i (BitVec.ofNat 32 (i 0).val) q 0#32 1#32 k kb) (fun j => keep Q K (rowOf i r) (512 * k.val + j)) r hv
    (k0_pay18 i (BitVec.ofNat 32 (i 0).val) q 0#32 1#32 k kb) (fun x => by pointwise [k0_pay18]) (fun x => by pointwise [k0_pay18])
  have hr := right_suffix (k0_pay17 i (BitVec.ofNat 32 (i 0).val) q 0#32 1#32 k kb) (fun j => keep Q K (rowOf i r) (512 * k.val + j)) r hv
  have hm := mask_apply i k r c
  have hz := score_apply i k q kb Q K H.hq H.hk r c
  have hlk := logKeep_apply i k q kb Q K H.hq H.hk r c
  have hvc := hv c
  have hR := right_apply i k s Q K H.hs r
  unfold tileA
  generalize k0_pay17 i (BitVec.ofNat 32 (i 0).val) q 0#32 1#32 k kb = v120 at *
  generalize k0_pay18 i (BitVec.ofNat 32 (i 0).val) q 0#32 1#32 k kb = v126 at *
  generalize k0_pay15 i (BitVec.ofNat 32 (i 0).val) 0#32 1#32 k = v108 at *
  generalize k0_pay13 i colIota s 0#32 1#32 k = v96 at *
  generalize k0_pay14 q kb = v99 at *
  generalize k0_pay16 q kb = v118 at *
  have e : k0_pay22 k0_pay173 v96 v99 v108 v118 v120 v126 (constant S256x256 .f32 0x00000000#32) (ix2 r c)
      = Scalar.select (v108 (ix2 r c)) (Ideal.exp (v118 (ix2 r c) + v99 (ix2 r c)
          + ((if h : (c : ℕ) < 256 then k0_pay19 k0_pay173 v126 (constant S256x256 .f32 0x00000000#32) (ix2 r ⟨c, h⟩)
                + k0_pay20 k0_pay173 v120 (ix2 r 0)
              else k0_pay20 k0_pay173 v120 (ix2 r ⟨c - 256, by omega⟩)) - v120 (ix2 r c)) + v96 (ix2 r 0))) 0 := by
    pointwise [k0_pay22, k0_pay21]
  have es : (if h : (c : ℕ) < 256 then k0_pay19 k0_pay173 v126 (constant S256x256 .f32 0x00000000#32) (ix2 r ⟨c, h⟩)
                + k0_pay20 k0_pay173 v120 (ix2 r 0)
              else k0_pay20 k0_pay173 v120 (ix2 r ⟨c - 256, by omega⟩))
      = ((∑ j ∈ Finset.Ico (c : ℕ) 512, keep Q K (rowOf i r) (512 * k.val + j) : ℝ) : EReal) := by
    by_cases h : (c : ℕ) < 256
    · rw [dif_pos h, hl, hr, ← EReal.coe_add]
      exact congrArg _ (Finset.sum_Ico_consecutive _ (by omega) (by norm_num))
    · rw [dif_neg h, hr]
      congr 2
      show Finset.Ico (256 + ((c : ℕ) - 256)) 512 = _
      rw [show 256 + ((c : ℕ) - 256) = c by omega]
  rw [e, es, hm, hz, hlk, hvc, hR, select_ite, ← EReal.coe_sub, ← EReal.coe_add, ← EReal.coe_add, ← EReal.coe_add, Ideal.exp_coe,
    ← EReal.coe_zero, coe_ite]
  unfold weight
  congr 1
  refine if_congr Iff.rfl ?_ rfl
  congr 1
  rw [Finset.sum_eq_sum_Ico_succ_bot c.isLt, add_sub_cancel_left, add_assoc, sum_shift]
  congr 1
  exact Finset.sum_Ico_consecutive _ (by show 512 * k.val + (c.val + 1) ≤ 512 * k.val + 512; omega) (by omega)

theorem gradLog_apply (H : Reals i k q d s kb Q K G) (hv : ∀ c x, vb (ix3 0 c x) = (V (keyOf i k c) x : EReal)) (r : Fin 128) (c : Fin 512) :
    tileE i (BitVec.ofNat 32 (i 0).val) k0_pay173 colIota k q d s kb vb (ix2 r c) = (gradLog Q K V G (rowOf i r) (keyOf i k c) : EReal) := by
  have e : tileE i (BitVec.ofNat 32 (i 0).val) k0_pay173 colIota k q d s kb vb (ix2 r c)
      = tileA i k q s kb (ix2 r c) * ∑ x : Fin 64, d (ix2 r x) * vb (ix3 0 c x) := by
    unfold tileE
    pointwise [k0_pay23, k0_pay12, tileA]
  rw [e, weight_apply H]
  simp only [H.hd, hv, ← EReal.coe_mul, coe_sum]; rfl

/-- The gradient of the scores. -/
theorem gradScore_apply (H : Reals i k q d s kb Q K G) (hv : ∀ c x, vb (ix3 0 c x) = (V (keyOf i k c) x : EReal))
    (hl : ∀ r, left (ix2 r 0) = ((∑ j ∈ Finset.range (512 * k.val), gradLog Q K V G (rowOf i r) j : ℝ) : EReal)) (r : Fin 128) (c : Fin 512) :
    tileDz i (BitVec.ofNat 32 (i 0).val) k0_pay173 k0_pay174 colIota k q d s kb vb left (ix2 r c)
      = (gradScore Q K V G (rowOf i r) (keyOf i k c) : EReal) := by
  have hk4 := k_lt i k
  have he : ∀ x : Fin 512, tileE i (BitVec.ofNat 32 (i 0).val) k0_pay173 colIota k q d s kb vb (ix2 r x)
      = (gradLog Q K V G (rowOf i r) (512 * k.val + x) : EReal) := fun x => gradLog_apply H hv r x
  have hm := mask_apply i k r c
  have hz := score_apply i k q kb Q K H.hq H.hk r c
  have hE0 : ∀ x : Fin 256, k0_pay25 k0_pay173 d (k0_pay12 vb) (k0_pay13 i colIota s 0#32 1#32 k) (k0_pay14 q kb)
      (k0_pay15 i (BitVec.ofNat 32 (i 0).val) 0#32 1#32 k)
      (k0_pay16 q kb) (k0_pay17 i (BitVec.ofNat 32 (i 0).val) q 0#32 1#32 k kb) (k0_pay18 i (BitVec.ofNat 32 (i 0).val) q 0#32 1#32 k kb)
      (constant S256x256 .f32 0x00000000#32) (ix2 r x) = (gradLog Q K V G (rowOf i r) (512 * k.val + x) : EReal) := by
    intro x
    rw [← he ⟨x, by omega⟩]
    unfold tileE
    pointwise [k0_pay25]
  have hP : ∀ x : Fin 256, k0_pay26 k0_pay173 k0_pay174 d (k0_pay12 vb) (k0_pay13 i colIota s 0#32 1#32 k) (k0_pay14 q kb)
      (k0_pay15 i (BitVec.ofNat 32 (i 0).val) 0#32 1#32 k)
      (k0_pay16 q kb) (k0_pay17 i (BitVec.ofNat 32 (i 0).val) q 0#32 1#32 k kb) (k0_pay18 i (BitVec.ofNat 32 (i 0).val) q 0#32 1#32 k kb)
      (constant S256x256 .f32 0x00000000#32) (ix2 (⟨r, by omega⟩ : Fin 256) x)
      + k0_pay26 k0_pay173 k0_pay174 d (k0_pay12 vb) (k0_pay13 i colIota s 0#32 1#32 k) (k0_pay14 q kb)
      (k0_pay15 i (BitVec.ofNat 32 (i 0).val) 0#32 1#32 k)
      (k0_pay16 q kb) (k0_pay17 i (BitVec.ofNat 32 (i 0).val) q 0#32 1#32 k kb) (k0_pay18 i (BitVec.ofNat 32 (i 0).val) q 0#32 1#32 k kb)
      (constant S256x256 .f32 0x00000000#32) (ix2 (⟨128 + r, by omega⟩ : Fin 256) x)
      = ((∑ j ∈ Finset.range ((x : ℕ) + 1), gradLog Q K V G (rowOf i r) (512 * k.val + j) : ℝ) : EReal) := by
    intro x
    generalize hX : k0_pay25 k0_pay173 d (k0_pay12 vb) (k0_pay13 i colIota s 0#32 1#32 k) (k0_pay14 q kb)
      (k0_pay15 i (BitVec.ofNat 32 (i 0).val) 0#32 1#32 k)
      (k0_pay16 q kb) (k0_pay17 i (BitVec.ofNat 32 (i 0).val) q 0#32 1#32 k kb) (k0_pay18 i (BitVec.ofNat 32 (i 0).val) q 0#32 1#32 k kb)
      (constant S256x256 .f32 0x00000000#32) = e0 at hE0
    unfold k0_pay26
    rw [hX]
    refine Eq.trans (b := ∑ y : Fin 256, e0 (ix2 r y) * k0_pay174 (F := Ideal) (ix2 y x)
      + ∑ y : Fin 256, (e0 (ix2 r y) - e0 (ix2 r y)) * k0_pay174 (F := Ideal) (ix2 y x)) ?_ ?_
    · pointwise
    · simp only [upper_apply, hE0]
      exact sum_upper (fun j => gradLog Q K V G (rowOf i r) (512 * k.val + j)) x
  unfold tileDz
  generalize k0_pay26 k0_pay173 k0_pay174 d (k0_pay12 vb) (k0_pay13 i colIota s 0#32 1#32 k) (k0_pay14 q kb)
      (k0_pay15 i (BitVec.ofNat 32 (i 0).val) 0#32 1#32 k)
      (k0_pay16 q kb) (k0_pay17 i (BitVec.ofNat 32 (i 0).val) q 0#32 1#32 k kb) (k0_pay18 i (BitVec.ofNat 32 (i 0).val) q 0#32 1#32 k kb)
      (constant S256x256 .f32 0x00000000#32) = P at *
  generalize k0_pay25 k0_pay173 d (k0_pay12 vb) (k0_pay13 i colIota s 0#32 1#32 k) (k0_pay14 q kb)
      (k0_pay15 i (BitVec.ofNat 32 (i 0).val) 0#32 1#32 k)
      (k0_pay16 q kb) (k0_pay17 i (BitVec.ofNat 32 (i 0).val) q 0#32 1#32 k kb) (k0_pay18 i (BitVec.ofNat 32 (i 0).val) q 0#32 1#32 k kb)
      (constant S256x256 .f32 0x00000000#32) = e0 at *
  generalize tileE i (BitVec.ofNat 32 (i 0).val) k0_pay173 colIota k q d s kb vb = e at *
  generalize k0_pay15 i (BitVec.ofNat 32 (i 0).val) 0#32 1#32 k = v108 at *
  generalize k0_pay14 q kb = v99 at *
  have a : k0_pay27 k0_pay174 left v99 v108 e e0 P (ix2 r c) = Scalar.select (v108 (ix2 r c))
      (e (ix2 r c) * (1 - Ideal.div 1 (1 + Ideal.exp (0 - v99 (ix2 r c))))
        - Ideal.div 1 (1 + Ideal.exp (0 - v99 (ix2 r c))) * (left (ix2 r 0)
          + (if h : (c : ℕ) < 256 then (P (ix2 (⟨r, by omega⟩ : Fin 256) ⟨c, h⟩) + P (ix2 (⟨128 + r, by omega⟩ : Fin 256) ⟨c, h⟩)) - e0 (ix2 r ⟨c, h⟩)
              else ((∑ x : Fin 256, e (ix2 r ⟨256 + x, by omega⟩) * k0_pay174 (F := Ideal) (ix2 x ⟨c - 256, by omega⟩)
                  + ∑ x : Fin 256, (e (ix2 r ⟨256 + x, by omega⟩) - e (ix2 r ⟨256 + x, by omega⟩)) * k0_pay174 (F := Ideal) (ix2 x ⟨c - 256, by omega⟩))
                  - e (ix2 r ⟨256 + (c - 256), by omega⟩))
                + (P (ix2 (⟨r, by omega⟩ : Fin 256) ⟨255, by omega⟩) + P (ix2 (⟨128 + r, by omega⟩ : Fin 256) ⟨255, by omega⟩))))) 0 := by
    pointwise [k0_pay27]
  have es : (if h : (c : ℕ) < 256 then (P (ix2 (⟨r, by omega⟩ : Fin 256) ⟨c, h⟩) + P (ix2 (⟨128 + r, by omega⟩ : Fin 256) ⟨c, h⟩)) - e0 (ix2 r ⟨c, h⟩)
              else ((∑ x : Fin 256, e (ix2 r ⟨256 + x, by omega⟩) * k0_pay174 (F := Ideal) (ix2 x ⟨c - 256, by omega⟩)
                  + ∑ x : Fin 256, (e (ix2 r ⟨256 + x, by omega⟩) - e (ix2 r ⟨256 + x, by omega⟩)) * k0_pay174 (F := Ideal) (ix2 x ⟨c - 256, by omega⟩))
                  - e (ix2 r ⟨256 + (c - 256), by omega⟩))
                + (P (ix2 (⟨r, by omega⟩ : Fin 256) ⟨255, by omega⟩) + P (ix2 (⟨128 + r, by omega⟩ : Fin 256) ⟨255, by omega⟩)))
      = ((∑ j ∈ Finset.range (c : ℕ), gradLog Q K V G (rowOf i r) (512 * k.val + j) : ℝ) : EReal) := by
    by_cases h : (c : ℕ) < 256
    · rw [dif_pos h, hP, hE0, ← EReal.coe_sub, Finset.sum_range_succ, add_sub_cancel_right]
    · rw [dif_neg h, hP]
      simp only [he, upper_apply]
      rw [sum_upper (fun j => gradLog Q K V G (rowOf i r) (512 * k.val + (256 + j))) ⟨(c : ℕ) - 256, by omega⟩, ← EReal.coe_sub, ← EReal.coe_add]
      congr 1
      dsimp only
      rw [Finset.sum_range_succ, add_sub_cancel_right, add_comm, ← Finset.sum_range_add, show 255 + 1 + ((c : ℕ) - 256) = c by omega]
  rw [a, es, hm, hz, he, hl, sigma_coe, select_ite, ← EReal.coe_one, ← EReal.coe_sub, ← EReal.coe_add, ← EReal.coe_mul, ← EReal.coe_mul,
    ← EReal.coe_sub, ← EReal.coe_zero, coe_ite]
  unfold gradScore
  rw [← Finset.sum_range_add]

theorem stepLeft_apply (H : Reals i k q d s kb Q K G) (hv : ∀ c x, vb (ix3 0 c x) = (V (keyOf i k c) x : EReal)) (r : Fin 128)
    (hl : left (ix2 r 0) = ((∑ j ∈ Finset.range (512 * k.val), gradLog Q K V G (rowOf i r) j : ℝ) : EReal)) :
    stepLeft i (BitVec.ofNat 32 (i 0).val) k0_pay173 colIota k q d s kb vb left (ix2 r 0)
      = ((∑ j ∈ Finset.range (512 * (k.val + 1)), gradLog Q K V G (rowOf i r) j : ℝ) : EReal) := by
  have he := gradLog_apply H hv r
  unfold stepLeft
  generalize tileE i (BitVec.ofNat 32 (i 0).val) k0_pay173 colIota k q d s kb vb = e at *
  have a : k0_pay30 left e (ix2 r 0) = left (ix2 r 0) + ∑ x : Fin 512, e (ix2 r x) := by pointwise [k0_pay30]
  rw [a, hl]
  simp only [he, coe_sum, ← EReal.coe_add]
  rw [sum_fin 512 fun x => gradLog Q K V G (rowOf i r) (512 * k.val + x), ← Finset.sum_range_add, Nat.mul_succ]

theorem stepDq_apply (H : Reals i k q d s kb Q K G) (hv : ∀ c x, vb (ix3 0 c x) = (V (keyOf i k c) x : EReal))
    (hl : ∀ r, left (ix2 r 0) = ((∑ j ∈ Finset.range (512 * k.val), gradLog Q K V G (rowOf i r) j : ℝ) : EReal))
    (old : FVec Ideal S128x64 .f32) (r : Fin 128) (x : Fin 64)
    (ho : old (ix2 r x) = ((∑ j ∈ Finset.range (512 * k.val), gradScore Q K V G (rowOf i r) j * K j x : ℝ) : EReal)) :
    stepDq i (BitVec.ofNat 32 (i 0).val) k0_pay173 k0_pay174 colIota k q d s kb vb left old (ix2 r x)
      = ((∑ j ∈ Finset.range (512 * (k.val + 1)), gradScore Q K V G (rowOf i r) j * K j x : ℝ) : EReal) := by
  have he := gradScore_apply H hv hl r
  have e1 : stepDq i (BitVec.ofNat 32 (i 0).val) k0_pay173 k0_pay174 colIota k q d s kb vb left old
      = k0_pay29 old (k0_pay11 kb) (tileDz i (BitVec.ofNat 32 (i 0).val) k0_pay173 k0_pay174 colIota k q d s kb vb left) := rfl
  rw [e1]
  generalize tileDz i (BitVec.ofNat 32 (i 0).val) k0_pay173 k0_pay174 colIota k q d s kb vb left = e at *
  have a : k0_pay29 old (k0_pay11 kb) e (ix2 r x) = old (ix2 r x) + ∑ c : Fin 512, e (ix2 r c) * kb (ix3 0 c x) := by
    pointwise [k0_pay29, k0_pay11]
  rw [a, ho]
  simp only [he, H.hk, ← EReal.coe_mul, coe_sum, ← EReal.coe_add]
  rw [sum_fin 512 fun c => gradScore Q K V G (rowOf i r) (512 * k.val + c) * K (512 * k.val + c) x, ← Finset.sum_range_add, Nat.mul_succ]

theorem stepDk_apply (H : Reals i k q d s kb Q K G) (hv : ∀ c x, vb (ix3 0 c x) = (V (keyOf i k c) x : EReal))
    (hl : ∀ r, left (ix2 r 0) = ((∑ j ∈ Finset.range (512 * k.val), gradLog Q K V G (rowOf i r) j : ℝ) : EReal))
    (old : Vec Ideal S1x512x64 .f32) (c : Fin 512) (x : Fin 64)
    (ho : old (ix3 0 c x) = ((∑ t ∈ Finset.range (128 * (i 0).val), gradScore Q K V G t (keyOf i k c) * Q t x : ℝ) : EReal)) :
    stepDk i (BitVec.ofNat 32 (i 0).val) k0_pay173 k0_pay174 colIota k q d s kb vb left old (ix3 0 c x)
      = ((∑ t ∈ Finset.range (128 * ((i 0).val + 1)), gradScore Q K V G t (keyOf i k c) * Q t x : ℝ) : EReal) := by
  have he := fun r => gradScore_apply H hv hl r c
  unfold stepDk k0_pay28
  generalize hE : tileDz i (BitVec.ofNat 32 (i 0).val) k0_pay173 k0_pay174 colIota k q d s kb vb left = e at he
  unfold tileDz at hE
  rw [hE]
  refine Eq.trans (b := old (ix3 0 c x) + ∑ r : Fin 128, e (ix2 r c) * q (ix2 r x)) ?_ ?_
  · pointwise
  rw [ho]
  simp only [he, H.hq, ← EReal.coe_mul, coe_sum, ← EReal.coe_add]
  rw [sum_fin 128 fun r => gradScore Q K V G (128 * (i 0).val + r) (keyOf i k c) * Q (128 * (i 0).val + r) x, ← Finset.sum_range_add, Nat.mul_succ]

theorem stepDv_apply (H : Reals i k q d s kb Q K G)
    (old : Vec Ideal S1x512x64 .f32) (c : Fin 512) (x : Fin 64)
    (ho : old (ix3 0 c x) = ((∑ t ∈ Finset.range (128 * (i 0).val), weight Q K t (keyOf i k c) * G t x : ℝ) : EReal)) :
    stepDv i (BitVec.ofNat 32 (i 0).val) k0_pay173 colIota k q d s kb old (ix3 0 c x)
      = ((∑ t ∈ Finset.range (128 * ((i 0).val + 1)), weight Q K t (keyOf i k c) * G t x : ℝ) : EReal) := by
  have he := fun r => weight_apply H r c
  unfold stepDv k0_pay24
  generalize hE : tileA i k q s kb = e at he
  unfold tileA at hE
  rw [hE]
  refine Eq.trans (b := old (ix3 0 c x) + ∑ r : Fin 128, e (ix2 r c) * d (ix2 r x)) ?_ ?_
  · pointwise
  rw [ho]
  simp only [he, H.hd, ← EReal.coe_mul, coe_sum, ← EReal.coe_add]
  rw [sum_fin 128 fun r => weight Q K (128 * (i 0).val + r) (keyOf i k c) * G (128 * (i 0).val + r) x, ← Finset.sum_range_add, Nat.mul_succ]

end Block

end Cert.KernelIdeal.Gen

end
-- ==== Proof.Body.lean ====
module

public import proofs.«01_k».proof.Proof.Model
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ## What a grid point leaves in its three outputs -/

/-- The gradient of the point's 128 rows of queries. -/
def pointDq (i : grid0.Coords) (x0 : Vec F S4x128x64 .f32) (x1 x2 : Vec F S4x2048x64 .f32) (x3 : Vec F S4x128x64 .f32)
    (x4 : Vec F S4x128x128 .f32) : Vec F S4x128x64 .f32 := fun y =>
  k0_pay7 (dqAt i (headRows x0) (headRows x3) (headSums x4) x1 x2 (y 0) (k0_t1_loop i).trips)
    (ix3 (n0 := 1) (n1 := 128) (n2 := 64) 0 (y 1) (y 2))

/-- The keys' gradient after the point, from what it was. -/
def pointDk (i : grid0.Coords) (x0 : Vec F S4x128x64 .f32) (x1 x2 : Vec F S4x2048x64 .f32) (x3 : Vec F S4x128x64 .f32)
    (x4 : Vec F S4x128x128 .f32) (old : Vec F S4x2048x64 .f32) : Vec F S4x2048x64 .f32 :=
  blocksTo i (k0_t1_loop i).trips (dkBlock i (headRows x0) (headRows x3) (headSums x4) x1 x2) old

/-- The values' gradient after the point, from what it was. -/
def pointDv (i : grid0.Coords) (x0 : Vec F S4x128x64 .f32) (x1 : Vec F S4x2048x64 .f32) (x3 : Vec F S4x128x64 .f32)
    (x4 : Vec F S4x128x128 .f32) (old : Vec F S4x2048x64 .f32) : Vec F S4x2048x64 .f32 :=
  blocksTo i (k0_t1_loop i).trips (dvBlock i (headRows x0) (headRows x3) (headSums x4) x1) old

/-- The heads' gradients of the queries, of what the loop carries. -/
def accDq (a : Acc F) : Fin 4 → FVec F S128x64 .f32
  | 0 => a.1
  | 1 => a.2.1
  | 2 => a.2.2.1
  | 3 => a.2.2.2.1

theorem accDq_accAt (i : grid0.Coords) (q d : Fin 4 → FVec F S128x64 .f32) (s : Fin 4 → FVec F S128x128 .f32)
    (x1 x2 : Vec F S4x2048x64 .f32) (n : ℕ) (h : Fin 4) : accDq (accAt i q d s x1 x2 n) h = dqAt i q d s x1 x2 h n := by
  match h with
  | 0 => rfl
  | 1 => rfl
  | 2 => rfl
  | 3 => rfl

/-- Four stores, one per head, read back. -/
theorem read_heads (m : Memref sig .tc .vmem S4x128x64 .f32) (f : BufTy.Contents (Elt F) m.view.ty) (w : Fin 4 → Vec F S1x128x64 .f32)
    (i3 i2 i1 i0) :
    m.view.read (Elt F) (m.view.writes (Elt F) f
      [⟨Rect.unit (s := S4x128x64) ![3, 0, 0] S1x128x64.size i3, w 3⟩, ⟨Rect.unit (s := S4x128x64) ![2, 0, 0] S1x128x64.size i2, w 2⟩,
       ⟨Rect.unit (s := S4x128x64) ![1, 0, 0] S1x128x64.size i1, w 1⟩, ⟨Rect.unit (s := S4x128x64) ![0, 0, 0] S1x128x64.size i0, w 0⟩]) =
      fun y => w (y 0) (ix3 (n0 := 1) (n1 := 128) (n2 := 64) 0 (y 1) (y 2)) := by
  funext y
  have hlt : (y 0).val < 4 := (y 0).isLt
  have hin : ∀ h : ℕ, (y 0).val = h → ∀ a : Fin 3, (y a).val = ![h, 0, 0] a + (ix3 (n0 := 1) (n1 := 128) (n2 := 64) 0 (y 1) (y 2) a).val := by
    intro h hh a
    match a with
    | ⟨0, _⟩ => show (y 0).val = h + 0; omega
    | ⟨1, _⟩ => show (y 1).val = 0 + (y 1).val; omega
    | ⟨2, _⟩ => show (y 2).val = 0 + (y 2).val; omega
  have hout : ∀ h : ℕ, (y 0).val ≠ h → (y 0).val < ![h, 0, 0] (0 : Fin 3) ∨ ![h, 0, 0] (0 : Fin 3) + S1x128x64.size 0 ≤ (y 0).val := by
    intro h hh
    show (y 0).val < h ∨ h + 1 ≤ (y 0).val
    omega
  have hmiss : ∀ {off : Fin 3 → ℕ} (inb) (w) (L) (hne : (y 0).val < off 0 ∨ off 0 + S1x128x64.size 0 ≤ (y 0).val),
      m.view.read (Elt F) (m.view.writes (Elt F) f ((⟨Rect.unit (s := S4x128x64) off S1x128x64.size inb, w⟩ : View.Piece (Elt F) S4x128x64 .f32) :: L)) y
        = m.view.read (Elt F) (m.view.writes (Elt F) f L) y :=
    fun inb w L hne => View.read_writes_cons_unit_of_not_mem m.view f inb w L y rfl 0 hne
  have hhit : ∀ {off : Fin 3 → ℕ} (inb) (w : Vec F S1x128x64 .f32) (L) (h : ∀ a : Fin 3, (y a).val = off a + (ix3 (n0 := 1) (n1 := 128) (n2 := 64) 0 (y 1) (y 2) a).val),
      m.view.read (Elt F) (m.view.writes (Elt F) f ((⟨Rect.unit (s := S4x128x64) off S1x128x64.size inb, w⟩ : View.Piece (Elt F) S4x128x64 .f32) :: L)) y
        = w (ix3 (n0 := 1) (n1 := 128) (n2 := 64) 0 (y 1) (y 2)) :=
    fun inb w L h => View.read_writes_cons_unit_of_mem m.view f inb w L y _ rfl h
  obtain h3 | h2 | h1 | h0 : (y 0).val = 3 ∨ (y 0).val = 2 ∨ (y 0).val = 1 ∨ (y 0).val = 0 := by omega
  · rw [hhit _ _ _ (hin 3 h3), show y 0 = (3 : Fin 4) from Fin.ext h3]
  · rw [hmiss _ _ _ (hout 3 (by omega)), hhit _ _ _ (hin 2 h2), show y 0 = (2 : Fin 4) from Fin.ext h2]
  · rw [hmiss _ _ _ (hout 3 (by omega)), hmiss _ _ _ (hout 2 (by omega)), hhit _ _ _ (hin 1 h1), show y 0 = (1 : Fin 4) from Fin.ext h1]
  · rw [hmiss _ _ _ (hout 3 (by omega)), hmiss _ _ _ (hout 2 (by omega)), hmiss _ _ _ (hout 1 (by omega)), hhit _ _ _ (hin 0 h0),
      show y 0 = (0 : Fin 4) from Fin.ext h0]

/-- A store of the whole array, read back. -/
theorem read_whole (m : Memref sig .tc .vmem S4x2048x64 .f32) (f : BufTy.Contents (Elt F) m.view.ty) (w : Vec F S4x2048x64 .f32) (inb) :
    m.view.read (Elt F) (m.view.writes (Elt F) f [⟨Rect.unit (s := S4x2048x64) ![0, 0, 0] S4x2048x64.size inb, w⟩]) = w := by
  funext y
  refine View.read_writes_cons_unit_of_mem _ _ _ _ _ y y rfl fun a => ?_
  match a with
  | ⟨0, _⟩ => show (y 0).val = 0 + (y 0).val; omega
  | ⟨1, _⟩ => show (y 1).val = 0 + (y 1).val; omega
  | ⟨2, _⟩ => show (y 2).val = 0 + (y 2).val; omega

/-- The first point: it clears the keys' and the values' gradient. -/
abbrev FirstPoint (i : grid0.Coords) : Prop := (Scalar.cmpi .ne (Scalar.extui (Scalar.cmpi .eq (BitVec.ofNat 32 (i 0).val) 0#32)) 0#32) = 1#1

set_option maxHeartbeats 2000000 in
/-- The body at a later point, over what the points before left. -/
theorem bodyB (c : Dev nD) (i : grid0.Coords) (arg1 : Memref sig .tc .vmem S4x128x64 .f32) (harg1 : arg1.IsWhole) (arg2 : Memref sig .tc .vmem S4x2048x64 .f32) (harg2 : arg2.IsWhole) (arg3 : Memref sig .tc .vmem S4x2048x64 .f32) (harg3 : arg3.IsWhole) (arg4 : Memref sig .tc .vmem S4x128x64 .f32) (harg4 : arg4.IsWhole) (arg5 : Memref sig .tc .vmem S4x128x128 .f32) (harg5 : arg5.IsWhole) (arg6 : Memref sig .tc .vmem S4x128x64 .f32) (harg6 : arg6.IsWhole) (arg7 : Memref sig .tc .vmem S4x2048x64 .f32) (harg7 : arg7.IsWhole) (arg8 : Memref sig .tc .vmem S4x2048x64 .f32) (harg8 : arg8.IsWhole) (hc0 : ¬ FirstPoint i)
    (x0 : Vec F S4x128x64 .f32) (x1 : Vec F S4x2048x64 .f32) (x2 : Vec F S4x2048x64 .f32) (x3 : Vec F S4x128x64 .f32) (x4 : Vec F S4x128x128 .f32) (old7 old8 : Vec F S4x2048x64 .f32)
    (E : Set ℕ) (K : PUnit → sProp 𝕄G) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare old7 ∗ owns (c : Thread nD τ) arg8 fullShare old8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (pointDq i x0 x1 x2 x3 x4)
            ∗ owns (c : Thread nD τ) arg7 fullShare (pointDk i x0 x1 x2 x3 x4 old7)
            ∗ owns (c : Thread nD τ) arg8 fullShare (pointDv i x0 x1 x3 x4 old8)) -∗ K ⟨⟩))
      ⊢ wp frame (wpE (defs₀ (F := F)) Variants.none c none) E (cc0_sb_bwd i arg1 harg1 arg2 harg2 arg3 harg3 arg4 harg4 arg5 harg5 arg6 harg6 arg7 harg7 arg8 harg8) K := by
  simp only [cc0_sb_bwd_eq_skeleton]; unfold cc0_sb_bwd_skel
  simp only [k0_part25_eq_skeleton, k0_part26_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
  subst hf0; subst hf1; subst hf2; subst hf3; subst hf4; subst hf6; subst hf7
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    have hacc := (stOf_eq i arg2 arg3 arg7 arg8 (headRows (arg1.view.read (Elt F) f0)) (headRows (arg4.view.read (Elt F) f3)) (headSums (arg5.view.read (Elt F) f4)) f1 f2 f6 f7 (k0_t1_loop i).trips le_rfl).1
    refine (read_heads arg6 _ (fun h => k0_pay7 (accDq (stOf i arg2 arg3 arg7 arg8 (headRows (arg1.view.read (Elt F) f0)) (headRows (arg4.view.read (Elt F) f3)) (headSums (arg5.view.read (Elt F) f4)) f1 f2 f6 f7 (k0_t1_loop i).trips).1 h)) _ _ _ _).trans ?_
    rw [hacc]
    funext y
    exact congrFun (congrArg k0_pay7 (accDq_accAt i _ _ _ _ _ _ (y 0))) _
  isplitl [H6]
  · iexists _; isplitr; swap; · iexact H6
    ipureintro
    exact (stOf_eq i arg2 arg3 arg7 arg8 (headRows (arg1.view.read (Elt F) f0)) (headRows (arg4.view.read (Elt F) f3)) (headSums (arg5.view.read (Elt F) f4)) f1 f2 f6 f7 (k0_t1_loop i).trips le_rfl).2.1
  · iexists _; isplitr; swap; · iexact H7
    ipureintro
    exact (stOf_eq i arg2 arg3 arg7 arg8 (headRows (arg1.view.read (Elt F) f0)) (headRows (arg4.view.read (Elt F) f3)) (headSums (arg5.view.read (Elt F) f4)) f1 f2 f6 f7 (k0_t1_loop i).trips le_rfl).2.2

set_option maxHeartbeats 2000000 in
/-- The body at the first point. -/
theorem bodyA (c : Dev nD) (i : grid0.Coords) (arg1 : Memref sig .tc .vmem S4x128x64 .f32) (harg1 : arg1.IsWhole) (arg2 : Memref sig .tc .vmem S4x2048x64 .f32) (harg2 : arg2.IsWhole) (arg3 : Memref sig .tc .vmem S4x2048x64 .f32) (harg3 : arg3.IsWhole) (arg4 : Memref sig .tc .vmem S4x128x64 .f32) (harg4 : arg4.IsWhole) (arg5 : Memref sig .tc .vmem S4x128x128 .f32) (harg5 : arg5.IsWhole) (arg6 : Memref sig .tc .vmem S4x128x64 .f32) (harg6 : arg6.IsWhole) (arg7 : Memref sig .tc .vmem S4x2048x64 .f32) (harg7 : arg7.IsWhole) (arg8 : Memref sig .tc .vmem S4x2048x64 .f32) (harg8 : arg8.IsWhole) (hc0 : FirstPoint i)
    (x0 : Vec F S4x128x64 .f32) (x1 : Vec F S4x2048x64 .f32) (x2 : Vec F S4x2048x64 .f32) (x3 : Vec F S4x128x64 .f32) (x4 : Vec F S4x128x128 .f32)
    (E : Set ℕ) (K : PUnit → sProp 𝕄G) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (pointDq i x0 x1 x2 x3 x4)
            ∗ owns (c : Thread nD τ) arg7 fullShare (pointDk i x0 x1 x2 x3 x4 k0_pay175)
            ∗ owns (c : Thread nD τ) arg8 fullShare (pointDv i x0 x1 x3 x4 k0_pay176)) -∗ K ⟨⟩))
      ⊢ wp frame (wpE (defs₀ (F := F)) Variants.none c none) E (cc0_sb_bwd i arg1 harg1 arg2 harg2 arg3 harg3 arg4 harg4 arg5 harg5 arg6 harg6 arg7 harg7 arg8 harg8) K := by
  simp only [cc0_sb_bwd_eq_skeleton]; unfold cc0_sb_bwd_skel
  simp only [k0_part25_eq_skeleton, k0_part26_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    have hacc := (stOf_eq i arg2 arg3 arg7 arg8 (headRows (arg1.view.read (Elt F) f0)) (headRows (arg4.view.read (Elt F) f3)) (headSums (arg5.view.read (Elt F) f4)) f1 f2 (arg7.view.writes (Elt F) arg7.view.junk [⟨Rect.unit (s := S4x2048x64) ![0, 0, 0] S4x2048x64.size inb_S4x2048x64_S4x2048x64_0_0_0, k0_pay175⟩]) (arg8.view.writes (Elt F) arg8.view.junk [⟨Rect.unit (s := S4x2048x64) ![0, 0, 0] S4x2048x64.size inb_S4x2048x64_S4x2048x64_0_0_0, k0_pay176⟩]) (k0_t1_loop i).trips le_rfl).1
    refine (read_heads arg6 _ (fun h => k0_pay7 (accDq (stOf i arg2 arg3 arg7 arg8 (headRows (arg1.view.read (Elt F) f0)) (headRows (arg4.view.read (Elt F) f3)) (headSums (arg5.view.read (Elt F) f4)) f1 f2 (arg7.view.writes (Elt F) arg7.view.junk [⟨Rect.unit (s := S4x2048x64) ![0, 0, 0] S4x2048x64.size inb_S4x2048x64_S4x2048x64_0_0_0, k0_pay175⟩]) (arg8.view.writes (Elt F) arg8.view.junk [⟨Rect.unit (s := S4x2048x64) ![0, 0, 0] S4x2048x64.size inb_S4x2048x64_S4x2048x64_0_0_0, k0_pay176⟩]) (k0_t1_loop i).trips).1 h)) _ _ _ _).trans ?_
    rw [hacc]
    funext y
    exact congrFun (congrArg k0_pay7 (accDq_accAt i _ _ _ _ _ _ (y 0))) _
  isplitl [H6]
  · iexists _; isplitr; swap; · iexact H6
    ipureintro
    rw [View.writes_append]; exact (stOf_eq i arg2 arg3 arg7 arg8 (headRows (arg1.view.read (Elt F) f0)) (headRows (arg4.view.read (Elt F) f3)) (headSums (arg5.view.read (Elt F) f4)) f1 f2 (arg7.view.writes (Elt F) arg7.view.junk [⟨Rect.unit (s := S4x2048x64) ![0, 0, 0] S4x2048x64.size inb_S4x2048x64_S4x2048x64_0_0_0, k0_pay175⟩]) (arg8.view.writes (Elt F) arg8.view.junk [⟨Rect.unit (s := S4x2048x64) ![0, 0, 0] S4x2048x64.size inb_S4x2048x64_S4x2048x64_0_0_0, k0_pay176⟩]) (k0_t1_loop i).trips le_rfl).2.1.trans (by rw [read_whole]; rfl)
  · iexists _; isplitr; swap; · iexact H7
    ipureintro
    rw [View.writes_append]; exact (stOf_eq i arg2 arg3 arg7 arg8 (headRows (arg1.view.read (Elt F) f0)) (headRows (arg4.view.read (Elt F) f3)) (headSums (arg5.view.read (Elt F) f4)) f1 f2 (arg7.view.writes (Elt F) arg7.view.junk [⟨Rect.unit (s := S4x2048x64) ![0, 0, 0] S4x2048x64.size inb_S4x2048x64_S4x2048x64_0_0_0, k0_pay175⟩]) (arg8.view.writes (Elt F) arg8.view.junk [⟨Rect.unit (s := S4x2048x64) ![0, 0, 0] S4x2048x64.size inb_S4x2048x64_S4x2048x64_0_0_0, k0_pay176⟩]) (k0_t1_loop i).trips le_rfl).2.2.trans (by rw [read_whole]; rfl)

end Cert.KernelIdeal.Gen

end
-- ==== Proof.Point.lean ====
/-
  One grid point over the extended reals: the gradients of its 128 rows' queries, and what it adds to those of the keys and values.
-/
module

public import proofs.«01_k».proof.Proof.TileGrad
public import proofs.«01_k».proof.Proof.Body

@[expose] public section

set_option maxRecDepth 8192

noncomputable section

namespace Cert.KernelIdeal.Gen

open Idealize.ShloMosaic Cert.StickBreaking

theorem headRows_apply (x : Vec Ideal S4x128x64 .f32) (h : Fin 4) (r : Fin 128) (d : Fin 64) :
    headRows x h (ix2 r d) = x (ix3 h r d) := by
  have e : headRows x h (ix2 r d) = View.ld x (Rect.unit (s := S4x128x64) ![h.val, 0, 0] S1x128x64.size (by revert h; decide)) (ix3 (n0 := 1) (n1 := 128) (n2 := 64) 0 r d) := by
    pointwise [headRows, k0_pay177]
  rw [e]
  show x _ = x _
  congr 1
  funext a
  match a with
  | ⟨0, _⟩ => exact Fin.ext (by show h.val + 1 * 0 = h.val; omega)
  | ⟨1, _⟩ => exact Fin.ext (by show 0 + 1 * r.val = r.val; omega)
  | ⟨2, _⟩ => exact Fin.ext (by show 0 + 1 * d.val = d.val; omega)

theorem headSums_apply (x : Vec Ideal S4x128x128 .f32) (h : Fin 4) (r l : Fin 128) :
    headSums x h (ix2 r l) = x (ix3 h r l) := by
  have e : headSums x h (ix2 r l) = View.ld x (Rect.unit (s := S4x128x128) ![h.val, 0, 0] S1x128x128.size (by revert h; decide)) (ix3 (n0 := 1) (n1 := 128) (n2 := 128) 0 r l) := by
    pointwise [headSums, k0_pay185]
  rw [e]
  show x _ = x _
  congr 1
  funext a
  match a with
  | ⟨0, _⟩ => exact Fin.ext (by show h.val + 1 * 0 = h.val; omega)
  | ⟨1, _⟩ => exact Fin.ext (by show 0 + 1 * r.val = r.val; omega)
  | ⟨2, _⟩ => exact Fin.ext (by show 0 + 1 * l.val = l.val; omega)

theorem keyBlock_apply (x : Vec Ideal S4x2048x64 .f32) (h k : Fin 4) (c : Fin 512) (d : Fin 64) :
    keyBlock x h k (ix3 0 c d) = x (ix3 h (⟨512 * k.val + c, by omega⟩ : Fin 2048) d) := by
  show x _ = x _
  congr 1
  funext a
  match a with
  | ⟨0, _⟩ => exact Fin.ext (by show h.val + 1 * 0 = h.val; omega)
  | ⟨1, _⟩ => exact Fin.ext (by show 512 * k.val + 1 * c.val = 512 * k.val + c.val; omega)
  | ⟨2, _⟩ => exact Fin.ext (by show 0 + 1 * d.val = d.val; omega)

section Point

variable (i : grid0.Coords) (x0 : Vec Ideal S4x128x64 .f32) (x1 x2 : Vec Ideal S4x2048x64 .f32) (x3 : Vec Ideal S4x128x64 .f32)
  (x4 : Vec Ideal S4x128x128 .f32) (Q K V G : Fin 4 → ℕ → Fin 64 → ℝ)

/-- What the point reads is real: its rows of the queries and of the outputs' gradients, the keys and values, the rows' sums per block. -/
structure PointReals : Prop where
  hq : ∀ h r x, x0 (ix3 h r x) = (Q h (rowOf i r) x : EReal)
  hk : ∀ h (s : Fin 2048) x, x1 (ix3 h s x) = (K h s x : EReal)
  hv : ∀ h (s : Fin 2048) x, x2 (ix3 h s x) = (V h s x : EReal)
  hd : ∀ h r x, x3 (ix3 h r x) = (G h (rowOf i r) x : EReal)
  hs : ∀ h (r : Fin 128) (l : Fin 128), x4 (ix3 h r l)
      = ((if (l : ℕ) < 4 then ∑ j ∈ Finset.Ico (512 * (l : ℕ)) (512 * l + 512), keep (Q h) (K h) (rowOf i r) j else 0 : ℝ) : EReal)

variable {i x0 x1 x2 x3 x4 Q K V G}

theorem PointReals.block (H : PointReals i x0 x1 x2 x3 x4 Q K V G) (h : Fin 4) (k : Fin (k0_t1_loop i).trips) :
    Reals i k (headRows x0 h) (headRows x3 h) (headSums x4 h) (keyBlock x1 h (blockOf k)) (Q h) (K h) (G h) where
  hq r x := by rw [headRows_apply, H.hq]
  hk c x := by rw [keyBlock_apply, H.hk]; rfl
  hs r l := by rw [headSums_apply, H.hs]
  hd r x := by rw [headRows_apply, H.hd]

theorem PointReals.values (H : PointReals i x0 x1 x2 x3 x4 Q K V G) (h : Fin 4) (k : Fin (k0_t1_loop i).trips) (c : Fin 512) (x : Fin 64) :
    keyBlock x2 h (blockOf k) (ix3 0 c x) = (V h (keyOf i k c) x : EReal) := by rw [keyBlock_apply, H.hv]; rfl

theorem leftAt_apply (H : PointReals i x0 x1 x2 x3 x4 Q K V G) (h : Fin 4) (n : ℕ) (hn : n ≤ (k0_t1_loop i).trips) (r : Fin 128) :
    leftAt i (headRows x0) (headRows x3) (headSums x4) x1 x2 h n (ix2 r 0)
      = ((∑ j ∈ Finset.range (512 * n), gradLog (Q h) (K h) (V h) (G h) (rowOf i r) j : ℝ) : EReal) := by
  induction n with
  | zero => simp only [leftAt, Nat.mul_zero, Finset.sum_range_zero, EReal.coe_zero]; pointwise [k0_pay193]
  | succ n ih =>
    have hlt : n < (k0_t1_loop i).trips := hn
    rw [leftAt, dif_pos hlt]
    exact stepLeft_apply (k := ⟨n, hlt⟩) (H.block h _) (H.values h _) r (ih hlt.le)

theorem dqAt_apply (H : PointReals i x0 x1 x2 x3 x4 Q K V G) (h : Fin 4) (n : ℕ) (hn : n ≤ (k0_t1_loop i).trips) (r : Fin 128) (x : Fin 64) :
    dqAt i (headRows x0) (headRows x3) (headSums x4) x1 x2 h n (ix2 r x)
      = ((∑ j ∈ Finset.range (512 * n), gradScore (Q h) (K h) (V h) (G h) (rowOf i r) j * K h j x : ℝ) : EReal) := by
  induction n with
  | zero => simp only [dqAt, Nat.mul_zero, Finset.sum_range_zero, EReal.coe_zero]; pointwise [k0_pay189]
  | succ n ih =>
    have hlt : n < (k0_t1_loop i).trips := hn
    rw [dqAt, dif_pos hlt]
    exact stepDq_apply (k := ⟨n, hlt⟩) (H.block h _) (H.values h _) (fun r => leftAt_apply H h n hlt.le r) _ r x (ih hlt.le)

/-- The gradients of the point's queries. -/
theorem pointDq_apply (H : PointReals i x0 x1 x2 x3 x4 Q K V G) (h : Fin 4) (r : Fin 128) (x : Fin 64) :
    pointDq i x0 x1 x2 x3 x4 (ix3 h r x) = (gradQ (Q h) (K h) (V h) (G h) (rowOf i r) x : EReal) := by
  have e : pointDq i x0 x1 x2 x3 x4 (ix3 h r x)
      = dqAt i (headRows x0) (headRows x3) (headSums x4) x1 x2 h (k0_t1_loop i).trips (ix2 r x) := by
    have g : ∀ a : FVec Ideal S128x64 .f32, k0_pay7 a (ix3 0 r x) = a (ix2 r x) := by intro a; pointwise [k0_pay7]
    exact g _
  have ht : (k0_t1_loop i).trips = (i 0).val / 4 + 1 := trips1_eq i
  have hi := i_lt i
  rw [e, dqAt_apply H h _ le_rfl, gradQ_eq _ _ _ _ (by show 128 * (i 0).val + r.val ≤ _; omega) (by omega)]

/-- A block of the keys' (or the values') gradient read where it lies. -/
theorem blocksTo_apply (step : Fin 4 → Fin (k0_t1_loop i).trips → Vec Ideal S1x512x64 .f32 → Vec Ideal S1x512x64 .f32)
    (old : Vec Ideal S4x2048x64 .f32) (h : Fin 4) (s : Fin 2048) (x : Fin 64) :
    (∀ hs : s.val / 512 < (k0_t1_loop i).trips, blocksTo i (k0_t1_loop i).trips step old (ix3 h s x)
      = step h ⟨s.val / 512, hs⟩ (keyBlock old h (blockOf ⟨s.val / 512, hs⟩)) (ix3 0 ⟨s.val % 512, by omega⟩ x))
    ∧ (¬ s.val / 512 < (k0_t1_loop i).trips → blocksTo i (k0_t1_loop i).trips step old (ix3 h s x) = old (ix3 h s x)) := by
  constructor
  · intro hs
    show (if hn : s.val / 512 < (k0_t1_loop i).trips ∧ s.val / 512 < (k0_t1_loop i).trips then _ else _) = _
    rw [dif_pos ⟨hs, hs⟩]; rfl
  · intro hs
    show (if hn : s.val / 512 < (k0_t1_loop i).trips ∧ s.val / 512 < (k0_t1_loop i).trips then _ else _) = _
    rw [dif_neg (fun hn => hs hn.1)]

/-- The keys' gradient takes the point's rows in. -/
theorem pointDk_apply (H : PointReals i x0 x1 x2 x3 x4 Q K V G) (old : Vec Ideal S4x2048x64 .f32)
    (ho : ∀ h (s : Fin 2048) x, old (ix3 h s x)
      = ((∑ t ∈ Finset.range (128 * (i 0).val), gradScore (Q h) (K h) (V h) (G h) t s * Q h t x : ℝ) : EReal)) (h : Fin 4) (s : Fin 2048) (x : Fin 64) :
    pointDk i x0 x1 x2 x3 x4 old (ix3 h s x)
      = ((∑ t ∈ Finset.range (128 * ((i 0).val + 1)), gradScore (Q h) (K h) (V h) (G h) t s * Q h t x : ℝ) : EReal) := by
  have ht : (k0_t1_loop i).trips = (i 0).val / 4 + 1 := trips1_eq i
  obtain ⟨hin, hout⟩ := blocksTo_apply (i := i) (dkBlock i (headRows x0) (headRows x3) (headSums x4) x1 x2) old h s x
  by_cases hs : s.val / 512 < (k0_t1_loop i).trips
  · have e : keyOf i ⟨s.val / 512, hs⟩ ⟨s.val % 512, by omega⟩ = s.val := Nat.div_add_mod s.val 512
    have a := stepDk_apply (k := ⟨s.val / 512, hs⟩) (H.block h _) (H.values h _) (fun r => leftAt_apply H h _ hs.le r)
      (keyBlock old h (blockOf ⟨s.val / 512, hs⟩)) ⟨s.val % 512, by omega⟩ x
      (by rw [keyBlock_apply, ho]; rfl)
    rw [e] at a
    exact (hin hs).trans a
  · refine (hout hs).trans ?_
    rw [ho, Nat.mul_succ, Finset.sum_range_add, Finset.sum_eq_zero (s := Finset.range 128), add_zero]
    intro t htm
    rw [Finset.mem_range] at htm
    rw [gradScore_of_le _ _ _ _ (by omega), zero_mul]

/-- The values' gradient takes the point's rows in. -/
theorem pointDv_apply (H : PointReals i x0 x1 x2 x3 x4 Q K V G) (old : Vec Ideal S4x2048x64 .f32)
    (ho : ∀ h (s : Fin 2048) x, old (ix3 h s x)
      = ((∑ t ∈ Finset.range (128 * (i 0).val), weight (Q h) (K h) t s * G h t x : ℝ) : EReal)) (h : Fin 4) (s : Fin 2048) (x : Fin 64) :
    pointDv i x0 x1 x3 x4 old (ix3 h s x)
      = ((∑ t ∈ Finset.range (128 * ((i 0).val + 1)), weight (Q h) (K h) t s * G h t x : ℝ) : EReal) := by
  have ht : (k0_t1_loop i).trips = (i 0).val / 4 + 1 := trips1_eq i
  obtain ⟨hin, hout⟩ := blocksTo_apply (i := i) (dvBlock i (headRows x0) (headRows x3) (headSums x4) x1) old h s x
  by_cases hs : s.val / 512 < (k0_t1_loop i).trips
  · have e : keyOf i ⟨s.val / 512, hs⟩ ⟨s.val % 512, by omega⟩ = s.val := Nat.div_add_mod s.val 512
    have a := stepDv_apply (k := ⟨s.val / 512, hs⟩) (H.block h _)
      (keyBlock old h (blockOf ⟨s.val / 512, hs⟩)) ⟨s.val % 512, by omega⟩ x
      (by rw [keyBlock_apply, ho]; rfl)
    rw [e] at a
    exact (hin hs).trans a
  · refine (hout hs).trans ?_
    rw [ho, Nat.mul_succ, Finset.sum_range_add, Finset.sum_eq_zero (s := Finset.range 128), add_zero]
    intro t htm
    rw [Finset.mem_range] at htm
    rw [weight_of_le _ _ (by omega), zero_mul]

end Point

end Cert.KernelIdeal.Gen

end
-- ==== Proof.Run.lean ====
module

public import proofs.«01_k».proof.Proof.Body
public import Idealize.ShloMosaic.Lib.Pipeline.Value
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-! ## What the points leave -/

/-- The first point is point 0. -/
theorem firstPoint_iff (t : Fin cfg0.N) : FirstPoint (grid0.coords t) ↔ t.val = 0 := by
  have ht : t.val < 16 := Nat.lt_of_lt_of_eq t.isLt N_0
  have e0 : (grid0.coords t 0).val = t.val / 1 % 16 := Pipeline.Grid.coords_val t 0 (by decide) rfl
  simp only [FirstPoint, e0]
  word_cmp

/-- The queries' gradient that point `t` computes. -/
def dqOut (c : Dev nD) (t : Fin cfg0.N) : Vec F S4x128x64 .f32 :=
  pointDq (grid0.coords t) (iblk m c 0 t) (iblk m c 1 t) (iblk m c 2 t) (iblk m c 3 t) (iblk m c 4 t)

/-- The keys' gradient before point `n`. -/
def dkUpto (c : Dev nD) : ℕ → Vec F S4x2048x64 .f32
  | 0 => k0_pay175
  | n + 1 => if hn : n < cfg0.N then
      pointDk (grid0.coords ⟨n, hn⟩) (iblk m c 0 ⟨n, hn⟩) (iblk m c 1 ⟨n, hn⟩) (iblk m c 2 ⟨n, hn⟩) (iblk m c 3 ⟨n, hn⟩) (iblk m c 4 ⟨n, hn⟩)
        (dkUpto c n)
    else dkUpto c n

/-- The values' gradient before point `n`. -/
def dvUpto (c : Dev nD) : ℕ → Vec F S4x2048x64 .f32
  | 0 => k0_pay176
  | n + 1 => if hn : n < cfg0.N then
      pointDv (grid0.coords ⟨n, hn⟩) (iblk m c 0 ⟨n, hn⟩) (iblk m c 1 ⟨n, hn⟩) (iblk m c 3 ⟨n, hn⟩) (iblk m c 4 ⟨n, hn⟩)
        (dvUpto c n)
    else dvUpto c n

theorem dkUpto_succ (c : Dev nD) (t : Fin cfg0.N) : dkUpto m c (t.val + 1) =
    pointDk (grid0.coords t) (iblk m c 0 t) (iblk m c 1 t) (iblk m c 2 t) (iblk m c 3 t) (iblk m c 4 t) (dkUpto m c t.val) := by
  rw [dkUpto, dif_pos t.isLt]
theorem dvUpto_succ (c : Dev nD) (t : Fin cfg0.N) : dvUpto m c (t.val + 1) =
    pointDv (grid0.coords t) (iblk m c 0 t) (iblk m c 1 t) (iblk m c 3 t) (iblk m c 4 t) (dvUpto m c t.val) := by
  rw [dvUpto, dif_pos t.isLt]

/-! ## The pipeline's proof data -/

/-- The arrays as the launch finds them; after point `t` each input's buffer at its block, the outputs' at what the
points up to `t` left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqOut m c t
    | ⟨6, _⟩ => dkUpto m c (t.val + 1)
    | ⟨7, _⟩ => dvUpto m c (t.val + 1)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqOut m c t := by dsimp only [dats]
theorem after0_6 (c : Dev nD) (t : Fin cfg0.N) : (dats m 0 c).after 6 t = dkUpto m c (t.val + 1) := by dsimp only [dats]
theorem after0_7 (c : Dev nD) (t : Fin cfg0.N) : (dats m 0 c).after 7 t = dvUpto m c (t.val + 1) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a later point the buffer still holds what the point before left. -/
theorem before0_6 (c : Dev nD) (t : Fin cfg0.N) (h0 : t.val ≠ 0) (d) : (dats m 0 c).before 6 t d = dkUpto m c t.val := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]
  rw [Nat.sub_add_cancel (Nat.one_le_iff_ne_zero.mpr h0)]
/-- At a later point the buffer still holds what the point before left. -/
theorem before0_7 (c : Dev nD) (t : Fin cfg0.N) (h0 : t.val ≠ 0) (d) : (dats m 0 c).before 7 t d = dvUpto m c t.val := by
  have hN : t.val < 16 := lt_of_lt_of_eq t.isLt (show cfg0.N = 16 from N_0)
  rw [Dat.before_out_kept _ 7 rfl t (by omega) (Bool.eq_false_iff.mpr fun h => by have := (flush0_7 _).mp h; dsimp only at this; omega)
    (fun _ => rfl) (fun _ _ => rfl)]
  dsimp only [dats]
  rw [Nat.sub_add_cancel (Nat.one_le_iff_ne_zero.mpr h0)]

/-! ## The body obligation -/

/-- What the body is called with at point `t`, window by window, -/
def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [dkUpto_succ, dvUpto_succ]
  unfold dqOut
  by_cases h0 : t.val = 0
  · rw [h0, dkUpto, dvUpto]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyA c (grid0.coords t) _ _ _ _ _ _ _ _ _ _ _ _ _ _ _ _ ((firstPoint_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before0_6 m c t h0, before0_7 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (bodyB c (grid0.coords t) _ _ _ _ _ _ _ _ _ _ _ _ _ _ _ _ (fun h => h0 ((firstPoint_iff t).mp h)) (iblk m c 0 t) (iblk m c 1 t) (iblk m c 2 t) (iblk m c 3 t) (iblk m c 4 t) (dkUpto m c t.val) (dvUpto m c t.val) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body at the point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- From any memory with zero counters every fair execution ends; each array of the pipeline is what the points wrote back,
every other buffer as the launch found it, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, over any float values: the arguments end as they were, and every counter at zero. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Arrays.lean ====
/-
  The kernel's three output arrays after its run, as real numbers, of finite arguments.
-/
module

public import proofs.«01_k».proof.Proof.PreludeAt
public import proofs.«01_k».proof.Proof.Point
public import proofs.«01_k».proof.Proof.Run
public import Idealize.ShloMosaic.Lib.Pipeline.ValueKit

@[expose] public section

set_option maxRecDepth 16384

noncomputable section

namespace Cert.KernelIdeal.Gen

open Idealize.ShloMosaic Idealize.ShloMosaic.TcCoe Cert.StickBreaking

variable (m : (ℓ : Loc nD τ sig) → Buf (Elt Ideal) ℓ) (c : Dev nD)

theorem t_lt (t : Fin cfg0.N) : t.val < 16 := lt_of_lt_of_eq t.isLt (show cfg0.N = 16 from N_0)

theorem coord_eq (t : Fin cfg0.N) : (grid0.coords t 0).val = t.val :=
  ((Pipeline.Grid.coords_val t 0 (by decide) rfl : (grid0.coords t 0).val = t.val / 1 % 16)).trans (by have := t_lt t; omega)

theorem index0 : ∀ t : Fin cfg0.N, win0_0.index t = ![0, t.val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![0, t.val, 0] := (by decide +kernel : ∀ t : Fin grid0.N, _)
theorem index5 : ∀ t : Fin cfg0.N, win0_5.index t = ![0, t.val, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)

/-! ## The blocks -/

theorem block0 (t : Fin cfg0.N) (h : Fin 4) (r : Fin 128) (x : Fin 64) :
    iblk m c 0 t (ix3 h r x) = V m c main_v4 (ix3 h (⟨128 * t.val + r, by have := t_lt t; omega⟩ : Fin 2048) x) := by
  unfold iblk; rw [View.read_apply, cast_eq]
  refine congrArg (V m c main_v4) (funext fun a => Fin.ext ?_)
  match a with
  | ⟨0, _⟩ => blk_simp [index0 t]
  | ⟨1, _⟩ => blk_simp [index0 t]; show t.val * 128 + r.val = 128 * t.val + r.val; omega
  | ⟨2, _⟩ => blk_simp [index0 t]
theorem block1 (t : Fin cfg0.N) (h : Fin 4) (s : Fin 2048) (x : Fin 64) :
    iblk m c 1 t (ix3 h s x) = V m c main_v7 (ix3 h s x) := by
  unfold iblk; rw [View.read_apply, cast_eq]
  refine congrArg (V m c main_v7) (funext fun a => Fin.ext ?_)
  match a with
  | ⟨0, _⟩ => blk_simp [index1 t]
  | ⟨1, _⟩ => blk_simp [index1 t]
  | ⟨2, _⟩ => blk_simp [index1 t]
theorem block2 (t : Fin cfg0.N) (h : Fin 4) (s : Fin 2048) (x : Fin 64) :
    iblk m c 2 t (ix3 h s x) = V m c main_v10 (ix3 h s x) := by
  unfold iblk; rw [View.read_apply, cast_eq]
  refine congrArg (V m c main_v10) (funext fun a => Fin.ext ?_)
  match a with
  | ⟨0, _⟩ => blk_simp [index2 t]
  | ⟨1, _⟩ => blk_simp [index2 t]
  | ⟨2, _⟩ => blk_simp [index2 t]
theorem block3 (t : Fin cfg0.N) (h : Fin 4) (r : Fin 128) (x : Fin 64) :
    iblk m c 3 t (ix3 h r x) = V m c main_v12 (ix3 h (⟨128 * t.val + r, by have := t_lt t; omega⟩ : Fin 2048) x) := by
  unfold iblk; rw [View.read_apply, cast_eq]
  refine congrArg (V m c main_v12) (funext fun a => Fin.ext ?_)
  match a with
  | ⟨0, _⟩ => blk_simp [index3 t]
  | ⟨1, _⟩ => blk_simp [index3 t]; show t.val * 128 + r.val = 128 * t.val + r.val; omega
  | ⟨2, _⟩ => blk_simp [index3 t]
theorem block4 (t : Fin cfg0.N) (h : Fin 4) (r : Fin 128) (x : Fin 128) :
    iblk m c 4 t (ix3 h r x) = V m c main_v26 (ix3 h (⟨128 * t.val + r, by have := t_lt t; omega⟩ : Fin 2048) x) := by
  unfold iblk; rw [View.read_apply, cast_eq]
  refine congrArg (V m c main_v26) (funext fun a => Fin.ext ?_)
  match a with
  | ⟨0, _⟩ => blk_simp [index4 t]
  | ⟨1, _⟩ => blk_simp [index4 t]; show t.val * 128 + r.val = 128 * t.val + r.val; omega
  | ⟨2, _⟩ => blk_simp [index4 t]

section Finite

variable (hp : IsReal (m ((c : Thread nD τ).loc main_arg0))) (hg : IsReal (m ((c : Thread nD τ).loc main_arg1)))

/-- The heads' queries, keys, values and output gradients. -/
def Q : Fin 4 → ℕ → Fin 64 → ℝ := qOf (m ((c : Thread nD τ).loc main_arg0))
def K : Fin 4 → ℕ → Fin 64 → ℝ := kOf (m ((c : Thread nD τ).loc main_arg0))
def Vs : Fin 4 → ℕ → Fin 64 → ℝ := vOf (m ((c : Thread nD τ).loc main_arg0))
def G : Fin 4 → ℕ → Fin 64 → ℝ := gOf (m ((c : Thread nD τ).loc main_arg1))

variable {m c}
include hp hg

/-- Every point reads real numbers. -/
theorem pointReals (t : Fin cfg0.N) : PointReals (grid0.coords t) (iblk m c 0 t) (iblk m c 1 t) (iblk m c 2 t) (iblk m c 3 t) (iblk m c 4 t)
    (Q m c) (K m c) (Vs m c) (G m c) where
  hq h r x := by
    rw [block0, V_queries, queries_real hp]; unfold rowOf; rw [coord_eq]; rfl
  hk h s x := by rw [block1, V_keys, keys_real hp]; rfl
  hv h s x := by rw [block2, V_values, values_real hp]; rfl
  hd h r x := by
    rw [block3, V_outs, outs_real hg]; unfold rowOf; rw [coord_eq]; rfl
  hs h r l := by
    rw [block4, V_sums, sums_real hp]; unfold rowOf; rw [coord_eq]; rfl

theorem dk_upto (n : ℕ) (hn : n ≤ 16) (h : Fin 4) (s : Fin 2048) (x : Fin 64) : dkUpto m c n (ix3 h s x)
    = ((∑ t ∈ Finset.range (128 * n), gradScore (Q m c h) (K m c h) (Vs m c h) (G m c h) t s * Q m c h t x : ℝ) : EReal) := by
  induction n generalizing h s x with
  | zero =>
    rw [Nat.mul_zero, Finset.sum_range_zero, EReal.coe_zero, dkUpto]
    pointwise [k0_pay175]
  | succ n ih =>
    have hN : n < cfg0.N := lt_of_lt_of_eq (show n < 16 by omega) (show 16 = cfg0.N from N_0.symm)
    have e := dkUpto_succ m c ⟨n, hN⟩
    have ec := coord_eq ⟨n, hN⟩
    dsimp only at e ec
    rw [e, pointDk_apply (pointReals hp hg ⟨n, hN⟩) _ (fun h s x => by rw [ih (by omega), ec]), ec]

theorem dv_upto (n : ℕ) (hn : n ≤ 16) (h : Fin 4) (s : Fin 2048) (x : Fin 64) : dvUpto m c n (ix3 h s x)
    = ((∑ t ∈ Finset.range (128 * n), weight (Q m c h) (K m c h) t s * G m c h t x : ℝ) : EReal) := by
  induction n generalizing h s x with
  | zero =>
    rw [Nat.mul_zero, Finset.sum_range_zero, EReal.coe_zero, dvUpto]
    pointwise [k0_pay176]
  | succ n ih =>
    have hN : n < cfg0.N := lt_of_lt_of_eq (show n < 16 by omega) (show 16 = cfg0.N from N_0.symm)
    have e := dvUpto_succ m c ⟨n, hN⟩
    have ec := coord_eq ⟨n, hN⟩
    dsimp only at e ec
    rw [e, pointDv_apply (pointReals hp hg ⟨n, hN⟩) _ (fun h s x => by rw [ih (by omega), ec]), ec]

/-- The queries' gradient. -/
theorem array_q : (dats m 0 c).arrAt 5 cfg0.N
    = fun y : S4x2048x64.Idx => ((gradQ (Q m c (y 0)) (K m c (y 0)) (Vs m c (y 0)) (G m c (y 0)) (y 1).val (y 2) : ℝ) : EReal) := by
  refine (dats m 0 c).arrAt_eq_of_covers 5 _ (by decide +kernel) fun t hf y => ?_
  have ey : ((cfg0.win 5).blk t).view.emb y = ix3 (y 0 : Fin 4) (⟨128 * t.val + (y 1).val, by have := t_lt t; have : (y 1).val < 128 := (y 1).isLt; omega⟩ : Fin 2048) (y 2 : Fin 64) := by
    refine funext fun a => Fin.ext ?_
    match a with
    | ⟨0, _⟩ => blk_simp [index5 t]; rfl
    | ⟨1, _⟩ => blk_simp [index5 t]; show t.val * 128 + (y 1).val = 128 * t.val + (y 1).val; omega
    | ⟨2, _⟩ => blk_simp [index5 t]; rfl
  rw [ey, after0_5, cast_eq]
  have exy : (cfg0.win 5).xinj (cfg0.grid.coords t) y = ix3 (y 0 : Fin 4) (y 1 : Fin 128) (y 2 : Fin 64) := by
    refine funext fun a => Fin.ext ?_
    match a with
    | ⟨0, _⟩ => rfl
    | ⟨1, _⟩ => rfl
    | ⟨2, _⟩ => rfl
  refine (congrArg (dqOut m c t) exy).trans ?_
  refine (pointDq_apply (pointReals hp hg t) (y 0) (y 1) (y 2)).trans ?_
  unfold rowOf; rw [coord_eq]; rfl

/-- The keys' gradient. -/
theorem array_k : (dats m 0 c).arrAt 6 cfg0.N
    = fun y : S4x2048x64.Idx => ((gradK (Q m c (y 0)) (K m c (y 0)) (Vs m c (y 0)) (G m c (y 0)) (y 1).val (y 2) : ℝ) : EReal) := by
  refine (dats m 0 c).arrAt_eq_of_covers 6 _ (by decide +kernel) fun t hf y => ?_
  have ht : t.val + 1 = 16 := by have := (flush0_6 t).mp hf; have := t_lt t; omega
  have ey : ((cfg0.win 6).blk t).view.emb y = ix3 (y 0 : Fin 4) (y 1 : Fin 2048) (y 2 : Fin 64) := by
    refine funext fun a => Fin.ext ?_
    match a with
    | ⟨0, _⟩ => blk_simp [index6 t]; rfl
    | ⟨1, _⟩ => blk_simp [index6 t]; rfl
    | ⟨2, _⟩ => blk_simp [index6 t]; rfl
  rw [ey, after0_6, cast_eq, ht]
  have exy : (cfg0.win 6).xinj (cfg0.grid.coords t) y = ix3 (y 0 : Fin 4) (y 1 : Fin 2048) (y 2 : Fin 64) := by
    refine funext fun a => Fin.ext ?_
    match a with
    | ⟨0, _⟩ => rfl
    | ⟨1, _⟩ => rfl
    | ⟨2, _⟩ => rfl
  exact (congrArg (dkUpto m c 16) exy).trans (dk_upto hp hg 16 le_rfl (y 0) (y 1) (y 2))

/-- The values' gradient. -/
theorem array_v : (dats m 0 c).arrAt 7 cfg0.N
    = fun y : S4x2048x64.Idx => ((gradV (Q m c (y 0)) (K m c (y 0)) (G m c (y 0)) (y 1).val (y 2) : ℝ) : EReal) := by
  refine (dats m 0 c).arrAt_eq_of_covers 7 _ (by decide +kernel) fun t hf y => ?_
  have ht : t.val + 1 = 16 := by have := (flush0_7 t).mp hf; have := t_lt t; omega
  have ey : ((cfg0.win 7).blk t).view.emb y = ix3 (y 0 : Fin 4) (y 1 : Fin 2048) (y 2 : Fin 64) := by
    refine funext fun a => Fin.ext ?_
    match a with
    | ⟨0, _⟩ => blk_simp [index7 t]; rfl
    | ⟨1, _⟩ => blk_simp [index7 t]; rfl
    | ⟨2, _⟩ => blk_simp [index7 t]; rfl
  rw [ey, after0_7, cast_eq, ht]
  have exy : (cfg0.win 7).xinj (cfg0.grid.coords t) y = ix3 (y 0 : Fin 4) (y 1 : Fin 2048) (y 2 : Fin 64) := by
    refine funext fun a => Fin.ext ?_
    match a with
    | ⟨0, _⟩ => rfl
    | ⟨1, _⟩ => rfl
    | ⟨2, _⟩ => rfl
  exact (congrArg (dvUpto m c 16) exy).trans (dv_upto hp hg 16 le_rfl (y 0) (y 1) (y 2))

end Finite

end Cert.KernelIdeal.Gen

end
-- ==== Proof.RefRead.lean ====
/-
  The reference's run, read back in a few named steps: its list of operations is cut into stretches, and each stretch is
  read over whatever the buffers held before it.
-/
module

public import proofs.«01_k».proof.Proof.Gen.ReferenceIdeal.Run
public import Idealize.ShloMosaic.Lib.StableHlo.ReadAt

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-! ## The steps -/

def queriesOf (p : S2048x768.Idx → F .f32) : FVec F S2048x4x64 .f32 :=
  mulf (shapeCast S2048x4x64 (extractStridedSlice S2048x256 ![0, 0] p slices_S2048x768_S2048x256_0_0) shapeCasts_S2048x256_S2048x4x64)
    (broadcastInDim S2048x4x64 ![] bcast_S_S2048x4x64 (constant S_ .f32 0x3E000000#32))
def keysOf (p : S2048x768.Idx → F .f32) : FVec F S2048x4x64 .f32 :=
  shapeCast S2048x4x64 (extractStridedSlice S2048x256 ![0, 256] p slices_S2048x768_S2048x256_0_256) shapeCasts_S2048x256_S2048x4x64
def valuesOf (p : S2048x768.Idx → F .f32) : FVec F S2048x4x64 .f32 :=
  shapeCast S2048x4x64 (extractStridedSlice S2048x256 ![0, 512] p slices_S2048x768_S2048x256_0_512) shapeCasts_S2048x256_S2048x4x64
/-- The gradients of the outputs, rows last. -/
def outsOf (g : S2048x256.Idx → F .f32) : FVec F S4x64x2048 .f32 :=
  transpose S4x64x2048 [1, 2, 0] (shapeCast S2048x4x64 g shapeCasts_S2048x256_S2048x4x64) transposes_S2048x4x64_S4x64x2048_1_2_0

def scoresOf (q k : FVec F S2048x4x64 .f32) : FVec F S4x2048x2048 .f32 :=
  Host.dotGeneral dot_S2048x4x64_S2048x4x64_S4x2048x2048_2_2_0_0_1_1 none q k

/-- Keys before the row. -/
def before : IVec S2048x2048 1 :=
  cmpi .slt (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))
def beforeHeads : IVec S4x2048x2048 1 := broadcastInDim S4x2048x2048 ![1, 2] bcast_S2048x2048_S4x2048x2048_1_2 before

def zeros : FVec F S4x2048x2048 .f32 := broadcastInDim S4x2048x2048 ![] bcast_S_S4x2048x2048 (constant S_ .f32 0x00000000#32)
def infs : FVec F S4x2048x2048 .f32 := broadcastInDim S4x2048x2048 ![] bcast_S_S4x2048x2048 (constant S_ .f32 0x7F800000#32)

/-- `log (1 + exp x)`. -/
def softplusOf (x : FVec F S4x2048x2048 .f32) : FVec F S4x2048x2048 .f32 :=
  select (cmpf .une (subf x zeros) (subf x zeros)) (addf x zeros)
    (addf (maximumf x zeros) (Host.log1p (Host.exp (Host.negf (Host.absf (subf x zeros))))))
/-- Its derivative, `exp (x - log (1 + exp x))`, infinite terms replaced by zeros. -/
def softplusSlope (x : FVec F S4x2048x2048 .f32) : FVec F S4x2048x2048 .f32 :=
  Host.exp (subf (select (cmpf .oeq x infs) zeros x) (select (cmpf .oeq (softplusOf x) infs) zeros (softplusOf x)))

def maskedOf (x : FVec F S4x2048x2048 .f32) : FVec F S4x2048x2048 .f32 := select beforeHeads x zeros

def suffixSums (x : FVec F S4x2048x2048 .f32) : FVec F S4x2048x2048 .f32 :=
  Host.reduceWindowAdd ![1, 1, 2048] ![1, 1, 1] ![0, 0, 0] ![0, 0, 2047] x (broadcastInDim S_ ![] bcast_S_S_ (constant S_ .f32 0x00000000#32))
    reduceWindows_S4x2048x2048_S4x2048x2048_w1s1p0_0_w1s1p0_0_w2048s1p0_2047 h_S_
def prefixSums (x : FVec F S4x2048x2048 .f32) : FVec F S4x2048x2048 .f32 :=
  Host.reduceWindowAdd ![1, 1, 2048] ![1, 1, 1] ![0, 0, 2047] ![0, 0, 0] x (broadcastInDim S_ ![] bcast_S_S_ (constant S_ .f32 0x00000000#32))
    reduceWindows_S4x2048x2048_S4x2048x2048_w1s1p0_0_w1s1p0_0_w2048s1p2047_0 h_S_

/-- The logarithms of what the keys leave, of the negated scores. -/
def keepsOf (n : FVec F S4x2048x2048 .f32) : FVec F S4x2048x2048 .f32 := maskedOf (Host.negf (softplusOf (Host.negf n)))
/-- The weights before the mask. -/
def rawOf (z l : FVec F S4x2048x2048 .f32) : FVec F S4x2048x2048 .f32 :=
  Host.exp (subf (addf (Host.negf (softplusOf (Host.negf z))) (suffixSums l)) l)
/-- The gradients of the weights' logarithms. -/
def gradLogsOf (g : FVec F S4x64x2048 .f32) (v : FVec F S2048x4x64 .f32) (w : FVec F S4x2048x2048 .f32) : FVec F S4x2048x2048 .f32 :=
  mulf (maskedOf (Host.dotGeneral dot_S4x64x2048_S2048x4x64_S4x2048x2048_1_2_2_0_0_1 none g v)) w
/-- The gradients of the scores. -/
def gradScoresOf (e up down : FVec F S4x2048x2048 .f32) : FVec F S4x2048x2048 .f32 :=
  addf (Host.negf (mulf (Host.negf e) up))
    (Host.negf (Host.negf (mulf (Host.negf (maskedOf (addf (Host.negf e) (prefixSums e)))) down)))
def gradRows (d : FVec F S4x2048x2048 .f32) (k : FVec F S2048x4x64 .f32) : FVec F S4x2048x64 .f32 :=
  transpose S4x2048x64 [1, 0, 2] (transpose S2048x4x64 [1, 0, 2] (Host.dotGeneral dot_S4x2048x2048_S2048x4x64_S4x2048x64_2_0_1_2_0_1 none d k)
    transposes_S4x2048x64_S2048x4x64_1_0_2) transposes_S2048x4x64_S4x2048x64_1_0_2
def gradCols (d : FVec F S4x2048x2048 .f32) (q : FVec F S2048x4x64 .f32) : FVec F S4x2048x64 .f32 :=
  transpose S4x2048x64 [1, 0, 2] (transpose S2048x4x64 [1, 0, 2] (Host.dotGeneral dot_S4x2048x2048_S2048x4x64_S4x2048x64_1_0_2_2_0_1 none d q)
    transposes_S4x2048x64_S2048x4x64_1_0_2) transposes_S2048x4x64_S4x2048x64_1_0_2
def gradVals (g : FVec F S4x64x2048 .f32) (w : FVec F S4x2048x2048 .f32) : FVec F S4x2048x64 .f32 :=
  transpose S4x2048x64 [1, 0, 2] (transpose S2048x4x64 [2, 0, 1] (Host.dotGeneral dot_S4x64x2048_S4x2048x2048_S4x64x2048_2_1_1_2_0_0 none g w)
    transposes_S4x64x2048_S2048x4x64_2_0_1) transposes_S2048x4x64_S4x2048x64_1_0_2

/-! ## The stretches -/

section Stretches

variable (W : Valuation τ sig (Elt F))

def st1 : List (HloOp τ sig (Elt F)) := List.take 18 ops
def st2 : List (HloOp τ sig (Elt F)) := List.take 48 (List.drop 18 ops)
def st3 : List (HloOp τ sig (Elt F)) := List.take 7 (List.drop 66 ops)
def st4 : List (HloOp τ sig (Elt F)) := List.take 48 (List.drop 73 ops)
def st5 : List (HloOp τ sig (Elt F)) := List.take 13 (List.drop 121 ops)
def st6 : List (HloOp τ sig (Elt F)) := List.take 12 (List.drop 134 ops)
def st7 : List (HloOp τ sig (Elt F)) := List.drop 146 ops

theorem ops_cut : (ops : List (HloOp τ sig (Elt F))) = st1 ++ (st2 ++ (st3 ++ (st4 ++ (st5 ++ (st6 ++ st7))))) := rfl

theorem st1_v5 : after st1 W (Proc.devRef .tc main_v5) = queriesOf (W (Proc.devRef .tc main_arg0)) := by
  simp only [st1, ops, List.take_succ_cons, List.take_zero]; after_reads_simp; rfl
theorem st1_v6 : after st1 W (Proc.devRef .tc main_v6) = keysOf (W (Proc.devRef .tc main_arg0)) := by
  simp only [st1, ops, List.take_succ_cons, List.take_zero]; after_reads_simp; rfl
theorem st1_v7 : after st1 W (Proc.devRef .tc main_v7) = valuesOf (W (Proc.devRef .tc main_arg0)) := by
  simp only [st1, ops, List.take_succ_cons, List.take_zero]; after_reads_simp; rfl
theorem st1_v8 : after st1 W (Proc.devRef .tc main_v8)
    = scoresOf (queriesOf (W (Proc.devRef .tc main_arg0))) (keysOf (W (Proc.devRef .tc main_arg0))) := by
  simp only [st1, ops, List.take_succ_cons, List.take_zero]; after_reads_simp; rfl
theorem st1_v15 : after st1 W (Proc.devRef .tc main_v15) = before := by
  simp only [st1, ops, List.take_succ_cons, List.take_zero]; after_reads_simp; rfl
theorem st1_v16 : after st1 W (Proc.devRef .tc main_v16)
    = Host.negf (scoresOf (queriesOf (W (Proc.devRef .tc main_arg0))) (keysOf (W (Proc.devRef .tc main_arg0)))) := by
  simp only [st1, ops, List.take_succ_cons, List.take_zero]; after_reads_simp; rfl
theorem st1_arg1 : after st1 W (Proc.devRef .tc main_arg1) = W (Proc.devRef .tc main_arg1) := by
  simp only [st1, ops, List.take_succ_cons, List.take_zero]; after_reads_simp

theorem st2_v17_0 : after st2 W (Proc.devRef .tc main_v17_0) = Host.negf (softplusOf (Host.negf (W (Proc.devRef .tc main_v16)))) := by
  simp only [st2, ops, List.drop_succ_cons, List.drop_zero, List.take_succ_cons, List.take_zero]; after_reads_simp; rfl
theorem st2_v17_1 : after st2 W (Proc.devRef .tc main_v17_1) = softplusSlope (Host.negf (W (Proc.devRef .tc main_v16))) := by
  simp only [st2, ops, List.drop_succ_cons, List.drop_zero, List.take_succ_cons, List.take_zero]; after_reads_simp; rfl
theorem st2_keeps : after st2 W (Proc.devRef .tc main_v5) = W (Proc.devRef .tc main_v5)
    ∧ after st2 W (Proc.devRef .tc main_v6) = W (Proc.devRef .tc main_v6)
    ∧ after st2 W (Proc.devRef .tc main_v7) = W (Proc.devRef .tc main_v7)
    ∧ after st2 W (Proc.devRef .tc main_v8) = W (Proc.devRef .tc main_v8)
    ∧ after st2 W (Proc.devRef .tc main_v15) = W (Proc.devRef .tc main_v15)
    ∧ after st2 W (Proc.devRef .tc main_arg1) = W (Proc.devRef .tc main_arg1) := by
  simp only [st2, ops, List.drop_succ_cons, List.drop_zero, List.take_succ_cons, List.take_zero]
  refine ⟨?_, ?_, ?_, ?_, ?_, ?_⟩ <;> after_reads_simp

theorem st3_v18_0 (h : W (Proc.devRef .tc main_v15) = before) : after st3 W (Proc.devRef .tc main_v18_0) = maskedOf (W (Proc.devRef .tc main_v17_0)) := by
  simp only [st3, ops, List.drop_succ_cons, List.drop_zero, List.take_succ_cons, List.take_zero]; after_reads_simp; rw [h]; rfl
theorem st3_v18_1 (h : W (Proc.devRef .tc main_v15) = before) : after st3 W (Proc.devRef .tc main_v18_1) = beforeHeads := by
  simp only [st3, ops, List.drop_succ_cons, List.drop_zero, List.take_succ_cons, List.take_zero]; after_reads_simp; rw [h]; rfl
theorem st3_keeps : after st3 W (Proc.devRef .tc main_v5) = W (Proc.devRef .tc main_v5)
    ∧ after st3 W (Proc.devRef .tc main_v6) = W (Proc.devRef .tc main_v6)
    ∧ after st3 W (Proc.devRef .tc main_v7) = W (Proc.devRef .tc main_v7)
    ∧ after st3 W (Proc.devRef .tc main_v8) = W (Proc.devRef .tc main_v8)
    ∧ after st3 W (Proc.devRef .tc main_v15) = W (Proc.devRef .tc main_v15)
    ∧ after st3 W (Proc.devRef .tc main_arg1) = W (Proc.devRef .tc main_arg1)
    ∧ after st3 W (Proc.devRef .tc main_v17_1) = W (Proc.devRef .tc main_v17_1) := by
  simp only [st3, ops, List.drop_succ_cons, List.drop_zero, List.take_succ_cons, List.take_zero]
  refine ⟨?_, ?_, ?_, ?_, ?_, ?_, ?_⟩ <;> after_reads_simp

theorem st4_v19_0 : after st4 W (Proc.devRef .tc main_v19_0) = Host.negf (softplusOf (Host.negf (W (Proc.devRef .tc main_v8)))) := by
  simp only [st4, ops, List.drop_succ_cons, List.drop_zero, List.take_succ_cons, List.take_zero]; after_reads_simp; rfl
theorem st4_v19_1 : after st4 W (Proc.devRef .tc main_v19_1) = softplusSlope (Host.negf (W (Proc.devRef .tc main_v8))) := by
  simp only [st4, ops, List.drop_succ_cons, List.drop_zero, List.take_succ_cons, List.take_zero]; after_reads_simp; rfl
theorem st4_keeps : after st4 W (Proc.devRef .tc main_v5) = W (Proc.devRef .tc main_v5)
    ∧ after st4 W (Proc.devRef .tc main_v6) = W (Proc.devRef .tc main_v6)
    ∧ after st4 W (Proc.devRef .tc main_v7) = W (Proc.devRef .tc main_v7)
    ∧ after st4 W (Proc.devRef .tc main_v15) = W (Proc.devRef .tc main_v15)
    ∧ after st4 W (Proc.devRef .tc main_arg1) = W (Proc.devRef .tc main_arg1)
    ∧ after st4 W (Proc.devRef .tc main_v17_1) = W (Proc.devRef .tc main_v17_1)
    ∧ after st4 W (Proc.devRef .tc main_v18_0) = W (Proc.devRef .tc main_v18_0)
    ∧ after st4 W (Proc.devRef .tc main_v18_1) = W (Proc.devRef .tc main_v18_1) := by
  simp only [st4, ops, List.drop_succ_cons, List.drop_zero, List.take_succ_cons, List.take_zero]
  refine ⟨?_, ?_, ?_, ?_, ?_, ?_, ?_, ?_⟩ <;> after_reads_simp

/-- The weights before the mask, of the scores' logistic logarithms and the keys' logarithms. -/
def rawFrom (a l : FVec F S4x2048x2048 .f32) : FVec F S4x2048x2048 .f32 := Host.exp (subf (addf a (suffixSums l)) l)

theorem st5_v23 : after st5 W (Proc.devRef .tc main_v23) = rawFrom (W (Proc.devRef .tc main_v19_0)) (W (Proc.devRef .tc main_v18_0)) := by
  simp only [st5, ops, List.drop_succ_cons, List.drop_zero, List.take_succ_cons, List.take_zero]; after_reads_simp; rfl
theorem st5_v24_0 (h : W (Proc.devRef .tc main_v15) = before) : after st5 W (Proc.devRef .tc main_v24_0)
    = maskedOf (rawFrom (W (Proc.devRef .tc main_v19_0)) (W (Proc.devRef .tc main_v18_0))) := by
  simp only [st5, ops, List.drop_succ_cons, List.drop_zero, List.take_succ_cons, List.take_zero]; after_reads_simp; rw [h]; rfl
theorem st5_v24_1 (h : W (Proc.devRef .tc main_v15) = before) : after st5 W (Proc.devRef .tc main_v24_1) = beforeHeads := by
  simp only [st5, ops, List.drop_succ_cons, List.drop_zero, List.take_succ_cons, List.take_zero]; after_reads_simp; rw [h]; rfl
theorem st5_keeps : after st5 W (Proc.devRef .tc main_v5) = W (Proc.devRef .tc main_v5)
    ∧ after st5 W (Proc.devRef .tc main_v6) = W (Proc.devRef .tc main_v6)
    ∧ after st5 W (Proc.devRef .tc main_v7) = W (Proc.devRef .tc main_v7)
    ∧ after st5 W (Proc.devRef .tc main_arg1) = W (Proc.devRef .tc main_arg1)
    ∧ after st5 W (Proc.devRef .tc main_v17_1) = W (Proc.devRef .tc main_v17_1)
    ∧ after st5 W (Proc.devRef .tc main_v19_1) = W (Proc.devRef .tc main_v19_1)
    ∧ after st5 W (Proc.devRef .tc main_v18_1) = W (Proc.devRef .tc main_v18_1) := by
  simp only [st5, ops, List.drop_succ_cons, List.drop_zero, List.take_succ_cons, List.take_zero]
  refine ⟨?_, ?_, ?_, ?_, ?_, ?_, ?_⟩ <;> after_reads_simp

theorem st6_v31 : after st6 W (Proc.devRef .tc main_v31)
    = transpose S2048x4x64 [2, 0, 1] (Host.dotGeneral dot_S4x64x2048_S4x2048x2048_S4x64x2048_2_1_1_2_0_0 none (outsOf (W (Proc.devRef .tc main_arg1)))
        (W (Proc.devRef .tc main_v24_0))) transposes_S4x64x2048_S2048x4x64_2_0_1 := by
  simp only [st6, ops, List.drop_succ_cons, List.drop_zero, List.take_succ_cons, List.take_zero]; after_reads_simp; rfl
theorem st6_v33 (h : W (Proc.devRef .tc main_v24_1) = beforeHeads) : after st6 W (Proc.devRef .tc main_v33)
    = gradLogsOf (outsOf (W (Proc.devRef .tc main_arg1))) (W (Proc.devRef .tc main_v7)) (W (Proc.devRef .tc main_v23)) := by
  simp only [st6, ops, List.drop_succ_cons, List.drop_zero, List.take_succ_cons, List.take_zero]; after_reads_simp; rw [h]; rfl
theorem st6_v34 (h : W (Proc.devRef .tc main_v24_1) = beforeHeads) : after st6 W (Proc.devRef .tc main_v34)
    = Host.negf (gradLogsOf (outsOf (W (Proc.devRef .tc main_arg1))) (W (Proc.devRef .tc main_v7)) (W (Proc.devRef .tc main_v23))) := by
  simp only [st6, ops, List.drop_succ_cons, List.drop_zero, List.take_succ_cons, List.take_zero]; after_reads_simp; rw [h]; rfl
theorem st6_keeps : after st6 W (Proc.devRef .tc main_v5) = W (Proc.devRef .tc main_v5)
    ∧ after st6 W (Proc.devRef .tc main_v6) = W (Proc.devRef .tc main_v6)
    ∧ after st6 W (Proc.devRef .tc main_v17_1) = W (Proc.devRef .tc main_v17_1)
    ∧ after st6 W (Proc.devRef .tc main_v19_1) = W (Proc.devRef .tc main_v19_1)
    ∧ after st6 W (Proc.devRef .tc main_v18_1) = W (Proc.devRef .tc main_v18_1) := by
  simp only [st6, ops, List.drop_succ_cons, List.drop_zero, List.take_succ_cons, List.take_zero]
  refine ⟨?_, ?_, ?_, ?_, ?_⟩ <;> after_reads_simp

theorem st7_v46 (h : W (Proc.devRef .tc main_v18_1) = beforeHeads) (h' : W (Proc.devRef .tc main_v34) = Host.negf (W (Proc.devRef .tc main_v33))) :
    after st7 W (Proc.devRef .tc main_v46)
    = gradRows (gradScoresOf (W (Proc.devRef .tc main_v33)) (W (Proc.devRef .tc main_v19_1)) (W (Proc.devRef .tc main_v17_1))) (W (Proc.devRef .tc main_v6)) := by
  simp only [st7, ops, List.drop_succ_cons, List.drop_zero]; after_reads_simp; rw [h, h']; rfl
theorem st7_v47 (h : W (Proc.devRef .tc main_v18_1) = beforeHeads) (h' : W (Proc.devRef .tc main_v34) = Host.negf (W (Proc.devRef .tc main_v33))) :
    after st7 W (Proc.devRef .tc main_v47)
    = gradCols (gradScoresOf (W (Proc.devRef .tc main_v33)) (W (Proc.devRef .tc main_v19_1)) (W (Proc.devRef .tc main_v17_1))) (W (Proc.devRef .tc main_v5)) := by
  simp only [st7, ops, List.drop_succ_cons, List.drop_zero]; after_reads_simp; rw [h, h']; rfl
theorem st7_v48 : after st7 W (Proc.devRef .tc main_v48)
    = transpose S4x2048x64 [1, 0, 2] (W (Proc.devRef .tc main_v31)) transposes_S2048x4x64_S4x2048x64_1_0_2 := by
  simp only [st7, ops, List.drop_succ_cons, List.drop_zero]; after_reads_simp

end Stretches

end Cert.ReferenceIdeal.Value

end
-- ==== Proof.RefRun.lean ====
/-
  What the reference's run leaves, in named steps.
-/
module

public import proofs.«01_k».proof.Proof.RefRead

@[expose] public section

set_option maxRecDepth 8192

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The scores of a projection. -/
def scoresAt (p : S2048x768.Idx → F .f32) : FVec F S4x2048x2048 .f32 := scoresOf (queriesOf p) (keysOf p)
/-- The weights before the mask. -/
def rawAt (p : S2048x768.Idx → F .f32) : FVec F S4x2048x2048 .f32 := rawOf (scoresAt p) (keepsOf (Host.negf (scoresAt p)))
/-- The gradients of the weights' logarithms. -/
def gradLogsAt (p : S2048x768.Idx → F .f32) (g : S2048x256.Idx → F .f32) : FVec F S4x2048x2048 .f32 :=
  gradLogsOf (outsOf g) (valuesOf p) (rawAt p)
/-- The gradients of the scores. -/
def gradScoresAt (p : S2048x768.Idx → F .f32) (g : S2048x256.Idx → F .f32) : FVec F S4x2048x2048 .f32 :=
  gradScoresOf (gradLogsAt p g) (softplusSlope (Host.negf (scoresAt p))) (softplusSlope (Host.negf (Host.negf (scoresAt p))))

section Reads

variable (W : Valuation τ sig (Elt F))

/-- The buffers after the first four stretches. -/
theorem upto4 : ∃ U : Valuation τ sig (Elt F), after st4 (after st3 (after st2 (after st1 W))) = U
    ∧ U (Proc.devRef .tc main_v5) = queriesOf (W (Proc.devRef .tc main_arg0))
    ∧ U (Proc.devRef .tc main_v6) = keysOf (W (Proc.devRef .tc main_arg0))
    ∧ U (Proc.devRef .tc main_v7) = valuesOf (W (Proc.devRef .tc main_arg0))
    ∧ U (Proc.devRef .tc main_v15) = before
    ∧ U (Proc.devRef .tc main_arg1) = W (Proc.devRef .tc main_arg1)
    ∧ U (Proc.devRef .tc main_v17_1) = softplusSlope (Host.negf (Host.negf (scoresAt (W (Proc.devRef .tc main_arg0)))))
    ∧ U (Proc.devRef .tc main_v18_0) = keepsOf (Host.negf (scoresAt (W (Proc.devRef .tc main_arg0))))
    ∧ U (Proc.devRef .tc main_v18_1) = beforeHeads
    ∧ U (Proc.devRef .tc main_v19_0) = Host.negf (softplusOf (Host.negf (scoresAt (W (Proc.devRef .tc main_arg0)))))
    ∧ U (Proc.devRef .tc main_v19_1) = softplusSlope (Host.negf (scoresAt (W (Proc.devRef .tc main_arg0)))) := by
  refine ⟨_, rfl, ?_⟩
  have a15 := st1_v15 W
  have a16 := st1_v16 W
  have a5 := st1_v5 W
  have a6 := st1_v6 W
  have a7 := st1_v7 W
  have a8 := st1_v8 W
  have a1 := st1_arg1 W
  generalize after st1 W = W1 at *
  obtain ⟨b5, b6, b7, b8, b15, b1⟩ := st2_keeps W1
  have b17 := st2_v17_0 W1
  have b17' := st2_v17_1 W1
  rw [a5] at b5; rw [a6] at b6; rw [a7] at b7; rw [a8] at b8; rw [a15] at b15; rw [a1] at b1; rw [a16] at b17 b17'
  generalize after st2 W1 = W2 at *
  obtain ⟨c5, c6, c7, c8, c15, c1, c17⟩ := st3_keeps W2
  have c18 := st3_v18_0 W2 b15
  have c18' := st3_v18_1 W2 b15
  rw [b5] at c5; rw [b6] at c6; rw [b7] at c7; rw [b8] at c8; rw [b15] at c15; rw [b1] at c1; rw [b17'] at c17; rw [b17] at c18
  generalize after st3 W2 = W3 at *
  obtain ⟨d5, d6, d7, d15, d1, d17, d18, d18'⟩ := st4_keeps W3
  have d19 := st4_v19_0 W3
  have d19' := st4_v19_1 W3
  rw [c5] at d5; rw [c6] at d6; rw [c7] at d7; rw [c15] at d15; rw [c1] at d1; rw [c17] at d17; rw [c18] at d18; rw [c18'] at d18'; rw [c8] at d19 d19'
  exact ⟨d5, d6, d7, d15, d1, d17, d18, d18', d19, d19'⟩

theorem reads : after ops W (Proc.devRef .tc main_v46)
      = gradRows (gradScoresAt (W (Proc.devRef .tc main_arg0)) (W (Proc.devRef .tc main_arg1))) (keysOf (W (Proc.devRef .tc main_arg0)))
    ∧ after ops W (Proc.devRef .tc main_v47)
      = gradCols (gradScoresAt (W (Proc.devRef .tc main_arg0)) (W (Proc.devRef .tc main_arg1))) (queriesOf (W (Proc.devRef .tc main_arg0)))
    ∧ after ops W (Proc.devRef .tc main_v48)
      = gradVals (outsOf (W (Proc.devRef .tc main_arg1))) (maskedOf (rawAt (W (Proc.devRef .tc main_arg0)))) := by
  rw [ops_cut]
  simp only [after_append]
  obtain ⟨U, hU, d5, d6, d7, d15, d1, d17, d18, d18', d19, d19'⟩ := upto4 W
  rw [hU]
  obtain ⟨e5, e6, e7, e1, e17, e19, e18⟩ := st5_keeps U
  have e23 := st5_v23 U
  have e24 := st5_v24_0 U d15
  have e24' := st5_v24_1 U d15
  rw [d5] at e5; rw [d6] at e6; rw [d7] at e7; rw [d1] at e1; rw [d17] at e17; rw [d19'] at e19; rw [d18'] at e18
  rw [d19, d18] at e23 e24
  generalize after st5 U = W5 at *
  obtain ⟨f5, f6, f17, f19, f18⟩ := st6_keeps W5
  have f31 := st6_v31 W5
  have f33 := st6_v33 W5 e24'
  have f34 := (st6_v34 W5 e24').trans (congrArg Host.negf f33.symm)
  rw [e5] at f5; rw [e6] at f6; rw [e17] at f17; rw [e19] at f19; rw [e18] at f18; rw [e1, e24] at f31; rw [e1, e7, e23] at f33
  generalize after st6 W5 = W6 at *
  refine ⟨?_, ?_, ?_⟩
  · rw [st7_v46 W6 f18 f34, f33, f19, f17, f6]; rfl
  · rw [st7_v47 W6 f18 f34, f33, f19, f17, f5]; rfl
  · rw [st7_v48 W6, f31]; rfl

end Reads

/-- The reference's run: its three results, and its arguments as they were. -/
theorem run_steps (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
        = gradRows (gradScoresAt (m ((c.tc : Thread nD τ).loc main_arg0)) (m ((c.tc : Thread nD τ).loc main_arg1))) (keysOf (m ((c.tc : Thread nD τ).loc main_arg0)))
      ∧ r.2.mem ((c.tc : Thread nD τ).loc main_v47)
        = gradCols (gradScoresAt (m ((c.tc : Thread nD τ).loc main_arg0)) (m ((c.tc : Thread nD τ).loc main_arg1))) (queriesOf (m ((c.tc : Thread nD τ).loc main_arg0)))
      ∧ r.2.mem ((c.tc : Thread nD τ).loc main_v48)
        = gradVals (outsOf (m ((c.tc : Thread nD τ).loc main_arg1))) (maskedOf (rawAt (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v46).trans (reads (launchContents m c)).1,
      (h c main_v47).trans (reads (launchContents m c)).2.1, (h c main_v48).trans (reads (launchContents m c)).2.2,
      (h c main_arg0).trans (by after_reads_simp), (h c main_arg1).trans (by after_reads_simp)⟩)
    (run_seq scopedRefs_eq scopedSems_eq defs main (fun _ => ops) main_eq (fun _ => ops_sub) m ρ)

end Cert.ReferenceIdeal.Value

end
-- ==== Proof.RunningSum.lean ====
/-
  Running sums along the last axis of an array of three axes, as a sum over a window of the axis's whole length.
-/
module

public import Idealize.ShloMosaic.Lib.Pointwise
public import Idealize.ShloMosaic.PureOps.Ideal
public import Mathlib.Algebra.BigOperators.Fin

@[expose] public section

namespace Cert.StickBreaking

open Idealize.ShloMosaic

/-- Adding up one by one from nothing is the sum. -/
theorem foldl_sum {n : ℕ} (g : Fin n → EReal) : (List.finRange n).foldl (fun r i => r + g i) 0 = ∑ i, g i := by
  rw [Fin.sum_univ_def, List.sum_eq_foldl, List.foldl_map]

variable {A R N : ℕ}

/-- The window's positions are the axis's. -/
def windowEquiv (N : ℕ) : (Shape.mk 3 ![1, 1, N]).Idx ≃ Fin N where
  toFun y := y 2
  invFun x := ix3 (0 : Fin 1) (0 : Fin 1) x
  left_inv y := by
    funext a
    match a with
    | ⟨0, _⟩ => exact Subsingleton.elim (α := Fin 1) _ _
    | ⟨1, _⟩ => exact Subsingleton.elim (α := Fin 1) _ _
    | ⟨2, _⟩ => rfl
  right_inv x := rfl

/-- The window sum as a sum over the axis's positions. -/
theorem window_sum (lo hi : ℕ) (x : (Shape.mk 3 ![A, R, N]).Idx → EReal)
    (h : (Shape.mk 3 ![A, R, N]).ReduceWindows (![1, 1, N] : Fin 3 → ℕ) ![1, 1, 1] ![0, 0, lo] ![0, 0, hi] ⟨3, ![A, R, N]⟩)
    (a : Fin A) (r : Fin R) (s : Fin N) :
    Ideal.hostReduceWindowAdd (![1, 1, N] : Fin 3 → ℕ) ![1, 1, 1] ![0, 0, lo] ![0, 0, hi] h x 0 (ix3 a r s)
      = ∑ y : Fin N, if hy : lo ≤ s + y ∧ s + y - lo < N then x (ix3 a r ⟨s + y - lo, hy.2⟩) else 0 := by
  unfold Ideal.hostReduceWindowAdd Host.reduceWindow
  dsimp only
  rw [foldl_sum]
  rw [← (windowEquiv N).sum_comp, ← (Shape.mk 3 ![1, 1, N]).rowMajor.symm.sum_comp]
  refine Finset.sum_congr rfl fun n _ => ?_
  let y := (Shape.mk 3 ![1, 1, N]).rowMajor.symm n
  have h0 : (y 0).val = 0 := Nat.lt_one_iff.1 (y 0).isLt
  have h1 : (y 1).val = 0 := Nat.lt_one_iff.1 (y 1).isLt
  have hiff : (∀ b : Fin 3, (![0, 0, lo] : Fin 3 → ℕ) b ≤ (ix3 a r s b).val * (![1, 1, 1] : Fin 3 → ℕ) b + (y b).val
      ∧ (ix3 a r s b).val * (![1, 1, 1] : Fin 3 → ℕ) b + (y b).val - (![0, 0, lo] : Fin 3 → ℕ) b < (![A, R, N] : Fin 3 → ℕ) b)
      ↔ lo ≤ s.val + (y 2).val ∧ s.val + (y 2).val - lo < N := by
    constructor
    · intro hb
      have := hb 2
      change lo ≤ s.val * 1 + (y 2).val ∧ s.val * 1 + (y 2).val - lo < N at this
      rwa [Nat.mul_one] at this
    · intro hb b
      match b with
      | ⟨0, _⟩ => show 0 ≤ a.val * 1 + (y 0).val ∧ a.val * 1 + (y 0).val - 0 < A; rw [h0]; have := a.isLt; omega
      | ⟨1, _⟩ => show 0 ≤ r.val * 1 + (y 1).val ∧ r.val * 1 + (y 1).val - 0 < R; rw [h1]; have := r.isLt; omega
      | ⟨2, _⟩ => show lo ≤ s.val * 1 + (y 2).val ∧ s.val * 1 + (y 2).val - lo < N; rwa [Nat.mul_one]
  by_cases hb : lo ≤ s.val + (y 2).val ∧ s.val + (y 2).val - lo < N
  · refine (dif_pos (hiff.2 hb)).trans (Eq.trans ?_ (dif_pos hb).symm)
    refine congrArg x (funext fun b => Fin.ext ?_)
    match b with
    | ⟨0, _⟩ => show a.val * 1 + (y 0).val - 0 = a.val; rw [h0]; omega
    | ⟨1, _⟩ => show r.val * 1 + (y 1).val - 0 = r.val; rw [h1]; omega
    | ⟨2, _⟩ => show s.val * 1 + (y 2).val - lo = s.val + (y 2).val - lo; rw [Nat.mul_one]
  · exact (dif_neg fun hh => hb (hiff.1 hh)).trans (Eq.symm (dif_neg (by exact hb)))

/-- The sum from a position on, of real numbers. -/
theorem suffix_sum (hi : ℕ) (x : (Shape.mk 3 ![A, R, N]).Idx → EReal)
    (h : (Shape.mk 3 ![A, R, N]).ReduceWindows (![1, 1, N] : Fin 3 → ℕ) ![1, 1, 1] ![0, 0, 0] ![0, 0, hi] ⟨3, ![A, R, N]⟩)
    (a : Fin A) (r : Fin R) (f : ℕ → EReal) (hf : ∀ j : Fin N, x (ix3 a r j) = f j) (s : Fin N) :
    Ideal.hostReduceWindowAdd (![1, 1, N] : Fin 3 → ℕ) ![1, 1, 1] ![0, 0, 0] ![0, 0, hi] h x 0 (ix3 a r s)
      = ∑ j ∈ Finset.Ico s.val N, f j := by
  rw [window_sum]
  have e : ∀ y : Fin N, (if hy : 0 ≤ s.val + y.val ∧ s.val + y.val - 0 < N then x (ix3 a r ⟨s.val + y.val - 0, hy.2⟩) else 0)
      = (fun y : ℕ => if s.val + y < N then f (s.val + y) else 0) y := fun y => by
    by_cases hy : s.val + y.val < N
    · rw [dif_pos ⟨Nat.zero_le _, hy⟩, hf]; exact (if_pos hy).symm
    · rw [dif_neg fun h => hy h.2]; exact (if_neg hy).symm
  rw [Finset.sum_congr rfl fun y _ => e y, Fin.sum_univ_eq_sum_range (fun y => if s.val + y < N then f (s.val + y) else 0) N,
    ← Finset.sum_filter, Finset.sum_Ico_eq_sum_range]
  refine Finset.sum_congr (Finset.ext fun n => ?_) fun _ _ => rfl
  rw [Finset.mem_filter, Finset.mem_range, Finset.mem_range]
  omega

/-- The sum up to a position, of real numbers. -/
theorem prefix_sum (lo : ℕ) (hlo : lo + 1 = N) (x : (Shape.mk 3 ![A, R, N]).Idx → EReal)
    (h : (Shape.mk 3 ![A, R, N]).ReduceWindows (![1, 1, N] : Fin 3 → ℕ) ![1, 1, 1] ![0, 0, lo] ![0, 0, 0] ⟨3, ![A, R, N]⟩)
    (a : Fin A) (r : Fin R) (f : ℕ → EReal) (hf : ∀ j : Fin N, x (ix3 a r j) = f j) (s : Fin N) :
    Ideal.hostReduceWindowAdd (![1, 1, N] : Fin 3 → ℕ) ![1, 1, 1] ![0, 0, lo] ![0, 0, 0] h x 0 (ix3 a r s)
      = ∑ j ∈ Finset.range (s.val + 1), f j := by
  rw [window_sum]
  have hs := s.isLt
  have e : ∀ y : Fin N, (if hy : lo ≤ s.val + y.val ∧ s.val + y.val - lo < N then x (ix3 a r ⟨s.val + y.val - lo, hy.2⟩) else 0)
      = (fun y : ℕ => if lo ≤ s.val + y then f (s.val + y - lo) else 0) y := fun y => by
    have hy' := y.isLt
    by_cases hy : lo ≤ s.val + y.val
    · rw [dif_pos ⟨hy, by omega⟩, hf]; exact (if_pos hy).symm
    · rw [dif_neg fun h => hy h.1]; exact (if_neg hy).symm
  rw [Finset.sum_congr rfl fun y _ => e y, Fin.sum_univ_eq_sum_range (fun y => if lo ≤ s.val + y then f (s.val + y - lo) else 0) N,
    ← Finset.sum_filter]
  refine Finset.sum_nbij' (fun y => s.val + y - lo) (fun j => j + lo - s.val) ?_ ?_ ?_ ?_ fun _ _ => rfl
  all_goals intro y hy; simp only [Finset.mem_filter, Finset.mem_range] at hy ⊢; omega

end Cert.StickBreaking
-- ==== Proof.RefValue.lean ====
/-
  The reference's results as real numbers.
-/
module

public import proofs.«01_k».proof.Proof.RefRun
public import proofs.«01_k».proof.Proof.Entries
public import proofs.«01_k».proof.Proof.RunningSum

@[expose] public section

set_option maxRecDepth 8192

noncomputable section

namespace Cert.ReferenceIdeal.Value

open Cert.ReferenceIdeal Cert.ReferenceIdeal.Gen Idealize.ShloMosaic Cert.StickBreaking

/-! ## Each step at an index -/

theorem queries_at (p : FVec Ideal S2048x768 .f32) (t : Fin 2048) (h : Fin 4) (d : Fin 64) :
    queriesOf (F := Ideal) p (ix3 t h d) = p (ix2 t (⟨h * 64 + d, by omega⟩ : Fin 768)) * ((1 / 8 : ℝ) : EReal) := by
  rw [← eighth]; pointwise [queriesOf]
theorem keys_at (p : FVec Ideal S2048x768 .f32) (t : Fin 2048) (h : Fin 4) (d : Fin 64) :
    keysOf (F := Ideal) p (ix3 t h d) = p (ix2 t (⟨256 + (h * 64 + d), by omega⟩ : Fin 768)) := by
  pointwise [keysOf]
theorem values_at (p : FVec Ideal S2048x768 .f32) (t : Fin 2048) (h : Fin 4) (d : Fin 64) :
    valuesOf (F := Ideal) p (ix3 t h d) = p (ix2 t (⟨512 + (h * 64 + d), by omega⟩ : Fin 768)) := by
  pointwise [valuesOf]
theorem outs_at (p : FVec Ideal S2048x256 .f32) (t : Fin 2048) (h : Fin 4) (d : Fin 64) :
    outsOf (F := Ideal) p (ix3 h d t) = p (ix2 t (⟨h * 64 + d, by omega⟩ : Fin 256)) := by
  pointwise [outsOf]
theorem scores_at (q k : FVec Ideal S2048x4x64 .f32) (h : Fin 4) (t s : Fin 2048) :
    scoresOf (F := Ideal) q k (ix3 h t s) = ∑ d : Fin 64, q (ix3 t h d) * k (ix3 s h d) := by
  pointwise [scoresOf]
theorem before_at (h : Fin 4) (t s : Fin 2048) : beforeHeads (ix3 h t s) = if (s : ℕ) < t then 1#1 else 0#1 := by
  rw [← slt_ite (by omega) (by omega)]; pointwise [beforeHeads, before]
theorem masked_at (x : FVec Ideal S4x2048x2048 .f32) (h : Fin 4) (t s : Fin 2048) :
    maskedOf x (ix3 h t s) = if (s : ℕ) < t then x (ix3 h t s) else 0 := by
  rw [← select_ite, ← before_at h t s]; pointwise [maskedOf, zeros]
theorem negf_at (x : FVec Ideal S4x2048x2048 .f32) (h : Fin 4) (t s : Fin 2048) : Host.negf x (ix3 h t s) = -x (ix3 h t s) := by pointwise

theorem softplus_at {x : FVec Ideal S4x2048x2048 .f32} {h : Fin 4} {t s : Fin 2048} {z : ℝ} (hz : x (ix3 h t s) = z) :
    softplusOf x (ix3 h t s) = (softplus z : EReal) := by
  have e : softplusOf x (ix3 h t s) = if x (ix3 h t s) ≠ x (ix3 h t s) then x (ix3 h t s)
      else max (x (ix3 h t s)) 0 + Ideal.log1p (Ideal.exp (-FloatOps.absf (F := Ideal) (φ := .f32) (x (ix3 h t s)))) := by pointwise [softplusOf, zeros]
  rw [e, if_neg (fun hn => hn rfl), hz, softplus_coe]
theorem slope_at {x : FVec Ideal S4x2048x2048 .f32} {h : Fin 4} {t s : Fin 2048} {z : ℝ} (hz : x (ix3 h t s) = z) :
    softplusSlope x (ix3 h t s) = (sigma z : EReal) := by
  have e : softplusSlope x (ix3 h t s) = Ideal.exp ((if x (ix3 h t s) = Ideal.ofBits .f32 0x7F800000#32 then 0 else x (ix3 h t s))
      - if softplusOf x (ix3 h t s) = Ideal.ofBits .f32 0x7F800000#32 then 0 else softplusOf x (ix3 h t s)) := by pointwise [softplusSlope, zeros, infs]
  rw [e, softplus_at hz, hz, top_bits, if_neg (EReal.coe_ne_top _), if_neg (EReal.coe_ne_top _), ← EReal.coe_sub, Ideal.exp_coe, exp_sub_softplus]

theorem suffix_at (x : FVec Ideal S4x2048x2048 .f32) (h : Fin 4) (t : Fin 2048) (f : ℕ → ℝ) (hf : ∀ j : Fin 2048, x (ix3 h t j) = f j) (s : Fin 2048) :
    suffixSums x (ix3 h t s) = ((∑ j ∈ Finset.Ico s.val 2048, f j : ℝ) : EReal) := by
  have z : broadcastInDim S_ ![] bcast_S_S_ (constant (F := Ideal) S_ .f32 0x00000000#32) (Shape.Idx.first h_S_) = 0 := by pointwise
  unfold suffixSums Host.reduceWindowAdd
  rw [z, Ideal.hostReduceWindowAdd_def]
  exact (suffix_sum 2047 x _ h t (fun j => ((f j : ℝ) : EReal)) hf s).trans (coe_sum _ _)
theorem prefix_at (x : FVec Ideal S4x2048x2048 .f32) (h : Fin 4) (t : Fin 2048) (f : ℕ → ℝ) (hf : ∀ j : Fin 2048, x (ix3 h t j) = f j) (s : Fin 2048) :
    prefixSums x (ix3 h t s) = ((∑ j ∈ Finset.range (s.val + 1), f j : ℝ) : EReal) := by
  have z : broadcastInDim S_ ![] bcast_S_S_ (constant (F := Ideal) S_ .f32 0x00000000#32) (Shape.Idx.first h_S_) = 0 := by pointwise
  unfold prefixSums Host.reduceWindowAdd
  rw [z, Ideal.hostReduceWindowAdd_def]
  exact (prefix_sum 2047 rfl x _ h t (fun j => ((f j : ℝ) : EReal)) hf s).trans (coe_sum _ _)

theorem raw_at (z l : FVec Ideal S4x2048x2048 .f32) (h : Fin 4) (t s : Fin 2048) :
    rawOf z l (ix3 h t s) = Ideal.exp (-softplusOf (Host.negf z) (ix3 h t s) + suffixSums l (ix3 h t s) - l (ix3 h t s)) := by
  pointwise [rawOf]
theorem gradLogs_at (g : FVec Ideal S4x64x2048 .f32) (v : FVec Ideal S2048x4x64 .f32) (w : FVec Ideal S4x2048x2048 .f32) (h : Fin 4) (t s : Fin 2048) :
    gradLogsOf g v w (ix3 h t s) = (if (s : ℕ) < t then ∑ d : Fin 64, g (ix3 h d t) * v (ix3 s h d) else 0) * w (ix3 h t s) := by
  have e : gradLogsOf g v w (ix3 h t s) = maskedOf (Host.dotGeneral dot_S4x64x2048_S2048x4x64_S4x2048x2048_1_2_2_0_0_1 none g v) (ix3 h t s) * w (ix3 h t s) := by
    pointwise [gradLogsOf]
  have e' : Host.dotGeneral dot_S4x64x2048_S2048x4x64_S4x2048x2048_1_2_2_0_0_1 none g v (ix3 h t s) = ∑ d : Fin 64, g (ix3 h d t) * v (ix3 s h d) := by pointwise
  rw [e, masked_at, e']
theorem gradScores_at (e up down : FVec Ideal S4x2048x2048 .f32) (h : Fin 4) (t s : Fin 2048) :
    gradScoresOf e up down (ix3 h t s) = -(-e (ix3 h t s) * up (ix3 h t s))
      + -(-(-(if (s : ℕ) < t then -e (ix3 h t s) + prefixSums e (ix3 h t s) else 0) * down (ix3 h t s))) := by
  have a : gradScoresOf e up down (ix3 h t s) = -(-e (ix3 h t s) * up (ix3 h t s))
      + -(-(-(maskedOf (addf (Host.negf e) (prefixSums e)) (ix3 h t s)) * down (ix3 h t s))) := by pointwise [gradScoresOf]
  have b : addf (Host.negf e) (prefixSums e) (ix3 h t s) = -e (ix3 h t s) + prefixSums e (ix3 h t s) := by pointwise
  rw [a, masked_at, b]
theorem gradRows_at (d : FVec Ideal S4x2048x2048 .f32) (k : FVec Ideal S2048x4x64 .f32) (h : Fin 4) (t : Fin 2048) (x : Fin 64) :
    gradRows d k (ix3 h t x) = ∑ s : Fin 2048, d (ix3 h t s) * k (ix3 s h x) := by pointwise [gradRows]
theorem gradCols_at (d : FVec Ideal S4x2048x2048 .f32) (q : FVec Ideal S2048x4x64 .f32) (h : Fin 4) (s : Fin 2048) (x : Fin 64) :
    gradCols d q (ix3 h s x) = ∑ t : Fin 2048, d (ix3 h t s) * q (ix3 t h x) := by pointwise [gradCols]
theorem gradVals_at (g : FVec Ideal S4x64x2048 .f32) (w : FVec Ideal S4x2048x2048 .f32) (h : Fin 4) (s : Fin 2048) (x : Fin 64) :
    gradVals g w (ix3 h s x) = ∑ t : Fin 2048, g (ix3 h x t) * w (ix3 h t s) := by pointwise [gradVals]

/-! ## The results, of finite arguments -/

section Finite

variable {p : FVec Ideal S2048x768 .f32} {g : FVec Ideal S2048x256 .f32} (hp : IsReal p) (hg : IsReal g)
include hp

theorem queries_real (t : Fin 2048) (h : Fin 4) (d : Fin 64) : queriesOf (F := Ideal) p (ix3 t h d) = (qOf p h t d : EReal) := by
  rw [queries_at, entry_coe hp, ← EReal.coe_mul]; rfl
theorem keys_real (t : Fin 2048) (h : Fin 4) (d : Fin 64) : keysOf (F := Ideal) p (ix3 t h d) = (kOf p h t d : EReal) := by
  rw [keys_at, entry_coe hp]; rfl
theorem values_real (t : Fin 2048) (h : Fin 4) (d : Fin 64) : valuesOf (F := Ideal) p (ix3 t h d) = (vOf p h t d : EReal) := by
  rw [values_at, entry_coe hp]; rfl
omit hp in
include hg in
theorem outs_real (t : Fin 2048) (h : Fin 4) (d : Fin 64) : outsOf (F := Ideal) g (ix3 h d t) = (gOf g h t d : EReal) := by
  rw [outs_at, entry_coe hg]; rfl

theorem scores_real (h : Fin 4) (t s : Fin 2048) : scoresAt (F := Ideal) p (ix3 h t s) = (score (qOf p h) (kOf p h) t s : EReal) := by
  rw [scoresAt, scores_at]
  simp only [queries_real hp, keys_real hp, ← EReal.coe_mul]
  exact coe_sum _ _

theorem neg_scores_real (h : Fin 4) (t s : Fin 2048) : Host.negf (scoresAt (F := Ideal) p) (ix3 h t s) = ((-score (qOf p h) (kOf p h) t s : ℝ) : EReal) := by
  rw [negf_at, scores_real hp, EReal.coe_neg]

theorem neg_neg_scores_real (h : Fin 4) (t s : Fin 2048) :
    Host.negf (Host.negf (scoresAt (F := Ideal) p)) (ix3 h t s) = (score (qOf p h) (kOf p h) t s : EReal) := by
  rw [negf_at, neg_scores_real hp, EReal.coe_neg, neg_neg]

theorem keeps_real (h : Fin 4) (t s : Fin 2048) : keepsOf (Host.negf (scoresAt (F := Ideal) p)) (ix3 h t s) = (keep (qOf p h) (kOf p h) t s : EReal) := by
  rw [keepsOf, masked_at, negf_at, softplus_at (neg_neg_scores_real hp h t s), ← EReal.coe_neg, neg_softplus, ← EReal.coe_zero, coe_ite]
  rfl

theorem raw_real (h : Fin 4) (t s : Fin 2048) : rawAt (F := Ideal) p (ix3 h t s)
    = (Real.exp (logKeep (score (qOf p h) (kOf p h) t s) + score (qOf p h) (kOf p h) t s + ∑ j ∈ Finset.Ico (s.val + 1) 2048, keep (qOf p h) (kOf p h) t j) : EReal) := by
  rw [rawAt, raw_at, softplus_at (neg_scores_real hp h t s), suffix_at _ h t _ (keeps_real hp h t), keeps_real hp, ← EReal.coe_neg, neg_softplus_neg,
    ← EReal.coe_add, ← EReal.coe_sub, Ideal.exp_coe, Finset.sum_eq_sum_Ico_succ_bot s.isLt]
  congr 2; ring

theorem weights_real (h : Fin 4) (t s : Fin 2048) : maskedOf (rawAt (F := Ideal) p) (ix3 h t s) = (weight (qOf p h) (kOf p h) t s : EReal) := by
  rw [masked_at, raw_real hp, ← EReal.coe_zero, coe_ite]; rfl

include hg

theorem gradLogs_real (h : Fin 4) (t s : Fin 2048) : gradLogsAt (F := Ideal) p g (ix3 h t s) = (gradLog (qOf p h) (kOf p h) (vOf p h) (gOf g h) t s : EReal) := by
  rw [gradLogsAt, gradLogs_at, raw_real hp]
  simp only [outs_real hg, values_real hp, ← EReal.coe_mul]
  rw [coe_sum, ← EReal.coe_zero, coe_ite, ← EReal.coe_mul, gradLog, weight]
  split <;> simp [mul_comm]

theorem gradScores_real (h : Fin 4) (t s : Fin 2048) :
    gradScoresAt (F := Ideal) p g (ix3 h t s) = (gradScore (qOf p h) (kOf p h) (vOf p h) (gOf g h) t s : EReal) := by
  rw [gradScoresAt, gradScores_at, gradLogs_real hp hg, prefix_at _ h t _ (gradLogs_real hp hg h t), slope_at (neg_scores_real hp h t s),
    slope_at (neg_neg_scores_real hp h t s), sigma_neg]
  simp only [← EReal.coe_neg, ← EReal.coe_add, ← EReal.coe_mul]
  rw [← EReal.coe_zero, coe_ite]
  simp only [← EReal.coe_neg, ← EReal.coe_add, ← EReal.coe_mul]
  congr 1
  rw [gradScore, Finset.sum_range_succ]
  by_cases hs : (s : ℕ) < t
  · rw [if_pos hs, if_pos hs]; ring
  · rw [if_neg hs, if_neg hs, gradLog_of_le _ _ _ _ (not_lt.1 hs)]; ring

/-- The gradient of the queries. -/
theorem result_q (h : Fin 4) (t : Fin 2048) (x : Fin 64) :
    gradRows (gradScoresAt (F := Ideal) p g) (keysOf p) (ix3 h t x) = (gradQ (qOf p h) (kOf p h) (vOf p h) (gOf g h) t x : EReal) := by
  rw [gradRows_at]
  simp only [gradScores_real hp hg, keys_real hp, ← EReal.coe_mul]
  rw [coe_sum, gradQ, sum_fin 2048 fun s => gradScore (qOf p h) (kOf p h) (vOf p h) (gOf g h) t s * kOf p h s x]

/-- The gradient of the keys. -/
theorem result_k (h : Fin 4) (s : Fin 2048) (x : Fin 64) :
    gradCols (gradScoresAt (F := Ideal) p g) (queriesOf p) (ix3 h s x) = (gradK (qOf p h) (kOf p h) (vOf p h) (gOf g h) s x : EReal) := by
  rw [gradCols_at]
  simp only [gradScores_real hp hg, queries_real hp, ← EReal.coe_mul]
  rw [coe_sum, gradK, sum_fin 2048 fun t => gradScore (qOf p h) (kOf p h) (vOf p h) (gOf g h) t s * qOf p h t x]

/-- The gradient of the values. -/
theorem result_v (h : Fin 4) (s : Fin 2048) (x : Fin 64) :
    gradVals (outsOf g) (maskedOf (rawAt (F := Ideal) p)) (ix3 h s x) = (gradV (qOf p h) (kOf p h) (gOf g h) s x : EReal) := by
  rw [gradVals_at]
  simp only [outs_real hg, weights_real hp, ← EReal.coe_mul]
  rw [coe_sum, gradV, ← sum_fin 2048 fun t => weight (qOf p h) (kOf p h) t s * gOf g h t x]
  simp only [mul_comm]

end Finite

end Cert.ReferenceIdeal.Value

end
-- ==== Proof.Same.lean ====
/-
  The program on words and the program over the extended reals have the same text: what is proved of the second's
  run over any float values holds of the first's.
-/
module
public import proofs.«01_k».proof.Defs
public import proofs.«01_k».proof.Proof.Gen.Kernel
public import proofs.«01_k».proof.Proof.Gen.KernelIdeal
@[expose] public section
noncomputable section
namespace Cert.Proof
open Idealize.ShloMosaic Idealize.SL.Sem
attribute [local instance] Cert.Kernel.Gen.facts Cert.KernelIdeal.Gen.facts
set_option maxRecDepth 16384

/-- The body's label means the same in both programs. -/
theorem bodies_same : Cert.Kernel.defs₀ (F := Bits) = Cert.KernelIdeal.defs₀ (F := Bits) := by
  unfold Cert.Kernel.defs₀ Cert.KernelIdeal.defs₀
  refine congrArg Defs.onTc ?_
  funext l a
  obtain ⟨l, hl⟩ := l
  obtain rfl : l = 0 := by omega
  obtain ⟨t, s⟩ := a
  rfl

/-- Every label means the same in both programs. -/
theorem defs_same : Cert.Kernel.defs (F := Bits) = Cert.KernelIdeal.defs (F := Bits) :=
  congrArg (Pipeline.defs (Cert.Kernel.pcfgs (F := Bits))) bodies_same

set_option maxHeartbeats 2000000 in
/-- The host code is the same in both programs. -/
theorem main_same : Cert.Kernel.main (F := Bits) = Cert.KernelIdeal.main (F := Bits) := by
  funext c
  unfold Cert.Kernel.main Cert.KernelIdeal.main
  rfl
end Cert.Proof
end
-- ==== Proof.Swiglu.lean ====
/-
  The gradient of the SwiGLU gate: what the call's two output arrays hold.
-/
module

public import proofs.«01_k».proof.Proof.Gen.Kernel2Ideal.Value
public import proofs.«01_k».proof.Proof.Gen.Reference2Ideal.Run
public import proofs.«01_k».proof.Proof.Entries
public import Idealize.ShloMosaic.Lib.Pipeline.ValueKit

@[expose] public section

set_option maxRecDepth 16384

noncomputable section

namespace Cert.Kernel2Ideal.Gen

open Idealize.ShloMosaic Idealize.ShloMosaic.TcCoe Cert.StickBreaking

/-- The logistic function. -/
def logisticE (a : EReal) : EReal := Ideal.div 1 (1 + Ideal.exp (0 - a))

/-- The gradient with respect to the gate's argument `a`, where `d` is the gradient with respect to `silu a * b`. -/
def gradGate (d a b : EReal) : EReal := d * b * (logisticE a * (1 + a * (1 - logisticE a)))

theorem logisticE_coe (a : ℝ) : logisticE a = ((sigma a : ℝ) : EReal) := sigma_coe a

/-- Of real numbers, the gradient as the derivative writes it. -/
theorem gradGate_coe (d a b : ℝ) : gradGate d a b = (d : EReal) * b * logisticE a + a * ((d : EReal) * b) * (logisticE a * (1 - logisticE a)) := by
  unfold gradGate; rw [logisticE_coe]
  simp only [← EReal.coe_one, ← EReal.coe_add, ← EReal.coe_mul, ← EReal.coe_sub]
  congr 1; ring

theorem pay3_at (x0 : Vec Ideal S2048x1024 .bf16) (x1 : Vec Ideal S256x1024 .bf16) (x2 x3 : Vec Ideal S2048x256 .f32) (r : Fin 2048) (j : Fin 256) :
    k0_pay3 (F := Ideal) x0 x1 x2 x3 (ix2 r j) = gradGate (∑ k : Fin 1024, x0 (ix2 r k) * x1 (ix2 j k)) (x2 (ix2 r j)) (x3 (ix2 r j)) := by
  unfold gradGate logisticE; pointwise [k0_pay3, k0_pay1, k0_pay2]

theorem pay4_at (x0 : Vec Ideal S2048x1024 .bf16) (x1 : Vec Ideal S256x1024 .bf16) (x2 : Vec Ideal S2048x256 .f32) (r : Fin 2048) (j : Fin 256) :
    k0_pay4 (F := Ideal) x0 x1 x2 (ix2 r j) = (∑ k : Fin 1024, x0 (ix2 r k) * x1 (ix2 j k)) * (x2 (ix2 r j) * logisticE (x2 (ix2 r j))) := by
  unfold logisticE; pointwise [k0_pay4, k0_pay1, k0_pay2]

variable (m : (ℓ : Loc nD τ sig) → Buf (Elt Ideal) ℓ) (c : Dev nD)

theorem t_lt (t : Fin cfg0.N) : t.val < 11 := lt_of_lt_of_eq t.isLt (show cfg0.N = 11 from N_0)

theorem index0 : ∀ t : Fin cfg0.N, win0_0.index t = ![0, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, t.val] := (by decide +kernel : ∀ t : Fin grid0.N, _)

/-- The column of the array that a column of point `t`'s tile is. -/
def colOf (t : Fin cfg0.N) (j : Fin 256) : Fin 2816 := ⟨256 * t.val + j, by have := t_lt t; omega⟩

theorem block0 (t : Fin cfg0.N) (r : Fin 2048) (k : Fin 1024) : iblk m c 0 t (ix2 r k) = m ((c : Thread nD τ).loc main_arg0) (ix2 r k) := by
  unfold iblk; rw [View.read_apply, cast_eq]
  refine congrArg (m ((c : Thread nD τ).loc main_arg0)) (funext fun a => Fin.ext ?_)
  match a with
  | ⟨0, _⟩ => blk_simp [index0 t]
  | ⟨1, _⟩ => blk_simp [index0 t]
theorem block1 (t : Fin cfg0.N) (j : Fin 256) (k : Fin 1024) : iblk m c 1 t (ix2 j k) = m ((c : Thread nD τ).loc main_arg1) (ix2 (colOf t j) k) := by
  unfold iblk; rw [View.read_apply, cast_eq]
  refine congrArg (m ((c : Thread nD τ).loc main_arg1)) (funext fun a => Fin.ext ?_)
  match a with
  | ⟨0, _⟩ => blk_simp [index1 t]; show t.val * 256 + j.val = 256 * t.val + j.val; omega
  | ⟨1, _⟩ => blk_simp [index1 t]
theorem block2 (t : Fin cfg0.N) (r : Fin 2048) (j : Fin 256) : iblk m c 2 t (ix2 r j) = m ((c : Thread nD τ).loc main_arg2) (ix2 r (colOf t j)) := by
  unfold iblk; rw [View.read_apply, cast_eq]
  refine congrArg (m ((c : Thread nD τ).loc main_arg2)) (funext fun a => Fin.ext ?_)
  match a with
  | ⟨0, _⟩ => blk_simp [index2 t]
  | ⟨1, _⟩ => blk_simp [index2 t]; show t.val * 256 + j.val = 256 * t.val + j.val; omega
theorem block3 (t : Fin cfg0.N) (r : Fin 2048) (j : Fin 256) : iblk m c 3 t (ix2 r j) = m ((c : Thread nD τ).loc main_arg3) (ix2 r (colOf t j)) := by
  unfold iblk; rw [View.read_apply, cast_eq]
  refine congrArg (m ((c : Thread nD τ).loc main_arg3)) (funext fun a => Fin.ext ?_)
  match a with
  | ⟨0, _⟩ => blk_simp [index3 t]
  | ⟨1, _⟩ => blk_simp [index3 t]; show t.val * 256 + j.val = 256 * t.val + j.val; omega

/-- The gradient with respect to the product of gate and value. -/
def gradAct (df : S2048x1024.Idx → EReal) (w : S2816x1024.Idx → EReal) (r : Fin 2048) (j : Fin 2816) : EReal := ∑ k : Fin 1024, df (ix2 r k) * w (ix2 j k)

/-- The gradient with respect to the other factor. -/
def gradValue (d a : EReal) : EReal := d * (a * logisticE a)

/-- One product of two entries. -/
def act (x : S2048x1024.Idx → EReal) (i : S2048x1024.Idx) (y : S256x1024.Idx → EReal) (j : S256x1024.Idx) : EReal := x i * y j

theorem hz : (![0, 0] : Fin 2 → Nat) = fun _ => 0 := funext fun a => by fin_cases a <;> rfl

/-- A tile's product is the array's, at the tile's columns. -/
theorem tile_act (t : Fin cfg0.N) (r : Fin 2048) (j : Fin 256) : ∑ k : Fin 1024, act (iblk m c 0 t) (ix2 r k) (iblk m c 1 t) (ix2 j k)
    = gradAct (m ((c : Thread nD τ).loc main_arg0)) (m ((c : Thread nD τ).loc main_arg1)) r (colOf t j) :=
  Finset.sum_congr rfl fun k _ => by unfold act; rw [block0, block1]
theorem tile_a (t : Fin cfg0.N) (r : Fin 2048) (j : Fin 256) :
    gradGate (∑ k : Fin 1024, act (iblk m c 0 t) (ix2 r k) (iblk m c 1 t) (ix2 j k)) (iblk m c 2 t (ix2 r j)) (iblk m c 3 t (ix2 r j))
      = gradGate (gradAct (m ((c : Thread nD τ).loc main_arg0)) (m ((c : Thread nD τ).loc main_arg1)) r (colOf t j))
          (m ((c : Thread nD τ).loc main_arg2) (ix2 r (colOf t j))) (m ((c : Thread nD τ).loc main_arg3) (ix2 r (colOf t j))) := by
  rw [tile_act, block2, block3]
theorem tile_b (t : Fin cfg0.N) (r : Fin 2048) (j : Fin 256) :
    gradValue (∑ k : Fin 1024, act (iblk m c 0 t) (ix2 r k) (iblk m c 1 t) (ix2 j k)) (iblk m c 2 t (ix2 r j))
      = gradValue (gradAct (m ((c : Thread nD τ).loc main_arg0)) (m ((c : Thread nD τ).loc main_arg1)) r (colOf t j))
          (m ((c : Thread nD τ).loc main_arg2) (ix2 r (colOf t j))) := by
  rw [tile_act, block2]

/-- The gate's gradient. -/
theorem array_a : (dats m 0 c).arrAt 4 cfg0.N
    = fun y : S2048x2816.Idx => gradGate (gradAct (m ((c : Thread nD τ).loc main_arg0)) (m ((c : Thread nD τ).loc main_arg1)) (y 0) (y 1)) (m ((c : Thread nD τ).loc main_arg2) y) (m ((c : Thread nD τ).loc main_arg3) y) := by
  refine (dats m 0 c).arrAt_eq_of_covers 4 _ (by decide +kernel) fun t hf y => ?_
  have ey : ((cfg0.win 4).blk t).view.emb y = ix2 (y 0 : Fin 2048) (colOf t (y 1)) := by
    refine funext fun a => Fin.ext ?_
    match a with
    | ⟨0, _⟩ => blk_simp [index4 t]; rfl
    | ⟨1, _⟩ => blk_simp [index4 t]; show t.val * 256 + (y 1).val = 256 * t.val + (y 1).val; omega
  rw [ey, after0_4, cast_eq]
  have exy : (cfg0.win 4).xinj (cfg0.grid.coords t) y = ix2 (y 0 : Fin 2048) (y 1 : Fin 256) := by
    refine funext fun a => Fin.ext ?_
    match a with
    | ⟨0, _⟩ => rfl
    | ⟨1, _⟩ => rfl
  refine (congrArg _ exy).trans ?_
  unfold out0_4
  rw [View.canon_unit_zero hz, View.ld_unit_zero hz, View.ld_unit_zero hz, View.ld_unit_zero hz, View.ld_unit_zero hz]
  exact (pay3_at _ _ _ _ (y 0) (y 1)).trans (tile_a m c t (y 0) (y 1))

/-- The other factor's gradient. -/
theorem array_b : (dats m 0 c).arrAt 5 cfg0.N
    = fun y : S2048x2816.Idx => gradValue (gradAct (m ((c : Thread nD τ).loc main_arg0)) (m ((c : Thread nD τ).loc main_arg1)) (y 0) (y 1)) (m ((c : Thread nD τ).loc main_arg2) y) := by
  refine (dats m 0 c).arrAt_eq_of_covers 5 _ (by decide +kernel) fun t hf y => ?_
  have ey : ((cfg0.win 5).blk t).view.emb y = ix2 (y 0 : Fin 2048) (colOf t (y 1)) := by
    refine funext fun a => Fin.ext ?_
    match a with
    | ⟨0, _⟩ => blk_simp [index5 t]; rfl
    | ⟨1, _⟩ => blk_simp [index5 t]; show t.val * 256 + (y 1).val = 256 * t.val + (y 1).val; omega
  rw [ey, after0_5, cast_eq]
  have exy : (cfg0.win 5).xinj (cfg0.grid.coords t) y = ix2 (y 0 : Fin 2048) (y 1 : Fin 256) := by
    refine funext fun a => Fin.ext ?_
    match a with
    | ⟨0, _⟩ => rfl
    | ⟨1, _⟩ => rfl
  refine (congrArg _ exy).trans ?_
  unfold out0_5
  rw [View.canon_unit_zero hz, View.ld_unit_zero hz, View.ld_unit_zero hz, View.ld_unit_zero hz]
  exact (pay4_at _ _ _ (y 0) (y 1)).trans (tile_b m c t (y 0) (y 1))

end Cert.Kernel2Ideal.Gen

namespace Cert.Reference2Ideal.Value

open Cert.Reference2Ideal Cert.Reference2Ideal.Gen Idealize.ShloMosaic Idealize.ShloMosaic.TcCoe Idealize.SL.Sem Cert.StickBreaking
open Cert.Kernel2Ideal.Gen (logisticE gradGate gradGate_coe gradAct gradValue)

variable (df : FVec Ideal S2048x1024 .bf16) (w : FVec Ideal S2816x1024 .bf16) (a b : FVec Ideal S2048x2816 .f32)

/-- The reference's gradient of the product of gate and value. -/
def actOf : FVec Ideal S2048x2816 .f32 :=
  Host.dotGeneral dot_S2048x1024_S2816x1024_S2048x2816_1_1_0_0_n_n none (extf .f32 df bitsLt_bf16_f32) (extf .f32 w bitsLt_bf16_f32)

theorem actOf_at (r : Fin 2048) (j : Fin 2816) : actOf df w (ix2 r j) = ∑ k : Fin 1024, df (ix2 r k) * w (ix2 j k) := by
  pointwise [actOf]

/-- The reference's logistic function. -/
def slopeOf : FVec Ideal S2048x2816 .f32 :=
  Host.divf (broadcastInDim S2048x2816 ![] bcast_S_S2048x2816 (constant S_ .f32 0x3F800000#32)) (addf (broadcastInDim S2048x2816 ![] bcast_S_S2048x2816 (constant S_ .f32 0x3F800000#32)) (Host.exp (Host.negf a)))

theorem slopeOf_at (r : Fin 2048) (j : Fin 2816) : slopeOf a (ix2 r j) = logisticE (a (ix2 r j)) := by
  unfold logisticE; rw [sub_eq_add_neg, zero_add]; pointwise [slopeOf]

/-- The reference's two gradients. -/
def gradAOf : FVec Ideal S2048x2816 .bf16 :=
  truncf .bf16 (addf (mulf (mulf (actOf df w) b) (slopeOf a)) (mulf (mulf a (mulf (actOf df w) b)) (mulf (slopeOf a) (subf (broadcastInDim S2048x2816 ![] bcast_S_S2048x2816 (constant S_ .f32 0x3F800000#32)) (slopeOf a))))) bitsLt_bf16_f32
def gradBOf : FVec Ideal S2048x2816 .bf16 := truncf .bf16 (mulf (mulf a (slopeOf a)) (actOf df w)) bitsLt_bf16_f32

theorem gradAOf_at (r : Fin 2048) (j : Fin 2816) : gradAOf df w a b (ix2 r j)
    = actOf df w (ix2 r j) * b (ix2 r j) * logisticE (a (ix2 r j))
      + a (ix2 r j) * (actOf df w (ix2 r j) * b (ix2 r j)) * (logisticE (a (ix2 r j)) * (1 - logisticE (a (ix2 r j)))) := by
  rw [← slopeOf_at]; pointwise [gradAOf]
theorem gradBOf_at (r : Fin 2048) (j : Fin 2816) : gradBOf df w a (ix2 r j) = a (ix2 r j) * logisticE (a (ix2 r j)) * actOf df w (ix2 r j) := by
  rw [← slopeOf_at]; pointwise [gradBOf]

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v9)
        = gradAOf (m ((c : Thread nD τ).loc main_arg0)) (m ((c : Thread nD τ).loc main_arg1)) (m ((c : Thread nD τ).loc main_arg2)) (m ((c : Thread nD τ).loc main_arg3))
      ∧ r.2.mem ((c : Thread nD τ).loc main_v10)
        = gradBOf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h => h) (run (F := Ideal) m ρ)

variable {df w a b}

/-- A finite sum of products of real numbers. -/
theorem act_real (hdf : IsReal df) (hw : IsReal w) (r : Fin 2048) (j : Fin 2816) : ∃ d : ℝ, actOf df w (ix2 r j) = (d : EReal) :=
  ⟨∑ k : Fin 1024, (df (ix2 r k)).toReal * (w (ix2 j k)).toReal, by
    rw [actOf_at, ← coe_sum]
    exact Finset.sum_congr rfl fun k _ => by rw [EReal.coe_mul, ← hdf, ← hw]⟩

/-- Kernel and reference agree on the gate's gradient, of real numbers. -/
theorem gradA_eq (hdf : IsReal df) (hw : IsReal w) (ha : IsReal a) (hb : IsReal b) (r : Fin 2048) (j : Fin 2816) :
    gradAOf df w a b (ix2 r j) = gradGate (gradAct df w r j) (a (ix2 r j)) (b (ix2 r j)) := by
  rw [gradAOf_at, ← show actOf df w (ix2 r j) = gradAct df w r j from actOf_at df w r j]
  obtain ⟨d, hd⟩ := act_real hdf hw r j
  rw [hd, ha (ix2 r j), hb (ix2 r j), gradGate_coe]

theorem gradB_eq (r : Fin 2048) (j : Fin 2816) :
    gradBOf df w a (ix2 r j) = gradValue (gradAct df w r j) (a (ix2 r j)) := by
  rw [gradBOf_at, actOf_at, mul_comm]; rfl

end Cert.Reference2Ideal.Value

end
-- ==== Proof.FfnIn.lean ====
/-
  The hidden activation of the feed-forward layer: what the call's three output arrays hold, and that the reference's
  are the same.
-/
module

public import proofs.«01_k».proof.Proof.Gen.Kernel4Ideal.Value
public import proofs.«01_k».proof.Proof.Gen.Reference4Ideal.Run
public import proofs.«01_k».proof.Proof.Entries
public import Idealize.ShloMosaic.Lib.Pipeline.ValueKit

@[expose] public section

set_option maxRecDepth 16384

noncomputable section

namespace Cert.Kernel4Ideal.Gen

open Idealize.ShloMosaic Idealize.ShloMosaic.TcCoe Cert.StickBreaking

/-- One product of two entries. -/
def term (x : S2048x1024.Idx → EReal) (i : S2048x1024.Idx) (y : S1024x256.Idx → EReal) (j : S1024x256.Idx) : EReal := x i * y j

/-- The gated value: `silu a * b`. -/
def siluTimes (a b : EReal) : EReal := a * Ideal.div 1 (1 + Ideal.exp (0 - a)) * b

/-- An prodEntry of the product of the two arrays. -/
def prodEntry (x : S2048x1024.Idx → EReal) (y : S1024x5632.Idx → EReal) (r : Fin 2048) (j : Fin 5632) : EReal := ∑ k : Fin 1024, x (ix2 r k) * y (ix2 k j)

/-- The columns of the first and of the second half. -/
def left (j : Fin 2816) : Fin 5632 := ⟨j.val, by omega⟩
def right (j : Fin 2816) : Fin 5632 := ⟨2816 + j.val, by omega⟩

theorem pay1_at (x0 : Vec Ideal S2048x1024 .bf16) (x1 : Vec Ideal S1024x256 .bf16) (r : Fin 2048) (j : Fin 256) :
    k0_pay1 (F := Ideal) x0 x1 (ix2 r j) = ∑ k : Fin 1024, term x0 (ix2 r k) x1 (ix2 k j) := by
  unfold term; pointwise [k0_pay1]
theorem pay2_at (x0 : Vec Ideal S2048x1024 .bf16) (x1 : Vec Ideal S1024x256 .bf16) (r : Fin 2048) (j : Fin 256) :
    k0_pay2 (F := Ideal) x0 x1 (ix2 r j) = ∑ k : Fin 1024, term x0 (ix2 r k) x1 (ix2 k j) := by
  unfold term; pointwise [k0_pay2]
theorem pay3_at (x0 : Vec Ideal S2048x1024 .bf16) (x1 x2 : Vec Ideal S1024x256 .bf16) (r : Fin 2048) (j : Fin 256) :
    k0_pay3 (F := Ideal) x0 x1 x2 (ix2 r j) = siluTimes (∑ k : Fin 1024, term x0 (ix2 r k) x1 (ix2 k j)) (∑ k : Fin 1024, term x0 (ix2 r k) x2 (ix2 k j)) := by
  rw [← pay1_at, ← pay2_at]; unfold siluTimes; pointwise [k0_pay3]

variable (m : (ℓ : Loc nD τ sig) → Buf (Elt Ideal) ℓ) (c : Dev nD)

theorem t_lt (t : Fin cfg0.N) : t.val < 11 := lt_of_lt_of_eq t.isLt (show cfg0.N = 11 from N_0)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val + 11] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, t.val] := (by decide +kernel : ∀ t : Fin grid0.N, _)

/-- The column of the array that a column of point `t`'s tile is. -/
def colOf (t : Fin cfg0.N) (j : Fin 256) : Fin 2816 := ⟨256 * t.val + j.val, by have := t_lt t; omega⟩

theorem block0 (t : Fin cfg0.N) (r : Fin 2048) (k : Fin 1024) : iblk m c 0 t (ix2 r k) = m ((c : Thread nD τ).loc main_arg0) (ix2 r k) := by
  unfold iblk; rw [View.read_apply, cast_eq]
  refine congrArg (m ((c : Thread nD τ).loc main_arg0)) (funext fun a => Fin.ext ?_)
  match a with
  | ⟨0, _⟩ => blk_simp [index0 t]
  | ⟨1, _⟩ => blk_simp [index0 t]
theorem block1 (t : Fin cfg0.N) (k : Fin 1024) (j : Fin 256) : iblk m c 1 t (ix2 k j) = m ((c : Thread nD τ).loc main_arg1) (ix2 k (left (colOf t j))) := by
  unfold iblk; rw [View.read_apply, cast_eq]
  refine congrArg (m ((c : Thread nD τ).loc main_arg1)) (funext fun a => Fin.ext ?_)
  match a with
  | ⟨0, _⟩ => blk_simp [index1 t]
  | ⟨1, _⟩ => blk_simp [index1 t]; show t.val * 256 + j.val = 256 * t.val + j.val; omega
theorem block2 (t : Fin cfg0.N) (k : Fin 1024) (j : Fin 256) : iblk m c 2 t (ix2 k j) = m ((c : Thread nD τ).loc main_arg1) (ix2 k (right (colOf t j))) := by
  unfold iblk; rw [View.read_apply, cast_eq]
  refine congrArg (m ((c : Thread nD τ).loc main_arg1)) (funext fun a => Fin.ext ?_)
  match a with
  | ⟨0, _⟩ => blk_simp [index2 t]
  | ⟨1, _⟩ => blk_simp [index2 t]; show (t.val + 11) * 256 + j.val = 2816 + (256 * t.val + j.val); omega

/-- A tile's entries are the array's, of the first and of the second half. -/
theorem tile_left (t : Fin cfg0.N) (r : Fin 2048) (j : Fin 256) : ∑ k : Fin 1024, term (iblk m c 0 t) (ix2 r k) (iblk m c 1 t) (ix2 k j)
    = prodEntry (m ((c : Thread nD τ).loc main_arg0)) (m ((c : Thread nD τ).loc main_arg1)) r (left (colOf t j)) :=
  Finset.sum_congr rfl fun k _ => by unfold term; rw [block0, block1]
theorem tile_right (t : Fin cfg0.N) (r : Fin 2048) (j : Fin 256) : ∑ k : Fin 1024, term (iblk m c 0 t) (ix2 r k) (iblk m c 2 t) (ix2 k j)
    = prodEntry (m ((c : Thread nD τ).loc main_arg0)) (m ((c : Thread nD τ).loc main_arg1)) r (right (colOf t j)) :=
  Finset.sum_congr rfl fun k _ => by unfold term; rw [block0, block2]
theorem tile_act (t : Fin cfg0.N) (r : Fin 2048) (j : Fin 256) :
    siluTimes (∑ k : Fin 1024, term (iblk m c 0 t) (ix2 r k) (iblk m c 1 t) (ix2 k j)) (∑ k : Fin 1024, term (iblk m c 0 t) (ix2 r k) (iblk m c 2 t) (ix2 k j))
      = siluTimes (prodEntry (m ((c : Thread nD τ).loc main_arg0)) (m ((c : Thread nD τ).loc main_arg1)) r (left (colOf t j)))
          (prodEntry (m ((c : Thread nD τ).loc main_arg0)) (m ((c : Thread nD τ).loc main_arg1)) r (right (colOf t j))) := by
  rw [tile_left, tile_right]

theorem hz : (![0, 0] : Fin 2 → Nat) = fun _ => 0 := funext fun a => by fin_cases a <;> rfl

/-- The gate's argument. -/
theorem array_a : (dats m 0 c).arrAt 3 cfg0.N = fun y : S2048x2816.Idx => prodEntry (m ((c : Thread nD τ).loc main_arg0)) (m ((c : Thread nD τ).loc main_arg1)) (y 0) (left (y 1)) := by
  refine (dats m 0 c).arrAt_eq_of_covers 3 _ (by decide +kernel) fun t hf y => ?_
  have ey : ((cfg0.win 3).blk t).view.emb y = ix2 (y 0 : Fin 2048) (colOf t (y 1)) := by
    refine funext fun a => Fin.ext ?_
    match a with
    | ⟨0, _⟩ => blk_simp [index3 t]; rfl
    | ⟨1, _⟩ => blk_simp [index3 t]; show t.val * 256 + (y 1).val = 256 * t.val + (y 1).val; omega
  rw [ey, after0_3, cast_eq]
  have exy : (cfg0.win 3).xinj (cfg0.grid.coords t) y = ix2 (y 0 : Fin 2048) (y 1 : Fin 256) := by
    refine funext fun a => Fin.ext ?_
    match a with
    | ⟨0, _⟩ => rfl
    | ⟨1, _⟩ => rfl
  refine (congrArg _ exy).trans ?_
  unfold out0_3
  rw [View.canon_unit_zero hz, View.ld_unit_zero hz, View.ld_unit_zero hz]
  exact (pay1_at _ _ (y 0) (y 1)).trans (tile_left m c t (y 0) (y 1))

/-- The other factor. -/
theorem array_b : (dats m 0 c).arrAt 4 cfg0.N = fun y : S2048x2816.Idx => prodEntry (m ((c : Thread nD τ).loc main_arg0)) (m ((c : Thread nD τ).loc main_arg1)) (y 0) (right (y 1)) := by
  refine (dats m 0 c).arrAt_eq_of_covers 4 _ (by decide +kernel) fun t hf y => ?_
  have ey : ((cfg0.win 4).blk t).view.emb y = ix2 (y 0 : Fin 2048) (colOf t (y 1)) := by
    refine funext fun a => Fin.ext ?_
    match a with
    | ⟨0, _⟩ => blk_simp [index4 t]; rfl
    | ⟨1, _⟩ => blk_simp [index4 t]; show t.val * 256 + (y 1).val = 256 * t.val + (y 1).val; omega
  rw [ey, after0_4, cast_eq]
  have exy : (cfg0.win 4).xinj (cfg0.grid.coords t) y = ix2 (y 0 : Fin 2048) (y 1 : Fin 256) := by
    refine funext fun a => Fin.ext ?_
    match a with
    | ⟨0, _⟩ => rfl
    | ⟨1, _⟩ => rfl
  refine (congrArg _ exy).trans ?_
  unfold out0_4
  rw [View.canon_unit_zero hz, View.ld_unit_zero hz, View.ld_unit_zero hz]
  exact (pay2_at _ _ (y 0) (y 1)).trans (tile_right m c t (y 0) (y 1))

/-- The gated activation. -/
theorem array_act : (dats m 0 c).arrAt 5 cfg0.N = fun y : S2048x2816.Idx => siluTimes (prodEntry (m ((c : Thread nD τ).loc main_arg0)) (m ((c : Thread nD τ).loc main_arg1)) (y 0) (left (y 1))) (prodEntry (m ((c : Thread nD τ).loc main_arg0)) (m ((c : Thread nD τ).loc main_arg1)) (y 0) (right (y 1))) := by
  refine (dats m 0 c).arrAt_eq_of_covers 5 _ (by decide +kernel) fun t hf y => ?_
  have ey : ((cfg0.win 5).blk t).view.emb y = ix2 (y 0 : Fin 2048) (colOf t (y 1)) := by
    refine funext fun a => Fin.ext ?_
    match a with
    | ⟨0, _⟩ => blk_simp [index5 t]; rfl
    | ⟨1, _⟩ => blk_simp [index5 t]; show t.val * 256 + (y 1).val = 256 * t.val + (y 1).val; omega
  rw [ey, after0_5, cast_eq]
  have exy : (cfg0.win 5).xinj (cfg0.grid.coords t) y = ix2 (y 0 : Fin 2048) (y 1 : Fin 256) := by
    refine funext fun a => Fin.ext ?_
    match a with
    | ⟨0, _⟩ => rfl
    | ⟨1, _⟩ => rfl
  refine (congrArg _ exy).trans ?_
  unfold out0_5
  rw [View.canon_unit_zero hz, View.ld_unit_zero hz, View.ld_unit_zero hz, View.ld_unit_zero hz]
  exact (pay3_at _ _ _ (y 0) (y 1)).trans (tile_act m c t (y 0) (y 1))

end Cert.Kernel4Ideal.Gen

namespace Cert.Reference4Ideal.Value

open Cert.Reference4Ideal Cert.Reference4Ideal.Gen Idealize.ShloMosaic Idealize.ShloMosaic.TcCoe Idealize.SL.Sem Cert.StickBreaking
open Cert.Kernel4Ideal.Gen (prodEntry siluTimes left right)

variable (x : FVec Ideal S2048x1024 .bf16) (y : FVec Ideal S1024x5632 .bf16)

/-- The reference's three arrays. -/
def gateOf : FVec Ideal S2048x2816 .f32 := extractStridedSlice S2048x2816 ![0, 0] (Host.dotGeneral dot_S2048x1024_S1024x5632_S2048x5632_1_0_0_1_n_n none (extf .f32 x bitsLt_bf16_f32) (extf .f32 y bitsLt_bf16_f32)) slices_S2048x5632_S2048x2816_0_0
def valueOf : FVec Ideal S2048x2816 .f32 := extractStridedSlice S2048x2816 ![0, 2816] (Host.dotGeneral dot_S2048x1024_S1024x5632_S2048x5632_1_0_0_1_n_n none (extf .f32 x bitsLt_bf16_f32) (extf .f32 y bitsLt_bf16_f32)) slices_S2048x5632_S2048x2816_0_2816
def actOf : FVec Ideal S2048x2816 .bf16 :=
  truncf .bf16 (mulf (mulf (gateOf x y) (Host.divf (broadcastInDim S2048x2816 ![] bcast_S_S2048x2816 (constant S_ .f32 0x3F800000#32))
    (addf (broadcastInDim S2048x2816 ![] bcast_S_S2048x2816 (constant S_ .f32 0x3F800000#32)) (Host.exp (Host.negf (gateOf x y)))))) (valueOf x y)) bitsLt_bf16_f32

/-- The reference's product. -/
def productOf : FVec Ideal S2048x5632 .f32 := Host.dotGeneral dot_S2048x1024_S1024x5632_S2048x5632_1_0_0_1_n_n none (extf .f32 x bitsLt_bf16_f32) (extf .f32 y bitsLt_bf16_f32)

theorem productOf_at (r : Fin 2048) (j : Fin 5632) : productOf x y (ix2 r j) = prodEntry x y r j := by
  unfold prodEntry; pointwise [productOf]

theorem gate_eq (r : Fin 2048) (j : Fin 2816) : gateOf x y (ix2 r j) = prodEntry x y r (left j) := by
  rw [← productOf_at]
  refine congrArg (productOf x y) (funext fun a => Fin.ext ?_)
  match a with
  | ⟨0, _⟩ => show 0 + r.val = r.val; omega
  | ⟨1, _⟩ => show 0 + j.val = j.val; omega
theorem value_eq (r : Fin 2048) (j : Fin 2816) : valueOf x y (ix2 r j) = prodEntry x y r (right j) := by
  rw [← productOf_at]
  refine congrArg (productOf x y) (funext fun a => Fin.ext ?_)
  match a with
  | ⟨0, _⟩ => show 0 + r.val = r.val; omega
  | ⟨1, _⟩ => rfl
theorem act_eq (r : Fin 2048) (j : Fin 2816) : actOf x y (ix2 r j) = siluTimes (prodEntry x y r (left j)) (prodEntry x y r (right j)) := by
  rw [← gate_eq, ← value_eq]; unfold siluTimes; rw [sub_eq_add_neg, zero_add]; pointwise [actOf]

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3) = gateOf (m ((c : Thread nD τ).loc main_arg0)) (m ((c : Thread nD τ).loc main_arg1))
      ∧ r.2.mem ((c : Thread nD τ).loc main_v4) = valueOf (m ((c : Thread nD τ).loc main_arg0)) (m ((c : Thread nD τ).loc main_arg1))
      ∧ r.2.mem ((c : Thread nD τ).loc main_v7) = actOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h => h) (run (F := Ideal) m ρ)

end Cert.Reference4Ideal.Value

end
-- ==== Proof.FfnOut.lean ====
/-
  The second product of the feed-forward layer: what the call's output array holds, and that the reference's is the same.
-/
module

public import proofs.«01_k».proof.Proof.Gen.Kernel5Ideal.Value
public import proofs.«01_k».proof.Proof.Gen.Reference5Ideal.Run
public import proofs.«01_k».proof.Proof.Entries
public import Idealize.ShloMosaic.Lib.Pipeline.ValueKit

@[expose] public section

set_option maxRecDepth 16384

noncomputable section

namespace Cert.Kernel5Ideal.Gen

open Idealize.ShloMosaic Idealize.ShloMosaic.TcCoe Cert.StickBreaking

/-- One product of two entries. -/
def term (x : S1024x2816.Idx → EReal) (i : S1024x2816.Idx) (y : S2816x512.Idx → EReal) (j : S2816x512.Idx) : EReal := x i * y j

/-- An prodEntry of the product of the two arrays. -/
def prodEntry (x : S2048x2816.Idx → EReal) (y : S2816x1024.Idx → EReal) (r : Fin 2048) (j : Fin 1024) : EReal := ∑ k : Fin 2816, x (ix2 r k) * y (ix2 k j)

/-- An prodEntry of the tile that one point computes. -/
theorem pay_at (x0 : Vec Ideal S1024x2816 .bf16) (x1 : Vec Ideal S2816x512 .bf16) (r : Fin 1024) (j : Fin 512) :
    k0_pay1 (F := Ideal) x0 x1 (ix2 r j) = ∑ k : Fin 2816, term x0 (ix2 r k) x1 (ix2 k j) := by
  unfold term; pointwise [k0_pay1]

variable (m : (ℓ : Loc nD τ sig) → Buf (Elt Ideal) ℓ) (c : Dev nD)

theorem t_lt (t : Fin cfg0.N) : t.val < 4 := lt_of_lt_of_eq t.isLt (show cfg0.N = 4 from N_0)

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

/-- The row and the column of the array that a row and a column of point `t`'s tile are. -/
def rowOf (t : Fin cfg0.N) (r : Fin 1024) : Fin 2048 := ⟨1024 * (t.val / 2) + r.val, by have := t_lt t; omega⟩
def colOf (t : Fin cfg0.N) (j : Fin 512) : Fin 1024 := ⟨512 * (t.val % 2) + j.val, by have := t_lt t; omega⟩

theorem block0 (t : Fin cfg0.N) (r : Fin 1024) (k : Fin 2816) : iblk m c 0 t (ix2 r k) = m ((c : Thread nD τ).loc main_arg0) (ix2 (rowOf t r) k) := by
  unfold iblk; rw [View.read_apply, cast_eq]
  refine congrArg (m ((c : Thread nD τ).loc main_arg0)) (funext fun a => Fin.ext ?_)
  match a with
  | ⟨0, _⟩ => blk_simp [index0 t]; show (t.val / 2) * 1024 + r.val = 1024 * (t.val / 2) + r.val; omega
  | ⟨1, _⟩ => blk_simp [index0 t]
theorem block1 (t : Fin cfg0.N) (k : Fin 2816) (j : Fin 512) : iblk m c 1 t (ix2 k j) = m ((c : Thread nD τ).loc main_arg1) (ix2 k (colOf t j)) := by
  unfold iblk; rw [View.read_apply, cast_eq]
  refine congrArg (m ((c : Thread nD τ).loc main_arg1)) (funext fun a => Fin.ext ?_)
  match a with
  | ⟨0, _⟩ => blk_simp [index1 t]
  | ⟨1, _⟩ => blk_simp [index1 t]; show (t.val % 2) * 512 + j.val = 512 * (t.val % 2) + j.val; omega

/-- A tile's entries are the array's. -/
theorem tile (t : Fin cfg0.N) (r : Fin 1024) (j : Fin 512) : ∑ k : Fin 2816, term (iblk m c 0 t) (ix2 r k) (iblk m c 1 t) (ix2 k j)
    = prodEntry (m ((c : Thread nD τ).loc main_arg0)) (m ((c : Thread nD τ).loc main_arg1)) (rowOf t r) (colOf t j) :=
  Finset.sum_congr rfl fun k _ => by unfold term; rw [block0, block1]

theorem hz : (![0, 0] : Fin 2 → Nat) = fun _ => 0 := funext fun a => by fin_cases a <;> rfl

/-- The output array holds the product. -/
theorem array : (dats m 0 c).arrAt 2 cfg0.N
    = fun y : S2048x1024.Idx => prodEntry (m ((c : Thread nD τ).loc main_arg0)) (m ((c : Thread nD τ).loc main_arg1)) (y 0) (y 1) := by
  refine (dats m 0 c).arrAt_eq_of_covers 2 _ (by decide +kernel) fun t hf y => ?_
  have ey : ((cfg0.win 2).blk t).view.emb y = ix2 (rowOf t (y 0)) (colOf t (y 1)) := by
    refine funext fun a => Fin.ext ?_
    match a with
    | ⟨0, _⟩ => blk_simp [index2 t]; show (t.val / 2) * 1024 + (y 0).val = 1024 * (t.val / 2) + (y 0).val; omega
    | ⟨1, _⟩ => blk_simp [index2 t]; show (t.val % 2) * 512 + (y 1).val = 512 * (t.val % 2) + (y 1).val; omega
  rw [ey, after0_2, cast_eq]
  have exy : (cfg0.win 2).xinj (cfg0.grid.coords t) y = ix2 (y 0 : Fin 1024) (y 1 : Fin 512) := by
    refine funext fun a => Fin.ext ?_
    match a with
    | ⟨0, _⟩ => rfl
    | ⟨1, _⟩ => rfl
  refine (congrArg _ exy).trans ?_
  unfold out0_2
  rw [View.canon_unit_zero hz, View.ld_unit_zero hz, View.ld_unit_zero hz]
  exact (pay_at _ _ (y 0) (y 1)).trans (tile m c t (y 0) (y 1))

end Cert.Kernel5Ideal.Gen

namespace Cert.Reference5Ideal.Value

open Cert.Reference5Ideal Cert.Reference5Ideal.Gen Idealize.ShloMosaic Idealize.ShloMosaic.TcCoe Idealize.SL.Sem Cert.StickBreaking
open Cert.Kernel5Ideal.Gen (prodEntry)

variable (x : FVec Ideal S2048x2816 .bf16) (y : FVec Ideal S2816x1024 .bf16)

/-- The reference's product. -/
def productOf : FVec Ideal S2048x1024 .f32 :=
  Host.dotGeneral dot_S2048x2816_S2816x1024_S2048x1024_1_0_0_1_n_n none (extf .f32 x bitsLt_bf16_f32) (extf .f32 y bitsLt_bf16_f32)

theorem product_eq (r : Fin 2048) (j : Fin 1024) : productOf x y (ix2 r j) = prodEntry x y r j := by
  unfold prodEntry; pointwise [productOf]

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = productOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h => h) (run (F := Ideal) m ρ)

end Cert.Reference5Ideal.Value

end
-- ==== Proof.FfnGradOut.lean ====
/-
  The gradient of the feed-forward layer's second weight: what the call's output array holds, and that the reference's is the same.
-/
module

public import proofs.«01_k».proof.Proof.Gen.Kernel6Ideal.Value
public import proofs.«01_k».proof.Proof.Gen.Reference6Ideal.Run
public import proofs.«01_k».proof.Proof.Entries
public import Idealize.ShloMosaic.Lib.Pipeline.ValueKit

@[expose] public section

set_option maxRecDepth 16384

noncomputable section

namespace Cert.Kernel6Ideal.Gen

open Idealize.ShloMosaic Idealize.ShloMosaic.TcCoe Cert.StickBreaking

/-- One product of two entries. -/
def term (x : S2048x1408.Idx → EReal) (i : S2048x1408.Idx) (y : S2048x1024.Idx → EReal) (j : S2048x1024.Idx) : EReal := x i * y j

/-- An prodEntry of the product of the two arrays. -/
def prodEntry (x : S2048x2816.Idx → EReal) (y : S2048x1024.Idx → EReal) (r : Fin 2816) (j : Fin 1024) : EReal := ∑ k : Fin 2048, x (ix2 k r) * y (ix2 k j)

/-- An prodEntry of the tile that one point computes. -/
theorem pay_at (x0 : Vec Ideal S2048x1408 .bf16) (x1 : Vec Ideal S2048x1024 .bf16) (r : Fin 1408) (j : Fin 1024) :
    k0_pay1 (F := Ideal) x0 x1 (ix2 r j) = ∑ k : Fin 2048, term x0 (ix2 k r) x1 (ix2 k j) := by
  unfold term; pointwise [k0_pay1]

variable (m : (ℓ : Loc nD τ sig) → Buf (Elt Ideal) ℓ) (c : Dev nD)

theorem t_lt (t : Fin cfg0.N) : t.val < 2 := lt_of_lt_of_eq t.isLt (show cfg0.N = 2 from N_0)

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The row and the column of the array that a row and a column of point `t`'s tile are. -/
def rowOf (t : Fin cfg0.N) (r : Fin 1408) : Fin 2816 := ⟨1408 * (t.val) + r.val, by have := t_lt t; omega⟩
def colOf (t : Fin cfg0.N) (j : Fin 1024) : Fin 1024 := ⟨j.val, by have := t_lt t; omega⟩

theorem block0 (t : Fin cfg0.N) (r : Fin 1408) (k : Fin 2048) : iblk m c 0 t (ix2 k r) = m ((c : Thread nD τ).loc main_arg0) (ix2 k (rowOf t r)) := by
  unfold iblk; rw [View.read_apply, cast_eq]
  refine congrArg (m ((c : Thread nD τ).loc main_arg0)) (funext fun a => Fin.ext ?_)
  match a with
  | ⟨0, _⟩ => blk_simp [index0 t]
  | ⟨1, _⟩ => blk_simp [index0 t]; show (t.val) * 1408 + r.val = 1408 * (t.val) + r.val; omega
theorem block1 (t : Fin cfg0.N) (k : Fin 2048) (j : Fin 1024) : iblk m c 1 t (ix2 k j) = m ((c : Thread nD τ).loc main_arg1) (ix2 k (colOf t j)) := by
  unfold iblk; rw [View.read_apply, cast_eq]
  refine congrArg (m ((c : Thread nD τ).loc main_arg1)) (funext fun a => Fin.ext ?_)
  match a with
  | ⟨0, _⟩ => blk_simp [index1 t]
  | ⟨1, _⟩ => blk_simp [index1 t]; rfl

/-- A tile's entries are the array's. -/
theorem tile (t : Fin cfg0.N) (r : Fin 1408) (j : Fin 1024) : ∑ k : Fin 2048, term (iblk m c 0 t) (ix2 k r) (iblk m c 1 t) (ix2 k j)
    = prodEntry (m ((c : Thread nD τ).loc main_arg0)) (m ((c : Thread nD τ).loc main_arg1)) (rowOf t r) (colOf t j) :=
  Finset.sum_congr rfl fun k _ => by unfold term; rw [block0, block1]

theorem hz : (![0, 0] : Fin 2 → Nat) = fun _ => 0 := funext fun a => by fin_cases a <;> rfl

/-- The output array holds the product. -/
theorem array : (dats m 0 c).arrAt 2 cfg0.N
    = fun y : S2816x1024.Idx => prodEntry (m ((c : Thread nD τ).loc main_arg0)) (m ((c : Thread nD τ).loc main_arg1)) (y 0) (y 1) := by
  refine (dats m 0 c).arrAt_eq_of_covers 2 _ (by decide +kernel) fun t hf y => ?_
  have ey : ((cfg0.win 2).blk t).view.emb y = ix2 (rowOf t (y 0)) (colOf t (y 1)) := by
    refine funext fun a => Fin.ext ?_
    match a with
    | ⟨0, _⟩ => blk_simp [index2 t]; show (t.val) * 1408 + (y 0).val = 1408 * (t.val) + (y 0).val; omega
    | ⟨1, _⟩ => blk_simp [index2 t]; rfl
  rw [ey, after0_2, cast_eq]
  have exy : (cfg0.win 2).xinj (cfg0.grid.coords t) y = ix2 (y 0 : Fin 1408) (y 1 : Fin 1024) := by
    refine funext fun a => Fin.ext ?_
    match a with
    | ⟨0, _⟩ => rfl
    | ⟨1, _⟩ => rfl
  refine (congrArg _ exy).trans ?_
  unfold out0_2
  rw [View.canon_unit_zero hz, View.ld_unit_zero hz, View.ld_unit_zero hz]
  exact (pay_at _ _ (y 0) (y 1)).trans (tile m c t (y 0) (y 1))

end Cert.Kernel6Ideal.Gen

namespace Cert.Reference6Ideal.Value

open Cert.Reference6Ideal Cert.Reference6Ideal.Gen Idealize.ShloMosaic Idealize.ShloMosaic.TcCoe Idealize.SL.Sem Cert.StickBreaking
open Cert.Kernel6Ideal.Gen (prodEntry)

variable (x : FVec Ideal S2048x2816 .bf16) (y : FVec Ideal S2048x1024 .bf16)

/-- The reference's product. -/
def productOf : FVec Ideal S2816x1024 .bf16 :=
  truncf .bf16 (transpose S2816x1024 [1, 0] (Host.dotGeneral dot_S2048x1024_S2048x2816_S1024x2816_0_0_1_1_n_n none (extf .f32 y bitsLt_bf16_f32) (extf .f32 x bitsLt_bf16_f32)) transposes_S1024x2816_S2816x1024_1_0) bitsLt_bf16_f32

theorem productOf_at (r : Fin 2816) (j : Fin 1024) : productOf x y (ix2 r j) = ∑ k : Fin 2048, y (ix2 k j) * x (ix2 k r) := by
  pointwise [productOf]

theorem product_eq (r : Fin 2816) (j : Fin 1024) : productOf x y (ix2 r j) = prodEntry x y r j := by
  rw [productOf_at]; exact Finset.sum_congr rfl fun k _ => mul_comm _ _

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = productOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h => h) (run (F := Ideal) m ρ)

end Cert.Reference6Ideal.Value

end
-- ==== Proof.FfnGradIn.lean ====
/-
  The gradient of the feed-forward layer's first weight: what the call's output array holds, and that the reference's is the same.
-/
module

public import proofs.«01_k».proof.Proof.Gen.Kernel7Ideal.Value
public import proofs.«01_k».proof.Proof.Gen.Reference7Ideal.Run
public import proofs.«01_k».proof.Proof.Entries
public import Idealize.ShloMosaic.Lib.Pipeline.ValueKit

@[expose] public section

set_option maxRecDepth 16384

noncomputable section

namespace Cert.Kernel7Ideal.Gen

open Idealize.ShloMosaic Idealize.ShloMosaic.TcCoe Cert.StickBreaking

/-- One product of two entries. -/
def term (x : S2048x1024.Idx → EReal) (i : S2048x1024.Idx) (y : S2048x512.Idx → EReal) (j : S2048x512.Idx) : EReal := x i * y j

/-- An prodEntry of the product of the two arrays. -/
def prodEntry (x : S2048x1024.Idx → EReal) (y : S2048x5632.Idx → EReal) (r : Fin 1024) (j : Fin 5632) : EReal := ∑ k : Fin 2048, x (ix2 k r) * y (ix2 k j)

/-- An prodEntry of the tile that one point computes. -/
theorem pay_at (x0 : Vec Ideal S2048x1024 .bf16) (x1 : Vec Ideal S2048x512 .bf16) (r : Fin 1024) (j : Fin 512) :
    k0_pay1 (F := Ideal) x0 x1 (ix2 r j) = ∑ k : Fin 2048, term x0 (ix2 k r) x1 (ix2 k j) := by
  unfold term; pointwise [k0_pay1]

variable (m : (ℓ : Loc nD τ sig) → Buf (Elt Ideal) ℓ) (c : Dev nD)

theorem t_lt (t : Fin cfg0.N) : t.val < 11 := lt_of_lt_of_eq t.isLt (show cfg0.N = 11 from N_0)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)

/-- The row and the column of the array that a row and a column of point `t`'s tile are. -/
def rowOf (t : Fin cfg0.N) (r : Fin 1024) : Fin 1024 := ⟨r.val, by have := t_lt t; omega⟩
def colOf (t : Fin cfg0.N) (j : Fin 512) : Fin 5632 := ⟨512 * (t.val) + j.val, by have := t_lt t; omega⟩

theorem block0 (t : Fin cfg0.N) (r : Fin 1024) (k : Fin 2048) : iblk m c 0 t (ix2 k r) = m ((c : Thread nD τ).loc main_arg0) (ix2 k (rowOf t r)) := by
  unfold iblk; rw [View.read_apply, cast_eq]
  refine congrArg (m ((c : Thread nD τ).loc main_arg0)) (funext fun a => Fin.ext ?_)
  match a with
  | ⟨0, _⟩ => blk_simp [index0 t]
  | ⟨1, _⟩ => blk_simp [index0 t]; rfl
theorem block1 (t : Fin cfg0.N) (k : Fin 2048) (j : Fin 512) : iblk m c 1 t (ix2 k j) = m ((c : Thread nD τ).loc main_arg1) (ix2 k (colOf t j)) := by
  unfold iblk; rw [View.read_apply, cast_eq]
  refine congrArg (m ((c : Thread nD τ).loc main_arg1)) (funext fun a => Fin.ext ?_)
  match a with
  | ⟨0, _⟩ => blk_simp [index1 t]
  | ⟨1, _⟩ => blk_simp [index1 t]; show (t.val) * 512 + j.val = 512 * (t.val) + j.val; omega

/-- A tile's entries are the array's. -/
theorem tile (t : Fin cfg0.N) (r : Fin 1024) (j : Fin 512) : ∑ k : Fin 2048, term (iblk m c 0 t) (ix2 k r) (iblk m c 1 t) (ix2 k j)
    = prodEntry (m ((c : Thread nD τ).loc main_arg0)) (m ((c : Thread nD τ).loc main_arg1)) (rowOf t r) (colOf t j) :=
  Finset.sum_congr rfl fun k _ => by unfold term; rw [block0, block1]

theorem hz : (![0, 0] : Fin 2 → Nat) = fun _ => 0 := funext fun a => by fin_cases a <;> rfl

/-- The output array holds the product. -/
theorem array : (dats m 0 c).arrAt 2 cfg0.N
    = fun y : S1024x5632.Idx => prodEntry (m ((c : Thread nD τ).loc main_arg0)) (m ((c : Thread nD τ).loc main_arg1)) (y 0) (y 1) := by
  refine (dats m 0 c).arrAt_eq_of_covers 2 _ (by decide +kernel) fun t hf y => ?_
  have ey : ((cfg0.win 2).blk t).view.emb y = ix2 (rowOf t (y 0)) (colOf t (y 1)) := by
    refine funext fun a => Fin.ext ?_
    match a with
    | ⟨0, _⟩ => blk_simp [index2 t]; rfl
    | ⟨1, _⟩ => blk_simp [index2 t]; show (t.val) * 512 + (y 1).val = 512 * (t.val) + (y 1).val; omega
  rw [ey, after0_2, cast_eq]
  have exy : (cfg0.win 2).xinj (cfg0.grid.coords t) y = ix2 (y 0 : Fin 1024) (y 1 : Fin 512) := by
    refine funext fun a => Fin.ext ?_
    match a with
    | ⟨0, _⟩ => rfl
    | ⟨1, _⟩ => rfl
  refine (congrArg _ exy).trans ?_
  unfold out0_2
  rw [View.canon_unit_zero hz, View.ld_unit_zero hz, View.ld_unit_zero hz]
  exact (pay_at _ _ (y 0) (y 1)).trans (tile m c t (y 0) (y 1))

end Cert.Kernel7Ideal.Gen

namespace Cert.Reference7Ideal.Value

open Cert.Reference7Ideal Cert.Reference7Ideal.Gen Idealize.ShloMosaic Idealize.ShloMosaic.TcCoe Idealize.SL.Sem Cert.StickBreaking
open Cert.Kernel7Ideal.Gen (prodEntry)

variable (x : FVec Ideal S2048x1024 .bf16) (y : FVec Ideal S2048x5632 .bf16)

/-- The reference's product. -/
def productOf : FVec Ideal S1024x5632 .bf16 :=
  truncf .bf16 (transpose S1024x5632 [1, 0] (Host.dotGeneral dot_S2048x5632_S2048x1024_S5632x1024_0_0_1_1_n_n none (extf .f32 y bitsLt_bf16_f32) (extf .f32 x bitsLt_bf16_f32)) transposes_S5632x1024_S1024x5632_1_0) bitsLt_bf16_f32

theorem productOf_at (r : Fin 1024) (j : Fin 5632) : productOf x y (ix2 r j) = ∑ k : Fin 2048, y (ix2 k j) * x (ix2 k r) := by
  pointwise [productOf]

theorem product_eq (r : Fin 1024) (j : Fin 5632) : productOf x y (ix2 r j) = prodEntry x y r j := by
  rw [productOf_at]; exact Finset.sum_congr rfl fun k _ => mul_comm _ _

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = productOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h => h) (run (F := Ideal) m ρ)

end Cert.Reference7Ideal.Value

end
-- ==== Proof.FfnGradX.lean ====
/-
  The gradient of the feed-forward layer's input: what the call's output array holds, and that the reference's is the same. The call sums over the
  contracted axis in two steps, in an accumulator.
-/
module

public import proofs.«01_k».proof.Proof.Gen.Kernel8Ideal.Value
public import proofs.«01_k».proof.Proof.Gen.Reference8Ideal.Run
public import proofs.«01_k».proof.Proof.Entries
public import Idealize.ShloMosaic.Lib.Pipeline.ValueKit

@[expose] public section

set_option maxRecDepth 16384

noncomputable section

namespace Cert.Kernel8Ideal.Gen

open Idealize.ShloMosaic Idealize.ShloMosaic.TcCoe Cert.StickBreaking

/-- One product of two entries. -/
def term (x : S1024x2816.Idx → EReal) (i : S1024x2816.Idx) (y : S1024x2816.Idx → EReal) (j : S1024x2816.Idx) : EReal := x i * y j

/-- An entry of the product of the first array and the second's transpose, and its part over one half of the contracted axis. -/
def prodEntry (x : S2048x5632.Idx → EReal) (y : S1024x5632.Idx → EReal) (r : Fin 2048) (j : Fin 1024) : EReal := ∑ k : Fin 5632, x (ix2 r k) * y (ix2 j k)
def half (s : Fin 2) (k : Fin 2816) : Fin 5632 := ⟨2816 * s.val + k.val, by omega⟩
def partEntry (s : Fin 2) (x : S2048x5632.Idx → EReal) (y : S1024x5632.Idx → EReal) (r : Fin 2048) (j : Fin 1024) : EReal :=
  ∑ k : Fin 2816, x (ix2 r (half s k)) * y (ix2 j (half s k))

theorem part_add (x : S2048x5632.Idx → EReal) (y : S1024x5632.Idx → EReal) (r : Fin 2048) (j : Fin 1024) :
    partEntry 0 x y r j + partEntry 1 x y r j = prodEntry x y r j := by
  unfold prodEntry partEntry
  rw [show (∑ k : Fin 5632, x (ix2 r k) * y (ix2 j k)) = ∑ k : Fin (2816 + 2816), x (ix2 r (Fin.cast (by norm_num) k)) * y (ix2 j (Fin.cast (by norm_num) k)) from rfl, Fin.sum_univ_add]
  refine congrArg₂ (· + ·) (Finset.sum_congr rfl fun k _ => ?_) (Finset.sum_congr rfl fun k _ => ?_)
  · rw [show Fin.cast (by norm_num : 2816 + 2816 = 5632) (Fin.castAdd 2816 k) = half 0 k from Fin.ext (by simp [half])]
  · rw [show Fin.cast (by norm_num : 2816 + 2816 = 5632) (Fin.natAdd 2816 k) = half 1 k from Fin.ext (by simp [half, Nat.add_comm])]

theorem pay1_at (x0 x1 : Vec Ideal S1024x2816 .bf16) (r j : Fin 1024) :
    k0_pay1 (F := Ideal) x0 x1 (ix2 r j) = ∑ k : Fin 2816, term x0 (ix2 r k) x1 (ix2 j k) := by
  unfold term; pointwise [k0_pay1]

theorem hz : (![0, 0] : Fin 2 → Nat) = fun _ => 0 := funext fun a => by fin_cases a <;> rfl

section
variable {F : FTy → Type} [FloatOps F]

/-- The first step stores the product of the first halves. -/
theorem first (c : Dev nD) (i : grid0.Coords) (arg3 : Memref sig .tc .vmem S1024x2816 .bf16) (h3 : arg3.IsWhole) (arg4 : Memref sig .tc .vmem S1024x2816 .bf16) (h4 : arg4.IsWhole) (arg5 : Memref sig .tc .vmem S1024x1024 .f32) (h5 : arg5.IsWhole) (arg6 : Memref sig .tc .vmem S1024x1024 .f32) (h6 : arg6.IsWhole) (hc0 : cond0_0 i) (hc1 : ¬cond0_1 i) (hc2 : ¬cond0_2 i) (x0 x1 : Vec F S1024x2816 .bf16) :
    sout0_A_0 c i arg3 h3 arg4 h4 arg5 h5 arg6 h6 hc0 hc1 hc2 x0 x1 = k0_pay1 x0 x1 := by
  unfold sout0_A_0
  rw [View.read_writes_eq_canon _ _ _ (scover0_A_0 c i arg3 h3 arg4 h4 arg5 h5 arg6 h6 hc0 hc1 hc2 x0 x1)]
  unfold kernelRun0_A
  dsimp only
  rw [View.canon_unit_zero hz]
  unfold k0_pay2
  simp only [View.readAt_eq_ld, h3.read_unread, h4.read_unread, View.ld_unit_zero (S := S1024x2816) hz, shapeCast_self]

/-- The second step adds the product of the second halves and writes the sum. -/
theorem second (c : Dev nD) (i : grid0.Coords) (arg3 : Memref sig .tc .vmem S1024x2816 .bf16) (h3 : arg3.IsWhole) (arg4 : Memref sig .tc .vmem S1024x2816 .bf16) (h4 : arg4.IsWhole) (arg5 : Memref sig .tc .vmem S1024x1024 .f32) (h5 : arg5.IsWhole) (arg6 : Memref sig .tc .vmem S1024x1024 .f32) (h6 : arg6.IsWhole) (hc0 : ¬cond0_0 i) (hc1 : cond0_1 i) (hc2 : cond0_2 i) (x0 x1 : Vec F S1024x2816 .bf16) (acc : Vec F S1024x1024 .f32) :
    out0_B_2 c i arg3 h3 arg4 h4 arg5 h5 arg6 h6 hc0 hc1 hc2 x0 x1 acc = addf acc (k0_pay1 x0 x1) := by
  unfold out0_B_2
  rw [View.read_writes_eq_canon _ _ _ (cover0_B_2 c i arg3 h3 arg4 h4 arg5 h5 arg6 h6 hc0 hc1 hc2 x0 x1 acc)]
  unfold kernelRun0_B
  dsimp only
  sl_unfold_words
  rw [View.canon_unit_zero hz]
  simp only [View.readCov_unit_zero (S := S1024x1024) _ hz, k0_pay3, View.readAt_eq_ld, h3.read_unread, h4.read_unread, h6.read_unread, View.ld_unit_zero (S := S1024x2816) hz, View.ld_unit_zero (S := S1024x1024) hz, shapeCast_self]

end

variable (m : (ℓ : Loc nD τ sig) → Buf (Elt Ideal) ℓ) (c : Dev nD)

theorem t_lt (t : Fin cfg0.N) : t.val < 4 := lt_of_lt_of_eq t.isLt (show cfg0.N = 4 from N_0)

theorem index0 : ∀ t : Fin cfg0.N, win0_0.index t = ![t.val / 2, t.val % 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, 0] := (by decide +kernel : ∀ t : Fin grid0.N, _)

/-- The row of the array that a row of point `t`'s tile is, and the half of the contracted axis. -/
def rowOf (t : Fin cfg0.N) (r : Fin 1024) : Fin 2048 := ⟨1024 * (t.val / 2) + r.val, by have := t_lt t; omega⟩
def halfOf (t : Fin cfg0.N) : Fin 2 := ⟨t.val % 2, by omega⟩

theorem block0 (t : Fin cfg0.N) (r : Fin 1024) (k : Fin 2816) : iblk m c 0 t (ix2 r k) = m ((c : Thread nD τ).loc main_arg0) (ix2 (rowOf t r) (half (halfOf t) k)) := by
  unfold iblk; rw [View.read_apply, cast_eq]
  refine congrArg (m ((c : Thread nD τ).loc main_arg0)) (funext fun a => Fin.ext ?_)
  match a with
  | ⟨0, _⟩ => blk_simp [index0 t]; show t.val / 2 * 1024 + r.val = 1024 * (t.val / 2) + r.val; omega
  | ⟨1, _⟩ => blk_simp [index0 t]; show t.val % 2 * 2816 + k.val = 2816 * (t.val % 2) + k.val; omega
theorem block1 (t : Fin cfg0.N) (j : Fin 1024) (k : Fin 2816) : iblk m c 1 t (ix2 j k) = m ((c : Thread nD τ).loc main_arg1) (ix2 j (half (halfOf t) k)) := by
  unfold iblk; rw [View.read_apply, cast_eq]
  refine congrArg (m ((c : Thread nD τ).loc main_arg1)) (funext fun a => Fin.ext ?_)
  match a with
  | ⟨0, _⟩ => blk_simp [index1 t]
  | ⟨1, _⟩ => blk_simp [index1 t]; show t.val % 2 * 2816 + k.val = 2816 * (t.val % 2) + k.val; omega

/-- A tile's entries are the array's. -/
theorem tile (t : Fin cfg0.N) (r j : Fin 1024) : k0_pay1 (F := Ideal) (iblk m c 0 t) (iblk m c 1 t) (ix2 r j) = partEntry (halfOf t) (m ((c : Thread nD τ).loc main_arg0)) (m ((c : Thread nD τ).loc main_arg1)) (rowOf t r) j :=
  (pay1_at _ _ r j).trans (Finset.sum_congr rfl fun k _ => by unfold term; rw [block0, block1])

/-- The point before an odd point. -/
def prev (t : Fin cfg0.N) : Fin cfg0.N := ⟨t.val - 1, Nat.lt_of_le_of_lt (Nat.sub_le _ _) t.isLt⟩

/-- What an odd point writes: the sum of both halves. -/
theorem written (t : Fin cfg0.N) (h : t.val % 2 = 1) (r j : Fin 1024) : (outsAt0 m c t.val t.isLt).1 (ix2 r j) = prodEntry (m ((c : Thread nD τ).loc main_arg0)) (m ((c : Thread nD τ).loc main_arg1)) (rowOf t r) j := by
  have h0 : (prev t).val % 2 = 0 := by show (t.val - 1) % 2 = 0; omega
  have e0 : (outsAt0 m c (prev t).val (prev t).isLt).2 = k0_pay1 (F := Ideal) (iblk m c 0 (prev t)) (iblk m c 1 (prev t)) := by
    rw [outsAt0_A m c (prev t) h0 (by omega) (by omega)]
    dsimp only
    rw [first]
  have e : (outsAt0 m c (t.val - 1) (Nat.lt_of_le_of_lt (Nat.sub_le _ _) t.isLt)).2 = k0_pay1 (F := Ideal) (iblk m c 0 (prev t)) (iblk m c 1 (prev t)) := e0
  have e' : (outsAt0 m c t.val t.isLt).1 = addf (F := Ideal) (φ := .f32) (k0_pay1 (F := Ideal) (iblk m c 0 (prev t)) (iblk m c 1 (prev t))) (k0_pay1 (F := Ideal) (iblk m c 0 t) (iblk m c 1 t)) := by
    rw [outsAt0_B m c t (by omega) h h]
    dsimp only
    rw [second, e]
  refine (congrFun e' (ix2 r j)).trans ?_
  rw [show addf (F := Ideal) (φ := .f32) (k0_pay1 (F := Ideal) (iblk m c 0 (prev t)) (iblk m c 1 (prev t))) (k0_pay1 (F := Ideal) (iblk m c 0 t) (iblk m c 1 t)) (ix2 r j)
    = partEntry (halfOf (prev t)) (m ((c : Thread nD τ).loc main_arg0)) (m ((c : Thread nD τ).loc main_arg1)) (rowOf (prev t) r) j + partEntry (halfOf t) (m ((c : Thread nD τ).loc main_arg0)) (m ((c : Thread nD τ).loc main_arg1)) (rowOf t r) j from congrArg₂ (· + ·) (tile m c (prev t) r j) (tile m c t r j)]
  rw [← part_add]
  rw [show rowOf (prev t) r = rowOf t r from Fin.ext (by show 1024 * ((t.val - 1) / 2) + r.val = 1024 * (t.val / 2) + r.val; omega),
    show halfOf (prev t) = 0 from Fin.ext h0, show halfOf t = 1 from Fin.ext h]

/-- The output array holds the product. -/
theorem array : (dats m 0 c).arrAt 2 cfg0.N = fun y : S2048x1024.Idx => prodEntry (m ((c : Thread nD τ).loc main_arg0)) (m ((c : Thread nD τ).loc main_arg1)) (y 0) (y 1) := by
  refine (dats m 0 c).arrAt_eq_of_covers 2 _ (by decide +kernel) fun t hf y => ?_
  have ey : ((cfg0.win 2).blk t).view.emb y = ix2 (rowOf t (y 0)) (y 1 : Fin 1024) := by
    refine funext fun a => Fin.ext ?_
    match a with
    | ⟨0, _⟩ => blk_simp [index2 t]; show t.val / 2 * 1024 + (y 0).val = 1024 * (t.val / 2) + (y 0).val; omega
    | ⟨1, _⟩ => blk_simp [index2 t]; rfl
  rw [ey, after0_2, cast_eq]
  have exy : (cfg0.win 2).xinj (cfg0.grid.coords t) y = ix2 (y 0 : Fin 1024) (y 1 : Fin 1024) := by
    refine funext fun a => Fin.ext ?_
    match a with
    | ⟨0, _⟩ => rfl
    | ⟨1, _⟩ => rfl
  exact (congrArg _ exy).trans (written m c t ((flush0_2 t).mp hf) (y 0) (y 1))

end Cert.Kernel8Ideal.Gen

namespace Cert.Reference8Ideal.Value

open Cert.Reference8Ideal Cert.Reference8Ideal.Gen Idealize.ShloMosaic Idealize.ShloMosaic.TcCoe Idealize.SL.Sem Cert.StickBreaking
open Cert.Kernel8Ideal.Gen (prodEntry)

variable (x : FVec Ideal S2048x5632 .bf16) (y : FVec Ideal S1024x5632 .bf16)

/-- The reference's product. -/
def productOf : FVec Ideal S2048x1024 .f32 :=
  Host.dotGeneral dot_S2048x5632_S1024x5632_S2048x1024_1_1_0_0_n_n none (extf .f32 x bitsLt_bf16_f32) (extf .f32 y bitsLt_bf16_f32)

theorem product_eq (r : Fin 2048) (j : Fin 1024) : productOf x y (ix2 r j) = prodEntry x y r j := by
  unfold prodEntry; pointwise [productOf]

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = productOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h => h) (run (F := Ideal) m ρ)

end Cert.Reference8Ideal.Value

end
-- ==== Proof.MixerIn.lean ====
/-
  The mixer's input projection: what the call's output array holds, and that the reference's is the same.
-/
module

public import proofs.«01_k».proof.Proof.Gen.Kernel9Ideal.Value
public import proofs.«01_k».proof.Proof.Gen.Reference9Ideal.Run
public import proofs.«01_k».proof.Proof.Entries
public import Idealize.ShloMosaic.Lib.Pipeline.ValueKit

@[expose] public section

set_option maxRecDepth 16384

noncomputable section

namespace Cert.Kernel9Ideal.Gen

open Idealize.ShloMosaic Idealize.ShloMosaic.TcCoe Cert.StickBreaking

/-- One product of two entries. -/
def term (x : S2048x1024.Idx → EReal) (i : S2048x1024.Idx) (y : S1024x512.Idx → EReal) (j : S1024x512.Idx) : EReal := x i * y j

/-- An prodEntry of the product of the two arrays. -/
def prodEntry (x : S2048x1024.Idx → EReal) (y : S1024x6144.Idx → EReal) (r : Fin 2048) (j : Fin 6144) : EReal := ∑ k : Fin 1024, x (ix2 r k) * y (ix2 k j)

/-- An prodEntry of the tile that one point computes. -/
theorem pay_at (x0 : Vec Ideal S2048x1024 .bf16) (x1 : Vec Ideal S1024x512 .bf16) (r : Fin 2048) (j : Fin 512) :
    k0_pay1 (F := Ideal) x0 x1 (ix2 r j) = ∑ k : Fin 1024, term x0 (ix2 r k) x1 (ix2 k j) := by
  unfold term; pointwise [k0_pay1]

variable (m : (ℓ : Loc nD τ sig) → Buf (Elt Ideal) ℓ) (c : Dev nD)

theorem t_lt (t : Fin cfg0.N) : t.val < 12 := lt_of_lt_of_eq t.isLt (show cfg0.N = 12 from N_0)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)

/-- The row and the column of the array that a row and a column of point `t`'s tile are. -/
def rowOf (t : Fin cfg0.N) (r : Fin 2048) : Fin 2048 := ⟨r.val, by have := t_lt t; omega⟩
def colOf (t : Fin cfg0.N) (j : Fin 512) : Fin 6144 := ⟨512 * (t.val) + j.val, by have := t_lt t; omega⟩

theorem block0 (t : Fin cfg0.N) (r : Fin 2048) (k : Fin 1024) : iblk m c 0 t (ix2 r k) = m ((c : Thread nD τ).loc main_arg0) (ix2 (rowOf t r) k) := by
  unfold iblk; rw [View.read_apply, cast_eq]
  refine congrArg (m ((c : Thread nD τ).loc main_arg0)) (funext fun a => Fin.ext ?_)
  match a with
  | ⟨0, _⟩ => blk_simp [index0 t]; rfl
  | ⟨1, _⟩ => blk_simp [index0 t]
theorem block1 (t : Fin cfg0.N) (k : Fin 1024) (j : Fin 512) : iblk m c 1 t (ix2 k j) = m ((c : Thread nD τ).loc main_arg1) (ix2 k (colOf t j)) := by
  unfold iblk; rw [View.read_apply, cast_eq]
  refine congrArg (m ((c : Thread nD τ).loc main_arg1)) (funext fun a => Fin.ext ?_)
  match a with
  | ⟨0, _⟩ => blk_simp [index1 t]
  | ⟨1, _⟩ => blk_simp [index1 t]; show (t.val) * 512 + j.val = 512 * (t.val) + j.val; omega

/-- A tile's entries are the array's. -/
theorem tile (t : Fin cfg0.N) (r : Fin 2048) (j : Fin 512) : ∑ k : Fin 1024, term (iblk m c 0 t) (ix2 r k) (iblk m c 1 t) (ix2 k j)
    = prodEntry (m ((c : Thread nD τ).loc main_arg0)) (m ((c : Thread nD τ).loc main_arg1)) (rowOf t r) (colOf t j) :=
  Finset.sum_congr rfl fun k _ => by unfold term; rw [block0, block1]

theorem hz : (![0, 0] : Fin 2 → Nat) = fun _ => 0 := funext fun a => by fin_cases a <;> rfl

/-- The output array holds the product. -/
theorem array : (dats m 0 c).arrAt 2 cfg0.N
    = fun y : S2048x6144.Idx => prodEntry (m ((c : Thread nD τ).loc main_arg0)) (m ((c : Thread nD τ).loc main_arg1)) (y 0) (y 1) := by
  refine (dats m 0 c).arrAt_eq_of_covers 2 _ (by decide +kernel) fun t hf y => ?_
  have ey : ((cfg0.win 2).blk t).view.emb y = ix2 (rowOf t (y 0)) (colOf t (y 1)) := by
    refine funext fun a => Fin.ext ?_
    match a with
    | ⟨0, _⟩ => blk_simp [index2 t]; rfl
    | ⟨1, _⟩ => blk_simp [index2 t]; show (t.val) * 512 + (y 1).val = 512 * (t.val) + (y 1).val; omega
  rw [ey, after0_2, cast_eq]
  have exy : (cfg0.win 2).xinj (cfg0.grid.coords t) y = ix2 (y 0 : Fin 2048) (y 1 : Fin 512) := by
    refine funext fun a => Fin.ext ?_
    match a with
    | ⟨0, _⟩ => rfl
    | ⟨1, _⟩ => rfl
  refine (congrArg _ exy).trans ?_
  unfold out0_2
  rw [View.canon_unit_zero hz, View.ld_unit_zero hz, View.ld_unit_zero hz]
  exact (pay_at _ _ (y 0) (y 1)).trans (tile m c t (y 0) (y 1))

end Cert.Kernel9Ideal.Gen

namespace Cert.Reference9Ideal.Value

open Cert.Reference9Ideal Cert.Reference9Ideal.Gen Idealize.ShloMosaic Idealize.ShloMosaic.TcCoe Idealize.SL.Sem Cert.StickBreaking
open Cert.Kernel9Ideal.Gen (prodEntry)

variable (x : FVec Ideal S2048x1024 .bf16) (y : FVec Ideal S1024x6144 .bf16)

/-- The reference's product. -/
def productOf : FVec Ideal S2048x6144 .f32 :=
  Host.dotGeneral dot_S2048x1024_S1024x6144_S2048x6144_1_0_0_1_n_n none (extf .f32 x bitsLt_bf16_f32) (extf .f32 y bitsLt_bf16_f32)

theorem product_eq (r : Fin 2048) (j : Fin 6144) : productOf x y (ix2 r j) = prodEntry x y r j := by
  unfold prodEntry; pointwise [productOf]

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = productOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h => h) (run (F := Ideal) m ρ)

end Cert.Reference9Ideal.Value

end
-- ==== Proof.MixerGradIn.lean ====
/-
  The gradient of the mixer's input weight: what the call's output array holds, and that the reference's is the same.
-/
module

public import proofs.«01_k».proof.Proof.Gen.Kernel10Ideal.Value
public import proofs.«01_k».proof.Proof.Gen.Reference10Ideal.Run
public import proofs.«01_k».proof.Proof.Entries
public import Idealize.ShloMosaic.Lib.Pipeline.ValueKit

@[expose] public section

set_option maxRecDepth 16384

noncomputable section

namespace Cert.Kernel10Ideal.Gen

open Idealize.ShloMosaic Idealize.ShloMosaic.TcCoe Cert.StickBreaking

/-- One product of two entries. -/
def term (x : S2048x1024.Idx → EReal) (i : S2048x1024.Idx) (y : S2048x512.Idx → EReal) (j : S2048x512.Idx) : EReal := x i * y j

/-- An prodEntry of the product of the two arrays. -/
def prodEntry (x : S2048x1024.Idx → EReal) (y : S2048x6144.Idx → EReal) (r : Fin 1024) (j : Fin 6144) : EReal := ∑ k : Fin 2048, x (ix2 k r) * y (ix2 k j)

/-- An prodEntry of the tile that one point computes. -/
theorem pay_at (x0 : Vec Ideal S2048x1024 .bf16) (x1 : Vec Ideal S2048x512 .bf16) (r : Fin 1024) (j : Fin 512) :
    k0_pay1 (F := Ideal) x0 x1 (ix2 r j) = ∑ k : Fin 2048, term x0 (ix2 k r) x1 (ix2 k j) := by
  unfold term; pointwise [k0_pay1]

variable (m : (ℓ : Loc nD τ sig) → Buf (Elt Ideal) ℓ) (c : Dev nD)

theorem t_lt (t : Fin cfg0.N) : t.val < 12 := lt_of_lt_of_eq t.isLt (show cfg0.N = 12 from N_0)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)

/-- The row and the column of the array that a row and a column of point `t`'s tile are. -/
def rowOf (t : Fin cfg0.N) (r : Fin 1024) : Fin 1024 := ⟨r.val, by have := t_lt t; omega⟩
def colOf (t : Fin cfg0.N) (j : Fin 512) : Fin 6144 := ⟨512 * (t.val) + j.val, by have := t_lt t; omega⟩

theorem block0 (t : Fin cfg0.N) (r : Fin 1024) (k : Fin 2048) : iblk m c 0 t (ix2 k r) = m ((c : Thread nD τ).loc main_arg0) (ix2 k (rowOf t r)) := by
  unfold iblk; rw [View.read_apply, cast_eq]
  refine congrArg (m ((c : Thread nD τ).loc main_arg0)) (funext fun a => Fin.ext ?_)
  match a with
  | ⟨0, _⟩ => blk_simp [index0 t]
  | ⟨1, _⟩ => blk_simp [index0 t]; rfl
theorem block1 (t : Fin cfg0.N) (k : Fin 2048) (j : Fin 512) : iblk m c 1 t (ix2 k j) = m ((c : Thread nD τ).loc main_arg1) (ix2 k (colOf t j)) := by
  unfold iblk; rw [View.read_apply, cast_eq]
  refine congrArg (m ((c : Thread nD τ).loc main_arg1)) (funext fun a => Fin.ext ?_)
  match a with
  | ⟨0, _⟩ => blk_simp [index1 t]
  | ⟨1, _⟩ => blk_simp [index1 t]; show (t.val) * 512 + j.val = 512 * (t.val) + j.val; omega

/-- A tile's entries are the array's. -/
theorem tile (t : Fin cfg0.N) (r : Fin 1024) (j : Fin 512) : ∑ k : Fin 2048, term (iblk m c 0 t) (ix2 k r) (iblk m c 1 t) (ix2 k j)
    = prodEntry (m ((c : Thread nD τ).loc main_arg0)) (m ((c : Thread nD τ).loc main_arg1)) (rowOf t r) (colOf t j) :=
  Finset.sum_congr rfl fun k _ => by unfold term; rw [block0, block1]

theorem hz : (![0, 0] : Fin 2 → Nat) = fun _ => 0 := funext fun a => by fin_cases a <;> rfl

/-- The output array holds the product. -/
theorem array : (dats m 0 c).arrAt 2 cfg0.N
    = fun y : S1024x6144.Idx => prodEntry (m ((c : Thread nD τ).loc main_arg0)) (m ((c : Thread nD τ).loc main_arg1)) (y 0) (y 1) := by
  refine (dats m 0 c).arrAt_eq_of_covers 2 _ (by decide +kernel) fun t hf y => ?_
  have ey : ((cfg0.win 2).blk t).view.emb y = ix2 (rowOf t (y 0)) (colOf t (y 1)) := by
    refine funext fun a => Fin.ext ?_
    match a with
    | ⟨0, _⟩ => blk_simp [index2 t]; rfl
    | ⟨1, _⟩ => blk_simp [index2 t]; show (t.val) * 512 + (y 1).val = 512 * (t.val) + (y 1).val; omega
  rw [ey, after0_2, cast_eq]
  have exy : (cfg0.win 2).xinj (cfg0.grid.coords t) y = ix2 (y 0 : Fin 1024) (y 1 : Fin 512) := by
    refine funext fun a => Fin.ext ?_
    match a with
    | ⟨0, _⟩ => rfl
    | ⟨1, _⟩ => rfl
  refine (congrArg _ exy).trans ?_
  unfold out0_2
  rw [View.canon_unit_zero hz, View.ld_unit_zero hz, View.ld_unit_zero hz]
  exact (pay_at _ _ (y 0) (y 1)).trans (tile m c t (y 0) (y 1))

end Cert.Kernel10Ideal.Gen

namespace Cert.Reference10Ideal.Value

open Cert.Reference10Ideal Cert.Reference10Ideal.Gen Idealize.ShloMosaic Idealize.ShloMosaic.TcCoe Idealize.SL.Sem Cert.StickBreaking
open Cert.Kernel10Ideal.Gen (prodEntry)

variable (x : FVec Ideal S2048x1024 .bf16) (y : FVec Ideal S2048x6144 .bf16)

/-- The reference's product. -/
def productOf : FVec Ideal S1024x6144 .bf16 :=
  truncf .bf16 (transpose S1024x6144 [1, 0] (Host.dotGeneral dot_S2048x6144_S2048x1024_S6144x1024_0_0_1_1_n_n none (extf .f32 y bitsLt_bf16_f32) (extf .f32 x bitsLt_bf16_f32)) transposes_S6144x1024_S1024x6144_1_0) bitsLt_bf16_f32

theorem productOf_at (r : Fin 1024) (j : Fin 6144) : productOf x y (ix2 r j) = ∑ k : Fin 2048, y (ix2 k j) * x (ix2 k r) := by
  pointwise [productOf]

theorem product_eq (r : Fin 1024) (j : Fin 6144) : productOf x y (ix2 r j) = prodEntry x y r j := by
  rw [productOf_at]; exact Finset.sum_congr rfl fun k _ => mul_comm _ _

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = productOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h => h) (run (F := Ideal) m ρ)

end Cert.Reference10Ideal.Value

end
-- ==== Proof.MixerGradX.lean ====
/-
  The gradient of the mixer's input: what the call's output array holds, and that the reference's is the same. The call sums over the
  contracted axis in two steps, in an accumulator.
-/
module

public import proofs.«01_k».proof.Proof.Gen.Kernel11Ideal.Value
public import proofs.«01_k».proof.Proof.Gen.Reference11Ideal.Run
public import proofs.«01_k».proof.Proof.Entries
public import Idealize.ShloMosaic.Lib.Pipeline.ValueKit

@[expose] public section

set_option maxRecDepth 16384

noncomputable section

namespace Cert.Kernel11Ideal.Gen

open Idealize.ShloMosaic Idealize.ShloMosaic.TcCoe Cert.StickBreaking

/-- One product of two entries. -/
def term (x : S1024x3072.Idx → EReal) (i : S1024x3072.Idx) (y : S1024x3072.Idx → EReal) (j : S1024x3072.Idx) : EReal := x i * y j

/-- An entry of the product of the first array and the second's transpose, and its part over one half of the contracted axis. -/
def prodEntry (x : S2048x6144.Idx → EReal) (y : S1024x6144.Idx → EReal) (r : Fin 2048) (j : Fin 1024) : EReal := ∑ k : Fin 6144, x (ix2 r k) * y (ix2 j k)
def half (s : Fin 2) (k : Fin 3072) : Fin 6144 := ⟨3072 * s.val + k.val, by omega⟩
def partEntry (s : Fin 2) (x : S2048x6144.Idx → EReal) (y : S1024x6144.Idx → EReal) (r : Fin 2048) (j : Fin 1024) : EReal :=
  ∑ k : Fin 3072, x (ix2 r (half s k)) * y (ix2 j (half s k))

theorem part_add (x : S2048x6144.Idx → EReal) (y : S1024x6144.Idx → EReal) (r : Fin 2048) (j : Fin 1024) :
    partEntry 0 x y r j + partEntry 1 x y r j = prodEntry x y r j := by
  unfold prodEntry partEntry
  rw [show (∑ k : Fin 6144, x (ix2 r k) * y (ix2 j k)) = ∑ k : Fin (3072 + 3072), x (ix2 r (Fin.cast (by norm_num) k)) * y (ix2 j (Fin.cast (by norm_num) k)) from rfl, Fin.sum_univ_add]
  refine congrArg₂ (· + ·) (Finset.sum_congr rfl fun k _ => ?_) (Finset.sum_congr rfl fun k _ => ?_)
  · rw [show Fin.cast (by norm_num : 3072 + 3072 = 6144) (Fin.castAdd 3072 k) = half 0 k from Fin.ext (by simp [half])]
  · rw [show Fin.cast (by norm_num : 3072 + 3072 = 6144) (Fin.natAdd 3072 k) = half 1 k from Fin.ext (by simp [half, Nat.add_comm])]

theorem pay1_at (x0 x1 : Vec Ideal S1024x3072 .bf16) (r j : Fin 1024) :
    k0_pay1 (F := Ideal) x0 x1 (ix2 r j) = ∑ k : Fin 3072, term x0 (ix2 r k) x1 (ix2 j k) := by
  unfold term; pointwise [k0_pay1]

theorem hz : (![0, 0] : Fin 2 → Nat) = fun _ => 0 := funext fun a => by fin_cases a <;> rfl

section
variable {F : FTy → Type} [FloatOps F]

/-- The first step stores the product of the first halves. -/
theorem first (c : Dev nD) (i : grid0.Coords) (arg3 : Memref sig .tc .vmem S1024x3072 .bf16) (h3 : arg3.IsWhole) (arg4 : Memref sig .tc .vmem S1024x3072 .bf16) (h4 : arg4.IsWhole) (arg5 : Memref sig .tc .vmem S1024x1024 .f32) (h5 : arg5.IsWhole) (arg6 : Memref sig .tc .vmem S1024x1024 .f32) (h6 : arg6.IsWhole) (hc0 : cond0_0 i) (hc1 : ¬cond0_1 i) (hc2 : ¬cond0_2 i) (x0 x1 : Vec F S1024x3072 .bf16) :
    sout0_A_0 c i arg3 h3 arg4 h4 arg5 h5 arg6 h6 hc0 hc1 hc2 x0 x1 = k0_pay1 x0 x1 := by
  unfold sout0_A_0
  rw [View.read_writes_eq_canon _ _ _ (scover0_A_0 c i arg3 h3 arg4 h4 arg5 h5 arg6 h6 hc0 hc1 hc2 x0 x1)]
  unfold kernelRun0_A
  dsimp only
  rw [View.canon_unit_zero hz]
  unfold k0_pay2
  simp only [View.readAt_eq_ld, h3.read_unread, h4.read_unread, View.ld_unit_zero (S := S1024x3072) hz, shapeCast_self]

/-- The second step adds the product of the second halves and writes the sum. -/
theorem second (c : Dev nD) (i : grid0.Coords) (arg3 : Memref sig .tc .vmem S1024x3072 .bf16) (h3 : arg3.IsWhole) (arg4 : Memref sig .tc .vmem S1024x3072 .bf16) (h4 : arg4.IsWhole) (arg5 : Memref sig .tc .vmem S1024x1024 .f32) (h5 : arg5.IsWhole) (arg6 : Memref sig .tc .vmem S1024x1024 .f32) (h6 : arg6.IsWhole) (hc0 : ¬cond0_0 i) (hc1 : cond0_1 i) (hc2 : cond0_2 i) (x0 x1 : Vec F S1024x3072 .bf16) (acc : Vec F S1024x1024 .f32) :
    out0_B_2 c i arg3 h3 arg4 h4 arg5 h5 arg6 h6 hc0 hc1 hc2 x0 x1 acc = addf acc (k0_pay1 x0 x1) := by
  unfold out0_B_2
  rw [View.read_writes_eq_canon _ _ _ (cover0_B_2 c i arg3 h3 arg4 h4 arg5 h5 arg6 h6 hc0 hc1 hc2 x0 x1 acc)]
  unfold kernelRun0_B
  dsimp only
  sl_unfold_words
  rw [View.canon_unit_zero hz]
  simp only [View.readCov_unit_zero (S := S1024x1024) _ hz, k0_pay3, View.readAt_eq_ld, h3.read_unread, h4.read_unread, h6.read_unread, View.ld_unit_zero (S := S1024x3072) hz, View.ld_unit_zero (S := S1024x1024) hz, shapeCast_self]

end

variable (m : (ℓ : Loc nD τ sig) → Buf (Elt Ideal) ℓ) (c : Dev nD)

theorem t_lt (t : Fin cfg0.N) : t.val < 4 := lt_of_lt_of_eq t.isLt (show cfg0.N = 4 from N_0)

theorem index0 : ∀ t : Fin cfg0.N, win0_0.index t = ![t.val / 2, t.val % 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, 0] := (by decide +kernel : ∀ t : Fin grid0.N, _)

/-- The row of the array that a row of point `t`'s tile is, and the half of the contracted axis. -/
def rowOf (t : Fin cfg0.N) (r : Fin 1024) : Fin 2048 := ⟨1024 * (t.val / 2) + r.val, by have := t_lt t; omega⟩
def halfOf (t : Fin cfg0.N) : Fin 2 := ⟨t.val % 2, by omega⟩

theorem block0 (t : Fin cfg0.N) (r : Fin 1024) (k : Fin 3072) : iblk m c 0 t (ix2 r k) = m ((c : Thread nD τ).loc main_arg0) (ix2 (rowOf t r) (half (halfOf t) k)) := by
  unfold iblk; rw [View.read_apply, cast_eq]
  refine congrArg (m ((c : Thread nD τ).loc main_arg0)) (funext fun a => Fin.ext ?_)
  match a with
  | ⟨0, _⟩ => blk_simp [index0 t]; show t.val / 2 * 1024 + r.val = 1024 * (t.val / 2) + r.val; omega
  | ⟨1, _⟩ => blk_simp [index0 t]; show t.val % 2 * 3072 + k.val = 3072 * (t.val % 2) + k.val; omega
theorem block1 (t : Fin cfg0.N) (j : Fin 1024) (k : Fin 3072) : iblk m c 1 t (ix2 j k) = m ((c : Thread nD τ).loc main_arg1) (ix2 j (half (halfOf t) k)) := by
  unfold iblk; rw [View.read_apply, cast_eq]
  refine congrArg (m ((c : Thread nD τ).loc main_arg1)) (funext fun a => Fin.ext ?_)
  match a with
  | ⟨0, _⟩ => blk_simp [index1 t]
  | ⟨1, _⟩ => blk_simp [index1 t]; show t.val % 2 * 3072 + k.val = 3072 * (t.val % 2) + k.val; omega

/-- A tile's entries are the array's. -/
theorem tile (t : Fin cfg0.N) (r j : Fin 1024) : k0_pay1 (F := Ideal) (iblk m c 0 t) (iblk m c 1 t) (ix2 r j) = partEntry (halfOf t) (m ((c : Thread nD τ).loc main_arg0)) (m ((c : Thread nD τ).loc main_arg1)) (rowOf t r) j :=
  (pay1_at _ _ r j).trans (Finset.sum_congr rfl fun k _ => by unfold term; rw [block0, block1])

/-- The point before an odd point. -/
def prev (t : Fin cfg0.N) : Fin cfg0.N := ⟨t.val - 1, Nat.lt_of_le_of_lt (Nat.sub_le _ _) t.isLt⟩

/-- What an odd point writes: the sum of both halves. -/
theorem written (t : Fin cfg0.N) (h : t.val % 2 = 1) (r j : Fin 1024) : (outsAt0 m c t.val t.isLt).1 (ix2 r j) = prodEntry (m ((c : Thread nD τ).loc main_arg0)) (m ((c : Thread nD τ).loc main_arg1)) (rowOf t r) j := by
  have h0 : (prev t).val % 2 = 0 := by show (t.val - 1) % 2 = 0; omega
  have e0 : (outsAt0 m c (prev t).val (prev t).isLt).2 = k0_pay1 (F := Ideal) (iblk m c 0 (prev t)) (iblk m c 1 (prev t)) := by
    rw [outsAt0_A m c (prev t) h0 (by omega) (by omega)]
    dsimp only
    rw [first]
  have e : (outsAt0 m c (t.val - 1) (Nat.lt_of_le_of_lt (Nat.sub_le _ _) t.isLt)).2 = k0_pay1 (F := Ideal) (iblk m c 0 (prev t)) (iblk m c 1 (prev t)) := e0
  have e' : (outsAt0 m c t.val t.isLt).1 = addf (F := Ideal) (φ := .f32) (k0_pay1 (F := Ideal) (iblk m c 0 (prev t)) (iblk m c 1 (prev t))) (k0_pay1 (F := Ideal) (iblk m c 0 t) (iblk m c 1 t)) := by
    rw [outsAt0_B m c t (by omega) h h]
    dsimp only
    rw [second, e]
  refine (congrFun e' (ix2 r j)).trans ?_
  rw [show addf (F := Ideal) (φ := .f32) (k0_pay1 (F := Ideal) (iblk m c 0 (prev t)) (iblk m c 1 (prev t))) (k0_pay1 (F := Ideal) (iblk m c 0 t) (iblk m c 1 t)) (ix2 r j)
    = partEntry (halfOf (prev t)) (m ((c : Thread nD τ).loc main_arg0)) (m ((c : Thread nD τ).loc main_arg1)) (rowOf (prev t) r) j + partEntry (halfOf t) (m ((c : Thread nD τ).loc main_arg0)) (m ((c : Thread nD τ).loc main_arg1)) (rowOf t r) j from congrArg₂ (· + ·) (tile m c (prev t) r j) (tile m c t r j)]
  rw [← part_add]
  rw [show rowOf (prev t) r = rowOf t r from Fin.ext (by show 1024 * ((t.val - 1) / 2) + r.val = 1024 * (t.val / 2) + r.val; omega),
    show halfOf (prev t) = 0 from Fin.ext h0, show halfOf t = 1 from Fin.ext h]

/-- The output array holds the product. -/
theorem array : (dats m 0 c).arrAt 2 cfg0.N = fun y : S2048x1024.Idx => prodEntry (m ((c : Thread nD τ).loc main_arg0)) (m ((c : Thread nD τ).loc main_arg1)) (y 0) (y 1) := by
  refine (dats m 0 c).arrAt_eq_of_covers 2 _ (by decide +kernel) fun t hf y => ?_
  have ey : ((cfg0.win 2).blk t).view.emb y = ix2 (rowOf t (y 0)) (y 1 : Fin 1024) := by
    refine funext fun a => Fin.ext ?_
    match a with
    | ⟨0, _⟩ => blk_simp [index2 t]; show t.val / 2 * 1024 + (y 0).val = 1024 * (t.val / 2) + (y 0).val; omega
    | ⟨1, _⟩ => blk_simp [index2 t]; rfl
  rw [ey, after0_2, cast_eq]
  have exy : (cfg0.win 2).xinj (cfg0.grid.coords t) y = ix2 (y 0 : Fin 1024) (y 1 : Fin 1024) := by
    refine funext fun a => Fin.ext ?_
    match a with
    | ⟨0, _⟩ => rfl
    | ⟨1, _⟩ => rfl
  exact (congrArg _ exy).trans (written m c t ((flush0_2 t).mp hf) (y 0) (y 1))

end Cert.Kernel11Ideal.Gen

namespace Cert.Reference11Ideal.Value

open Cert.Reference11Ideal Cert.Reference11Ideal.Gen Idealize.ShloMosaic Idealize.ShloMosaic.TcCoe Idealize.SL.Sem Cert.StickBreaking
open Cert.Kernel11Ideal.Gen (prodEntry)

variable (x : FVec Ideal S2048x6144 .bf16) (y : FVec Ideal S1024x6144 .bf16)

/-- The reference's product. -/
def productOf : FVec Ideal S2048x1024 .f32 :=
  Host.dotGeneral dot_S2048x6144_S1024x6144_S2048x1024_1_1_0_0_n_n none (extf .f32 x bitsLt_bf16_f32) (extf .f32 y bitsLt_bf16_f32)

theorem product_eq (r : Fin 2048) (j : Fin 1024) : productOf x y (ix2 r j) = prodEntry x y r j := by
  unfold prodEntry; pointwise [productOf]

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = productOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h => h) (run (F := Ideal) m ρ)

end Cert.Reference11Ideal.Value

end
-- ==== Proof.MixerGradOut.lean ====
/-
  The gradient of the mixer's output weight: what the call's output array holds, and that the reference's is the same.
-/
module

public import proofs.«01_k».proof.Proof.Gen.Kernel12Ideal.Value
public import proofs.«01_k».proof.Proof.Gen.Reference12Ideal.Run
public import proofs.«01_k».proof.Proof.Entries
public import Idealize.ShloMosaic.Lib.Pipeline.ValueKit

@[expose] public section

set_option maxRecDepth 16384

noncomputable section

namespace Cert.Kernel12Ideal.Gen

open Idealize.ShloMosaic Idealize.ShloMosaic.TcCoe Cert.StickBreaking

/-- One product of two entries. -/
def term (x : S2048x512.Idx → EReal) (i : S2048x512.Idx) (y : S2048x512.Idx → EReal) (j : S2048x512.Idx) : EReal := x i * y j

/-- An entry of the product of the two arrays. -/
def prodEntry (x : S2048x1024.Idx → EReal) (y : S2048x1024.Idx → EReal) (r : Fin 1024) (j : Fin 1024) : EReal := ∑ k : Fin 2048, x (ix2 k r) * y (ix2 k j)

/-- An entry of the tile that one point computes. -/
theorem pay_at (x0 : Vec Ideal S2048x512 .bf16) (x1 : Vec Ideal S2048x512 .bf16) (r : Fin 512) (j : Fin 512) :
    k0_pay1 (F := Ideal) x0 x1 (ix2 r j) = ∑ k : Fin 2048, term x0 (ix2 k r) x1 (ix2 k j) := by
  unfold term; pointwise [k0_pay1]

variable (m : (ℓ : Loc nD τ sig) → Buf (Elt Ideal) ℓ) (c : Dev nD)

theorem t_lt (t : Fin cfg0.N) : t.val < 4 := lt_of_lt_of_eq t.isLt (show cfg0.N = 4 from N_0)

theorem index0 : ∀ t : Fin cfg0.N, win0_0.index t = ![0, t.val / 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

/-- The row and the column of the array that a row and a column of point `t`'s tile are. -/
def rowOf (t : Fin cfg0.N) (r : Fin 512) : Fin 1024 := ⟨512 * (t.val / 2) + r.val, by have := t_lt t; omega⟩
def colOf (t : Fin cfg0.N) (j : Fin 512) : Fin 1024 := ⟨512 * (t.val % 2) + j.val, by have := t_lt t; omega⟩

theorem block0 (t : Fin cfg0.N) (r : Fin 512) (k : Fin 2048) : iblk m c 0 t (ix2 k r) = m ((c : Thread nD τ).loc main_arg0) (ix2 k (rowOf t r)) := by
  unfold iblk; rw [View.read_apply, cast_eq]
  refine congrArg (m ((c : Thread nD τ).loc main_arg0)) (funext fun a => Fin.ext ?_)
  match a with
  | ⟨0, _⟩ => blk_simp [index0 t]
  | ⟨1, _⟩ => blk_simp [index0 t]; show (t.val / 2) * 512 + r.val = 512 * (t.val / 2) + r.val; omega
theorem block1 (t : Fin cfg0.N) (k : Fin 2048) (j : Fin 512) : iblk m c 1 t (ix2 k j) = m ((c : Thread nD τ).loc main_arg1) (ix2 k (colOf t j)) := by
  unfold iblk; rw [View.read_apply, cast_eq]
  refine congrArg (m ((c : Thread nD τ).loc main_arg1)) (funext fun a => Fin.ext ?_)
  match a with
  | ⟨0, _⟩ => blk_simp [index1 t]
  | ⟨1, _⟩ => blk_simp [index1 t]; show (t.val % 2) * 512 + j.val = 512 * (t.val % 2) + j.val; omega

/-- A tile's entries are the array's. -/
theorem tile (t : Fin cfg0.N) (r : Fin 512) (j : Fin 512) : ∑ k : Fin 2048, term (iblk m c 0 t) (ix2 k r) (iblk m c 1 t) (ix2 k j)
    = prodEntry (m ((c : Thread nD τ).loc main_arg0)) (m ((c : Thread nD τ).loc main_arg1)) (rowOf t r) (colOf t j) :=
  Finset.sum_congr rfl fun k _ => by unfold term; rw [block0, block1]

theorem hz : (![0, 0] : Fin 2 → Nat) = fun _ => 0 := funext fun a => by fin_cases a <;> rfl

/-- The output array holds the product. -/
theorem array : (dats m 0 c).arrAt 2 cfg0.N
    = fun y : S1024x1024.Idx => prodEntry (m ((c : Thread nD τ).loc main_arg0)) (m ((c : Thread nD τ).loc main_arg1)) (y 0) (y 1) := by
  refine (dats m 0 c).arrAt_eq_of_covers 2 _ (by decide +kernel) fun t hf y => ?_
  have ey : ((cfg0.win 2).blk t).view.emb y = ix2 (rowOf t (y 0)) (colOf t (y 1)) := by
    refine funext fun a => Fin.ext ?_
    match a with
    | ⟨0, _⟩ => blk_simp [index2 t]; show (t.val / 2) * 512 + (y 0).val = 512 * (t.val / 2) + (y 0).val; omega
    | ⟨1, _⟩ => blk_simp [index2 t]; show (t.val % 2) * 512 + (y 1).val = 512 * (t.val % 2) + (y 1).val; omega
  rw [ey, after0_2, cast_eq]
  have exy : (cfg0.win 2).xinj (cfg0.grid.coords t) y = ix2 (y 0 : Fin 512) (y 1 : Fin 512) := by
    refine funext fun a => Fin.ext ?_
    match a with
    | ⟨0, _⟩ => rfl
    | ⟨1, _⟩ => rfl
  refine (congrArg _ exy).trans ?_
  unfold out0_2
  rw [View.canon_unit_zero hz, View.ld_unit_zero hz, View.ld_unit_zero hz]
  exact (pay_at _ _ (y 0) (y 1)).trans (tile m c t (y 0) (y 1))

end Cert.Kernel12Ideal.Gen

namespace Cert.Reference12Ideal.Value

open Cert.Reference12Ideal Cert.Reference12Ideal.Gen Idealize.ShloMosaic Idealize.ShloMosaic.TcCoe Idealize.SL.Sem Cert.StickBreaking
open Cert.Kernel12Ideal.Gen (prodEntry)

variable (x : FVec Ideal S2048x1024 .bf16) (y : FVec Ideal S2048x1024 .bf16)

/-- The reference's product. -/
def productOf : FVec Ideal S1024x1024 .bf16 :=
  truncf .bf16 (transpose S1024x1024 [1, 0] (Host.dotGeneral dot_S2048x1024_S2048x1024_S1024x1024_0_0_1_1_n_n none (extf .f32 y bitsLt_bf16_f32) (extf .f32 x bitsLt_bf16_f32)) transposes_S1024x1024_S1024x1024_1_0) bitsLt_bf16_f32

theorem productOf_at (r : Fin 1024) (j : Fin 1024) : productOf x y (ix2 r j) = ∑ k : Fin 2048, y (ix2 k j) * x (ix2 k r) := by
  pointwise [productOf]

theorem product_eq (r : Fin 1024) (j : Fin 1024) : productOf x y (ix2 r j) = prodEntry x y r j := by
  rw [productOf_at]; exact Finset.sum_congr rfl fun k _ => mul_comm _ _

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = productOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h => h) (run (F := Ideal) m ρ)

end Cert.Reference12Ideal.Value

end
-- ==== Proof.MixerGradMerged.lean ====
/-
  The gradient of the mixer's merged branches: what the call's output array holds, and that the reference's is the same.
-/
module

public import proofs.«01_k».proof.Proof.Gen.Kernel13Ideal.Value
public import proofs.«01_k».proof.Proof.Gen.Reference13Ideal.Run
public import proofs.«01_k».proof.Proof.Entries
public import Idealize.ShloMosaic.Lib.Pipeline.ValueKit

@[expose] public section

set_option maxRecDepth 16384

noncomputable section

namespace Cert.Kernel13Ideal.Gen

open Idealize.ShloMosaic Idealize.ShloMosaic.TcCoe Cert.StickBreaking

/-- One product of two entries. -/
def term (x : S1024x1024.Idx → EReal) (i : S1024x1024.Idx) (y : S512x1024.Idx → EReal) (j : S512x1024.Idx) : EReal := x i * y j

/-- An entry of the product of the two arrays. -/
def prodEntry (x : S2048x1024.Idx → EReal) (y : S1024x1024.Idx → EReal) (r : Fin 2048) (j : Fin 1024) : EReal := ∑ k : Fin 1024, x (ix2 r k) * y (ix2 j k)

/-- An entry of the tile that one point computes. -/
theorem pay_at (x0 : Vec Ideal S1024x1024 .bf16) (x1 : Vec Ideal S512x1024 .bf16) (r : Fin 1024) (j : Fin 512) :
    k0_pay1 (F := Ideal) x0 x1 (ix2 r j) = ∑ k : Fin 1024, term x0 (ix2 r k) x1 (ix2 j k) := by
  unfold term; pointwise [k0_pay1]

variable (m : (ℓ : Loc nD τ sig) → Buf (Elt Ideal) ℓ) (c : Dev nD)

theorem t_lt (t : Fin cfg0.N) : t.val < 4 := lt_of_lt_of_eq t.isLt (show cfg0.N = 4 from N_0)

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)

/-- The row and the column of the array that a row and a column of point `t`'s tile are. -/
def rowOf (t : Fin cfg0.N) (r : Fin 1024) : Fin 2048 := ⟨1024 * (t.val / 2) + r.val, by have := t_lt t; omega⟩
def colOf (t : Fin cfg0.N) (j : Fin 512) : Fin 1024 := ⟨512 * (t.val % 2) + j.val, by have := t_lt t; omega⟩

theorem block0 (t : Fin cfg0.N) (r : Fin 1024) (k : Fin 1024) : iblk m c 0 t (ix2 r k) = m ((c : Thread nD τ).loc main_arg0) (ix2 (rowOf t r) k) := by
  unfold iblk; rw [View.read_apply, cast_eq]
  refine congrArg (m ((c : Thread nD τ).loc main_arg0)) (funext fun a => Fin.ext ?_)
  match a with
  | ⟨0, _⟩ => blk_simp [index0 t]; show (t.val / 2) * 1024 + r.val = 1024 * (t.val / 2) + r.val; omega
  | ⟨1, _⟩ => blk_simp [index0 t]
theorem block1 (t : Fin cfg0.N) (k : Fin 1024) (j : Fin 512) : iblk m c 1 t (ix2 j k) = m ((c : Thread nD τ).loc main_arg1) (ix2 (colOf t j) k) := by
  unfold iblk; rw [View.read_apply, cast_eq]
  refine congrArg (m ((c : Thread nD τ).loc main_arg1)) (funext fun a => Fin.ext ?_)
  match a with
  | ⟨0, _⟩ => blk_simp [index1 t]; show (t.val % 2) * 512 + j.val = 512 * (t.val % 2) + j.val; omega
  | ⟨1, _⟩ => blk_simp [index1 t]

/-- A tile's entries are the array's. -/
theorem tile (t : Fin cfg0.N) (r : Fin 1024) (j : Fin 512) : ∑ k : Fin 1024, term (iblk m c 0 t) (ix2 r k) (iblk m c 1 t) (ix2 j k)
    = prodEntry (m ((c : Thread nD τ).loc main_arg0)) (m ((c : Thread nD τ).loc main_arg1)) (rowOf t r) (colOf t j) :=
  Finset.sum_congr rfl fun k _ => by unfold term; rw [block0, block1]

theorem hz : (![0, 0] : Fin 2 → Nat) = fun _ => 0 := funext fun a => by fin_cases a <;> rfl

/-- The output array holds the product. -/
theorem array : (dats m 0 c).arrAt 2 cfg0.N
    = fun y : S2048x1024.Idx => prodEntry (m ((c : Thread nD τ).loc main_arg0)) (m ((c : Thread nD τ).loc main_arg1)) (y 0) (y 1) := by
  refine (dats m 0 c).arrAt_eq_of_covers 2 _ (by decide +kernel) fun t hf y => ?_
  have ey : ((cfg0.win 2).blk t).view.emb y = ix2 (rowOf t (y 0)) (colOf t (y 1)) := by
    refine funext fun a => Fin.ext ?_
    match a with
    | ⟨0, _⟩ => blk_simp [index2 t]; show (t.val / 2) * 1024 + (y 0).val = 1024 * (t.val / 2) + (y 0).val; omega
    | ⟨1, _⟩ => blk_simp [index2 t]; show (t.val % 2) * 512 + (y 1).val = 512 * (t.val % 2) + (y 1).val; omega
  rw [ey, after0_2, cast_eq]
  have exy : (cfg0.win 2).xinj (cfg0.grid.coords t) y = ix2 (y 0 : Fin 1024) (y 1 : Fin 512) := by
    refine funext fun a => Fin.ext ?_
    match a with
    | ⟨0, _⟩ => rfl
    | ⟨1, _⟩ => rfl
  refine (congrArg _ exy).trans ?_
  unfold out0_2
  rw [View.canon_unit_zero hz, View.ld_unit_zero hz, View.ld_unit_zero hz]
  exact (pay_at _ _ (y 0) (y 1)).trans (tile m c t (y 0) (y 1))

end Cert.Kernel13Ideal.Gen

namespace Cert.Reference13Ideal.Value

open Cert.Reference13Ideal Cert.Reference13Ideal.Gen Idealize.ShloMosaic Idealize.ShloMosaic.TcCoe Idealize.SL.Sem Cert.StickBreaking
open Cert.Kernel13Ideal.Gen (prodEntry)

variable (x : FVec Ideal S2048x1024 .bf16) (y : FVec Ideal S1024x1024 .bf16)

/-- The reference's product. -/
def productOf : FVec Ideal S2048x1024 .f32 :=
  Host.dotGeneral dot_S2048x1024_S1024x1024_S2048x1024_1_1_0_0_n_n none (extf .f32 x bitsLt_bf16_f32) (extf .f32 y bitsLt_bf16_f32)

theorem product_eq (r : Fin 2048) (j : Fin 1024) : productOf x y (ix2 r j) = prodEntry x y r j := by
  unfold prodEntry; pointwise [productOf]

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = productOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h => h) (run (F := Ideal) m ρ)

end Cert.Reference13Ideal.Value

end
-- ==== Proof.MixerOut.lean ====
/-
  The mixer's output product: what the call's output array holds, and that the reference's is the same.
-/
module

public import proofs.«01_k».proof.Proof.Gen.Kernel14Ideal.Value
public import proofs.«01_k».proof.Proof.Gen.Reference14Ideal.Run
public import proofs.«01_k».proof.Proof.Entries
public import Idealize.ShloMosaic.Lib.Pipeline.ValueKit

@[expose] public section

set_option maxRecDepth 16384

noncomputable section

namespace Cert.Kernel14Ideal.Gen

open Idealize.ShloMosaic Idealize.ShloMosaic.TcCoe Cert.StickBreaking

/-- One product of two entries. -/
def term (x : S1024x1024.Idx → EReal) (i : S1024x1024.Idx) (y : S1024x512.Idx → EReal) (j : S1024x512.Idx) : EReal := x i * y j

/-- An entry of the product of the two arrays. -/
def prodEntry (x : S2048x1024.Idx → EReal) (y : S1024x1024.Idx → EReal) (r : Fin 2048) (j : Fin 1024) : EReal := ∑ k : Fin 1024, x (ix2 r k) * y (ix2 k j)

/-- An entry of the tile that one point computes. -/
theorem pay_at (x0 : Vec Ideal S1024x1024 .bf16) (x1 : Vec Ideal S1024x512 .bf16) (r : Fin 1024) (j : Fin 512) :
    k0_pay1 (F := Ideal) x0 x1 (ix2 r j) = ∑ k : Fin 1024, term x0 (ix2 r k) x1 (ix2 k j) := by
  unfold term; pointwise [k0_pay1]

variable (m : (ℓ : Loc nD τ sig) → Buf (Elt Ideal) ℓ) (c : Dev nD)

theorem t_lt (t : Fin cfg0.N) : t.val < 4 := lt_of_lt_of_eq t.isLt (show cfg0.N = 4 from N_0)

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

/-- The row and the column of the array that a row and a column of point `t`'s tile are. -/
def rowOf (t : Fin cfg0.N) (r : Fin 1024) : Fin 2048 := ⟨1024 * (t.val / 2) + r.val, by have := t_lt t; omega⟩
def colOf (t : Fin cfg0.N) (j : Fin 512) : Fin 1024 := ⟨512 * (t.val % 2) + j.val, by have := t_lt t; omega⟩

theorem block0 (t : Fin cfg0.N) (r : Fin 1024) (k : Fin 1024) : iblk m c 0 t (ix2 r k) = m ((c : Thread nD τ).loc main_arg0) (ix2 (rowOf t r) k) := by
  unfold iblk; rw [View.read_apply, cast_eq]
  refine congrArg (m ((c : Thread nD τ).loc main_arg0)) (funext fun a => Fin.ext ?_)
  match a with
  | ⟨0, _⟩ => blk_simp [index0 t]; show (t.val / 2) * 1024 + r.val = 1024 * (t.val / 2) + r.val; omega
  | ⟨1, _⟩ => blk_simp [index0 t]
theorem block1 (t : Fin cfg0.N) (k : Fin 1024) (j : Fin 512) : iblk m c 1 t (ix2 k j) = m ((c : Thread nD τ).loc main_arg1) (ix2 k (colOf t j)) := by
  unfold iblk; rw [View.read_apply, cast_eq]
  refine congrArg (m ((c : Thread nD τ).loc main_arg1)) (funext fun a => Fin.ext ?_)
  match a with
  | ⟨0, _⟩ => blk_simp [index1 t]
  | ⟨1, _⟩ => blk_simp [index1 t]; show (t.val % 2) * 512 + j.val = 512 * (t.val % 2) + j.val; omega

/-- A tile's entries are the array's. -/
theorem tile (t : Fin cfg0.N) (r : Fin 1024) (j : Fin 512) : ∑ k : Fin 1024, term (iblk m c 0 t) (ix2 r k) (iblk m c 1 t) (ix2 k j)
    = prodEntry (m ((c : Thread nD τ).loc main_arg0)) (m ((c : Thread nD τ).loc main_arg1)) (rowOf t r) (colOf t j) :=
  Finset.sum_congr rfl fun k _ => by unfold term; rw [block0, block1]

theorem hz : (![0, 0] : Fin 2 → Nat) = fun _ => 0 := funext fun a => by fin_cases a <;> rfl

/-- The output array holds the product. -/
theorem array : (dats m 0 c).arrAt 2 cfg0.N
    = fun y : S2048x1024.Idx => prodEntry (m ((c : Thread nD τ).loc main_arg0)) (m ((c : Thread nD τ).loc main_arg1)) (y 0) (y 1) := by
  refine (dats m 0 c).arrAt_eq_of_covers 2 _ (by decide +kernel) fun t hf y => ?_
  have ey : ((cfg0.win 2).blk t).view.emb y = ix2 (rowOf t (y 0)) (colOf t (y 1)) := by
    refine funext fun a => Fin.ext ?_
    match a with
    | ⟨0, _⟩ => blk_simp [index2 t]; show (t.val / 2) * 1024 + (y 0).val = 1024 * (t.val / 2) + (y 0).val; omega
    | ⟨1, _⟩ => blk_simp [index2 t]; show (t.val % 2) * 512 + (y 1).val = 512 * (t.val % 2) + (y 1).val; omega
  rw [ey, after0_2, cast_eq]
  have exy : (cfg0.win 2).xinj (cfg0.grid.coords t) y = ix2 (y 0 : Fin 1024) (y 1 : Fin 512) := by
    refine funext fun a => Fin.ext ?_
    match a with
    | ⟨0, _⟩ => rfl
    | ⟨1, _⟩ => rfl
  refine (congrArg _ exy).trans ?_
  unfold out0_2
  rw [View.canon_unit_zero hz, View.ld_unit_zero hz, View.ld_unit_zero hz]
  exact (pay_at _ _ (y 0) (y 1)).trans (tile m c t (y 0) (y 1))

end Cert.Kernel14Ideal.Gen

namespace Cert.Reference14Ideal.Value

open Cert.Reference14Ideal Cert.Reference14Ideal.Gen Idealize.ShloMosaic Idealize.ShloMosaic.TcCoe Idealize.SL.Sem Cert.StickBreaking
open Cert.Kernel14Ideal.Gen (prodEntry)

variable (x : FVec Ideal S2048x1024 .bf16) (y : FVec Ideal S1024x1024 .bf16)

/-- The reference's product. -/
def productOf : FVec Ideal S2048x1024 .f32 :=
  Host.dotGeneral dot_S2048x1024_S1024x1024_S2048x1024_1_0_0_1_n_n none (extf .f32 x bitsLt_bf16_f32) (extf .f32 y bitsLt_bf16_f32)

theorem product_eq (r : Fin 2048) (j : Fin 1024) : productOf x y (ix2 r j) = prodEntry x y r j := by
  unfold prodEntry; pointwise [productOf]

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = productOf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h => h) (run (F := Ideal) m ρ)

end Cert.Reference14Ideal.Value

end
-- ==== Proof.Gates.lean ====
/-
  The mixer's gates over the extended reals: the logistic function, a branch's product, and the columns they read.
-/
module

public import proofs.«01_k».proof.Proof.Entries

@[expose] public section

noncomputable section

namespace Cert.Gates

open Idealize.ShloMosaic Cert.StickBreaking

variable {R K N : ℕ}

/-- The logistic function. -/
def gate (x : EReal) : EReal := Ideal.div 1 (1 + Ideal.exp (0 - x))

/-- An entry of a branch's product. -/
def lin (z : (Shape.mk 2 ![R, K]).Idx → EReal) (w : (Shape.mk 2 ![K, N]).Idx → EReal) (r : Fin R) (j : Fin N) : EReal :=
  ∑ k : Fin K, z (ix2 r k) * w (ix2 k j)

/-- The columns of the first and of the second half of the gated linear unit. -/
def lower (j : Fin 1024) : Fin 2048 := ⟨j.val, by omega⟩
def upper (j : Fin 1024) : Fin 2048 := ⟨1024 + j.val, by omega⟩

/-- The column of the projection that holds a branch's gate. -/
def column (k : Fin 4) (j : Fin 1024) : Fin 6144 := ⟨2048 + 1024 * k.val + j.val, by omega⟩

variable (x0 x1 x2 x3 : (Shape.mk 2 ![2048, 256]).Idx → EReal) (p : (Shape.mk 2 ![2048, 6144]).Idx → EReal)
  (w0 : (Shape.mk 2 ![256, 1024]).Idx → EReal) (w1 : (Shape.mk 2 ![256, 2048]).Idx → EReal) (w2 w3 : (Shape.mk 2 ![256, 1024]).Idx → EReal)

/-- The merged branches. -/
def merged (r : Fin 2048) (j : Fin 1024) : EReal :=
  gate (p (ix2 r (column 0 j))) * lin x0 w0 r j + gate (p (ix2 r (column 1 j))) * (lin x1 w1 r (lower j) * gate (lin x1 w1 r (upper j)))
    + gate (p (ix2 r (column 2 j))) * lin x2 w2 r j + gate (p (ix2 r (column 3 j))) * lin x3 w3 r j

end Cert.Gates

end
-- ==== Proof.MergeOut.lean ====
/-
  The merge of the four gated branches: what the call's output array holds, and that the reference's is the same.
-/
module

public import proofs.«01_k».proof.Proof.Gen.Kernel15Ideal.Value
public import proofs.«01_k».proof.Proof.Gen.Reference15Ideal.Run
public import proofs.«01_k».proof.Proof.Gates
public import Idealize.ShloMosaic.Lib.Pipeline.ValueKit

@[expose] public section

set_option maxRecDepth 16384

noncomputable section

namespace Cert.Kernel15Ideal.Gen

open Idealize.ShloMosaic Idealize.ShloMosaic.TcCoe Cert.StickBreaking Cert.Gates

/-- The first two branches of one tile. -/
theorem pay2_at (x1 : Vec Ideal S256x256 .bf16) (x9 : Vec Ideal S256x2048 .bf16) (x4 : Vec Ideal S256x1024 .f32) (x0 : Vec Ideal S256x256 .bf16)
    (x8 : Vec Ideal S256x1024 .bf16) (x5 : Vec Ideal S256x1024 .f32) (r : Fin 256) (j : Fin 1024) :
    k0_pay2 (F := Ideal) x1 x9 x4 x0 x8 x5 (ix2 r j)
      = gate (x4 (ix2 r j)) * lin x0 x8 r j + gate (x5 (ix2 r j)) * (lin x1 x9 r (lower j) * gate (lin x1 x9 r (upper j))) := by
  unfold gate lin lower upper; pointwise [k0_pay2]

/-- All four branches of one tile. -/
theorem pay_at (u : Vec Ideal S256x1024 .f32) (x6 : Vec Ideal S256x1024 .f32) (x2 : Vec Ideal S256x256 .bf16) (x10 : Vec Ideal S256x1024 .bf16)
    (x7 : Vec Ideal S256x1024 .f32) (x3 : Vec Ideal S256x256 .bf16) (x11 : Vec Ideal S256x1024 .bf16) (r : Fin 256) (j : Fin 1024) :
    k0_pay1 (F := Ideal) u x6 x2 x10 x7 x3 x11 (ix2 r j) = u (ix2 r j) + gate (x6 (ix2 r j)) * lin x2 x10 r j + gate (x7 (ix2 r j)) * lin x3 x11 r j := by
  unfold gate lin; pointwise [k0_pay1]

variable (m : (ℓ : Loc nD τ sig) → Buf (Elt Ideal) ℓ) (c : Dev nD)

theorem t_lt (t : Fin cfg0.N) : t.val < 8 := lt_of_lt_of_eq t.isLt (show cfg0.N = 8 from N_0)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 2] := (by decide +kernel : ∀ t : Fin grid0.N, _)
theorem index5 : ∀ t : Fin cfg0.N, win0_5.index t = ![t.val, 3] := (by decide +kernel : ∀ t : Fin grid0.N, _)
theorem index6 : ∀ t : Fin cfg0.N, win0_6.index t = ![t.val, 4] := (by decide +kernel : ∀ t : Fin grid0.N, _)
theorem index7 : ∀ t : Fin cfg0.N, win0_7.index t = ![t.val, 5] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![t.val, 0] := (by decide +kernel : ∀ t : Fin grid0.N, _)

/-- The row of the array that a row of point `t`'s tile is. -/
def rowOf (t : Fin cfg0.N) (r : Fin 256) : Fin 2048 := ⟨256 * t.val + r.val, by have := t_lt t; omega⟩

theorem block0 (t : Fin cfg0.N) (r : Fin 256) (j : Fin 256) : iblk m c 0 t (ix2 r j) = m ((c : Thread nD τ).loc main_arg0) (ix2 (rowOf t r) (j)) := by
  unfold iblk; rw [View.read_apply, cast_eq]
  refine congrArg (m ((c : Thread nD τ).loc main_arg0)) (funext fun a => Fin.ext ?_)
  match a with
  | ⟨0, _⟩ => blk_simp [index0 t]; show t.val * 256 + r.val = 256 * t.val + r.val; omega
  | ⟨1, _⟩ => blk_simp [index0 t]
theorem block1 (t : Fin cfg0.N) (r : Fin 256) (j : Fin 256) : iblk m c 1 t (ix2 r j) = m ((c : Thread nD τ).loc main_arg1) (ix2 (rowOf t r) (j)) := by
  unfold iblk; rw [View.read_apply, cast_eq]
  refine congrArg (m ((c : Thread nD τ).loc main_arg1)) (funext fun a => Fin.ext ?_)
  match a with
  | ⟨0, _⟩ => blk_simp [index1 t]; show t.val * 256 + r.val = 256 * t.val + r.val; omega
  | ⟨1, _⟩ => blk_simp [index1 t]
theorem block2 (t : Fin cfg0.N) (r : Fin 256) (j : Fin 256) : iblk m c 2 t (ix2 r j) = m ((c : Thread nD τ).loc main_arg2) (ix2 (rowOf t r) (j)) := by
  unfold iblk; rw [View.read_apply, cast_eq]
  refine congrArg (m ((c : Thread nD τ).loc main_arg2)) (funext fun a => Fin.ext ?_)
  match a with
  | ⟨0, _⟩ => blk_simp [index2 t]; show t.val * 256 + r.val = 256 * t.val + r.val; omega
  | ⟨1, _⟩ => blk_simp [index2 t]
theorem block3 (t : Fin cfg0.N) (r : Fin 256) (j : Fin 256) : iblk m c 3 t (ix2 r j) = m ((c : Thread nD τ).loc main_arg3) (ix2 (rowOf t r) (j)) := by
  unfold iblk; rw [View.read_apply, cast_eq]
  refine congrArg (m ((c : Thread nD τ).loc main_arg3)) (funext fun a => Fin.ext ?_)
  match a with
  | ⟨0, _⟩ => blk_simp [index3 t]; show t.val * 256 + r.val = 256 * t.val + r.val; omega
  | ⟨1, _⟩ => blk_simp [index3 t]
theorem block4 (t : Fin cfg0.N) (r : Fin 256) (j : Fin 1024) : iblk m c 4 t (ix2 r j) = m ((c : Thread nD τ).loc main_arg4) (ix2 (rowOf t r) (column 0 j)) := by
  unfold iblk; rw [View.read_apply, cast_eq]
  refine congrArg (m ((c : Thread nD τ).loc main_arg4)) (funext fun a => Fin.ext ?_)
  match a with
  | ⟨0, _⟩ => blk_simp [index4 t]; show t.val * 256 + r.val = 256 * t.val + r.val; omega
  | ⟨1, _⟩ => blk_simp [index4 t]; show 2 * 1024 + j.val = 2048 + 1024 * 0 + j.val; omega
theorem block5 (t : Fin cfg0.N) (r : Fin 256) (j : Fin 1024) : iblk m c 5 t (ix2 r j) = m ((c : Thread nD τ).loc main_arg4) (ix2 (rowOf t r) (column 1 j)) := by
  unfold iblk; rw [View.read_apply, cast_eq]
  refine congrArg (m ((c : Thread nD τ).loc main_arg4)) (funext fun a => Fin.ext ?_)
  match a with
  | ⟨0, _⟩ => blk_simp [index5 t]; show t.val * 256 + r.val = 256 * t.val + r.val; omega
  | ⟨1, _⟩ => blk_simp [index5 t]; show 3 * 1024 + j.val = 2048 + 1024 * 1 + j.val; omega
theorem block6 (t : Fin cfg0.N) (r : Fin 256) (j : Fin 1024) : iblk m c 6 t (ix2 r j) = m ((c : Thread nD τ).loc main_arg4) (ix2 (rowOf t r) (column 2 j)) := by
  unfold iblk; rw [View.read_apply, cast_eq]
  refine congrArg (m ((c : Thread nD τ).loc main_arg4)) (funext fun a => Fin.ext ?_)
  match a with
  | ⟨0, _⟩ => blk_simp [index6 t]; show t.val * 256 + r.val = 256 * t.val + r.val; omega
  | ⟨1, _⟩ => blk_simp [index6 t]; show 4 * 1024 + j.val = 2048 + 1024 * 2 + j.val; omega
theorem block7 (t : Fin cfg0.N) (r : Fin 256) (j : Fin 1024) : iblk m c 7 t (ix2 r j) = m ((c : Thread nD τ).loc main_arg4) (ix2 (rowOf t r) (column 3 j)) := by
  unfold iblk; rw [View.read_apply, cast_eq]
  refine congrArg (m ((c : Thread nD τ).loc main_arg4)) (funext fun a => Fin.ext ?_)
  match a with
  | ⟨0, _⟩ => blk_simp [index7 t]; show t.val * 256 + r.val = 256 * t.val + r.val; omega
  | ⟨1, _⟩ => blk_simp [index7 t]; show 5 * 1024 + j.val = 2048 + 1024 * 3 + j.val; omega
theorem block8 (t : Fin cfg0.N) (r : Fin 256) (j : Fin 1024) : iblk m c 8 t (ix2 r j) = m ((c : Thread nD τ).loc main_arg5) (ix2 (r) (j)) := by
  unfold iblk; rw [View.read_apply, cast_eq]
  refine congrArg (m ((c : Thread nD τ).loc main_arg5)) (funext fun a => Fin.ext ?_)
  match a with
  | ⟨0, _⟩ => blk_simp [index8 t]
  | ⟨1, _⟩ => blk_simp [index8 t]
theorem block9 (t : Fin cfg0.N) (r : Fin 256) (j : Fin 2048) : iblk m c 9 t (ix2 r j) = m ((c : Thread nD τ).loc main_arg6) (ix2 (r) (j)) := by
  unfold iblk; rw [View.read_apply, cast_eq]
  refine congrArg (m ((c : Thread nD τ).loc main_arg6)) (funext fun a => Fin.ext ?_)
  match a with
  | ⟨0, _⟩ => blk_simp [index9 t]
  | ⟨1, _⟩ => blk_simp [index9 t]
theorem block10 (t : Fin cfg0.N) (r : Fin 256) (j : Fin 1024) : iblk m c 10 t (ix2 r j) = m ((c : Thread nD τ).loc main_arg7) (ix2 (r) (j)) := by
  unfold iblk; rw [View.read_apply, cast_eq]
  refine congrArg (m ((c : Thread nD τ).loc main_arg7)) (funext fun a => Fin.ext ?_)
  match a with
  | ⟨0, _⟩ => blk_simp [index10 t]
  | ⟨1, _⟩ => blk_simp [index10 t]
theorem block11 (t : Fin cfg0.N) (r : Fin 256) (j : Fin 1024) : iblk m c 11 t (ix2 r j) = m ((c : Thread nD τ).loc main_arg8) (ix2 (r) (j)) := by
  unfold iblk; rw [View.read_apply, cast_eq]
  refine congrArg (m ((c : Thread nD τ).loc main_arg8)) (funext fun a => Fin.ext ?_)
  match a with
  | ⟨0, _⟩ => blk_simp [index11 t]
  | ⟨1, _⟩ => blk_simp [index11 t]
theorem lin0 (t : Fin cfg0.N) (r : Fin 256) (j : Fin 1024) : lin (iblk m c 0 t) (iblk m c 8 t) r j = lin (m ((c : Thread nD τ).loc main_arg0)) (m ((c : Thread nD τ).loc main_arg5)) (rowOf t r) j :=
  Finset.sum_congr rfl fun k _ => congrArg₂ (fun x y : EReal => x * y) (block0 m c t r k) (block8 m c t k j)
theorem lin1 (t : Fin cfg0.N) (r : Fin 256) (j : Fin 2048) : lin (iblk m c 1 t) (iblk m c 9 t) r j = lin (m ((c : Thread nD τ).loc main_arg1)) (m ((c : Thread nD τ).loc main_arg6)) (rowOf t r) j :=
  Finset.sum_congr rfl fun k _ => congrArg₂ (fun x y : EReal => x * y) (block1 m c t r k) (block9 m c t k j)
theorem lin2 (t : Fin cfg0.N) (r : Fin 256) (j : Fin 1024) : lin (iblk m c 2 t) (iblk m c 10 t) r j = lin (m ((c : Thread nD τ).loc main_arg2)) (m ((c : Thread nD τ).loc main_arg7)) (rowOf t r) j :=
  Finset.sum_congr rfl fun k _ => congrArg₂ (fun x y : EReal => x * y) (block2 m c t r k) (block10 m c t k j)
theorem lin3 (t : Fin cfg0.N) (r : Fin 256) (j : Fin 1024) : lin (iblk m c 3 t) (iblk m c 11 t) r j = lin (m ((c : Thread nD τ).loc main_arg3)) (m ((c : Thread nD τ).loc main_arg8)) (rowOf t r) j :=
  Finset.sum_congr rfl fun k _ => congrArg₂ (fun x y : EReal => x * y) (block3 m c t r k) (block11 m c t k j)

/-- A tile's entries are the array's. -/
theorem tile (t : Fin cfg0.N) (r : Fin 256) (j : Fin 1024) :
    k0_pay1 (F := Ideal) (k0_pay2 (F := Ideal) (iblk m c 1 t) (iblk m c 9 t) (iblk m c 4 t) (iblk m c 0 t) (iblk m c 8 t) (iblk m c 5 t)) (iblk m c 6 t) (iblk m c 2 t)
        (iblk m c 10 t) (iblk m c 7 t) (iblk m c 3 t) (iblk m c 11 t) (ix2 r j)
      = merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (rowOf t r) j := by
  rw [pay_at, pay2_at, lin0, lin1, lin1, lin2, lin3, block4, block5, block6, block7]; rfl

theorem hz : (![0, 0] : Fin 2 → Nat) = fun _ => 0 := funext fun a => by fin_cases a <;> rfl

/-- The output array holds the merged branches. -/
theorem array : (dats m 0 c).arrAt 12 cfg0.N = fun y : S2048x1024.Idx => merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (y 0) (y 1) := by
  refine (dats m 0 c).arrAt_eq_of_covers 12 _ (by decide +kernel) fun t hf y => ?_
  have ey : ((cfg0.win 12).blk t).view.emb y = ix2 (rowOf t (y 0)) (y 1 : Fin 1024) := by
    refine funext fun a => Fin.ext ?_
    match a with
    | ⟨0, _⟩ => blk_simp [index12 t]; show t.val * 256 + (y 0).val = 256 * t.val + (y 0).val; omega
    | ⟨1, _⟩ => blk_simp [index12 t]; rfl
  rw [ey, after0_12, cast_eq]
  have exy : (cfg0.win 12).xinj (cfg0.grid.coords t) y = ix2 (y 0 : Fin 256) (y 1 : Fin 1024) := by
    refine funext fun a => Fin.ext ?_
    match a with
    | ⟨0, _⟩ => rfl
    | ⟨1, _⟩ => rfl
  refine (congrArg _ exy).trans ?_
  unfold out0_12
  rw [View.canon_unit_zero hz]
  simp only [View.ld_unit_zero (S := S256x256) hz, View.ld_unit_zero (S := S256x1024) hz, View.ld_unit_zero (S := S256x2048) hz]
  exact tile m c t (y 0) (y 1)

end Cert.Kernel15Ideal.Gen

namespace Cert.Reference15Ideal.Value

open Cert.Reference15Ideal Cert.Reference15Ideal.Gen Idealize.ShloMosaic Idealize.ShloMosaic.TcCoe Idealize.SL.Sem Cert.StickBreaking Cert.Gates

variable (x0 x1 x2 x3 : FVec Ideal S2048x256 .bf16) (p : FVec Ideal S2048x6144 .f32) (w0 w2 w3 : FVec Ideal S256x1024 .bf16) (w1 : FVec Ideal S256x2048 .bf16)

/-- The four gates. -/
def gatesOf : FVec Ideal S2048x4096 .f32 :=
  Host.divf (broadcastInDim S2048x4096 ![] bcast_S_S2048x4096 (constant S_ .f32 0x3F800000#32)) (addf (broadcastInDim S2048x4096 ![] bcast_S_S2048x4096 (constant S_ .f32 0x3F800000#32)) (Host.exp (Host.negf (extractStridedSlice S2048x4096 ![0, 2048] p slices_S2048x6144_S2048x4096_0_2048))))
/-- One branch's product. -/
def productOf : FVec Ideal S2048x1024 .f32 := Host.dotGeneral dot_S2048x256_S256x1024_S2048x1024_1_0_0_1_n_n none (extf .f32 x0 bitsLt_bf16_f32) (extf .f32 w0 bitsLt_bf16_f32)
/-- The second branch's product. -/
def gluOf : FVec Ideal S2048x2048 .f32 := Host.dotGeneral dot_S2048x256_S256x2048_S2048x2048_1_0_0_1_n_n none (extf .f32 x1 bitsLt_bf16_f32) (extf .f32 w1 bitsLt_bf16_f32)
def gate0 : FVec Ideal S2048x1024 .f32 := shapeCast _ (extractStridedSlice S2048x1x1024 ![0, 0, 0] (shapeCast _ (gatesOf p) shapeCasts_S2048x4096_S2048x4x1024) slices_S2048x4x1024_S2048x1x1024_0_0_0) shapeCasts_S2048x1x1024_S2048x1024
def gate1 : FVec Ideal S2048x1024 .f32 := shapeCast _ (extractStridedSlice S2048x1x1024 ![0, 1, 0] (shapeCast _ (gatesOf p) shapeCasts_S2048x4096_S2048x4x1024) slices_S2048x4x1024_S2048x1x1024_0_1_0) shapeCasts_S2048x1x1024_S2048x1024
def gate2 : FVec Ideal S2048x1024 .f32 := shapeCast _ (extractStridedSlice S2048x1x1024 ![0, 2, 0] (shapeCast _ (gatesOf p) shapeCasts_S2048x4096_S2048x4x1024) slices_S2048x4x1024_S2048x1x1024_0_2_0) shapeCasts_S2048x1x1024_S2048x1024
def gate3 : FVec Ideal S2048x1024 .f32 := shapeCast _ (extractStridedSlice S2048x1x1024 ![0, 3, 0] (shapeCast _ (gatesOf p) shapeCasts_S2048x4096_S2048x4x1024) slices_S2048x4x1024_S2048x1x1024_0_3_0) shapeCasts_S2048x1x1024_S2048x1024
/-- The second branch. -/
def gluValue : FVec Ideal S2048x1024 .f32 :=
  mulf (extractStridedSlice S2048x1024 ![0, 0] (gluOf x1 w1) slices_S2048x2048_S2048x1024_0_0) (Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 1024] (gluOf x1 w1) slices_S2048x2048_S2048x1024_0_1024)))))
/-- The reference's result. -/
def mergedOf : FVec Ideal S2048x1024 .bf16 :=
  truncf .bf16 (addf (addf (addf (mulf (gate0 p) (productOf x0 w0)) (mulf (gate1 p) (gluValue x1 w1))) (mulf (gate2 p) (productOf x2 w2))) (mulf (gate3 p) (productOf x3 w3))) bitsLt_bf16_f32

theorem gatesOf_at (r : Fin 2048) (j : Fin 4096) : gatesOf p (ix2 r j) = gate (p (ix2 r ⟨2048 + j.val, by omega⟩)) := by
  unfold gate; rw [sub_eq_add_neg, zero_add]; pointwise [gatesOf]
theorem productOf_at (r : Fin 2048) (j : Fin 1024) : productOf x0 w0 (ix2 r j) = lin x0 w0 r j := by
  unfold lin; pointwise [productOf]
theorem gluOf_at (r : Fin 2048) (j : Fin 2048) : gluOf x1 w1 (ix2 r j) = lin x1 w1 r j := by
  unfold lin; pointwise [gluOf]
theorem gate0_at (r : Fin 2048) (j : Fin 1024) : gate0 p (ix2 r j) = gate (p (ix2 r (column 0 j))) := by
  have h : gate0 p (ix2 r j) = gatesOf p (ix2 r ⟨1024 * 0 + j.val, by omega⟩) := by
    pointwise [gate0]
  rw [h, gatesOf_at]
  refine congrArg (fun i => gate (p (ix2 r i))) (Fin.ext ?_)
  show 2048 + (1024 * 0 + j.val) = 2048 + 1024 * 0 + j.val
  omega
theorem gate1_at (r : Fin 2048) (j : Fin 1024) : gate1 p (ix2 r j) = gate (p (ix2 r (column 1 j))) := by
  have h : gate1 p (ix2 r j) = gatesOf p (ix2 r ⟨1024 * 1 + j.val, by omega⟩) := by
    pointwise [gate1]
  rw [h, gatesOf_at]
  refine congrArg (fun i => gate (p (ix2 r i))) (Fin.ext ?_)
  show 2048 + (1024 * 1 + j.val) = 2048 + 1024 * 1 + j.val
  omega
theorem gate2_at (r : Fin 2048) (j : Fin 1024) : gate2 p (ix2 r j) = gate (p (ix2 r (column 2 j))) := by
  have h : gate2 p (ix2 r j) = gatesOf p (ix2 r ⟨1024 * 2 + j.val, by omega⟩) := by
    pointwise [gate2]
  rw [h, gatesOf_at]
  refine congrArg (fun i => gate (p (ix2 r i))) (Fin.ext ?_)
  show 2048 + (1024 * 2 + j.val) = 2048 + 1024 * 2 + j.val
  omega
theorem gate3_at (r : Fin 2048) (j : Fin 1024) : gate3 p (ix2 r j) = gate (p (ix2 r (column 3 j))) := by
  have h : gate3 p (ix2 r j) = gatesOf p (ix2 r ⟨1024 * 3 + j.val, by omega⟩) := by
    pointwise [gate3]
  rw [h, gatesOf_at]
  refine congrArg (fun i => gate (p (ix2 r i))) (Fin.ext ?_)
  show 2048 + (1024 * 3 + j.val) = 2048 + 1024 * 3 + j.val
  omega
theorem gluValue_at (r : Fin 2048) (j : Fin 1024) : gluValue x1 w1 (ix2 r j) = lin x1 w1 r (lower j) * gate (lin x1 w1 r (upper j)) := by
  rw [← gluOf_at, ← gluOf_at]; unfold gate lower upper; rw [sub_eq_add_neg, zero_add]; pointwise [gluValue]

theorem merged_eq (r : Fin 2048) (j : Fin 1024) : mergedOf x0 x1 x2 x3 p w0 w2 w3 w1 (ix2 r j) = merged x0 x1 x2 x3 p w0 w1 w2 w3 r j := by
  unfold merged
  rw [← gate0_at, ← gate1_at, ← gate2_at, ← gate3_at, ← productOf_at, ← productOf_at, ← productOf_at, ← gluValue_at]
  pointwise [mergedOf]

theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v44) = mergedOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h => h) (run (F := Ideal) m ρ)

end Cert.Reference15Ideal.Value

end
-- ==== Proof.MergeSame.lean ====
/-
  The merge's backward call on words and over the extended reals: the two programs have the same text, so what is
  proved of the second's run over any float values holds of the first's.
-/
module
public import proofs.«01_k».proof.Defs
public import proofs.«01_k».proof.Proof.Gen.Kernel3
public import proofs.«01_k».proof.Proof.Gen.Kernel3Ideal
@[expose] public section
noncomputable section
namespace Cert.Proof
open Idealize.ShloMosaic Idealize.SL.Sem
attribute [local instance] Cert.Kernel3.Gen.facts Cert.Kernel3Ideal.Gen.facts
set_option maxRecDepth 16384

set_option maxHeartbeats 2000000 in
/-- The body's label means the same in both programs. -/
theorem merge_bodies_same : Cert.Kernel3.defs₀ (F := Bits) = Cert.Kernel3Ideal.defs₀ (F := Bits) := by
  unfold Cert.Kernel3.defs₀ Cert.Kernel3Ideal.defs₀
  refine congrArg Defs.onTc ?_
  funext l a
  obtain ⟨l, hl⟩ := l
  obtain rfl : l = 0 := by omega
  obtain ⟨t, s⟩ := a
  rfl

/-- Every label means the same in both programs. -/
theorem merge_defs_same : Cert.Kernel3.defs (F := Bits) = Cert.Kernel3Ideal.defs (F := Bits) :=
  congrArg (Pipeline.defs (Cert.Kernel3.pcfgs (F := Bits))) merge_bodies_same

set_option maxHeartbeats 2000000 in
/-- The host code is the same in both programs. -/
theorem merge_main_same : Cert.Kernel3.main (F := Bits) = Cert.Kernel3Ideal.main (F := Bits) := by
  funext c
  unfold Cert.Kernel3.main Cert.Kernel3Ideal.main
  rfl
end Cert.Proof
end
-- ==== Proof.MergeFrame.lean ====
/-
  The frame of the merge's backward call on words.
-/
module
public import proofs.«01_k».proof.Proof.Gen.Kernel3Ideal.Frame
public import proofs.«01_k».proof.Proof.MergeSame

@[expose] public section
noncomputable section
namespace Cert.Proof
open Idealize.ShloMosaic Idealize.ShloMosaic.TcCoe Idealize.SL.Sem
set_option maxRecDepth 16384 in
set_option maxHeartbeats 2000000 in
/-- The frame of the merge's backward call on words: its run is stated over any float values, and the two programs have the same text. -/
theorem frame_kernel3 : Cert.quiescent_Kernel3 (hKernel3 := Cert.Kernel3.Gen.facts) := fun m ρ _ => by
  rw [merge_defs_same, merge_main_same]
  exact Cert.Kernel3Ideal.Gen.frame (F := Bits) m ρ

end Cert.Proof
end
-- ==== Proof.GateGrads.lean ====
/-
  The gradients of the mixer's gated branches over the extended reals, for arrays of any number of rows.
-/
module

public import proofs.«01_k».proof.Proof.Gates

@[expose] public section

noncomputable section

namespace Cert.Gates

open Idealize.ShloMosaic Cert.StickBreaking

variable {R K N : ℕ}

/-- The gradient of a branch's value: the gradient of the merged value times the branch's gate. -/
def gradBranch (dm : (Shape.mk 2 ![R, 1024]).Idx → EReal) (g : Fin R → Fin 1024 → EReal) (r : Fin R) (j : Fin 1024) : EReal :=
  dm (ix2 r j) * gate (g r j)

/-- The gradient of a gate's argument. -/
def gradGate (dm : (Shape.mk 2 ![R, 1024]).Idx → EReal) (g : Fin R → Fin 1024 → EReal) (y : Fin R → Fin 1024 → EReal) (r : Fin R) (j : Fin 1024) : EReal :=
  dm (ix2 r j) * y r j * gate (g r j) * (1 - gate (g r j))

/-- The gradient of a product's left factor. -/
def gradInput (d : Fin R → Fin N → EReal) (w : (Shape.mk 2 ![K, N]).Idx → EReal) (r : Fin R) (i : Fin K) : EReal := ∑ j : Fin N, d r j * w (ix2 i j)

/-- The gradient of a product's right factor. -/
def gradWeight (z : (Shape.mk 2 ![R, K]).Idx → EReal) (d : Fin R → Fin N → EReal) (i : Fin K) (j : Fin N) : EReal := ∑ r : Fin R, z (ix2 r i) * d r j

section Unit

variable (z : (Shape.mk 2 ![R, 256]).Idx → EReal) (w : (Shape.mk 2 ![256, 2048]).Idx → EReal)

/-- The gated linear unit's value. -/
def unitValue (r : Fin R) (j : Fin 1024) : EReal := lin z w r (lower j) * gate (lin z w r (upper j))

/-- The gradients of its two halves, `d` being that of its value. -/
def gradLower (d : Fin R → Fin 1024 → EReal) (r : Fin R) (j : Fin 1024) : EReal := d r j * gate (lin z w r (upper j))
def gradUpper (d : Fin R → Fin 1024 → EReal) (r : Fin R) (j : Fin 1024) : EReal :=
  d r j * lin z w r (lower j) * gate (lin z w r (upper j)) * (1 - gate (lin z w r (upper j)))

/-- The gradient of its input. -/
def gradUnit (d : Fin R → Fin 1024 → EReal) (r : Fin R) (i : Fin 256) : EReal :=
  (∑ j : Fin 1024, gradLower z w d r j * w (ix2 i (lower j))) + ∑ j : Fin 1024, gradUpper z w d r j * w (ix2 i (upper j))

end Unit

/-- The column of the gates' gradient that a branch's column is. -/
def column4 (k : Fin 4) (j : Fin 1024) : Fin 4096 := ⟨1024 * k.val + j.val, by omega⟩

theorem column4_cases (j : Fin 4096) : ∃ (k : Fin 4) (i : Fin 1024), j = column4 k i :=
  ⟨⟨j.val / 1024, by omega⟩, ⟨j.val % 1024, by omega⟩, Fin.ext (by show j.val = 1024 * (j.val / 1024) + j.val % 1024; omega)⟩

theorem half_cases (j : Fin 2048) : (∃ i : Fin 1024, j = lower i) ∨ ∃ i : Fin 1024, j = upper i := by
  by_cases h : j.val < 1024
  · exact .inl ⟨⟨j.val, h⟩, rfl⟩
  · exact .inr ⟨⟨j.val - 1024, by omega⟩, Fin.ext (by show j.val = 1024 + (j.val - 1024); omega)⟩

theorem sum_halves (f : Fin 2048 → EReal) : ∑ j : Fin 2048, f j = (∑ j : Fin 1024, f (lower j)) + ∑ j : Fin 1024, f (upper j) := by
  exact Fin.sum_univ_add (a := 1024) (b := 1024) f

/-- The rows of the first `n` tiles, and one tile more. -/
def upTo (f : ℕ → EReal) (n : ℕ) : EReal := ∑ k ∈ Finset.range (256 * n), f k
theorem upTo_zero (f : ℕ → EReal) : upTo f 0 = 0 := by simp [upTo]
theorem upTo_succ (f : ℕ → EReal) (n : ℕ) : upTo f (n + 1) = upTo f n + ∑ r : Fin 256, f (256 * n + r.val) := by
  unfold upTo
  rw [show 256 * (n + 1) = 256 * n + 256 by omega, Finset.sum_range_add, Finset.sum_range (fun x => f (256 * n + x))]

end Cert.Gates

end
-- ==== Proof.MergeCase.lean ====
/-
  The gradients of the mixer's gated branches: what the call's body leaves in its output buffers and in its accumulators at a point of the grid,
  in each of its three cases: the first point, which sets the accumulators to zero, a point between, and the last, which writes them out.
-/
module

public import proofs.«01_k».proof.Proof.Gen.Kernel3Ideal.Frame.RunC
public import proofs.«01_k».proof.Proof.GateGrads
public import Idealize.ShloMosaic.Lib.Pipeline.ValueKit

@[expose] public section

set_option maxRecDepth 16384

noncomputable section

namespace Cert.Kernel3Ideal.Gen

open Idealize.ShloMosaic Idealize.ShloMosaic.TcCoe Cert.StickBreaking Cert.Gates

theorem hz : (![0, 0] : Fin 2 → Nat) = fun _ => 0 := funext fun a => by fin_cases a <;> rfl

/-- The two halves of the columns of the gated linear unit's weight. -/
abbrev lowerRect : Rect S256x2048 := Rect.unit (s := S256x2048) ![0, 0] ![256, 1024] inb_S256x2048_S256x1024_0_0
abbrev upperRect : Rect S256x2048 := Rect.unit (s := S256x2048) ![0, 1024] ![256, 1024] inb_S256x2048_S256x1024_0_1024

theorem lower_emb (i : Fin 256) (j : Fin 1024) : lowerRect.emb (ix2 i j) = (ix2 i (lower j) : S256x2048.Idx) := by
  refine funext fun a => Fin.ext ?_
  match a with
  | ⟨0, _⟩ => show 0 + 1 * i.val = i.val; omega
  | ⟨1, _⟩ => show 0 + 1 * j.val = j.val; omega
theorem upper_emb (i : Fin 256) (j : Fin 1024) : upperRect.emb (ix2 i j) = (ix2 i (upper j) : S256x2048.Idx) := by
  refine funext fun a => Fin.ext ?_
  match a with
  | ⟨0, _⟩ => show 0 + 1 * i.val = i.val; omega
  | ⟨1, _⟩ => show 1024 + 1 * j.val = 1024 + j.val; omega
theorem lower_off (i : Fin 256) (j : Fin 1024) : (ix2 i (lower j) : S256x2048.Idx) ∉ upperRect.set := by
  intro h
  have e : 1024 ≤ j.val := ((Rect.mem_set_unit.mp h) 1).1
  omega

section
variable {Val : EltTy → Type} [∀ e, Nonempty (Val e)] {e : EltTy}

theorem canon_upper (b : upperRect.shape.Idx → Val e) (L : List (View.Piece Val S256x2048 e)) (i : Fin 256) (j : Fin 1024) :
    View.canon (⟨upperRect, b⟩ :: L) (ix2 i (upper j)) = b (ix2 i j) := by
  have e2 := View.canon_cons_emb (Val := Val) upperRect b L (ix2 i j)
  rw [upper_emb] at e2
  exact e2
theorem canon_lower (a : lowerRect.shape.Idx → Val e) (b : upperRect.shape.Idx → Val e) (L : List (View.Piece Val S256x2048 e)) (i : Fin 256) (j : Fin 1024) :
    View.canon (⟨upperRect, b⟩ :: ⟨lowerRect, a⟩ :: L) (ix2 i (lower j)) = a (ix2 i j) := by
  have e1 := View.canon_cons_of_not_mem (Val := Val) ⟨upperRect, b⟩ (⟨lowerRect, a⟩ :: L) (y := ix2 i (lower j)) (lower_off i j)
  have e2 := View.canon_cons_emb (Val := Val) lowerRect a L (ix2 i j)
  rw [lower_emb] at e2
  exact e1.trans e2

/-- Two stores, one into each half, leave nothing of what was there. -/
theorem canon_halves (a : lowerRect.shape.Idx → Val e) (b : upperRect.shape.Idx → Val e) (L : List (View.Piece Val S256x2048 e)) :
    View.canon (⟨upperRect, b⟩ :: ⟨lowerRect, a⟩ :: L) = View.canon [⟨upperRect, b⟩, ⟨lowerRect, a⟩] := by
  funext y
  rcases half_cases (y 1) with ⟨j, h⟩ | ⟨j, h⟩
  · have ey : y = (ix2 (y 0 : Fin 256) (lower j) : S256x2048.Idx) := (eq_ix2 y).trans (congrArg (ix2 (y 0 : Fin 256)) h)
    rw [ey]; exact (canon_lower a b L _ j).trans (canon_lower a b [] _ j).symm
  · have ey : y = (ix2 (y 0 : Fin 256) (upper j) : S256x2048.Idx) := (eq_ix2 y).trans (congrArg (ix2 (y 0 : Fin 256)) h)
    rw [ey]; exact (canon_upper b (⟨lowerRect, a⟩ :: L) _ j).trans (canon_upper b [⟨lowerRect, a⟩] _ j).symm

theorem halves_disjoint : Disjoint lowerRect.set upperRect.set := Rect.unit_disjoint 1 (Or.inl (le_refl 1024))
/-- A load of the upper half passes over a store into the lower half. -/
theorem readCov_upper {κ : Kind} {sp : Space} (v : View sig κ sp S256x2048 e) (a : lowerRect.shape.Idx → Val e) (b : (Rect.unit (s := S256x2048) ![0, 0] ![256, 2048] inb_S256x2048_S256x2048_0_0).shape.Idx → Val e) :
    v.readCov [⟨lowerRect, a⟩, ⟨Rect.unit (s := S256x2048) ![0, 0] ![256, 2048] inb_S256x2048_S256x2048_0_0, b⟩] upperRect = View.ld b upperRect := by
  rw [View.readCov_cons_of_disjoint v ⟨lowerRect, a⟩ _ upperRect halves_disjoint, View.readCov_eq_canon', View.canon_unit_zero hz]

end

section
variable {F : FTy → Type} [FloatOps F]

/-- The gated linear unit's accumulator after a point, and the gates' gradient that a point writes. -/
def unitStores (x0 : Vec F S256x1024 .f32) (x2 : Vec F S256x256 .bf16) (x10 : Vec F S256x2048 .bf16) (x6 : Vec F S256x1024 .f32) (s : Vec F S256x2048 .f32) : Vec F S256x2048 .f32 :=
  View.canon (Val := Elt F) (s := S256x2048) (e := .f32)
    [⟨upperRect, k0_pay3 x2 (k0_pay35 x0 x2 x10 x6) (View.ld s upperRect)⟩, ⟨lowerRect, k0_pay2 x2 (k0_pay34 x0 x2 x10 x6) (View.ld s lowerRect)⟩]
def gateStores (a0 a1 a2 a3 : Vec F S256x1024 .bf16) : Vec F S256x4096 .bf16 :=
  View.canon (Val := Elt F) (s := S256x4096) (e := .bf16)
    [⟨Rect.unit (s := S256x4096) ![0, 1024] ![256, 1024] inb_S256x4096_S256x1024_0_1024, a1⟩, ⟨Rect.unit (s := S256x4096) ![0, 3072] ![256, 1024] inb_S256x4096_S256x1024_0_3072, a3⟩,
      ⟨Rect.unit (s := S256x4096) ![0, 2048] ![256, 1024] inb_S256x4096_S256x1024_0_2048, a2⟩, ⟨Rect.unit (s := S256x4096) ![0, 0] ![256, 1024] inb_S256x4096_S256x1024_0_0, a0⟩]

end

section

variable {F : FTy → Type} [FloatOps F] (c : Dev nD) (i : grid0.Coords)
  (arg1 : Memref sig .tc .vmem S256x1024 .f32) (h1 : arg1.IsWhole)
  (arg2 : Memref sig .tc .vmem S256x256 .bf16) (h2 : arg2.IsWhole)
  (arg3 : Memref sig .tc .vmem S256x256 .bf16) (h3 : arg3.IsWhole)
  (arg4 : Memref sig .tc .vmem S256x256 .bf16) (h4 : arg4.IsWhole)
  (arg5 : Memref sig .tc .vmem S256x256 .bf16) (h5 : arg5.IsWhole)
  (arg6 : Memref sig .tc .vmem S256x1024 .f32) (h6 : arg6.IsWhole)
  (arg7 : Memref sig .tc .vmem S256x1024 .f32) (h7 : arg7.IsWhole)
  (arg8 : Memref sig .tc .vmem S256x1024 .f32) (h8 : arg8.IsWhole)
  (arg9 : Memref sig .tc .vmem S256x1024 .f32) (h9 : arg9.IsWhole)
  (arg10 : Memref sig .tc .vmem S256x1024 .bf16) (h10 : arg10.IsWhole)
  (arg11 : Memref sig .tc .vmem S256x2048 .bf16) (h11 : arg11.IsWhole)
  (arg12 : Memref sig .tc .vmem S256x1024 .bf16) (h12 : arg12.IsWhole)
  (arg13 : Memref sig .tc .vmem S256x1024 .bf16) (h13 : arg13.IsWhole)
  (arg14 : Memref sig .tc .vmem S256x256 .f32) (h14 : arg14.IsWhole)
  (arg15 : Memref sig .tc .vmem S256x256 .f32) (h15 : arg15.IsWhole)
  (arg16 : Memref sig .tc .vmem S256x256 .f32) (h16 : arg16.IsWhole)
  (arg17 : Memref sig .tc .vmem S256x256 .f32) (h17 : arg17.IsWhole)
  (arg18 : Memref sig .tc .vmem S256x4096 .bf16) (h18 : arg18.IsWhole)
  (arg19 : Memref sig .tc .vmem S256x1024 .bf16) (h19 : arg19.IsWhole)
  (arg20 : Memref sig .tc .vmem S256x2048 .bf16) (h20 : arg20.IsWhole)
  (arg21 : Memref sig .tc .vmem S256x1024 .bf16) (h21 : arg21.IsWhole)
  (arg22 : Memref sig .tc .vmem S256x1024 .bf16) (h22 : arg22.IsWhole)
  (arg23 : Memref sig .tc .vmem S256x1024 .f32) (h23 : arg23.IsWhole)
  (arg24 : Memref sig .tc .vmem S256x2048 .f32) (h24 : arg24.IsWhole)
  (arg25 : Memref sig .tc .vmem S256x1024 .f32) (h25 : arg25.IsWhole)
  (arg26 : Memref sig .tc .vmem S256x1024 .f32) (h26 : arg26.IsWhole)
variable (x0 : Vec F S256x1024 .f32) (x1 : Vec F S256x256 .bf16) (x2 : Vec F S256x256 .bf16) (x3 : Vec F S256x256 .bf16) (x4 : Vec F S256x256 .bf16) (x5 : Vec F S256x1024 .f32) (x6 : Vec F S256x1024 .f32) (x7 : Vec F S256x1024 .f32) (x8 : Vec F S256x1024 .f32) (x9 : Vec F S256x1024 .bf16) (x10 : Vec F S256x2048 .bf16) (x11 : Vec F S256x1024 .bf16) (x12 : Vec F S256x1024 .bf16)
variable (s0 : Vec F S256x1024 .f32) (s1 : Vec F S256x2048 .f32) (s2 : Vec F S256x1024 .f32) (s3 : Vec F S256x1024 .f32)

theorem caseA_out13 (hc0 : cond0_0 i) (hc1 : ¬cond0_1 i) : View.canon (kernelRun0_A (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12).1 = k0_pay15 x0 x5 x9 := by
  frame_out
theorem caseA_out14 (hc0 : cond0_0 i) (hc1 : ¬cond0_1 i) : View.canon (kernelRun0_A (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12).2.1 = k0_pay1 (k0_pay36 x0 x2 x10 x6 (View.ld x10 lowerRect)) (k0_pay37 x0 x2 x10 x6 (View.ld x10 upperRect)) := by
  frame_out
theorem caseA_out15 (hc0 : cond0_0 i) (hc1 : ¬cond0_1 i) : View.canon (kernelRun0_A (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12).2.2.1 = k0_pay21 x0 x7 x11 := by
  frame_out
theorem caseA_out16 (hc0 : cond0_0 i) (hc1 : ¬cond0_1 i) : View.canon (kernelRun0_A (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12).2.2.2.1 = k0_pay26 x0 x8 x12 := by
  frame_out
theorem caseA_out17 (hc0 : cond0_0 i) (hc1 : ¬cond0_1 i) : View.canon (kernelRun0_A (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12).2.2.2.2.1 = gateStores (k0_pay13 x0 x1 x9 x5) (k0_pay32 x0 x2 x10 x6) (k0_pay19 x0 x3 x11 x7) (k0_pay24 x0 x4 x12 x8) := by
  unfold gateStores kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x256) hz, View.ld_unit_zero (S := S256x1024) hz, View.ld_unit_zero (S := S256x2048) hz]
theorem caseA_acc0 (hc0 : cond0_0 i) (hc1 : ¬cond0_1 i) : View.canon (kernelRun0_A (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12).2.2.2.2.2.2.2.2.2.1 = k0_pay17 (k0_pay16 x0 x1 x5 (k0_pay8 (F := F))) := by
  frame_out
theorem caseA_acc1 (hc0 : cond0_0 i) (hc1 : ¬cond0_1 i) : View.canon (kernelRun0_A (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12).2.2.2.2.2.2.2.2.2.2.1 = unitStores x0 x2 x10 x6 (k0_pay9 (F := F)) := by
  unfold unitStores kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x256) hz, View.ld_unit_zero (S := S256x1024) hz, View.ld_unit_zero (S := S256x2048) hz]
  refine (canon_halves _ _ _).trans ?_
  refine congrArg₂ (fun a b => View.canon (Val := Elt F) (s := S256x2048) (e := .f32) [⟨upperRect, b⟩, ⟨lowerRect, a⟩]) (congrArg (k0_pay2 _ _) ?_) (congrArg (k0_pay3 _ _) ?_)
  · rw [View.readCov_eq_canon', View.canon_unit_zero hz]
  · exact readCov_upper (Val := Elt F) (e := .f32) arg24.view _ _
theorem caseA_acc2 (hc0 : cond0_0 i) (hc1 : ¬cond0_1 i) : View.canon (kernelRun0_A (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12).2.2.2.2.2.2.2.2.2.2.2.1 = k0_pay22 x0 x3 x7 (k0_pay10 (F := F)) := by
  frame_out
theorem caseA_acc3 (hc0 : cond0_0 i) (hc1 : ¬cond0_1 i) : View.canon (kernelRun0_A (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12).2.2.2.2.2.2.2.2.2.2.2.2.1 = k0_pay27 x0 x4 x8 (k0_pay11 (F := F)) := by
  frame_out
theorem caseB_out13 (hc0 : ¬cond0_0 i) (hc1 : ¬cond0_1 i) : View.canon (kernelRun0_B (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).1 = k0_pay15 x0 x5 x9 := by
  frame_out
theorem caseB_out14 (hc0 : ¬cond0_0 i) (hc1 : ¬cond0_1 i) : View.canon (kernelRun0_B (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.1 = k0_pay1 (k0_pay36 x0 x2 x10 x6 (View.ld x10 lowerRect)) (k0_pay37 x0 x2 x10 x6 (View.ld x10 upperRect)) := by
  frame_out
theorem caseB_out15 (hc0 : ¬cond0_0 i) (hc1 : ¬cond0_1 i) : View.canon (kernelRun0_B (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.1 = k0_pay21 x0 x7 x11 := by
  frame_out
theorem caseB_out16 (hc0 : ¬cond0_0 i) (hc1 : ¬cond0_1 i) : View.canon (kernelRun0_B (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.1 = k0_pay26 x0 x8 x12 := by
  frame_out
theorem caseB_out17 (hc0 : ¬cond0_0 i) (hc1 : ¬cond0_1 i) : View.canon (kernelRun0_B (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.1 = gateStores (k0_pay13 x0 x1 x9 x5) (k0_pay32 x0 x2 x10 x6) (k0_pay19 x0 x3 x11 x7) (k0_pay24 x0 x4 x12 x8) := by
  unfold gateStores kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x256) hz, View.ld_unit_zero (S := S256x1024) hz, View.ld_unit_zero (S := S256x2048) hz]
theorem caseB_acc0 (hc0 : ¬cond0_0 i) (hc1 : ¬cond0_1 i) : View.canon (kernelRun0_B (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.2.2.2.2.1 = k0_pay17 (k0_pay16 x0 x1 x5 (s0)) := by
  frame_out
theorem caseB_acc1 (hc0 : ¬cond0_0 i) (hc1 : ¬cond0_1 i) : View.canon (kernelRun0_B (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.2.2.2.2.2.1 = unitStores x0 x2 x10 x6 (s1) := by
  unfold unitStores kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h24.read_unread, View.ld_unit_zero (S := S256x256) hz, View.ld_unit_zero (S := S256x1024) hz, View.ld_unit_zero (S := S256x2048) hz]
theorem caseB_acc2 (hc0 : ¬cond0_0 i) (hc1 : ¬cond0_1 i) : View.canon (kernelRun0_B (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.2.2.2.2.2.2.1 = k0_pay22 x0 x3 x7 (s2) := by
  frame_out
theorem caseB_acc3 (hc0 : ¬cond0_0 i) (hc1 : ¬cond0_1 i) : View.canon (kernelRun0_B (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.2.2.2.2.2.2.2.1 = k0_pay27 x0 x4 x8 (s3) := by
  frame_out
theorem caseC_out13 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).1 = k0_pay15 x0 x5 x9 := by
  frame_out
theorem caseC_out14 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.1 = k0_pay1 (k0_pay36 x0 x2 x10 x6 (View.ld x10 lowerRect)) (k0_pay37 x0 x2 x10 x6 (View.ld x10 upperRect)) := by
  frame_out
theorem caseC_out15 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.1 = k0_pay21 x0 x7 x11 := by
  frame_out
theorem caseC_out16 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.1 = k0_pay26 x0 x8 x12 := by
  frame_out
theorem caseC_out17 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.1 = gateStores (k0_pay13 x0 x1 x9 x5) (k0_pay32 x0 x2 x10 x6) (k0_pay19 x0 x3 x11 x7) (k0_pay24 x0 x4 x12 x8) := by
  unfold gateStores kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x256) hz, View.ld_unit_zero (S := S256x1024) hz, View.ld_unit_zero (S := S256x2048) hz]
theorem caseC_out18 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.1 = k0_pay4 (k0_pay17 (k0_pay16 x0 x1 x5 (s0))) := by
  frame_out
theorem caseC_out19 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.2.1 = k0_pay5 (unitStores x0 x2 x10 x6 (s1)) := by
  unfold unitStores kernelRun0_C
  dsimp only
  sl_unfold_words
  rw [View.canon_unit_zero hz]
  refine congrArg k0_pay5 ?_
  rw [View.readCov_eq_canon']
  simp only [View.readAt_eq_ld, h1.read_unread, h2.read_unread, h3.read_unread, h4.read_unread, h5.read_unread, h6.read_unread, h7.read_unread, h8.read_unread, h9.read_unread, h10.read_unread, h11.read_unread, h12.read_unread, h13.read_unread, h24.read_unread, View.ld_unit_zero (S := S256x256) hz, View.ld_unit_zero (S := S256x1024) hz, View.ld_unit_zero (S := S256x2048) hz]
  funext y
  refine congrArg _ (funext fun a => Fin.ext ?_)
  match a with
  | ⟨0, _⟩ => show 0 + 1 * (y 0).val = (y 0).val; omega
  | ⟨1, _⟩ => show 0 + 1 * (y 1).val = (y 1).val; omega
theorem caseC_out20 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.2.2.1 = k0_pay6 (k0_pay22 x0 x3 x7 (s2)) := by
  frame_out
theorem caseC_out21 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.2.2.2.1 = k0_pay7 (k0_pay27 x0 x4 x8 (s3)) := by
  frame_out
theorem caseC_acc0 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.2.2.2.2.1 = k0_pay17 (k0_pay16 x0 x1 x5 (s0)) := by
  frame_out
theorem caseC_acc1 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.2.2.2.2.2.1 = unitStores x0 x2 x10 x6 (s1) := by
  unfold unitStores kernelRun0_C
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h24.read_unread, View.ld_unit_zero (S := S256x256) hz, View.ld_unit_zero (S := S256x1024) hz, View.ld_unit_zero (S := S256x2048) hz]
theorem caseC_acc2 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.2.2.2.2.2.2.1 = k0_pay22 x0 x3 x7 (s2) := by
  frame_out
theorem caseC_acc3 (hc0 : ¬cond0_0 i) (hc1 : cond0_1 i) : View.canon (kernelRun0_C (F := F) c i arg1 h1 arg2 h2 arg3 h3 arg4 h4 arg5 h5 arg6 h6 arg7 h7 arg8 h8 arg9 h9 arg10 h10 arg11 h11 arg12 h12 arg13 h13 arg14 h14 arg15 h15 arg16 h16 arg17 h17 arg18 h18 arg19 h19 arg20 h20 arg21 h21 arg22 h22 arg23 h23 arg24 h24 arg25 h25 arg26 h26 hc0 hc1 x0 x1 x2 x3 x4 x5 x6 x7 x8 x9 x10 x11 x12 s0 s1 s2 s3).2.2.2.2.2.2.2.2.2.2.2.2.1 = k0_pay27 x0 x4 x8 (s3) := by
  frame_out

end

end Cert.Kernel3Ideal.Gen

end
-- ==== Proof.MergePoint.lean ====
/-
  The gradients of the mixer's gated branches: what each point of the grid leaves, from its tiles and from what the point before it left.
-/
module

public import proofs.«01_k».proof.Proof.Gen.Kernel3Ideal.Value
public import proofs.«01_k».proof.Proof.MergeCase

@[expose] public section

set_option maxRecDepth 16384

noncomputable section

namespace Cert.Kernel3Ideal.Gen

open Idealize.ShloMosaic Idealize.ShloMosaic.TcCoe Cert.StickBreaking Cert.Gates

variable {F : FTy → Type} [FloatOps F] (m : (ℓ : Loc nD τ sig) → Buf (Elt F) ℓ) (c : Dev nD) (t : Fin cfg0.N)

theorem pointA_out13 (h0 : t.val % 8 = 0) (h1 : ¬t.val % 8 = 7) : (outsAt0 m c t.val t.isLt).1 = k0_pay15 (iblk m c 0 t) (iblk m c 5 t) (iblk m c 9 t) := by
  rw [outsAt0_A m c t h0 h1]; dsimp only; unfold out0_A_13; rw [View.read_writes_junk_eq_canon]
  exact caseA_out13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointA_out14 (h0 : t.val % 8 = 0) (h1 : ¬t.val % 8 = 7) : (outsAt0 m c t.val t.isLt).2.1 = k0_pay1 (k0_pay36 (iblk m c 0 t) (iblk m c 2 t) (iblk m c 10 t) (iblk m c 6 t) (View.ld (iblk m c 10 t) lowerRect)) (k0_pay37 (iblk m c 0 t) (iblk m c 2 t) (iblk m c 10 t) (iblk m c 6 t) (View.ld (iblk m c 10 t) upperRect)) := by
  rw [outsAt0_A m c t h0 h1]; dsimp only; unfold out0_A_14; rw [View.read_writes_junk_eq_canon]
  exact caseA_out14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointA_out15 (h0 : t.val % 8 = 0) (h1 : ¬t.val % 8 = 7) : (outsAt0 m c t.val t.isLt).2.2.1 = k0_pay21 (iblk m c 0 t) (iblk m c 7 t) (iblk m c 11 t) := by
  rw [outsAt0_A m c t h0 h1]; dsimp only; unfold out0_A_15; rw [View.read_writes_junk_eq_canon]
  exact caseA_out15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointA_out16 (h0 : t.val % 8 = 0) (h1 : ¬t.val % 8 = 7) : (outsAt0 m c t.val t.isLt).2.2.2.1 = k0_pay26 (iblk m c 0 t) (iblk m c 8 t) (iblk m c 12 t) := by
  rw [outsAt0_A m c t h0 h1]; dsimp only; unfold out0_A_16; rw [View.read_writes_junk_eq_canon]
  exact caseA_out16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointA_out17 (h0 : t.val % 8 = 0) (h1 : ¬t.val % 8 = 7) : (outsAt0 m c t.val t.isLt).2.2.2.2.1 = gateStores (k0_pay13 (iblk m c 0 t) (iblk m c 1 t) (iblk m c 9 t) (iblk m c 5 t)) (k0_pay32 (iblk m c 0 t) (iblk m c 2 t) (iblk m c 10 t) (iblk m c 6 t)) (k0_pay19 (iblk m c 0 t) (iblk m c 3 t) (iblk m c 11 t) (iblk m c 7 t)) (k0_pay24 (iblk m c 0 t) (iblk m c 4 t) (iblk m c 12 t) (iblk m c 8 t)) := by
  rw [outsAt0_A m c t h0 h1]; dsimp only; unfold out0_A_17; rw [View.read_writes_junk_eq_canon]
  exact caseA_out17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointA_acc0 (h0 : t.val % 8 = 0) (h1 : ¬t.val % 8 = 7) : (outsAt0 m c t.val t.isLt).2.2.2.2.2.2.2.2.2.1 = k0_pay17 (k0_pay16 (iblk m c 0 t) (iblk m c 1 t) (iblk m c 5 t) (k0_pay8 (F := F))) := by
  rw [outsAt0_A m c t h0 h1]; dsimp only; unfold sout0_A_0; rw [View.read_writes_junk_eq_canon]
  exact caseA_acc0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointA_acc1 (h0 : t.val % 8 = 0) (h1 : ¬t.val % 8 = 7) : (outsAt0 m c t.val t.isLt).2.2.2.2.2.2.2.2.2.2.1 = unitStores (iblk m c 0 t) (iblk m c 2 t) (iblk m c 10 t) (iblk m c 6 t) (k0_pay9 (F := F)) := by
  rw [outsAt0_A m c t h0 h1]; dsimp only; unfold sout0_A_1; rw [View.read_writes_junk_eq_canon]
  exact caseA_acc1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointA_acc2 (h0 : t.val % 8 = 0) (h1 : ¬t.val % 8 = 7) : (outsAt0 m c t.val t.isLt).2.2.2.2.2.2.2.2.2.2.2.1 = k0_pay22 (iblk m c 0 t) (iblk m c 3 t) (iblk m c 7 t) (k0_pay10 (F := F)) := by
  rw [outsAt0_A m c t h0 h1]; dsimp only; unfold sout0_A_2; rw [View.read_writes_junk_eq_canon]
  exact caseA_acc2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointA_acc3 (h0 : t.val % 8 = 0) (h1 : ¬t.val % 8 = 7) : (outsAt0 m c t.val t.isLt).2.2.2.2.2.2.2.2.2.2.2.2 = k0_pay27 (iblk m c 0 t) (iblk m c 4 t) (iblk m c 8 t) (k0_pay11 (F := F)) := by
  rw [outsAt0_A m c t h0 h1]; dsimp only; unfold sout0_A_3; rw [View.read_writes_junk_eq_canon]
  exact caseA_acc3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointB_out13 (h0 : ¬t.val % 8 = 0) (h1 : ¬t.val % 8 = 7) : (outsAt0 m c t.val t.isLt).1 = k0_pay15 (iblk m c 0 t) (iblk m c 5 t) (iblk m c 9 t) := by
  rw [outsAt0_B m c t h0 h1]; dsimp only; unfold out0_B_13; rw [View.read_writes_junk_eq_canon]
  exact caseB_out13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointB_out14 (h0 : ¬t.val % 8 = 0) (h1 : ¬t.val % 8 = 7) : (outsAt0 m c t.val t.isLt).2.1 = k0_pay1 (k0_pay36 (iblk m c 0 t) (iblk m c 2 t) (iblk m c 10 t) (iblk m c 6 t) (View.ld (iblk m c 10 t) lowerRect)) (k0_pay37 (iblk m c 0 t) (iblk m c 2 t) (iblk m c 10 t) (iblk m c 6 t) (View.ld (iblk m c 10 t) upperRect)) := by
  rw [outsAt0_B m c t h0 h1]; dsimp only; unfold out0_B_14; rw [View.read_writes_junk_eq_canon]
  exact caseB_out14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointB_out15 (h0 : ¬t.val % 8 = 0) (h1 : ¬t.val % 8 = 7) : (outsAt0 m c t.val t.isLt).2.2.1 = k0_pay21 (iblk m c 0 t) (iblk m c 7 t) (iblk m c 11 t) := by
  rw [outsAt0_B m c t h0 h1]; dsimp only; unfold out0_B_15; rw [View.read_writes_junk_eq_canon]
  exact caseB_out15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointB_out16 (h0 : ¬t.val % 8 = 0) (h1 : ¬t.val % 8 = 7) : (outsAt0 m c t.val t.isLt).2.2.2.1 = k0_pay26 (iblk m c 0 t) (iblk m c 8 t) (iblk m c 12 t) := by
  rw [outsAt0_B m c t h0 h1]; dsimp only; unfold out0_B_16; rw [View.read_writes_junk_eq_canon]
  exact caseB_out16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointB_out17 (h0 : ¬t.val % 8 = 0) (h1 : ¬t.val % 8 = 7) : (outsAt0 m c t.val t.isLt).2.2.2.2.1 = gateStores (k0_pay13 (iblk m c 0 t) (iblk m c 1 t) (iblk m c 9 t) (iblk m c 5 t)) (k0_pay32 (iblk m c 0 t) (iblk m c 2 t) (iblk m c 10 t) (iblk m c 6 t)) (k0_pay19 (iblk m c 0 t) (iblk m c 3 t) (iblk m c 11 t) (iblk m c 7 t)) (k0_pay24 (iblk m c 0 t) (iblk m c 4 t) (iblk m c 12 t) (iblk m c 8 t)) := by
  rw [outsAt0_B m c t h0 h1]; dsimp only; unfold out0_B_17; rw [View.read_writes_junk_eq_canon]
  exact caseB_out17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointB_acc0 (h0 : ¬t.val % 8 = 0) (h1 : ¬t.val % 8 = 7) : (outsAt0 m c t.val t.isLt).2.2.2.2.2.2.2.2.2.1 = k0_pay17 (k0_pay16 (iblk m c 0 t) (iblk m c 1 t) (iblk m c 5 t) ((outsAt0 m c (t.val - 1) (Nat.lt_of_le_of_lt (Nat.sub_le _ _) t.isLt)).2.2.2.2.2.2.2.2.2.1)) := by
  rw [outsAt0_B m c t h0 h1]; dsimp only; unfold sout0_B_0; rw [View.read_writes_junk_eq_canon]
  exact caseB_acc0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointB_acc1 (h0 : ¬t.val % 8 = 0) (h1 : ¬t.val % 8 = 7) : (outsAt0 m c t.val t.isLt).2.2.2.2.2.2.2.2.2.2.1 = unitStores (iblk m c 0 t) (iblk m c 2 t) (iblk m c 10 t) (iblk m c 6 t) ((outsAt0 m c (t.val - 1) (Nat.lt_of_le_of_lt (Nat.sub_le _ _) t.isLt)).2.2.2.2.2.2.2.2.2.2.1) := by
  rw [outsAt0_B m c t h0 h1]; dsimp only; unfold sout0_B_1; rw [View.read_writes_junk_eq_canon]
  exact caseB_acc1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointB_acc2 (h0 : ¬t.val % 8 = 0) (h1 : ¬t.val % 8 = 7) : (outsAt0 m c t.val t.isLt).2.2.2.2.2.2.2.2.2.2.2.1 = k0_pay22 (iblk m c 0 t) (iblk m c 3 t) (iblk m c 7 t) ((outsAt0 m c (t.val - 1) (Nat.lt_of_le_of_lt (Nat.sub_le _ _) t.isLt)).2.2.2.2.2.2.2.2.2.2.2.1) := by
  rw [outsAt0_B m c t h0 h1]; dsimp only; unfold sout0_B_2; rw [View.read_writes_junk_eq_canon]
  exact caseB_acc2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointB_acc3 (h0 : ¬t.val % 8 = 0) (h1 : ¬t.val % 8 = 7) : (outsAt0 m c t.val t.isLt).2.2.2.2.2.2.2.2.2.2.2.2 = k0_pay27 (iblk m c 0 t) (iblk m c 4 t) (iblk m c 8 t) ((outsAt0 m c (t.val - 1) (Nat.lt_of_le_of_lt (Nat.sub_le _ _) t.isLt)).2.2.2.2.2.2.2.2.2.2.2.2) := by
  rw [outsAt0_B m c t h0 h1]; dsimp only; unfold sout0_B_3; rw [View.read_writes_junk_eq_canon]
  exact caseB_acc3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_out13 (h0 : ¬t.val % 8 = 0) (h1 : t.val % 8 = 7) : (outsAt0 m c t.val t.isLt).1 = k0_pay15 (iblk m c 0 t) (iblk m c 5 t) (iblk m c 9 t) := by
  rw [outsAt0_C m c t h0 h1]; dsimp only; unfold out0_C_13; rw [View.read_writes_junk_eq_canon]
  exact caseC_out13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_out14 (h0 : ¬t.val % 8 = 0) (h1 : t.val % 8 = 7) : (outsAt0 m c t.val t.isLt).2.1 = k0_pay1 (k0_pay36 (iblk m c 0 t) (iblk m c 2 t) (iblk m c 10 t) (iblk m c 6 t) (View.ld (iblk m c 10 t) lowerRect)) (k0_pay37 (iblk m c 0 t) (iblk m c 2 t) (iblk m c 10 t) (iblk m c 6 t) (View.ld (iblk m c 10 t) upperRect)) := by
  rw [outsAt0_C m c t h0 h1]; dsimp only; unfold out0_C_14; rw [View.read_writes_junk_eq_canon]
  exact caseC_out14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_out15 (h0 : ¬t.val % 8 = 0) (h1 : t.val % 8 = 7) : (outsAt0 m c t.val t.isLt).2.2.1 = k0_pay21 (iblk m c 0 t) (iblk m c 7 t) (iblk m c 11 t) := by
  rw [outsAt0_C m c t h0 h1]; dsimp only; unfold out0_C_15; rw [View.read_writes_junk_eq_canon]
  exact caseC_out15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_out16 (h0 : ¬t.val % 8 = 0) (h1 : t.val % 8 = 7) : (outsAt0 m c t.val t.isLt).2.2.2.1 = k0_pay26 (iblk m c 0 t) (iblk m c 8 t) (iblk m c 12 t) := by
  rw [outsAt0_C m c t h0 h1]; dsimp only; unfold out0_C_16; rw [View.read_writes_junk_eq_canon]
  exact caseC_out16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_out17 (h0 : ¬t.val % 8 = 0) (h1 : t.val % 8 = 7) : (outsAt0 m c t.val t.isLt).2.2.2.2.1 = gateStores (k0_pay13 (iblk m c 0 t) (iblk m c 1 t) (iblk m c 9 t) (iblk m c 5 t)) (k0_pay32 (iblk m c 0 t) (iblk m c 2 t) (iblk m c 10 t) (iblk m c 6 t)) (k0_pay19 (iblk m c 0 t) (iblk m c 3 t) (iblk m c 11 t) (iblk m c 7 t)) (k0_pay24 (iblk m c 0 t) (iblk m c 4 t) (iblk m c 12 t) (iblk m c 8 t)) := by
  rw [outsAt0_C m c t h0 h1]; dsimp only; unfold out0_C_17; rw [View.read_writes_junk_eq_canon]
  exact caseC_out17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_out18 (h0 : ¬t.val % 8 = 0) (h1 : t.val % 8 = 7) : (outsAt0 m c t.val t.isLt).2.2.2.2.2.1 = k0_pay4 (k0_pay17 (k0_pay16 (iblk m c 0 t) (iblk m c 1 t) (iblk m c 5 t) ((outsAt0 m c (t.val - 1) (Nat.lt_of_le_of_lt (Nat.sub_le _ _) t.isLt)).2.2.2.2.2.2.2.2.2.1))) := by
  rw [outsAt0_C m c t h0 h1]; dsimp only; unfold out0_C_18; rw [View.read_writes_junk_eq_canon]
  exact caseC_out18 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_out19 (h0 : ¬t.val % 8 = 0) (h1 : t.val % 8 = 7) : (outsAt0 m c t.val t.isLt).2.2.2.2.2.2.1 = k0_pay5 (unitStores (iblk m c 0 t) (iblk m c 2 t) (iblk m c 10 t) (iblk m c 6 t) ((outsAt0 m c (t.val - 1) (Nat.lt_of_le_of_lt (Nat.sub_le _ _) t.isLt)).2.2.2.2.2.2.2.2.2.2.1)) := by
  rw [outsAt0_C m c t h0 h1]; dsimp only; unfold out0_C_19; rw [View.read_writes_junk_eq_canon]
  exact caseC_out19 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_out20 (h0 : ¬t.val % 8 = 0) (h1 : t.val % 8 = 7) : (outsAt0 m c t.val t.isLt).2.2.2.2.2.2.2.1 = k0_pay6 (k0_pay22 (iblk m c 0 t) (iblk m c 3 t) (iblk m c 7 t) ((outsAt0 m c (t.val - 1) (Nat.lt_of_le_of_lt (Nat.sub_le _ _) t.isLt)).2.2.2.2.2.2.2.2.2.2.2.1)) := by
  rw [outsAt0_C m c t h0 h1]; dsimp only; unfold out0_C_20; rw [View.read_writes_junk_eq_canon]
  exact caseC_out20 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_out21 (h0 : ¬t.val % 8 = 0) (h1 : t.val % 8 = 7) : (outsAt0 m c t.val t.isLt).2.2.2.2.2.2.2.2.1 = k0_pay7 (k0_pay27 (iblk m c 0 t) (iblk m c 4 t) (iblk m c 8 t) ((outsAt0 m c (t.val - 1) (Nat.lt_of_le_of_lt (Nat.sub_le _ _) t.isLt)).2.2.2.2.2.2.2.2.2.2.2.2)) := by
  rw [outsAt0_C m c t h0 h1]; dsimp only; unfold out0_C_21; rw [View.read_writes_junk_eq_canon]
  exact caseC_out21 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_acc0 (h0 : ¬t.val % 8 = 0) (h1 : t.val % 8 = 7) : (outsAt0 m c t.val t.isLt).2.2.2.2.2.2.2.2.2.1 = k0_pay17 (k0_pay16 (iblk m c 0 t) (iblk m c 1 t) (iblk m c 5 t) ((outsAt0 m c (t.val - 1) (Nat.lt_of_le_of_lt (Nat.sub_le _ _) t.isLt)).2.2.2.2.2.2.2.2.2.1)) := by
  rw [outsAt0_C m c t h0 h1]; dsimp only; unfold sout0_C_0; rw [View.read_writes_junk_eq_canon]
  exact caseC_acc0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_acc1 (h0 : ¬t.val % 8 = 0) (h1 : t.val % 8 = 7) : (outsAt0 m c t.val t.isLt).2.2.2.2.2.2.2.2.2.2.1 = unitStores (iblk m c 0 t) (iblk m c 2 t) (iblk m c 10 t) (iblk m c 6 t) ((outsAt0 m c (t.val - 1) (Nat.lt_of_le_of_lt (Nat.sub_le _ _) t.isLt)).2.2.2.2.2.2.2.2.2.2.1) := by
  rw [outsAt0_C m c t h0 h1]; dsimp only; unfold sout0_C_1; rw [View.read_writes_junk_eq_canon]
  exact caseC_acc1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_acc2 (h0 : ¬t.val % 8 = 0) (h1 : t.val % 8 = 7) : (outsAt0 m c t.val t.isLt).2.2.2.2.2.2.2.2.2.2.2.1 = k0_pay22 (iblk m c 0 t) (iblk m c 3 t) (iblk m c 7 t) ((outsAt0 m c (t.val - 1) (Nat.lt_of_le_of_lt (Nat.sub_le _ _) t.isLt)).2.2.2.2.2.2.2.2.2.2.2.1) := by
  rw [outsAt0_C m c t h0 h1]; dsimp only; unfold sout0_C_2; rw [View.read_writes_junk_eq_canon]
  exact caseC_acc2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
theorem pointC_acc3 (h0 : ¬t.val % 8 = 0) (h1 : t.val % 8 = 7) : (outsAt0 m c t.val t.isLt).2.2.2.2.2.2.2.2.2.2.2.2 = k0_pay27 (iblk m c 0 t) (iblk m c 4 t) (iblk m c 8 t) ((outsAt0 m c (t.val - 1) (Nat.lt_of_le_of_lt (Nat.sub_le _ _) t.isLt)).2.2.2.2.2.2.2.2.2.2.2.2) := by
  rw [outsAt0_C m c t h0 h1]; dsimp only; unfold sout0_C_3; rw [View.read_writes_junk_eq_canon]
  exact caseC_acc3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

theorem t_lt : t.val < 8 := lt_of_lt_of_eq t.isLt (show cfg0.N = 8 from N_0)

theorem at_out13 : (outsAt0 m c t.val t.isLt).1 = k0_pay15 (iblk m c 0 t) (iblk m c 5 t) (iblk m c 9 t) := by
  by_cases h0 : t.val % 8 = 0
  · exact pointA_out13 m c t h0 (by omega)
  · by_cases h1 : t.val % 8 = 7
    · exact pointC_out13 m c t h0 h1
    · exact pointB_out13 m c t h0 h1

theorem at_out14 : (outsAt0 m c t.val t.isLt).2.1 = k0_pay1 (k0_pay36 (iblk m c 0 t) (iblk m c 2 t) (iblk m c 10 t) (iblk m c 6 t) (View.ld (iblk m c 10 t) lowerRect)) (k0_pay37 (iblk m c 0 t) (iblk m c 2 t) (iblk m c 10 t) (iblk m c 6 t) (View.ld (iblk m c 10 t) upperRect)) := by
  by_cases h0 : t.val % 8 = 0
  · exact pointA_out14 m c t h0 (by omega)
  · by_cases h1 : t.val % 8 = 7
    · exact pointC_out14 m c t h0 h1
    · exact pointB_out14 m c t h0 h1

theorem at_out15 : (outsAt0 m c t.val t.isLt).2.2.1 = k0_pay21 (iblk m c 0 t) (iblk m c 7 t) (iblk m c 11 t) := by
  by_cases h0 : t.val % 8 = 0
  · exact pointA_out15 m c t h0 (by omega)
  · by_cases h1 : t.val % 8 = 7
    · exact pointC_out15 m c t h0 h1
    · exact pointB_out15 m c t h0 h1

theorem at_out16 : (outsAt0 m c t.val t.isLt).2.2.2.1 = k0_pay26 (iblk m c 0 t) (iblk m c 8 t) (iblk m c 12 t) := by
  by_cases h0 : t.val % 8 = 0
  · exact pointA_out16 m c t h0 (by omega)
  · by_cases h1 : t.val % 8 = 7
    · exact pointC_out16 m c t h0 h1
    · exact pointB_out16 m c t h0 h1

theorem at_out17 : (outsAt0 m c t.val t.isLt).2.2.2.2.1 = gateStores (k0_pay13 (iblk m c 0 t) (iblk m c 1 t) (iblk m c 9 t) (iblk m c 5 t)) (k0_pay32 (iblk m c 0 t) (iblk m c 2 t) (iblk m c 10 t) (iblk m c 6 t)) (k0_pay19 (iblk m c 0 t) (iblk m c 3 t) (iblk m c 11 t) (iblk m c 7 t)) (k0_pay24 (iblk m c 0 t) (iblk m c 4 t) (iblk m c 12 t) (iblk m c 8 t)) := by
  by_cases h0 : t.val % 8 = 0
  · exact pointA_out17 m c t h0 (by omega)
  · by_cases h1 : t.val % 8 = 7
    · exact pointC_out17 m c t h0 h1
    · exact pointB_out17 m c t h0 h1

theorem next_acc0 (h0 : ¬t.val % 8 = 0) : (outsAt0 m c t.val t.isLt).2.2.2.2.2.2.2.2.2.1 = k0_pay17 (k0_pay16 (iblk m c 0 t) (iblk m c 1 t) (iblk m c 5 t) ((outsAt0 m c (t.val - 1) (Nat.lt_of_le_of_lt (Nat.sub_le _ _) t.isLt)).2.2.2.2.2.2.2.2.2.1)) := by
  by_cases h1 : t.val % 8 = 7
  · exact pointC_acc0 m c t h0 h1
  · exact pointB_acc0 m c t h0 h1
theorem last_out18 (h1 : t.val % 8 = 7) : (outsAt0 m c t.val t.isLt).2.2.2.2.2.1 = k0_pay4 ((outsAt0 m c t.val t.isLt).2.2.2.2.2.2.2.2.2.1) :=
  (pointC_out18 m c t (by omega) h1).trans (congrArg k0_pay4 (pointC_acc0 m c t (by omega) h1).symm)

theorem next_acc1 (h0 : ¬t.val % 8 = 0) : (outsAt0 m c t.val t.isLt).2.2.2.2.2.2.2.2.2.2.1 = unitStores (iblk m c 0 t) (iblk m c 2 t) (iblk m c 10 t) (iblk m c 6 t) ((outsAt0 m c (t.val - 1) (Nat.lt_of_le_of_lt (Nat.sub_le _ _) t.isLt)).2.2.2.2.2.2.2.2.2.2.1) := by
  by_cases h1 : t.val % 8 = 7
  · exact pointC_acc1 m c t h0 h1
  · exact pointB_acc1 m c t h0 h1
theorem last_out19 (h1 : t.val % 8 = 7) : (outsAt0 m c t.val t.isLt).2.2.2.2.2.2.1 = k0_pay5 ((outsAt0 m c t.val t.isLt).2.2.2.2.2.2.2.2.2.2.1) :=
  (pointC_out19 m c t (by omega) h1).trans (congrArg k0_pay5 (pointC_acc1 m c t (by omega) h1).symm)

theorem next_acc2 (h0 : ¬t.val % 8 = 0) : (outsAt0 m c t.val t.isLt).2.2.2.2.2.2.2.2.2.2.2.1 = k0_pay22 (iblk m c 0 t) (iblk m c 3 t) (iblk m c 7 t) ((outsAt0 m c (t.val - 1) (Nat.lt_of_le_of_lt (Nat.sub_le _ _) t.isLt)).2.2.2.2.2.2.2.2.2.2.2.1) := by
  by_cases h1 : t.val % 8 = 7
  · exact pointC_acc2 m c t h0 h1
  · exact pointB_acc2 m c t h0 h1
theorem last_out20 (h1 : t.val % 8 = 7) : (outsAt0 m c t.val t.isLt).2.2.2.2.2.2.2.1 = k0_pay6 ((outsAt0 m c t.val t.isLt).2.2.2.2.2.2.2.2.2.2.2.1) :=
  (pointC_out20 m c t (by omega) h1).trans (congrArg k0_pay6 (pointC_acc2 m c t (by omega) h1).symm)

theorem next_acc3 (h0 : ¬t.val % 8 = 0) : (outsAt0 m c t.val t.isLt).2.2.2.2.2.2.2.2.2.2.2.2 = k0_pay27 (iblk m c 0 t) (iblk m c 4 t) (iblk m c 8 t) ((outsAt0 m c (t.val - 1) (Nat.lt_of_le_of_lt (Nat.sub_le _ _) t.isLt)).2.2.2.2.2.2.2.2.2.2.2.2) := by
  by_cases h1 : t.val % 8 = 7
  · exact pointC_acc3 m c t h0 h1
  · exact pointB_acc3 m c t h0 h1
theorem last_out21 (h1 : t.val % 8 = 7) : (outsAt0 m c t.val t.isLt).2.2.2.2.2.2.2.2.1 = k0_pay7 ((outsAt0 m c t.val t.isLt).2.2.2.2.2.2.2.2.2.2.2.2) :=
  (pointC_out21 m c t (by omega) h1).trans (congrArg k0_pay7 (pointC_acc3 m c t (by omega) h1).symm)

end Cert.Kernel3Ideal.Gen

end
-- ==== Proof.MergePay.lean ====
/-
  The gradients of the mixer's gated branches: what one tile's payloads hold.
-/
module

public import proofs.«01_k».proof.Proof.Gen.Kernel3Ideal.Skeleton
public import proofs.«01_k».proof.Proof.GateGrads

@[expose] public section

set_option maxRecDepth 16384

noncomputable section

namespace Cert.Kernel3Ideal.Gen

open Idealize.ShloMosaic Idealize.ShloMosaic.TcCoe Cert.StickBreaking Cert.Gates

/-- A tile's gates, by row and column. -/
def tileGate (g : Vec Ideal S256x1024 .f32) (r : Fin 256) (j : Fin 1024) : EReal := g (ix2 r j)

variable (dm g acc : Vec Ideal S256x1024 .f32) (z : Vec Ideal S256x256 .bf16) (w : Vec Ideal S256x1024 .bf16) (u : Vec Ideal S256x2048 .bf16)

theorem pay13_at (r : Fin 256) (j : Fin 1024) : k0_pay13 (F := Ideal) dm z w g (ix2 r j) = gradGate dm (tileGate g) (lin z w) r j := by
  unfold gradGate gate lin tileGate; pointwise [k0_pay13, k0_pay12]
theorem pay14_at (r : Fin 256) (j : Fin 1024) : k0_pay14 (F := Ideal) dm g (ix2 r j) = gradBranch dm (tileGate g) r j := by
  unfold gradBranch gate tileGate; pointwise [k0_pay14, k0_pay12]
theorem pay15_at (r : Fin 256) (i : Fin 256) : k0_pay15 (F := Ideal) dm g w (ix2 r i) = gradInput (gradBranch dm (tileGate g)) w r i := by
  have e : k0_pay15 (F := Ideal) dm g w (ix2 r i) = ∑ j : Fin 1024, k0_pay14 (F := Ideal) dm g (ix2 r j) * w (ix2 i j) := by pointwise [k0_pay15]
  rw [e]; exact Finset.sum_congr rfl fun j _ => by rw [pay14_at]
theorem pay16_at (i : Fin 256) (j : Fin 1024) : k0_pay16 (F := Ideal) dm z g acc (ix2 i j) = acc (ix2 i j) + gradWeight z (gradBranch dm (tileGate g)) i j := by
  have e : k0_pay16 (F := Ideal) dm z g acc (ix2 i j) = acc (ix2 i j) + ∑ r : Fin 256, z (ix2 r i) * k0_pay14 (F := Ideal) dm g (ix2 r j) := by pointwise [k0_pay16]
  rw [e]; exact congrArg (fun x : EReal => acc (ix2 i j) + x) (Finset.sum_congr rfl fun r _ => by rw [pay14_at])
theorem pay19_at (r : Fin 256) (j : Fin 1024) : k0_pay19 (F := Ideal) dm z w g (ix2 r j) = gradGate dm (tileGate g) (lin z w) r j := by
  unfold gradGate gate lin tileGate; pointwise [k0_pay19, k0_pay18]
theorem pay20_at (r : Fin 256) (j : Fin 1024) : k0_pay20 (F := Ideal) dm g (ix2 r j) = gradBranch dm (tileGate g) r j := by
  unfold gradBranch gate tileGate; pointwise [k0_pay20, k0_pay18]
theorem pay21_at (r : Fin 256) (i : Fin 256) : k0_pay21 (F := Ideal) dm g w (ix2 r i) = gradInput (gradBranch dm (tileGate g)) w r i := by
  have e : k0_pay21 (F := Ideal) dm g w (ix2 r i) = ∑ j : Fin 1024, k0_pay20 (F := Ideal) dm g (ix2 r j) * w (ix2 i j) := by pointwise [k0_pay21]
  rw [e]; exact Finset.sum_congr rfl fun j _ => by rw [pay20_at]
theorem pay22_at (i : Fin 256) (j : Fin 1024) : k0_pay22 (F := Ideal) dm z g acc (ix2 i j) = acc (ix2 i j) + gradWeight z (gradBranch dm (tileGate g)) i j := by
  have e : k0_pay22 (F := Ideal) dm z g acc (ix2 i j) = acc (ix2 i j) + ∑ r : Fin 256, z (ix2 r i) * k0_pay20 (F := Ideal) dm g (ix2 r j) := by pointwise [k0_pay22]
  rw [e]; exact congrArg (fun x : EReal => acc (ix2 i j) + x) (Finset.sum_congr rfl fun r _ => by rw [pay20_at])
theorem pay24_at (r : Fin 256) (j : Fin 1024) : k0_pay24 (F := Ideal) dm z w g (ix2 r j) = gradGate dm (tileGate g) (lin z w) r j := by
  unfold gradGate gate lin tileGate; pointwise [k0_pay24, k0_pay23]
theorem pay25_at (r : Fin 256) (j : Fin 1024) : k0_pay25 (F := Ideal) dm g (ix2 r j) = gradBranch dm (tileGate g) r j := by
  unfold gradBranch gate tileGate; pointwise [k0_pay25, k0_pay23]
theorem pay26_at (r : Fin 256) (i : Fin 256) : k0_pay26 (F := Ideal) dm g w (ix2 r i) = gradInput (gradBranch dm (tileGate g)) w r i := by
  have e : k0_pay26 (F := Ideal) dm g w (ix2 r i) = ∑ j : Fin 1024, k0_pay25 (F := Ideal) dm g (ix2 r j) * w (ix2 i j) := by pointwise [k0_pay26]
  rw [e]; exact Finset.sum_congr rfl fun j _ => by rw [pay25_at]
theorem pay27_at (i : Fin 256) (j : Fin 1024) : k0_pay27 (F := Ideal) dm z g acc (ix2 i j) = acc (ix2 i j) + gradWeight z (gradBranch dm (tileGate g)) i j := by
  have e : k0_pay27 (F := Ideal) dm z g acc (ix2 i j) = acc (ix2 i j) + ∑ r : Fin 256, z (ix2 r i) * k0_pay25 (F := Ideal) dm g (ix2 r j) := by pointwise [k0_pay27]
  rw [e]; exact congrArg (fun x : EReal => acc (ix2 i j) + x) (Finset.sum_congr rfl fun r _ => by rw [pay25_at])

theorem pay28_at (r : Fin 256) (j : Fin 2048) : k0_pay28 (F := Ideal) z u (ix2 r j) = lin z u r j := by
  unfold lin; pointwise [k0_pay28]
theorem pay29_at (r : Fin 256) (j : Fin 1024) : k0_pay29 (F := Ideal) z u (ix2 r j) = lin z u r (lower j) := by
  rw [← pay28_at]; unfold lower; pointwise [k0_pay29]
theorem pay30_at (r : Fin 256) (j : Fin 1024) : k0_pay30 (F := Ideal) z u (ix2 r j) = gate (lin z u r (upper j)) := by
  rw [← pay28_at]; unfold gate upper; pointwise [k0_pay30]
theorem pay31_at (r : Fin 256) (j : Fin 1024) : k0_pay31 (F := Ideal) g (ix2 r j) = gate (tileGate g r j) := by
  unfold gate tileGate; pointwise [k0_pay31]
theorem pay32_at (r : Fin 256) (j : Fin 1024) : k0_pay32 (F := Ideal) dm z u g (ix2 r j) = gradGate dm (tileGate g) (unitValue z u) r j := by
  unfold gradGate unitValue; rw [← pay29_at, ← pay30_at, ← pay31_at]; pointwise [k0_pay32]
theorem pay33_at (r : Fin 256) (j : Fin 1024) : k0_pay33 (F := Ideal) dm g (ix2 r j) = gradBranch dm (tileGate g) r j := by
  unfold gradBranch; rw [← pay31_at]; pointwise [k0_pay33]
theorem pay34_at (r : Fin 256) (j : Fin 1024) : k0_pay34 (F := Ideal) dm z u g (ix2 r j) = gradLower z u (gradBranch dm (tileGate g)) r j := by
  unfold gradLower; rw [← pay33_at, ← pay30_at]; pointwise [k0_pay34]
theorem pay35_at (r : Fin 256) (j : Fin 1024) : k0_pay35 (F := Ideal) dm z u g (ix2 r j) = gradUpper z u (gradBranch dm (tileGate g)) r j := by
  unfold gradUpper; rw [← pay33_at, ← pay30_at, ← pay29_at]; pointwise [k0_pay35]

/-- The gated linear unit's input gradient, from the two halves of its weight. -/
theorem pay1_at (a b : Vec Ideal S256x1024 .bf16) (ha : ∀ i j, a (ix2 i j) = u (ix2 i (lower j))) (hb : ∀ i j, b (ix2 i j) = u (ix2 i (upper j))) (r : Fin 256) (i : Fin 256) :
    k0_pay1 (F := Ideal) (k0_pay36 (F := Ideal) dm z u g a) (k0_pay37 (F := Ideal) dm z u g b) (ix2 r i) = gradUnit z u (gradBranch dm (tileGate g)) r i := by
  have e : k0_pay1 (F := Ideal) (k0_pay36 (F := Ideal) dm z u g a) (k0_pay37 (F := Ideal) dm z u g b) (ix2 r i)
      = (∑ j : Fin 1024, k0_pay34 (F := Ideal) dm z u g (ix2 r j) * a (ix2 i j)) + ∑ j : Fin 1024, k0_pay35 (F := Ideal) dm z u g (ix2 r j) * b (ix2 i j) := by
    pointwise [k0_pay1, k0_pay36, k0_pay37]
  rw [e]
  exact congrArg₂ (fun x y : EReal => x + y) (Finset.sum_congr rfl fun j _ => by rw [pay34_at, ha]) (Finset.sum_congr rfl fun j _ => by rw [pay35_at, hb])

/-- One more tile of a weight's gradient. -/
theorem pay2_at (d : Vec Ideal S256x1024 .bf16) (i : Fin 256) (j : Fin 1024) :
    k0_pay2 (F := Ideal) z d acc (ix2 i j) = acc (ix2 i j) + gradWeight z (fun r j => d (ix2 r j)) i j := by
  unfold gradWeight; pointwise [k0_pay2]
theorem pay3_at (d : Vec Ideal S256x1024 .bf16) (i : Fin 256) (j : Fin 1024) :
    k0_pay3 (F := Ideal) z d acc (ix2 i j) = acc (ix2 i j) + gradWeight z (fun r j => d (ix2 r j)) i j := by
  unfold gradWeight; pointwise [k0_pay3]

end Cert.Kernel3Ideal.Gen

end
-- ==== Proof.Merge.lean ====
/-
  The gradients of the mixer's gated branches: what the call's nine output arrays hold.
-/
module

public import proofs.«01_k».proof.Proof.MergePoint
public import proofs.«01_k».proof.Proof.MergePay

@[expose] public section

set_option maxRecDepth 16384

noncomputable section

namespace Cert.Kernel3Ideal.Gen

open Idealize.ShloMosaic Idealize.ShloMosaic.TcCoe Cert.StickBreaking Cert.Gates

abbrev gateRect0 : Rect S256x4096 := Rect.unit (s := S256x4096) ![0, 0] ![256, 1024] inb_S256x4096_S256x1024_0_0
abbrev gateRect1 : Rect S256x4096 := Rect.unit (s := S256x4096) ![0, 1024] ![256, 1024] inb_S256x4096_S256x1024_0_1024
abbrev gateRect2 : Rect S256x4096 := Rect.unit (s := S256x4096) ![0, 2048] ![256, 1024] inb_S256x4096_S256x1024_0_2048
abbrev gateRect3 : Rect S256x4096 := Rect.unit (s := S256x4096) ![0, 3072] ![256, 1024] inb_S256x4096_S256x1024_0_3072
theorem gateRect0_emb (r : Fin 256) (j : Fin 1024) : gateRect0.emb (ix2 r j) = (ix2 r (column4 0 j) : S256x4096.Idx) := by
  refine funext fun a => Fin.ext ?_
  match a with
  | ⟨0, _⟩ => show 0 + 1 * r.val = r.val; omega
  | ⟨1, _⟩ => show 0 + 1 * j.val = 1024 * 0 + j.val; omega
theorem gateRect1_off0 (r : Fin 256) (j : Fin 1024) : (ix2 r (column4 0 j) : S256x4096.Idx) ∉ gateRect1.set := by
  intro h
  have e : 1024 ≤ 1024 * 0 + j.val ∧ 1024 * 0 + j.val < 1024 + 1024 := (Rect.mem_set_unit.mp h) 1
  omega
theorem gateRect2_off0 (r : Fin 256) (j : Fin 1024) : (ix2 r (column4 0 j) : S256x4096.Idx) ∉ gateRect2.set := by
  intro h
  have e : 2048 ≤ 1024 * 0 + j.val ∧ 1024 * 0 + j.val < 2048 + 1024 := (Rect.mem_set_unit.mp h) 1
  omega
theorem gateRect3_off0 (r : Fin 256) (j : Fin 1024) : (ix2 r (column4 0 j) : S256x4096.Idx) ∉ gateRect3.set := by
  intro h
  have e : 3072 ≤ 1024 * 0 + j.val ∧ 1024 * 0 + j.val < 3072 + 1024 := (Rect.mem_set_unit.mp h) 1
  omega
theorem gateRect1_emb (r : Fin 256) (j : Fin 1024) : gateRect1.emb (ix2 r j) = (ix2 r (column4 1 j) : S256x4096.Idx) := by
  refine funext fun a => Fin.ext ?_
  match a with
  | ⟨0, _⟩ => show 0 + 1 * r.val = r.val; omega
  | ⟨1, _⟩ => show 1024 + 1 * j.val = 1024 * 1 + j.val; omega
theorem gateRect0_off1 (r : Fin 256) (j : Fin 1024) : (ix2 r (column4 1 j) : S256x4096.Idx) ∉ gateRect0.set := by
  intro h
  have e : 0 ≤ 1024 * 1 + j.val ∧ 1024 * 1 + j.val < 0 + 1024 := (Rect.mem_set_unit.mp h) 1
  omega
theorem gateRect2_off1 (r : Fin 256) (j : Fin 1024) : (ix2 r (column4 1 j) : S256x4096.Idx) ∉ gateRect2.set := by
  intro h
  have e : 2048 ≤ 1024 * 1 + j.val ∧ 1024 * 1 + j.val < 2048 + 1024 := (Rect.mem_set_unit.mp h) 1
  omega
theorem gateRect3_off1 (r : Fin 256) (j : Fin 1024) : (ix2 r (column4 1 j) : S256x4096.Idx) ∉ gateRect3.set := by
  intro h
  have e : 3072 ≤ 1024 * 1 + j.val ∧ 1024 * 1 + j.val < 3072 + 1024 := (Rect.mem_set_unit.mp h) 1
  omega
theorem gateRect2_emb (r : Fin 256) (j : Fin 1024) : gateRect2.emb (ix2 r j) = (ix2 r (column4 2 j) : S256x4096.Idx) := by
  refine funext fun a => Fin.ext ?_
  match a with
  | ⟨0, _⟩ => show 0 + 1 * r.val = r.val; omega
  | ⟨1, _⟩ => show 2048 + 1 * j.val = 1024 * 2 + j.val; omega
theorem gateRect0_off2 (r : Fin 256) (j : Fin 1024) : (ix2 r (column4 2 j) : S256x4096.Idx) ∉ gateRect0.set := by
  intro h
  have e : 0 ≤ 1024 * 2 + j.val ∧ 1024 * 2 + j.val < 0 + 1024 := (Rect.mem_set_unit.mp h) 1
  omega
theorem gateRect1_off2 (r : Fin 256) (j : Fin 1024) : (ix2 r (column4 2 j) : S256x4096.Idx) ∉ gateRect1.set := by
  intro h
  have e : 1024 ≤ 1024 * 2 + j.val ∧ 1024 * 2 + j.val < 1024 + 1024 := (Rect.mem_set_unit.mp h) 1
  omega
theorem gateRect3_off2 (r : Fin 256) (j : Fin 1024) : (ix2 r (column4 2 j) : S256x4096.Idx) ∉ gateRect3.set := by
  intro h
  have e : 3072 ≤ 1024 * 2 + j.val ∧ 1024 * 2 + j.val < 3072 + 1024 := (Rect.mem_set_unit.mp h) 1
  omega
theorem gateRect3_emb (r : Fin 256) (j : Fin 1024) : gateRect3.emb (ix2 r j) = (ix2 r (column4 3 j) : S256x4096.Idx) := by
  refine funext fun a => Fin.ext ?_
  match a with
  | ⟨0, _⟩ => show 0 + 1 * r.val = r.val; omega
  | ⟨1, _⟩ => show 3072 + 1 * j.val = 1024 * 3 + j.val; omega
theorem gateRect0_off3 (r : Fin 256) (j : Fin 1024) : (ix2 r (column4 3 j) : S256x4096.Idx) ∉ gateRect0.set := by
  intro h
  have e : 0 ≤ 1024 * 3 + j.val ∧ 1024 * 3 + j.val < 0 + 1024 := (Rect.mem_set_unit.mp h) 1
  omega
theorem gateRect1_off3 (r : Fin 256) (j : Fin 1024) : (ix2 r (column4 3 j) : S256x4096.Idx) ∉ gateRect1.set := by
  intro h
  have e : 1024 ≤ 1024 * 3 + j.val ∧ 1024 * 3 + j.val < 1024 + 1024 := (Rect.mem_set_unit.mp h) 1
  omega
theorem gateRect2_off3 (r : Fin 256) (j : Fin 1024) : (ix2 r (column4 3 j) : S256x4096.Idx) ∉ gateRect2.set := by
  intro h
  have e : 2048 ≤ 1024 * 3 + j.val ∧ 1024 * 3 + j.val < 2048 + 1024 := (Rect.mem_set_unit.mp h) 1
  omega

section
variable (a0 a1 a2 a3 : Vec Ideal S256x1024 .bf16) (r : Fin 256) (j : Fin 1024)
theorem gateStores_at0 : gateStores a0 a1 a2 a3 (ix2 r (column4 0 j)) = a0 (ix2 r j) := by
  unfold gateStores
  refine (View.canon_cons_of_not_mem (Val := Elt Ideal) (e := .bf16) ⟨gateRect1, a1⟩ [⟨gateRect3, a3⟩, ⟨gateRect2, a2⟩, ⟨gateRect0, a0⟩] (y := ix2 r (column4 0 j)) (gateRect1_off0 r j)).trans ?_
  refine (View.canon_cons_of_not_mem (Val := Elt Ideal) (e := .bf16) ⟨gateRect3, a3⟩ [⟨gateRect2, a2⟩, ⟨gateRect0, a0⟩] (y := ix2 r (column4 0 j)) (gateRect3_off0 r j)).trans ?_
  refine (View.canon_cons_of_not_mem (Val := Elt Ideal) (e := .bf16) ⟨gateRect2, a2⟩ [⟨gateRect0, a0⟩] (y := ix2 r (column4 0 j)) (gateRect2_off0 r j)).trans ?_
  have e := View.canon_cons_emb (Val := Elt Ideal) (e := .bf16) gateRect0 a0 [] (ix2 r j)
  rw [gateRect0_emb] at e
  exact e
theorem gateStores_at1 : gateStores a0 a1 a2 a3 (ix2 r (column4 1 j)) = a1 (ix2 r j) := by
  unfold gateStores
  have e := View.canon_cons_emb (Val := Elt Ideal) (e := .bf16) gateRect1 a1 [⟨gateRect3, a3⟩, ⟨gateRect2, a2⟩, ⟨gateRect0, a0⟩] (ix2 r j)
  rw [gateRect1_emb] at e
  exact e
theorem gateStores_at2 : gateStores a0 a1 a2 a3 (ix2 r (column4 2 j)) = a2 (ix2 r j) := by
  unfold gateStores
  refine (View.canon_cons_of_not_mem (Val := Elt Ideal) (e := .bf16) ⟨gateRect1, a1⟩ [⟨gateRect3, a3⟩, ⟨gateRect2, a2⟩, ⟨gateRect0, a0⟩] (y := ix2 r (column4 2 j)) (gateRect1_off2 r j)).trans ?_
  refine (View.canon_cons_of_not_mem (Val := Elt Ideal) (e := .bf16) ⟨gateRect3, a3⟩ [⟨gateRect2, a2⟩, ⟨gateRect0, a0⟩] (y := ix2 r (column4 2 j)) (gateRect3_off2 r j)).trans ?_
  have e := View.canon_cons_emb (Val := Elt Ideal) (e := .bf16) gateRect2 a2 [⟨gateRect0, a0⟩] (ix2 r j)
  rw [gateRect2_emb] at e
  exact e
theorem gateStores_at3 : gateStores a0 a1 a2 a3 (ix2 r (column4 3 j)) = a3 (ix2 r j) := by
  unfold gateStores
  refine (View.canon_cons_of_not_mem (Val := Elt Ideal) (e := .bf16) ⟨gateRect1, a1⟩ [⟨gateRect3, a3⟩, ⟨gateRect2, a2⟩, ⟨gateRect0, a0⟩] (y := ix2 r (column4 3 j)) (gateRect1_off3 r j)).trans ?_
  have e := View.canon_cons_emb (Val := Elt Ideal) (e := .bf16) gateRect3 a3 [⟨gateRect2, a2⟩, ⟨gateRect0, a0⟩] (ix2 r j)
  rw [gateRect3_emb] at e
  exact e
end

section
variable (x0 : Vec Ideal S256x1024 .f32) (x2 : Vec Ideal S256x256 .bf16) (x10 : Vec Ideal S256x2048 .bf16) (x6 : Vec Ideal S256x1024 .f32) (s : Vec Ideal S256x2048 .f32) (i : Fin 256) (j : Fin 1024)
theorem unitStores_lower : unitStores (F := Ideal) x0 x2 x10 x6 s (ix2 i (lower j)) = s (ix2 i (lower j)) + gradWeight x2 (gradLower x2 x10 (gradBranch x0 (tileGate x6))) i j := by
  unfold unitStores
  refine (canon_lower _ _ _ i j).trans ?_
  refine (pay2_at _ _ _ i j).trans ?_
  exact congrArg₂ (fun x y : EReal => x + y) (congrArg s (lower_emb i j)) (Finset.sum_congr rfl fun r _ => congrArg (fun y : EReal => x2 (ix2 r i) * y) (pay34_at _ _ _ _ r j))
theorem unitStores_upper : unitStores (F := Ideal) x0 x2 x10 x6 s (ix2 i (upper j)) = s (ix2 i (upper j)) + gradWeight x2 (gradUpper x2 x10 (gradBranch x0 (tileGate x6))) i j := by
  unfold unitStores
  refine (canon_upper _ _ i j).trans ?_
  refine (pay3_at _ _ _ i j).trans ?_
  exact congrArg₂ (fun x y : EReal => x + y) (congrArg s (upper_emb i j)) (Finset.sum_congr rfl fun r _ => congrArg (fun y : EReal => x2 (ix2 r i) * y) (pay35_at _ _ _ _ r j))
end

variable (m : (ℓ : Loc nD τ sig) → Buf (Elt Ideal) ℓ) (c : Dev nD)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 2] := (by decide +kernel : ∀ t : Fin grid0.N, _)
theorem index6 : ∀ t : Fin cfg0.N, win0_6.index t = ![t.val, 3] := (by decide +kernel : ∀ t : Fin grid0.N, _)
theorem index7 : ∀ t : Fin cfg0.N, win0_7.index t = ![t.val, 4] := (by decide +kernel : ∀ t : Fin grid0.N, _)
theorem index8 : ∀ t : Fin cfg0.N, win0_8.index t = ![t.val, 5] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![t.val, 0] := (by decide +kernel : ∀ t : Fin grid0.N, _)
theorem index15 : ∀ t : Fin cfg0.N, win0_15.index t = ![t.val, 0] := (by decide +kernel : ∀ t : Fin grid0.N, _)
theorem index16 : ∀ t : Fin cfg0.N, win0_16.index t = ![t.val, 0] := (by decide +kernel : ∀ t : Fin grid0.N, _)
theorem index17 : ∀ t : Fin cfg0.N, win0_17.index t = ![t.val, 0] := (by decide +kernel : ∀ t : Fin grid0.N, _)
theorem index18 : ∀ t : Fin cfg0.N, win0_18.index t = ![0, 0] := (by decide +kernel : ∀ t : Fin grid0.N, _)
theorem index19 : ∀ t : Fin cfg0.N, win0_19.index t = ![0, 0] := (by decide +kernel : ∀ t : Fin grid0.N, _)
theorem index20 : ∀ t : Fin cfg0.N, win0_20.index t = ![0, 0] := (by decide +kernel : ∀ t : Fin grid0.N, _)
theorem index21 : ∀ t : Fin cfg0.N, win0_21.index t = ![0, 0] := (by decide +kernel : ∀ t : Fin grid0.N, _)

/-- The row of the array that a row of point `t`'s tile is. -/
def rowOf (t : Fin cfg0.N) (r : Fin 256) : Fin 2048 := ⟨256 * t.val + r.val, by have := t_lt t; omega⟩

/-- A gate's argument, a column of the projection. -/
def gateCol (p : S2048x6144.Idx → EReal) (k : Fin 4) (r : Fin 2048) (j : Fin 1024) : EReal := p (ix2 r (column k j))

theorem block0 (t : Fin cfg0.N) (r : Fin 256) (j : Fin 1024) : iblk m c 0 t (ix2 r j) = m ((c : Thread nD τ).loc main_arg0) (ix2 (rowOf t r) (j)) := by
  unfold iblk; rw [View.read_apply, cast_eq]
  refine congrArg (m ((c : Thread nD τ).loc main_arg0)) (funext fun a => Fin.ext ?_)
  match a with
  | ⟨0, _⟩ => blk_simp [index0 t]; show t.val * 256 + r.val = 256 * t.val + r.val; omega
  | ⟨1, _⟩ => blk_simp [index0 t]
theorem block1 (t : Fin cfg0.N) (r : Fin 256) (j : Fin 256) : iblk m c 1 t (ix2 r j) = m ((c : Thread nD τ).loc main_arg1) (ix2 (rowOf t r) (j)) := by
  unfold iblk; rw [View.read_apply, cast_eq]
  refine congrArg (m ((c : Thread nD τ).loc main_arg1)) (funext fun a => Fin.ext ?_)
  match a with
  | ⟨0, _⟩ => blk_simp [index1 t]; show t.val * 256 + r.val = 256 * t.val + r.val; omega
  | ⟨1, _⟩ => blk_simp [index1 t]
theorem block2 (t : Fin cfg0.N) (r : Fin 256) (j : Fin 256) : iblk m c 2 t (ix2 r j) = m ((c : Thread nD τ).loc main_arg2) (ix2 (rowOf t r) (j)) := by
  unfold iblk; rw [View.read_apply, cast_eq]
  refine congrArg (m ((c : Thread nD τ).loc main_arg2)) (funext fun a => Fin.ext ?_)
  match a with
  | ⟨0, _⟩ => blk_simp [index2 t]; show t.val * 256 + r.val = 256 * t.val + r.val; omega
  | ⟨1, _⟩ => blk_simp [index2 t]
theorem block3 (t : Fin cfg0.N) (r : Fin 256) (j : Fin 256) : iblk m c 3 t (ix2 r j) = m ((c : Thread nD τ).loc main_arg3) (ix2 (rowOf t r) (j)) := by
  unfold iblk; rw [View.read_apply, cast_eq]
  refine congrArg (m ((c : Thread nD τ).loc main_arg3)) (funext fun a => Fin.ext ?_)
  match a with
  | ⟨0, _⟩ => blk_simp [index3 t]; show t.val * 256 + r.val = 256 * t.val + r.val; omega
  | ⟨1, _⟩ => blk_simp [index3 t]
theorem block4 (t : Fin cfg0.N) (r : Fin 256) (j : Fin 256) : iblk m c 4 t (ix2 r j) = m ((c : Thread nD τ).loc main_arg4) (ix2 (rowOf t r) (j)) := by
  unfold iblk; rw [View.read_apply, cast_eq]
  refine congrArg (m ((c : Thread nD τ).loc main_arg4)) (funext fun a => Fin.ext ?_)
  match a with
  | ⟨0, _⟩ => blk_simp [index4 t]; show t.val * 256 + r.val = 256 * t.val + r.val; omega
  | ⟨1, _⟩ => blk_simp [index4 t]
theorem block5 (t : Fin cfg0.N) (r : Fin 256) (j : Fin 1024) : iblk m c 5 t (ix2 r j) = m ((c : Thread nD τ).loc main_arg5) (ix2 (rowOf t r) (column 0 j)) := by
  unfold iblk; rw [View.read_apply, cast_eq]
  refine congrArg (m ((c : Thread nD τ).loc main_arg5)) (funext fun a => Fin.ext ?_)
  match a with
  | ⟨0, _⟩ => blk_simp [index5 t]; show t.val * 256 + r.val = 256 * t.val + r.val; omega
  | ⟨1, _⟩ => blk_simp [index5 t]; show 2 * 1024 + j.val = 2048 + 1024 * 0 + j.val; omega
theorem block6 (t : Fin cfg0.N) (r : Fin 256) (j : Fin 1024) : iblk m c 6 t (ix2 r j) = m ((c : Thread nD τ).loc main_arg5) (ix2 (rowOf t r) (column 1 j)) := by
  unfold iblk; rw [View.read_apply, cast_eq]
  refine congrArg (m ((c : Thread nD τ).loc main_arg5)) (funext fun a => Fin.ext ?_)
  match a with
  | ⟨0, _⟩ => blk_simp [index6 t]; show t.val * 256 + r.val = 256 * t.val + r.val; omega
  | ⟨1, _⟩ => blk_simp [index6 t]; show 3 * 1024 + j.val = 2048 + 1024 * 1 + j.val; omega
theorem block7 (t : Fin cfg0.N) (r : Fin 256) (j : Fin 1024) : iblk m c 7 t (ix2 r j) = m ((c : Thread nD τ).loc main_arg5) (ix2 (rowOf t r) (column 2 j)) := by
  unfold iblk; rw [View.read_apply, cast_eq]
  refine congrArg (m ((c : Thread nD τ).loc main_arg5)) (funext fun a => Fin.ext ?_)
  match a with
  | ⟨0, _⟩ => blk_simp [index7 t]; show t.val * 256 + r.val = 256 * t.val + r.val; omega
  | ⟨1, _⟩ => blk_simp [index7 t]; show 4 * 1024 + j.val = 2048 + 1024 * 2 + j.val; omega
theorem block8 (t : Fin cfg0.N) (r : Fin 256) (j : Fin 1024) : iblk m c 8 t (ix2 r j) = m ((c : Thread nD τ).loc main_arg5) (ix2 (rowOf t r) (column 3 j)) := by
  unfold iblk; rw [View.read_apply, cast_eq]
  refine congrArg (m ((c : Thread nD τ).loc main_arg5)) (funext fun a => Fin.ext ?_)
  match a with
  | ⟨0, _⟩ => blk_simp [index8 t]; show t.val * 256 + r.val = 256 * t.val + r.val; omega
  | ⟨1, _⟩ => blk_simp [index8 t]; show 5 * 1024 + j.val = 2048 + 1024 * 3 + j.val; omega
theorem block9 (t : Fin cfg0.N) (r : Fin 256) (j : Fin 1024) : iblk m c 9 t (ix2 r j) = m ((c : Thread nD τ).loc main_arg6) (ix2 (r) (j)) := by
  unfold iblk; rw [View.read_apply, cast_eq]
  refine congrArg (m ((c : Thread nD τ).loc main_arg6)) (funext fun a => Fin.ext ?_)
  match a with
  | ⟨0, _⟩ => blk_simp [index9 t]
  | ⟨1, _⟩ => blk_simp [index9 t]
theorem block10 (t : Fin cfg0.N) (r : Fin 256) (j : Fin 2048) : iblk m c 10 t (ix2 r j) = m ((c : Thread nD τ).loc main_arg7) (ix2 (r) (j)) := by
  unfold iblk; rw [View.read_apply, cast_eq]
  refine congrArg (m ((c : Thread nD τ).loc main_arg7)) (funext fun a => Fin.ext ?_)
  match a with
  | ⟨0, _⟩ => blk_simp [index10 t]
  | ⟨1, _⟩ => blk_simp [index10 t]
theorem block11 (t : Fin cfg0.N) (r : Fin 256) (j : Fin 1024) : iblk m c 11 t (ix2 r j) = m ((c : Thread nD τ).loc main_arg8) (ix2 (r) (j)) := by
  unfold iblk; rw [View.read_apply, cast_eq]
  refine congrArg (m ((c : Thread nD τ).loc main_arg8)) (funext fun a => Fin.ext ?_)
  match a with
  | ⟨0, _⟩ => blk_simp [index11 t]
  | ⟨1, _⟩ => blk_simp [index11 t]
theorem block12 (t : Fin cfg0.N) (r : Fin 256) (j : Fin 1024) : iblk m c 12 t (ix2 r j) = m ((c : Thread nD τ).loc main_arg9) (ix2 (r) (j)) := by
  unfold iblk; rw [View.read_apply, cast_eq]
  refine congrArg (m ((c : Thread nD τ).loc main_arg9)) (funext fun a => Fin.ext ?_)
  match a with
  | ⟨0, _⟩ => blk_simp [index12 t]
  | ⟨1, _⟩ => blk_simp [index12 t]
theorem lin0 (t : Fin cfg0.N) (r : Fin 256) (j : Fin 1024) : lin (iblk m c 1 t) (iblk m c 9 t) r j = lin (m ((c : Thread nD τ).loc main_arg1)) (m ((c : Thread nD τ).loc main_arg6)) (rowOf t r) j :=
  Finset.sum_congr rfl fun i _ => congrArg₂ (fun x y : EReal => x * y) (block1 m c t r i) (block9 m c t i j)
theorem tileGate0 (t : Fin cfg0.N) (r : Fin 256) (j : Fin 1024) : tileGate (iblk m c 5 t) r j = gateCol (m ((c : Thread nD τ).loc main_arg5)) 0 (rowOf t r) j := block5 m c t r j
/-- The gradient of the value of branch 0. -/
def branchGrad0 : Fin 2048 → Fin 1024 → EReal := gradBranch (m ((c : Thread nD τ).loc main_arg0)) (gateCol (m ((c : Thread nD τ).loc main_arg5)) 0)
theorem branch0 (t : Fin cfg0.N) (r : Fin 256) (j : Fin 1024) : gradBranch (iblk m c 0 t) (tileGate (iblk m c 5 t)) r j = branchGrad0 m c (rowOf t r) j := by
  unfold branchGrad0 gradBranch; rw [tileGate0, block0]
theorem lin1 (t : Fin cfg0.N) (r : Fin 256) (j : Fin 2048) : lin (iblk m c 2 t) (iblk m c 10 t) r j = lin (m ((c : Thread nD τ).loc main_arg2)) (m ((c : Thread nD τ).loc main_arg7)) (rowOf t r) j :=
  Finset.sum_congr rfl fun i _ => congrArg₂ (fun x y : EReal => x * y) (block2 m c t r i) (block10 m c t i j)
theorem tileGate1 (t : Fin cfg0.N) (r : Fin 256) (j : Fin 1024) : tileGate (iblk m c 6 t) r j = gateCol (m ((c : Thread nD τ).loc main_arg5)) 1 (rowOf t r) j := block6 m c t r j
/-- The gradient of the value of branch 1. -/
def branchGrad1 : Fin 2048 → Fin 1024 → EReal := gradBranch (m ((c : Thread nD τ).loc main_arg0)) (gateCol (m ((c : Thread nD τ).loc main_arg5)) 1)
theorem branch1 (t : Fin cfg0.N) (r : Fin 256) (j : Fin 1024) : gradBranch (iblk m c 0 t) (tileGate (iblk m c 6 t)) r j = branchGrad1 m c (rowOf t r) j := by
  unfold branchGrad1 gradBranch; rw [tileGate1, block0]
theorem lin2 (t : Fin cfg0.N) (r : Fin 256) (j : Fin 1024) : lin (iblk m c 3 t) (iblk m c 11 t) r j = lin (m ((c : Thread nD τ).loc main_arg3)) (m ((c : Thread nD τ).loc main_arg8)) (rowOf t r) j :=
  Finset.sum_congr rfl fun i _ => congrArg₂ (fun x y : EReal => x * y) (block3 m c t r i) (block11 m c t i j)
theorem tileGate2 (t : Fin cfg0.N) (r : Fin 256) (j : Fin 1024) : tileGate (iblk m c 7 t) r j = gateCol (m ((c : Thread nD τ).loc main_arg5)) 2 (rowOf t r) j := block7 m c t r j
/-- The gradient of the value of branch 2. -/
def branchGrad2 : Fin 2048 → Fin 1024 → EReal := gradBranch (m ((c : Thread nD τ).loc main_arg0)) (gateCol (m ((c : Thread nD τ).loc main_arg5)) 2)
theorem branch2 (t : Fin cfg0.N) (r : Fin 256) (j : Fin 1024) : gradBranch (iblk m c 0 t) (tileGate (iblk m c 7 t)) r j = branchGrad2 m c (rowOf t r) j := by
  unfold branchGrad2 gradBranch; rw [tileGate2, block0]
theorem lin3 (t : Fin cfg0.N) (r : Fin 256) (j : Fin 1024) : lin (iblk m c 4 t) (iblk m c 12 t) r j = lin (m ((c : Thread nD τ).loc main_arg4)) (m ((c : Thread nD τ).loc main_arg9)) (rowOf t r) j :=
  Finset.sum_congr rfl fun i _ => congrArg₂ (fun x y : EReal => x * y) (block4 m c t r i) (block12 m c t i j)
theorem tileGate3 (t : Fin cfg0.N) (r : Fin 256) (j : Fin 1024) : tileGate (iblk m c 8 t) r j = gateCol (m ((c : Thread nD τ).loc main_arg5)) 3 (rowOf t r) j := block8 m c t r j
/-- The gradient of the value of branch 3. -/
def branchGrad3 : Fin 2048 → Fin 1024 → EReal := gradBranch (m ((c : Thread nD τ).loc main_arg0)) (gateCol (m ((c : Thread nD τ).loc main_arg5)) 3)
theorem branch3 (t : Fin cfg0.N) (r : Fin 256) (j : Fin 1024) : gradBranch (iblk m c 0 t) (tileGate (iblk m c 8 t)) r j = branchGrad3 m c (rowOf t r) j := by
  unfold branchGrad3 gradBranch; rw [tileGate3, block0]
theorem unitLower (t : Fin cfg0.N) (r : Fin 256) (j : Fin 1024) :
    gradLower (iblk m c 2 t) (iblk m c 10 t) (gradBranch (iblk m c 0 t) (tileGate (iblk m c 6 t))) r j = gradLower (m ((c : Thread nD τ).loc main_arg2)) (m ((c : Thread nD τ).loc main_arg7)) (branchGrad1 m c) (rowOf t r) j := by
  unfold gradLower; rw [branch1, lin1]
theorem unitUpper (t : Fin cfg0.N) (r : Fin 256) (j : Fin 1024) :
    gradUpper (iblk m c 2 t) (iblk m c 10 t) (gradBranch (iblk m c 0 t) (tileGate (iblk m c 6 t))) r j = gradUpper (m ((c : Thread nD τ).loc main_arg2)) (m ((c : Thread nD τ).loc main_arg7)) (branchGrad1 m c) (rowOf t r) j := by
  unfold gradUpper; rw [branch1, lin1, lin1]
theorem gateGrad0 (t : Fin cfg0.N) (r : Fin 256) (j : Fin 1024) :
    gradGate (iblk m c 0 t) (tileGate (iblk m c 5 t)) (lin (iblk m c 1 t) (iblk m c 9 t)) r j = gradGate (m ((c : Thread nD τ).loc main_arg0)) (gateCol (m ((c : Thread nD τ).loc main_arg5)) 0) (lin (m ((c : Thread nD τ).loc main_arg1)) (m ((c : Thread nD τ).loc main_arg6))) (rowOf t r) j := by
  unfold gradGate; rw [tileGate0, block0, lin0]
theorem gateGrad1 (t : Fin cfg0.N) (r : Fin 256) (j : Fin 1024) :
    gradGate (iblk m c 0 t) (tileGate (iblk m c 6 t)) (unitValue (iblk m c 2 t) (iblk m c 10 t)) r j = gradGate (m ((c : Thread nD τ).loc main_arg0)) (gateCol (m ((c : Thread nD τ).loc main_arg5)) 1) (unitValue (m ((c : Thread nD τ).loc main_arg2)) (m ((c : Thread nD τ).loc main_arg7))) (rowOf t r) j := by
  unfold gradGate unitValue; rw [tileGate1, block0, lin1, lin1]
theorem gateGrad2 (t : Fin cfg0.N) (r : Fin 256) (j : Fin 1024) :
    gradGate (iblk m c 0 t) (tileGate (iblk m c 7 t)) (lin (iblk m c 3 t) (iblk m c 11 t)) r j = gradGate (m ((c : Thread nD τ).loc main_arg0)) (gateCol (m ((c : Thread nD τ).loc main_arg5)) 2) (lin (m ((c : Thread nD τ).loc main_arg3)) (m ((c : Thread nD τ).loc main_arg8))) (rowOf t r) j := by
  unfold gradGate; rw [tileGate2, block0, lin2]
theorem gateGrad3 (t : Fin cfg0.N) (r : Fin 256) (j : Fin 1024) :
    gradGate (iblk m c 0 t) (tileGate (iblk m c 8 t)) (lin (iblk m c 4 t) (iblk m c 12 t)) r j = gradGate (m ((c : Thread nD τ).loc main_arg0)) (gateCol (m ((c : Thread nD τ).loc main_arg5)) 3) (lin (m ((c : Thread nD τ).loc main_arg4)) (m ((c : Thread nD τ).loc main_arg9))) (rowOf t r) j := by
  unfold gradGate; rw [tileGate3, block0, lin3]
theorem input0 (t : Fin cfg0.N) (r : Fin 256) (i : Fin 256) :
    gradInput (gradBranch (iblk m c 0 t) (tileGate (iblk m c 5 t))) (iblk m c 9 t) r i = gradInput (branchGrad0 m c) (m ((c : Thread nD τ).loc main_arg6)) (rowOf t r) i :=
  Finset.sum_congr rfl fun j _ => congrArg₂ (fun x y : EReal => x * y) (branch0 m c t r j) (block9 m c t i j)
theorem input2 (t : Fin cfg0.N) (r : Fin 256) (i : Fin 256) :
    gradInput (gradBranch (iblk m c 0 t) (tileGate (iblk m c 7 t))) (iblk m c 11 t) r i = gradInput (branchGrad2 m c) (m ((c : Thread nD τ).loc main_arg8)) (rowOf t r) i :=
  Finset.sum_congr rfl fun j _ => congrArg₂ (fun x y : EReal => x * y) (branch2 m c t r j) (block11 m c t i j)
theorem input3 (t : Fin cfg0.N) (r : Fin 256) (i : Fin 256) :
    gradInput (gradBranch (iblk m c 0 t) (tileGate (iblk m c 8 t))) (iblk m c 12 t) r i = gradInput (branchGrad3 m c) (m ((c : Thread nD τ).loc main_arg9)) (rowOf t r) i :=
  Finset.sum_congr rfl fun j _ => congrArg₂ (fun x y : EReal => x * y) (branch3 m c t r j) (block12 m c t i j)
theorem input1 (t : Fin cfg0.N) (r : Fin 256) (i : Fin 256) :
    gradUnit (iblk m c 2 t) (iblk m c 10 t) (gradBranch (iblk m c 0 t) (tileGate (iblk m c 6 t))) r i = gradUnit (m ((c : Thread nD τ).loc main_arg2)) (m ((c : Thread nD τ).loc main_arg7)) (branchGrad1 m c) (rowOf t r) i :=
  congrArg₂ (fun x y : EReal => x + y) (Finset.sum_congr rfl fun j _ => congrArg₂ (fun x y : EReal => x * y) (unitLower m c t r j) (block10 m c t i (lower j)))
    (Finset.sum_congr rfl fun j _ => congrArg₂ (fun x y : EReal => x * y) (unitUpper m c t r j) (block10 m c t i (upper j)))

/-- The four arrays that hold a product's input gradient, and the gates' gradients: one tile at a time. -/
theorem array13 : (dats m 0 c).arrAt 13 cfg0.N = fun y : S2048x256.Idx => gradInput (branchGrad0 m c) (m ((c : Thread nD τ).loc main_arg6)) (y 0) (y 1) := by
  refine (dats m 0 c).arrAt_eq_of_covers 13 _ (by decide +kernel) fun t hf y => ?_
  have ey : ((cfg0.win 13).blk t).view.emb y = ix2 (rowOf t (y 0)) (y 1 : Fin 256) := by
    refine funext fun a => Fin.ext ?_
    match a with
    | ⟨0, _⟩ => blk_simp [index13 t]; show t.val * 256 + (y 0).val = 256 * t.val + (y 0).val; omega
    | ⟨1, _⟩ => blk_simp [index13 t]; rfl
  rw [ey, after0_13, cast_eq]
  have exy : (cfg0.win 13).xinj (cfg0.grid.coords t) y = ix2 (y 0 : Fin 256) (y 1 : Fin 256) := by
    refine funext fun a => Fin.ext ?_
    match a with
    | ⟨0, _⟩ => rfl
    | ⟨1, _⟩ => rfl
  refine (congrArg _ exy).trans ?_
  rw [at_out13]
  exact (pay15_at _ _ _ (y 0) (y 1)).trans (input0 m c t (y 0) (y 1))
theorem array14 : (dats m 0 c).arrAt 14 cfg0.N = fun y : S2048x256.Idx => gradUnit (m ((c : Thread nD τ).loc main_arg2)) (m ((c : Thread nD τ).loc main_arg7)) (branchGrad1 m c) (y 0) (y 1) := by
  refine (dats m 0 c).arrAt_eq_of_covers 14 _ (by decide +kernel) fun t hf y => ?_
  have ey : ((cfg0.win 14).blk t).view.emb y = ix2 (rowOf t (y 0)) (y 1 : Fin 256) := by
    refine funext fun a => Fin.ext ?_
    match a with
    | ⟨0, _⟩ => blk_simp [index14 t]; show t.val * 256 + (y 0).val = 256 * t.val + (y 0).val; omega
    | ⟨1, _⟩ => blk_simp [index14 t]; rfl
  rw [ey, after0_14, cast_eq]
  have exy : (cfg0.win 14).xinj (cfg0.grid.coords t) y = ix2 (y 0 : Fin 256) (y 1 : Fin 256) := by
    refine funext fun a => Fin.ext ?_
    match a with
    | ⟨0, _⟩ => rfl
    | ⟨1, _⟩ => rfl
  refine (congrArg _ exy).trans ?_
  rw [at_out14]
  exact (pay1_at _ _ _ _ _ _ (fun i j => congrArg (iblk m c 10 t) (lower_emb i j)) (fun i j => congrArg (iblk m c 10 t) (upper_emb i j)) (y 0) (y 1)).trans (input1 m c t (y 0) (y 1))
theorem array15 : (dats m 0 c).arrAt 15 cfg0.N = fun y : S2048x256.Idx => gradInput (branchGrad2 m c) (m ((c : Thread nD τ).loc main_arg8)) (y 0) (y 1) := by
  refine (dats m 0 c).arrAt_eq_of_covers 15 _ (by decide +kernel) fun t hf y => ?_
  have ey : ((cfg0.win 15).blk t).view.emb y = ix2 (rowOf t (y 0)) (y 1 : Fin 256) := by
    refine funext fun a => Fin.ext ?_
    match a with
    | ⟨0, _⟩ => blk_simp [index15 t]; show t.val * 256 + (y 0).val = 256 * t.val + (y 0).val; omega
    | ⟨1, _⟩ => blk_simp [index15 t]; rfl
  rw [ey, after0_15, cast_eq]
  have exy : (cfg0.win 15).xinj (cfg0.grid.coords t) y = ix2 (y 0 : Fin 256) (y 1 : Fin 256) := by
    refine funext fun a => Fin.ext ?_
    match a with
    | ⟨0, _⟩ => rfl
    | ⟨1, _⟩ => rfl
  refine (congrArg _ exy).trans ?_
  rw [at_out15]
  exact (pay21_at _ _ _ (y 0) (y 1)).trans (input2 m c t (y 0) (y 1))
theorem array16 : (dats m 0 c).arrAt 16 cfg0.N = fun y : S2048x256.Idx => gradInput (branchGrad3 m c) (m ((c : Thread nD τ).loc main_arg9)) (y 0) (y 1) := by
  refine (dats m 0 c).arrAt_eq_of_covers 16 _ (by decide +kernel) fun t hf y => ?_
  have ey : ((cfg0.win 16).blk t).view.emb y = ix2 (rowOf t (y 0)) (y 1 : Fin 256) := by
    refine funext fun a => Fin.ext ?_
    match a with
    | ⟨0, _⟩ => blk_simp [index16 t]; show t.val * 256 + (y 0).val = 256 * t.val + (y 0).val; omega
    | ⟨1, _⟩ => blk_simp [index16 t]; rfl
  rw [ey, after0_16, cast_eq]
  have exy : (cfg0.win 16).xinj (cfg0.grid.coords t) y = ix2 (y 0 : Fin 256) (y 1 : Fin 256) := by
    refine funext fun a => Fin.ext ?_
    match a with
    | ⟨0, _⟩ => rfl
    | ⟨1, _⟩ => rfl
  refine (congrArg _ exy).trans ?_
  rw [at_out16]
  exact (pay26_at _ _ _ (y 0) (y 1)).trans (input3 m c t (y 0) (y 1))
theorem array17 (G : S2048x4096.Idx → EReal)
    (h0 : ∀ r j, G (ix2 r (column4 0 j)) = gradGate (m ((c : Thread nD τ).loc main_arg0)) (gateCol (m ((c : Thread nD τ).loc main_arg5)) 0) (lin (m ((c : Thread nD τ).loc main_arg1)) (m ((c : Thread nD τ).loc main_arg6))) r j)
    (h1 : ∀ r j, G (ix2 r (column4 1 j)) = gradGate (m ((c : Thread nD τ).loc main_arg0)) (gateCol (m ((c : Thread nD τ).loc main_arg5)) 1) (unitValue (m ((c : Thread nD τ).loc main_arg2)) (m ((c : Thread nD τ).loc main_arg7))) r j)
    (h2 : ∀ r j, G (ix2 r (column4 2 j)) = gradGate (m ((c : Thread nD τ).loc main_arg0)) (gateCol (m ((c : Thread nD τ).loc main_arg5)) 2) (lin (m ((c : Thread nD τ).loc main_arg3)) (m ((c : Thread nD τ).loc main_arg8))) r j)
    (h3 : ∀ r j, G (ix2 r (column4 3 j)) = gradGate (m ((c : Thread nD τ).loc main_arg0)) (gateCol (m ((c : Thread nD τ).loc main_arg5)) 3) (lin (m ((c : Thread nD τ).loc main_arg4)) (m ((c : Thread nD τ).loc main_arg9))) r j) :
    (dats m 0 c).arrAt 17 cfg0.N = G := by
  refine (dats m 0 c).arrAt_eq_of_covers 17 _ (by decide +kernel) fun t hf y => ?_
  have ey : ((cfg0.win 17).blk t).view.emb y = ix2 (rowOf t (y 0)) (y 1 : Fin 4096) := by
    refine funext fun a => Fin.ext ?_
    match a with
    | ⟨0, _⟩ => blk_simp [index17 t]; show t.val * 256 + (y 0).val = 256 * t.val + (y 0).val; omega
    | ⟨1, _⟩ => blk_simp [index17 t]; rfl
  rw [ey, after0_17, cast_eq]
  have exy : (cfg0.win 17).xinj (cfg0.grid.coords t) y = ix2 (y 0 : Fin 256) (y 1 : Fin 4096) := by
    refine funext fun a => Fin.ext ?_
    match a with
    | ⟨0, _⟩ => rfl
    | ⟨1, _⟩ => rfl
  refine (congrArg _ exy).trans ?_
  rw [at_out17]
  obtain ⟨k, j, e⟩ := column4_cases (y 1)
  rw [e]
  fin_cases k
  · exact (gateStores_at0 _ _ _ _ (y 0) j).trans ((pay13_at _ _ _ _ (y 0) j).trans ((gateGrad0 m c t (y 0) j).trans (h0 _ j).symm))
  · exact (gateStores_at1 _ _ _ _ (y 0) j).trans ((pay32_at _ _ _ _ (y 0) j).trans ((gateGrad1 m c t (y 0) j).trans (h1 _ j).symm))
  · exact (gateStores_at2 _ _ _ _ (y 0) j).trans ((pay19_at _ _ _ _ (y 0) j).trans ((gateGrad2 m c t (y 0) j).trans (h2 _ j).symm))
  · exact (gateStores_at3 _ _ _ _ (y 0) j).trans ((pay24_at _ _ _ _ (y 0) j).trans ((gateGrad3 m c t (y 0) j).trans (h3 _ j).symm))

/-- The rows of an array as a function of a number, for the partial sums over the rows. -/
def rowsOf (f : Fin 2048 → EReal) (k : ℕ) : EReal := if h : k < 2048 then f ⟨k, h⟩ else 0
/-- One row's term of a weight's gradient. -/
def weightTerm (z : S2048x256.Idx → EReal) (d : Fin 2048 → Fin 1024 → EReal) (i : Fin 256) (j : Fin 1024) (r : Fin 2048) : EReal := z (ix2 r i) * d r j
theorem rows_tile (f : Fin 2048 → EReal) (t : Fin cfg0.N) : ∑ r : Fin 256, rowsOf f (256 * t.val + r.val) = ∑ r : Fin 256, f (rowOf t r) :=
  Finset.sum_congr rfl fun r _ => dif_pos (rowOf t r).isLt
theorem rows_all (f : Fin 2048 → EReal) : upTo (rowsOf f) 8 = ∑ r : Fin 2048, f r := by
  unfold upTo
  rw [show 256 * 8 = 2048 by norm_num, Finset.sum_range]
  exact Finset.sum_congr rfl fun r _ => dif_pos r.isLt

theorem zero0 (y : S256x1024.Idx) : k0_pay8 (F := Ideal) y = 0 := by
  rw [eq_ix2 y]; pointwise [k0_pay8]
theorem zero1 (y : S256x2048.Idx) : k0_pay9 (F := Ideal) y = 0 := by
  rw [eq_ix2 y]; pointwise [k0_pay9]
theorem zero2 (y : S256x1024.Idx) : k0_pay10 (F := Ideal) y = 0 := by
  rw [eq_ix2 y]; pointwise [k0_pay10]
theorem zero3 (y : S256x1024.Idx) : k0_pay11 (F := Ideal) y = 0 := by
  rw [eq_ix2 y]; pointwise [k0_pay11]
theorem pay17_eq (v : Vec Ideal S256x1024 .f32) : k0_pay17 (F := Ideal) v = v := shapeCast_self _ _

theorem weight0 (t : Fin cfg0.N) (i : Fin 256) (j : Fin 1024) :
    gradWeight (iblk m c 1 t) (gradBranch (iblk m c 0 t) (tileGate (iblk m c 5 t))) i j = ∑ r : Fin 256, weightTerm (m ((c : Thread nD τ).loc main_arg1)) (branchGrad0 m c) i j (rowOf t r) :=
  Finset.sum_congr rfl fun r _ => congrArg₂ (fun x y : EReal => x * y) (block1 m c t r i) (branch0 m c t r j)
theorem weight2 (t : Fin cfg0.N) (i : Fin 256) (j : Fin 1024) :
    gradWeight (iblk m c 3 t) (gradBranch (iblk m c 0 t) (tileGate (iblk m c 7 t))) i j = ∑ r : Fin 256, weightTerm (m ((c : Thread nD τ).loc main_arg3)) (branchGrad2 m c) i j (rowOf t r) :=
  Finset.sum_congr rfl fun r _ => congrArg₂ (fun x y : EReal => x * y) (block3 m c t r i) (branch2 m c t r j)
theorem weight3 (t : Fin cfg0.N) (i : Fin 256) (j : Fin 1024) :
    gradWeight (iblk m c 4 t) (gradBranch (iblk m c 0 t) (tileGate (iblk m c 8 t))) i j = ∑ r : Fin 256, weightTerm (m ((c : Thread nD τ).loc main_arg4)) (branchGrad3 m c) i j (rowOf t r) :=
  Finset.sum_congr rfl fun r _ => congrArg₂ (fun x y : EReal => x * y) (block4 m c t r i) (branch3 m c t r j)
theorem weight1Lower (t : Fin cfg0.N) (i : Fin 256) (j : Fin 1024) :
    gradWeight (iblk m c 2 t) (gradLower (iblk m c 2 t) (iblk m c 10 t) (gradBranch (iblk m c 0 t) (tileGate (iblk m c 6 t)))) i j
      = ∑ r : Fin 256, weightTerm (m ((c : Thread nD τ).loc main_arg2)) (gradLower (m ((c : Thread nD τ).loc main_arg2)) (m ((c : Thread nD τ).loc main_arg7)) (branchGrad1 m c)) i j (rowOf t r) :=
  Finset.sum_congr rfl fun r _ => congrArg₂ (fun x y : EReal => x * y) (block2 m c t r i) (unitLower m c t r j)
theorem weight1Upper (t : Fin cfg0.N) (i : Fin 256) (j : Fin 1024) :
    gradWeight (iblk m c 2 t) (gradUpper (iblk m c 2 t) (iblk m c 10 t) (gradBranch (iblk m c 0 t) (tileGate (iblk m c 6 t)))) i j
      = ∑ r : Fin 256, weightTerm (m ((c : Thread nD τ).loc main_arg2)) (gradUpper (m ((c : Thread nD τ).loc main_arg2)) (m ((c : Thread nD τ).loc main_arg7)) (branchGrad1 m c)) i j (rowOf t r) :=
  Finset.sum_congr rfl fun r _ => congrArg₂ (fun x y : EReal => x * y) (block2 m c t r i) (unitUpper m c t r j)

/-- Each accumulator after a point: the sum over the rows of the tiles so far. -/
theorem acc0 (i : Fin 256) (j : Fin 1024) : ∀ (n : ℕ) (hn : n < cfg0.N), (outsAt0 m c n hn).2.2.2.2.2.2.2.2.2.1 (ix2 i j) = upTo (rowsOf (weightTerm (m ((c : Thread nD τ).loc main_arg1)) (branchGrad0 m c) i j)) (n + 1)
  | 0, hn => by
    refine (congrFun (pointA_acc0 m c ⟨0, hn⟩ rfl (by show ¬(0 : ℕ) % 8 = 7; omega)) _).trans ?_
    rw [upTo_succ, upTo_zero]
    refine ((congrFun (pay17_eq _) _).trans (pay16_at _ _ _ _ i j)).trans ?_
    exact congrArg₂ (fun x y : EReal => x + y) (zero0 _) ((weight0 m c ⟨0, hn⟩ i j).trans (rows_tile _ ⟨0, hn⟩).symm)
  | n + 1, hn => by
    have hn8 : n + 1 < 8 := lt_of_lt_of_eq hn (show cfg0.N = 8 from N_0)
    refine (congrFun (next_acc0 m c ⟨n + 1, hn⟩ (by show ¬(n + 1) % 8 = 0; omega)) _).trans ?_
    rw [upTo_succ]
    refine ((congrFun (pay17_eq _) _).trans (pay16_at _ _ _ _ i j)).trans ?_
    exact congrArg₂ (fun x y : EReal => x + y) (acc0 i j n _) ((weight0 m c ⟨n + 1, hn⟩ i j).trans (rows_tile _ ⟨n + 1, hn⟩).symm)
theorem acc2 (i : Fin 256) (j : Fin 1024) : ∀ (n : ℕ) (hn : n < cfg0.N), (outsAt0 m c n hn).2.2.2.2.2.2.2.2.2.2.2.1 (ix2 i j) = upTo (rowsOf (weightTerm (m ((c : Thread nD τ).loc main_arg3)) (branchGrad2 m c) i j)) (n + 1)
  | 0, hn => by
    refine (congrFun (pointA_acc2 m c ⟨0, hn⟩ rfl (by show ¬(0 : ℕ) % 8 = 7; omega)) _).trans ?_
    rw [upTo_succ, upTo_zero]
    refine (pay22_at _ _ _ _ i j).trans ?_
    exact congrArg₂ (fun x y : EReal => x + y) (zero2 _) ((weight2 m c ⟨0, hn⟩ i j).trans (rows_tile _ ⟨0, hn⟩).symm)
  | n + 1, hn => by
    have hn8 : n + 1 < 8 := lt_of_lt_of_eq hn (show cfg0.N = 8 from N_0)
    refine (congrFun (next_acc2 m c ⟨n + 1, hn⟩ (by show ¬(n + 1) % 8 = 0; omega)) _).trans ?_
    rw [upTo_succ]
    refine (pay22_at _ _ _ _ i j).trans ?_
    exact congrArg₂ (fun x y : EReal => x + y) (acc2 i j n _) ((weight2 m c ⟨n + 1, hn⟩ i j).trans (rows_tile _ ⟨n + 1, hn⟩).symm)
theorem acc3 (i : Fin 256) (j : Fin 1024) : ∀ (n : ℕ) (hn : n < cfg0.N), (outsAt0 m c n hn).2.2.2.2.2.2.2.2.2.2.2.2 (ix2 i j) = upTo (rowsOf (weightTerm (m ((c : Thread nD τ).loc main_arg4)) (branchGrad3 m c) i j)) (n + 1)
  | 0, hn => by
    refine (congrFun (pointA_acc3 m c ⟨0, hn⟩ rfl (by show ¬(0 : ℕ) % 8 = 7; omega)) _).trans ?_
    rw [upTo_succ, upTo_zero]
    refine (pay27_at _ _ _ _ i j).trans ?_
    exact congrArg₂ (fun x y : EReal => x + y) (zero3 _) ((weight3 m c ⟨0, hn⟩ i j).trans (rows_tile _ ⟨0, hn⟩).symm)
  | n + 1, hn => by
    have hn8 : n + 1 < 8 := lt_of_lt_of_eq hn (show cfg0.N = 8 from N_0)
    refine (congrFun (next_acc3 m c ⟨n + 1, hn⟩ (by show ¬(n + 1) % 8 = 0; omega)) _).trans ?_
    rw [upTo_succ]
    refine (pay27_at _ _ _ _ i j).trans ?_
    exact congrArg₂ (fun x y : EReal => x + y) (acc3 i j n _) ((weight3 m c ⟨n + 1, hn⟩ i j).trans (rows_tile _ ⟨n + 1, hn⟩).symm)
theorem acc1Lower (i : Fin 256) (j : Fin 1024) : ∀ (n : ℕ) (hn : n < cfg0.N), (outsAt0 m c n hn).2.2.2.2.2.2.2.2.2.2.1 (ix2 i (lower j)) = upTo (rowsOf (weightTerm (m ((c : Thread nD τ).loc main_arg2)) (gradLower (m ((c : Thread nD τ).loc main_arg2)) (m ((c : Thread nD τ).loc main_arg7)) (branchGrad1 m c)) i j)) (n + 1)
  | 0, hn => by
    refine (congrFun (pointA_acc1 m c ⟨0, hn⟩ rfl (by show ¬(0 : ℕ) % 8 = 7; omega)) _).trans ?_
    rw [upTo_succ, upTo_zero]
    refine (unitStores_lower _ _ _ _ _ i j).trans ?_
    exact congrArg₂ (fun x y : EReal => x + y) (zero1 _) ((weight1Lower m c ⟨0, hn⟩ i j).trans (rows_tile _ ⟨0, hn⟩).symm)
  | n + 1, hn => by
    have hn8 : n + 1 < 8 := lt_of_lt_of_eq hn (show cfg0.N = 8 from N_0)
    refine (congrFun (next_acc1 m c ⟨n + 1, hn⟩ (by show ¬(n + 1) % 8 = 0; omega)) _).trans ?_
    rw [upTo_succ]
    refine (unitStores_lower _ _ _ _ _ i j).trans ?_
    exact congrArg₂ (fun x y : EReal => x + y) (acc1Lower i j n _) ((weight1Lower m c ⟨n + 1, hn⟩ i j).trans (rows_tile _ ⟨n + 1, hn⟩).symm)
theorem acc1Upper (i : Fin 256) (j : Fin 1024) : ∀ (n : ℕ) (hn : n < cfg0.N), (outsAt0 m c n hn).2.2.2.2.2.2.2.2.2.2.1 (ix2 i (upper j)) = upTo (rowsOf (weightTerm (m ((c : Thread nD τ).loc main_arg2)) (gradUpper (m ((c : Thread nD τ).loc main_arg2)) (m ((c : Thread nD τ).loc main_arg7)) (branchGrad1 m c)) i j)) (n + 1)
  | 0, hn => by
    refine (congrFun (pointA_acc1 m c ⟨0, hn⟩ rfl (by show ¬(0 : ℕ) % 8 = 7; omega)) _).trans ?_
    rw [upTo_succ, upTo_zero]
    refine (unitStores_upper _ _ _ _ _ i j).trans ?_
    exact congrArg₂ (fun x y : EReal => x + y) (zero1 _) ((weight1Upper m c ⟨0, hn⟩ i j).trans (rows_tile _ ⟨0, hn⟩).symm)
  | n + 1, hn => by
    have hn8 : n + 1 < 8 := lt_of_lt_of_eq hn (show cfg0.N = 8 from N_0)
    refine (congrFun (next_acc1 m c ⟨n + 1, hn⟩ (by show ¬(n + 1) % 8 = 0; omega)) _).trans ?_
    rw [upTo_succ]
    refine (unitStores_upper _ _ _ _ _ i j).trans ?_
    exact congrArg₂ (fun x y : EReal => x + y) (acc1Upper i j n _) ((weight1Upper m c ⟨n + 1, hn⟩ i j).trans (rows_tile _ ⟨n + 1, hn⟩).symm)

theorem pay4_eq (v : Vec Ideal S256x1024 .f32) (y : S256x1024.Idx) : k0_pay4 (F := Ideal) v y = v y := by
  rw [eq_ix2 y]; pointwise [k0_pay4]
theorem pay5_eq (v : Vec Ideal S256x2048 .f32) (y : S256x2048.Idx) : k0_pay5 (F := Ideal) v y = v y := by
  rw [eq_ix2 y]; pointwise [k0_pay5]
theorem pay6_eq (v : Vec Ideal S256x1024 .f32) (y : S256x1024.Idx) : k0_pay6 (F := Ideal) v y = v y := by
  rw [eq_ix2 y]; pointwise [k0_pay6]
theorem pay7_eq (v : Vec Ideal S256x1024 .f32) (y : S256x1024.Idx) : k0_pay7 (F := Ideal) v y = v y := by
  rw [eq_ix2 y]; pointwise [k0_pay7]
theorem array18 : (dats m 0 c).arrAt 18 cfg0.N = fun y : S256x1024.Idx => gradWeight (m ((c : Thread nD τ).loc main_arg1)) (branchGrad0 m c) (y 0) (y 1) := by
  refine (dats m 0 c).arrAt_eq_of_covers 18 _ (by decide +kernel) fun t hf y => ?_
  have h7 : t.val % 8 = 7 := (flush0_18 t).mp hf
  have e7 : t.val + 1 = 8 := by have := t_lt t; omega
  have ey : ((cfg0.win 18).blk t).view.emb y = ix2 (y 0 : Fin 256) (y 1 : Fin 1024) := by
    refine funext fun a => Fin.ext ?_
    match a with
    | ⟨0, _⟩ => blk_simp [index18 t]; rfl
    | ⟨1, _⟩ => blk_simp [index18 t]; rfl
  rw [ey, after0_18, cast_eq]
  have exy : (cfg0.win 18).xinj (cfg0.grid.coords t) y = ix2 (y 0 : Fin 256) (y 1 : Fin 1024) := by
    refine funext fun a => Fin.ext ?_
    match a with
    | ⟨0, _⟩ => rfl
    | ⟨1, _⟩ => rfl
  refine (congrArg _ exy).trans ?_
  rw [last_out18 m c t h7]
  refine (pay4_eq _ _).trans ?_
  exact (acc0 m c (y 0) (y 1) t.val t.isLt).trans ((congrArg (upTo _) e7).trans (rows_all _))
theorem array20 : (dats m 0 c).arrAt 20 cfg0.N = fun y : S256x1024.Idx => gradWeight (m ((c : Thread nD τ).loc main_arg3)) (branchGrad2 m c) (y 0) (y 1) := by
  refine (dats m 0 c).arrAt_eq_of_covers 20 _ (by decide +kernel) fun t hf y => ?_
  have h7 : t.val % 8 = 7 := (flush0_20 t).mp hf
  have e7 : t.val + 1 = 8 := by have := t_lt t; omega
  have ey : ((cfg0.win 20).blk t).view.emb y = ix2 (y 0 : Fin 256) (y 1 : Fin 1024) := by
    refine funext fun a => Fin.ext ?_
    match a with
    | ⟨0, _⟩ => blk_simp [index20 t]; rfl
    | ⟨1, _⟩ => blk_simp [index20 t]; rfl
  rw [ey, after0_20, cast_eq]
  have exy : (cfg0.win 20).xinj (cfg0.grid.coords t) y = ix2 (y 0 : Fin 256) (y 1 : Fin 1024) := by
    refine funext fun a => Fin.ext ?_
    match a with
    | ⟨0, _⟩ => rfl
    | ⟨1, _⟩ => rfl
  refine (congrArg _ exy).trans ?_
  rw [last_out20 m c t h7]
  refine (pay6_eq _ _).trans ?_
  exact (acc2 m c (y 0) (y 1) t.val t.isLt).trans ((congrArg (upTo _) e7).trans (rows_all _))
theorem array21 : (dats m 0 c).arrAt 21 cfg0.N = fun y : S256x1024.Idx => gradWeight (m ((c : Thread nD τ).loc main_arg4)) (branchGrad3 m c) (y 0) (y 1) := by
  refine (dats m 0 c).arrAt_eq_of_covers 21 _ (by decide +kernel) fun t hf y => ?_
  have h7 : t.val % 8 = 7 := (flush0_21 t).mp hf
  have e7 : t.val + 1 = 8 := by have := t_lt t; omega
  have ey : ((cfg0.win 21).blk t).view.emb y = ix2 (y 0 : Fin 256) (y 1 : Fin 1024) := by
    refine funext fun a => Fin.ext ?_
    match a with
    | ⟨0, _⟩ => blk_simp [index21 t]; rfl
    | ⟨1, _⟩ => blk_simp [index21 t]; rfl
  rw [ey, after0_21, cast_eq]
  have exy : (cfg0.win 21).xinj (cfg0.grid.coords t) y = ix2 (y 0 : Fin 256) (y 1 : Fin 1024) := by
    refine funext fun a => Fin.ext ?_
    match a with
    | ⟨0, _⟩ => rfl
    | ⟨1, _⟩ => rfl
  refine (congrArg _ exy).trans ?_
  rw [last_out21 m c t h7]
  refine (pay7_eq _ _).trans ?_
  exact (acc3 m c (y 0) (y 1) t.val t.isLt).trans ((congrArg (upTo _) e7).trans (rows_all _))
theorem array19 (G : S256x2048.Idx → EReal)
    (hlower : ∀ i j, G (ix2 i (lower j)) = gradWeight (m ((c : Thread nD τ).loc main_arg2)) (gradLower (m ((c : Thread nD τ).loc main_arg2)) (m ((c : Thread nD τ).loc main_arg7)) (branchGrad1 m c)) i j)
    (hupper : ∀ i j, G (ix2 i (upper j)) = gradWeight (m ((c : Thread nD τ).loc main_arg2)) (gradUpper (m ((c : Thread nD τ).loc main_arg2)) (m ((c : Thread nD τ).loc main_arg7)) (branchGrad1 m c)) i j) :
    (dats m 0 c).arrAt 19 cfg0.N = G := by
  refine (dats m 0 c).arrAt_eq_of_covers 19 _ (by decide +kernel) fun t hf y => ?_
  have h7 : t.val % 8 = 7 := (flush0_19 t).mp hf
  have e7 : t.val + 1 = 8 := by have := t_lt t; omega
  have ey : ((cfg0.win 19).blk t).view.emb y = ix2 (y 0 : Fin 256) (y 1 : Fin 2048) := by
    refine funext fun a => Fin.ext ?_
    match a with
    | ⟨0, _⟩ => blk_simp [index19 t]; rfl
    | ⟨1, _⟩ => blk_simp [index19 t]; rfl
  rw [ey, after0_19, cast_eq]
  have exy : (cfg0.win 19).xinj (cfg0.grid.coords t) y = ix2 (y 0 : Fin 256) (y 1 : Fin 2048) := by
    refine funext fun a => Fin.ext ?_
    match a with
    | ⟨0, _⟩ => rfl
    | ⟨1, _⟩ => rfl
  refine (congrArg _ exy).trans ?_
  rw [last_out19 m c t h7]
  refine (pay5_eq _ _).trans ?_
  rcases half_cases (y 1) with ⟨j, e⟩ | ⟨j, e⟩
  · rw [e]; exact (acc1Lower m c (y 0) j t.val t.isLt).trans ((congrArg (upTo _) e7).trans ((rows_all _).trans (hlower _ j).symm))
  · rw [e]; exact (acc1Upper m c (y 0) j t.val t.isLt).trans ((congrArg (upTo _) e7).trans ((rows_all _).trans (hupper _ j).symm))

end Cert.Kernel3Ideal.Gen

end
-- ==== Proof.MergeRef.lean ====
/-
  The reference's gradients of the mixer's gated branches: what its nine results hold.
-/
module

public import proofs.«01_k».proof.Proof.Gen.Reference3Ideal.Run
public import proofs.«01_k».proof.Proof.GateGrads

@[expose] public section

set_option maxRecDepth 16384

noncomputable section

namespace Cert.Reference3Ideal.Value

open Cert.Reference3Ideal Cert.Reference3Ideal.Gen Idealize.ShloMosaic Idealize.ShloMosaic.TcCoe Idealize.SL.Sem Cert.StickBreaking Cert.Gates

variable (dm : FVec Ideal S2048x1024 .f32) (x x1 x2 x3 x4 : FVec Ideal S2048x256 .bf16) (p : FVec Ideal S2048x6144 .f32) (w w6 w8 w9 : FVec Ideal S256x1024 .bf16) (u : FVec Ideal S256x2048 .bf16)

/-- The four gates. -/
def gatesOf : FVec Ideal S2048x4096 .f32 :=
  Host.divf (broadcastInDim S2048x4096 ![] bcast_S_S2048x4096 (constant S_ .f32 0x3F800000#32)) (addf (broadcastInDim S2048x4096 ![] bcast_S_S2048x4096 (constant S_ .f32 0x3F800000#32)) (Host.exp (Host.negf (extractStridedSlice S2048x4096 ![0, 2048] p slices_S2048x6144_S2048x4096_0_2048))))
/-- One branch's product. -/
def productOf : FVec Ideal S2048x1024 .f32 := Host.dotGeneral dot_S2048x256_S256x1024_S2048x1024_1_0_0_1_n_n none (extf .f32 x bitsLt_bf16_f32) (extf .f32 w bitsLt_bf16_f32)
/-- The gated linear unit's product, its first half and the gate of its second. -/
def gluOf : FVec Ideal S2048x2048 .f32 := Host.dotGeneral dot_S2048x256_S256x2048_S2048x2048_1_0_0_1_n_n none (extf .f32 x bitsLt_bf16_f32) (extf .f32 u bitsLt_bf16_f32)
def gluLower : FVec Ideal S2048x1024 .f32 := extractStridedSlice S2048x1024 ![0, 0] (gluOf x u) slices_S2048x2048_S2048x1024_0_0
def gluGate : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf (extractStridedSlice S2048x1024 ![0, 1024] (gluOf x u) slices_S2048x2048_S2048x1024_0_1024))))
/-- The gradient of the merged value, as the program writes it. -/
def gradOf : FVec Ideal S2048x1024 .f32 := shapeCast _ dm shapeCasts_S2048x1024_S2048x1024
def gate0 : FVec Ideal S2048x1024 .f32 := shapeCast _ (extractStridedSlice S2048x1x1024 ![0, 0, 0] (shapeCast _ (gatesOf p) shapeCasts_S2048x4096_S2048x4x1024) slices_S2048x4x1024_S2048x1x1024_0_0_0) shapeCasts_S2048x1x1024_S2048x1024
def branch0 : FVec Ideal S2048x1024 .f32 := mulf (gate0 p) (gradOf dm)
def gate1 : FVec Ideal S2048x1024 .f32 := shapeCast _ (extractStridedSlice S2048x1x1024 ![0, 1, 0] (shapeCast _ (gatesOf p) shapeCasts_S2048x4096_S2048x4x1024) slices_S2048x4x1024_S2048x1x1024_0_1_0) shapeCasts_S2048x1x1024_S2048x1024
def branch1 : FVec Ideal S2048x1024 .f32 := mulf (gate1 p) (gradOf dm)
def gate2 : FVec Ideal S2048x1024 .f32 := shapeCast _ (extractStridedSlice S2048x1x1024 ![0, 2, 0] (shapeCast _ (gatesOf p) shapeCasts_S2048x4096_S2048x4x1024) slices_S2048x4x1024_S2048x1x1024_0_2_0) shapeCasts_S2048x1x1024_S2048x1024
def branch2 : FVec Ideal S2048x1024 .f32 := mulf (gate2 p) (gradOf dm)
def gate3 : FVec Ideal S2048x1024 .f32 := shapeCast _ (extractStridedSlice S2048x1x1024 ![0, 3, 0] (shapeCast _ (gatesOf p) shapeCasts_S2048x4096_S2048x4x1024) slices_S2048x4x1024_S2048x1x1024_0_3_0) shapeCasts_S2048x1x1024_S2048x1024
def branch3 : FVec Ideal S2048x1024 .f32 := mulf (gate3 p) (gradOf dm)

/-- The gradient of the gated linear unit's product. -/
def gluGrad : FVec Ideal S2048x2048 .f32 :=
  concatenate S2048x2048 1 [⟨S2048x1024, (mulf (branch1 dm p) (gluGate x u))⟩, ⟨S2048x1024, (mulf (mulf (gluLower x u) (branch1 dm p)) (mulf (gluGate x u) (subf (broadcastInDim S2048x1024 ![] bcast_S_S2048x1024 (constant S_ .f32 0x3F800000#32)) (gluGate x u))))⟩] concatenates_S2048x1024_S2048x1024_S2048x2048_d1

/-- The gradient of a product's left and right factor. -/
def inputOf (d : FVec Ideal S2048x1024 .f32) : FVec Ideal S2048x256 .f32 := Host.dotGeneral dot_S2048x1024_S256x1024_S2048x256_1_1_0_0_n_n none d (extf .f32 w bitsLt_bf16_f32)
def weightOf (d : FVec Ideal S2048x1024 .f32) : FVec Ideal S256x1024 .bf16 :=
  truncf .bf16 (transpose S256x1024 [1, 0] (Host.dotGeneral dot_S2048x1024_S2048x256_S1024x256_0_0_1_1_n_n none d (extf .f32 x bitsLt_bf16_f32)) transposes_S1024x256_S256x1024_1_0) bitsLt_bf16_f32
def unitOf (d : FVec Ideal S2048x2048 .f32) : FVec Ideal S2048x256 .f32 := Host.dotGeneral dot_S2048x2048_S256x2048_S2048x256_1_1_0_0_n_n none d (extf .f32 u bitsLt_bf16_f32)
def unitWeightOf (d : FVec Ideal S2048x2048 .f32) : FVec Ideal S256x2048 .bf16 :=
  truncf .bf16 (transpose S256x2048 [1, 0] (Host.dotGeneral dot_S2048x2048_S2048x256_S2048x256_0_0_1_1_n_n none d (extf .f32 x bitsLt_bf16_f32)) transposes_S2048x256_S256x2048_1_0) bitsLt_bf16_f32

/-- The gradients of the four gates, one above the other. -/
def stackOf (a0 a1 a2 a3 : FVec Ideal S2048x1024 .f32) : FVec Ideal S2048x4x1024 .f32 :=
  addf (addf (addf (pad S2048x4x1024 ![0, 3, 0] ![0, 0, 0] ![0, 0, 0] (broadcastInDim S2048x1x1024 ![0, 2] bcast_S2048x1024_S2048x1x1024_0_2 a3) (constant S_ .f32 0x00000000#32) pads_S2048x1x1024_S2048x4x1024_000_300_000 h_S_) (pad S2048x4x1024 ![0, 2, 0] ![0, 1, 0] ![0, 0, 0] (broadcastInDim S2048x1x1024 ![0, 2] bcast_S2048x1024_S2048x1x1024_0_2 a2) (constant S_ .f32 0x00000000#32) pads_S2048x1x1024_S2048x4x1024_000_210_000 h_S_)) (pad S2048x4x1024 ![0, 1, 0] ![0, 2, 0] ![0, 0, 0] (broadcastInDim S2048x1x1024 ![0, 2] bcast_S2048x1024_S2048x1x1024_0_2 a1) (constant S_ .f32 0x00000000#32) pads_S2048x1x1024_S2048x4x1024_000_120_000 h_S_)) (pad S2048x4x1024 ![0, 0, 0] ![0, 3, 0] ![0, 0, 0] (broadcastInDim S2048x1x1024 ![0, 2] bcast_S2048x1024_S2048x1x1024_0_2 a0) (constant S_ .f32 0x00000000#32) pads_S2048x1x1024_S2048x4x1024_000_030_000 h_S_)
def gatesGrad : FVec Ideal S2048x4096 .bf16 :=
  truncf .bf16 (mulf (shapeCast _ (stackOf (mulf (gradOf dm) (productOf x1 w6)) (mulf (gradOf dm) (mulf (gluLower x2 u) (gluGate x2 u))) (mulf (gradOf dm) (productOf x3 w8)) (mulf (gradOf dm) (productOf x4 w9))) shapeCasts_S2048x4x1024_S2048x4096)
    (mulf (gatesOf p) (subf (broadcastInDim S2048x4096 ![] bcast_S_S2048x4096 (constant S_ .f32 0x3F800000#32)) (gatesOf p)))) bitsLt_bf16_f32

/-- A gate's column of the projection. -/
def gcol (k : Fin 4) (r : Fin 2048) (j : Fin 1024) : EReal := p (ix2 r (column k j))

theorem gatesOf_at (r : Fin 2048) (j : Fin 4096) : gatesOf p (ix2 r j) = gate (p (ix2 r ⟨2048 + j.val, by omega⟩)) := by
  unfold gate; rw [sub_eq_add_neg, zero_add]; pointwise [gatesOf]
theorem gates_col (k : Fin 4) (r : Fin 2048) (j : Fin 1024) : gatesOf p (ix2 r (column4 k j)) = gate (gcol p k r j) := by
  rw [gatesOf_at]
  refine congrArg (fun i => gate (p (ix2 r i))) (Fin.ext ?_)
  show 2048 + (1024 * k.val + j.val) = 2048 + 1024 * k.val + j.val
  omega
theorem productOf_at (r : Fin 2048) (j : Fin 1024) : productOf x w (ix2 r j) = lin x w r j := by
  unfold lin; pointwise [productOf]
theorem gluOf_at (r : Fin 2048) (j : Fin 2048) : gluOf x u (ix2 r j) = lin x u r j := by
  unfold lin; pointwise [gluOf]
theorem gluLower_at (r : Fin 2048) (j : Fin 1024) : gluLower x u (ix2 r j) = lin x u r (lower j) := by
  rw [← gluOf_at]; unfold lower; pointwise [gluLower]
theorem gluGate_at (r : Fin 2048) (j : Fin 1024) : gluGate x u (ix2 r j) = gate (lin x u r (upper j)) := by
  rw [← gluOf_at]; unfold gate upper; rw [sub_eq_add_neg, zero_add]; pointwise [gluGate]
theorem gradOf_eq : gradOf dm = dm := shapeCast_self _ _
theorem branch0_at (r : Fin 2048) (j : Fin 1024) : branch0 dm p (ix2 r j) = gradBranch dm (gcol p 0) r j := by
  have h : gate0 p (ix2 r j) = gatesOf p (ix2 r ⟨1024 * 0 + j.val, by omega⟩) := by
    pointwise [gate0]
  have e : gate0 p (ix2 r j) = gate (gcol p 0 r j) := h.trans (gates_col p 0 r j)
  unfold gradBranch; rw [← e, mul_comm (dm (ix2 r j))]; unfold branch0; rw [gradOf_eq]; pointwise []
theorem branch1_at (r : Fin 2048) (j : Fin 1024) : branch1 dm p (ix2 r j) = gradBranch dm (gcol p 1) r j := by
  have h : gate1 p (ix2 r j) = gatesOf p (ix2 r ⟨1024 * 1 + j.val, by omega⟩) := by
    pointwise [gate1]
  have e : gate1 p (ix2 r j) = gate (gcol p 1 r j) := h.trans (gates_col p 1 r j)
  unfold gradBranch; rw [← e, mul_comm (dm (ix2 r j))]; unfold branch1; rw [gradOf_eq]; pointwise []
theorem branch2_at (r : Fin 2048) (j : Fin 1024) : branch2 dm p (ix2 r j) = gradBranch dm (gcol p 2) r j := by
  have h : gate2 p (ix2 r j) = gatesOf p (ix2 r ⟨1024 * 2 + j.val, by omega⟩) := by
    pointwise [gate2]
  have e : gate2 p (ix2 r j) = gate (gcol p 2 r j) := h.trans (gates_col p 2 r j)
  unfold gradBranch; rw [← e, mul_comm (dm (ix2 r j))]; unfold branch2; rw [gradOf_eq]; pointwise []
theorem branch3_at (r : Fin 2048) (j : Fin 1024) : branch3 dm p (ix2 r j) = gradBranch dm (gcol p 3) r j := by
  have h : gate3 p (ix2 r j) = gatesOf p (ix2 r ⟨1024 * 3 + j.val, by omega⟩) := by
    pointwise [gate3]
  have e : gate3 p (ix2 r j) = gate (gcol p 3 r j) := h.trans (gates_col p 3 r j)
  unfold gradBranch; rw [← e, mul_comm (dm (ix2 r j))]; unfold branch3; rw [gradOf_eq]; pointwise []

theorem gluGrad_lower (r : Fin 2048) (j : Fin 1024) : gluGrad dm x p u (ix2 r (lower j)) = gradLower x u (gradBranch dm (gcol p 1)) r j := by
  unfold gradLower; rw [← branch1_at, ← gluGate_at]; unfold lower; pointwise [gluGrad]
theorem gluGrad_upper (r : Fin 2048) (j : Fin 1024) : gluGrad dm x p u (ix2 r (upper j)) = gradUpper x u (gradBranch dm (gcol p 1)) r j := by
  unfold gradUpper; rw [← branch1_at, ← gluGate_at, ← gluLower_at, mul_comm (branch1 dm p (ix2 r j)), mul_assoc]; unfold upper; pointwise [gluGrad]

theorem inputOf_at (d : FVec Ideal S2048x1024 .f32) (f : Fin 2048 → Fin 1024 → EReal) (h : ∀ r j, d (ix2 r j) = f r j) (r : Fin 2048) (i : Fin 256) :
    inputOf w d (ix2 r i) = gradInput f w r i := by
  have e : inputOf w d (ix2 r i) = ∑ j : Fin 1024, d (ix2 r j) * w (ix2 i j) := by pointwise [inputOf]
  rw [e]; exact Finset.sum_congr rfl fun j _ => by rw [h]
theorem weightOf_at (d : FVec Ideal S2048x1024 .f32) (f : Fin 2048 → Fin 1024 → EReal) (h : ∀ r j, d (ix2 r j) = f r j) (i : Fin 256) (j : Fin 1024) :
    weightOf x d (ix2 i j) = gradWeight x f i j := by
  have e : weightOf x d (ix2 i j) = ∑ r : Fin 2048, d (ix2 r j) * x (ix2 r i) := by pointwise [weightOf]
  rw [e]; exact Finset.sum_congr rfl fun r _ => by rw [h, mul_comm]
theorem unitOf_at (r : Fin 2048) (i : Fin 256) : unitOf u (gluGrad dm x p u) (ix2 r i) = gradUnit x u (gradBranch dm (gcol p 1)) r i := by
  have e : unitOf u (gluGrad dm x p u) (ix2 r i) = ∑ j : Fin 2048, gluGrad dm x p u (ix2 r j) * u (ix2 i j) := by pointwise [unitOf]
  rw [e, sum_halves]
  exact congrArg₂ (· + ·) (Finset.sum_congr rfl fun j _ => by rw [gluGrad_lower]) (Finset.sum_congr rfl fun j _ => by rw [gluGrad_upper])
theorem unitWeight_sum (i : Fin 256) (j : Fin 2048) : unitWeightOf x (gluGrad dm x p u) (ix2 i j) = ∑ r : Fin 2048, gluGrad dm x p u (ix2 r j) * x (ix2 r i) := by
  pointwise [unitWeightOf]
theorem unitWeight_lower (i : Fin 256) (j : Fin 1024) :
    unitWeightOf x (gluGrad dm x p u) (ix2 i (lower j)) = gradWeight x (gradLower x u (gradBranch dm (gcol p 1))) i j := by
  rw [unitWeight_sum]; exact Finset.sum_congr rfl fun r _ => by rw [gluGrad_lower, mul_comm]
theorem unitWeight_upper (i : Fin 256) (j : Fin 1024) :
    unitWeightOf x (gluGrad dm x p u) (ix2 i (upper j)) = gradWeight x (gradUpper x u (gradBranch dm (gcol p 1))) i j := by
  rw [unitWeight_sum]; exact Finset.sum_congr rfl fun r _ => by rw [gluGrad_upper, mul_comm]

theorem stack0 (a0 a1 a2 a3 : FVec Ideal S2048x1024 .f32) (r : Fin 2048) (j : Fin 1024) : stackOf a0 a1 a2 a3 (ix3 r (0 : Fin 4) j) = a0 (ix2 r j) := by
  pointwise [stackOf]
theorem stack1 (a0 a1 a2 a3 : FVec Ideal S2048x1024 .f32) (r : Fin 2048) (j : Fin 1024) : stackOf a0 a1 a2 a3 (ix3 r (1 : Fin 4) j) = a1 (ix2 r j) := by
  pointwise [stackOf]
theorem stack2 (a0 a1 a2 a3 : FVec Ideal S2048x1024 .f32) (r : Fin 2048) (j : Fin 1024) : stackOf a0 a1 a2 a3 (ix3 r (2 : Fin 4) j) = a2 (ix2 r j) := by
  pointwise [stackOf]
theorem stack3 (a0 a1 a2 a3 : FVec Ideal S2048x1024 .f32) (r : Fin 2048) (j : Fin 1024) : stackOf a0 a1 a2 a3 (ix3 r (3 : Fin 4) j) = a3 (ix2 r j) := by
  pointwise [stackOf]
theorem gatesGrad0 (r : Fin 2048) (j : Fin 1024) : gatesGrad dm x1 x2 x3 x4 p w6 w8 w9 u (ix2 r (column4 0 j)) = gradGate dm (gcol p 0) (lin x1 w6) r j := by
  unfold gatesGrad; rw [gradOf_eq]
  generalize e0 : mulf dm (productOf x1 w6) = a0
  generalize e1 : mulf dm (mulf (gluLower x2 u) (gluGate x2 u)) = a1
  generalize e2 : mulf dm (productOf x3 w8) = a2
  generalize e3 : mulf dm (productOf x4 w9) = a3
  have hs : shapeCast S2048x4096 (stackOf a0 a1 a2 a3) shapeCasts_S2048x4x1024_S2048x4096 (ix2 r (column4 0 j)) = a0 (ix2 r j) := by
    rw [← stack0 a0 a1 a2 a3]; unfold column4; pointwise []
    exact congrArg₂ (fun i i' => stackOf a0 a1 a2 a3 (ix3 r i i')) (Fin.ext (by show (j.val) / 1024 = 0; omega)) (Fin.ext (by first | rfl | (show j.val % 1024 = j.val; omega)))
  unfold gradGate
  rw [← gates_col, mul_assoc _ (gatesOf p _)]
  have ha : dm (ix2 r j) * (lin x1 w6) r j = a0 (ix2 r j) := by
    rw [← e0]; rw [← productOf_at]; pointwise []
  rw [ha, ← hs]
  generalize shapeCast S2048x4096 (stackOf a0 a1 a2 a3) shapeCasts_S2048x4x1024_S2048x4096 = b
  pointwise []
theorem gatesGrad1 (r : Fin 2048) (j : Fin 1024) : gatesGrad dm x1 x2 x3 x4 p w6 w8 w9 u (ix2 r (column4 1 j)) = gradGate dm (gcol p 1) (unitValue x2 u) r j := by
  unfold gatesGrad; rw [gradOf_eq]
  generalize e0 : mulf dm (productOf x1 w6) = a0
  generalize e1 : mulf dm (mulf (gluLower x2 u) (gluGate x2 u)) = a1
  generalize e2 : mulf dm (productOf x3 w8) = a2
  generalize e3 : mulf dm (productOf x4 w9) = a3
  have hs : shapeCast S2048x4096 (stackOf a0 a1 a2 a3) shapeCasts_S2048x4x1024_S2048x4096 (ix2 r (column4 1 j)) = a1 (ix2 r j) := by
    rw [← stack1 a0 a1 a2 a3]; unfold column4; pointwise []
    exact congrArg₂ (fun i i' => stackOf a0 a1 a2 a3 (ix3 r i i')) (Fin.ext (by show (1024 + j.val) / 1024 = 1; omega)) (Fin.ext (by first | rfl | (show j.val % 1024 = j.val; omega)))
  unfold gradGate
  rw [← gates_col, mul_assoc _ (gatesOf p _)]
  have ha : dm (ix2 r j) * unitValue x2 u r j = a1 (ix2 r j) := by
    rw [← e1]; unfold unitValue; rw [← gluLower_at, ← gluGate_at]; pointwise []
  rw [ha, ← hs]
  generalize shapeCast S2048x4096 (stackOf a0 a1 a2 a3) shapeCasts_S2048x4x1024_S2048x4096 = b
  pointwise []
theorem gatesGrad2 (r : Fin 2048) (j : Fin 1024) : gatesGrad dm x1 x2 x3 x4 p w6 w8 w9 u (ix2 r (column4 2 j)) = gradGate dm (gcol p 2) (lin x3 w8) r j := by
  unfold gatesGrad; rw [gradOf_eq]
  generalize e0 : mulf dm (productOf x1 w6) = a0
  generalize e1 : mulf dm (mulf (gluLower x2 u) (gluGate x2 u)) = a1
  generalize e2 : mulf dm (productOf x3 w8) = a2
  generalize e3 : mulf dm (productOf x4 w9) = a3
  have hs : shapeCast S2048x4096 (stackOf a0 a1 a2 a3) shapeCasts_S2048x4x1024_S2048x4096 (ix2 r (column4 2 j)) = a2 (ix2 r j) := by
    rw [← stack2 a0 a1 a2 a3]; unfold column4; pointwise []
    exact congrArg₂ (fun i i' => stackOf a0 a1 a2 a3 (ix3 r i i')) (Fin.ext (by show (2048 + j.val) / 1024 = 2; omega)) (Fin.ext (by first | rfl | (show j.val % 1024 = j.val; omega)))
  unfold gradGate
  rw [← gates_col, mul_assoc _ (gatesOf p _)]
  have ha : dm (ix2 r j) * (lin x3 w8) r j = a2 (ix2 r j) := by
    rw [← e2]; rw [← productOf_at]; pointwise []
  rw [ha, ← hs]
  generalize shapeCast S2048x4096 (stackOf a0 a1 a2 a3) shapeCasts_S2048x4x1024_S2048x4096 = b
  pointwise []
theorem gatesGrad3 (r : Fin 2048) (j : Fin 1024) : gatesGrad dm x1 x2 x3 x4 p w6 w8 w9 u (ix2 r (column4 3 j)) = gradGate dm (gcol p 3) (lin x4 w9) r j := by
  unfold gatesGrad; rw [gradOf_eq]
  generalize e0 : mulf dm (productOf x1 w6) = a0
  generalize e1 : mulf dm (mulf (gluLower x2 u) (gluGate x2 u)) = a1
  generalize e2 : mulf dm (productOf x3 w8) = a2
  generalize e3 : mulf dm (productOf x4 w9) = a3
  have hs : shapeCast S2048x4096 (stackOf a0 a1 a2 a3) shapeCasts_S2048x4x1024_S2048x4096 (ix2 r (column4 3 j)) = a3 (ix2 r j) := by
    rw [← stack3 a0 a1 a2 a3]; unfold column4; pointwise []
    exact congrArg₂ (fun i i' => stackOf a0 a1 a2 a3 (ix3 r i i')) (Fin.ext (by show (3072 + j.val) / 1024 = 3; omega)) (Fin.ext (by first | rfl | (show j.val % 1024 = j.val; omega)))
  unfold gradGate
  rw [← gates_col, mul_assoc _ (gatesOf p _)]
  have ha : dm (ix2 r j) * (lin x4 w9) r j = a3 (ix2 r j) := by
    rw [← e3]; rw [← productOf_at]; pointwise []
  rw [ha, ← hs]
  generalize shapeCast S2048x4096 (stackOf a0 a1 a2 a3) shapeCasts_S2048x4x1024_S2048x4096 = b
  pointwise []

theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v88) = inputOf (m ((c : Thread nD τ).loc main_arg6)) (branch0 (m ((c : Thread nD τ).loc main_arg0)) (m ((c : Thread nD τ).loc main_arg5)))
      ∧ r.2.mem ((c : Thread nD τ).loc main_v85) = unitOf (m ((c : Thread nD τ).loc main_arg7)) (gluGrad (m ((c : Thread nD τ).loc main_arg0)) (m ((c : Thread nD τ).loc main_arg2)) (m ((c : Thread nD τ).loc main_arg5)) (m ((c : Thread nD τ).loc main_arg7)))
      ∧ r.2.mem ((c : Thread nD τ).loc main_v78) = inputOf (m ((c : Thread nD τ).loc main_arg8)) (branch2 (m ((c : Thread nD τ).loc main_arg0)) (m ((c : Thread nD τ).loc main_arg5)))
      ∧ r.2.mem ((c : Thread nD τ).loc main_v75) = inputOf (m ((c : Thread nD τ).loc main_arg9)) (branch3 (m ((c : Thread nD τ).loc main_arg0)) (m ((c : Thread nD τ).loc main_arg5)))
      ∧ r.2.mem ((c : Thread nD τ).loc main_v89) = gatesGrad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg7))
      ∧ r.2.mem ((c : Thread nD τ).loc main_v90) = weightOf (m ((c : Thread nD τ).loc main_arg1)) (branch0 (m ((c : Thread nD τ).loc main_arg0)) (m ((c : Thread nD τ).loc main_arg5)))
      ∧ r.2.mem ((c : Thread nD τ).loc main_v91) = unitWeightOf (m ((c : Thread nD τ).loc main_arg2)) (gluGrad (m ((c : Thread nD τ).loc main_arg0)) (m ((c : Thread nD τ).loc main_arg2)) (m ((c : Thread nD τ).loc main_arg5)) (m ((c : Thread nD τ).loc main_arg7)))
      ∧ r.2.mem ((c : Thread nD τ).loc main_v92) = weightOf (m ((c : Thread nD τ).loc main_arg3)) (branch2 (m ((c : Thread nD τ).loc main_arg0)) (m ((c : Thread nD τ).loc main_arg5)))
      ∧ r.2.mem ((c : Thread nD τ).loc main_v93) = weightOf (m ((c : Thread nD τ).loc main_arg4)) (branch3 (m ((c : Thread nD τ).loc main_arg0)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h => h) (run (F := Ideal) m ρ)

end Cert.Reference3Ideal.Value

end
-- ==== Proof.MergeClaims.lean ====
/-
  The merge's backward call and its reference: their frames, and that they end with the same.
-/
module
public import proofs.«01_k».proof.Defs
public import proofs.«01_k».proof.Proof.Merge
public import proofs.«01_k».proof.Proof.MergeRef

@[expose] public section
noncomputable section
namespace Cert.Proof
open Idealize.ShloMosaic Idealize.ShloMosaic.TcCoe Idealize.SL.Sem Cert.StickBreaking
/-- The same over the extended reals. -/
theorem frame_kernel3Ideal : Cert.quiescent_Kernel3Ideal (hKernel3Ideal := Cert.Kernel3Ideal.Gen.facts) := fun m ρ _ => Cert.Kernel3Ideal.Gen.frame (F := Ideal) m ρ

/-- The frame of its reference. -/
theorem frame_reference3Ideal : Cert.quiescent_Reference3Ideal (hReference3Ideal := Cert.Reference3Ideal.Gen.facts) :=
  fun m ρ _ => (θ_run Cert.Reference3Ideal.defs _ _).mono
    (fun r h => ⟨fun c => (h c).2.2.2.2.2.2.2.2.2, Idealize.ShloMosaic.sem_eq_zero_of_no_sems (by decide) r.2⟩)
    (Cert.Reference3Ideal.Value.run_values m ρ)

set_option maxRecDepth 16384 in
/-- Over the extended reals kernel and reference end with the same: the gradients of the merge. -/
theorem algebraic3 : Cert.algebraic_Kernel3Ideal_Reference3Ideal (hKernel3Ideal := Cert.Kernel3Ideal.Gen.facts) (hReference3Ideal := Cert.Reference3Ideal.Gen.facts) := fun m ρ m' ρ' _ hm => by
  refine ⟨fun c => (Cert.Kernel3Ideal.Gen.dats m 0 c).arrAt 13 Cert.Kernel3Ideal.cfg0.N,
    fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N,
    fun c => (Cert.Kernel3Ideal.Gen.dats m 0 c).arrAt 17 Cert.Kernel3Ideal.cfg0.N,
    fun c => (Cert.Kernel3Ideal.Gen.dats m 0 c).arrAt 18 Cert.Kernel3Ideal.cfg0.N,
    fun c => (Cert.Kernel3Ideal.Gen.dats m 0 c).arrAt 19 Cert.Kernel3Ideal.cfg0.N,
    fun c => (Cert.Kernel3Ideal.Gen.dats m 0 c).arrAt 20 Cert.Kernel3Ideal.cfg0.N,
    fun c => (Cert.Kernel3Ideal.Gen.dats m 0 c).arrAt 21 Cert.Kernel3Ideal.cfg0.N, ?_, ?_⟩
  · exact (θ_run Cert.Kernel3Ideal.defs _ _).mono (fun r h c => h c) (Cert.Kernel3Ideal.Value.run_blocks (F := Ideal) m ρ)
  · refine (θ_run Cert.Reference3Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩)
      (Cert.Reference3Ideal.Value.run_values m' ρ')
    all_goals simp only [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2]
    · refine Eq.trans ?_ (Cert.Kernel3Ideal.Gen.array13 m c).symm
      exact funext fun y => (congrArg _ (eq_ix2 y)).trans (Cert.Reference3Ideal.Value.inputOf_at _ _ _ (Cert.Reference3Ideal.Value.branch0_at _ _) (y 0) (y 1))
    · refine Eq.trans ?_ (Cert.Kernel3Ideal.Gen.array14 m c).symm
      exact funext fun y => (congrArg _ (eq_ix2 y)).trans (Cert.Reference3Ideal.Value.unitOf_at _ _ _ _ (y 0) (y 1))
    · refine Eq.trans ?_ (Cert.Kernel3Ideal.Gen.array15 m c).symm
      exact funext fun y => (congrArg _ (eq_ix2 y)).trans (Cert.Reference3Ideal.Value.inputOf_at _ _ _ (Cert.Reference3Ideal.Value.branch2_at _ _) (y 0) (y 1))
    · refine Eq.trans ?_ (Cert.Kernel3Ideal.Gen.array16 m c).symm
      exact funext fun y => (congrArg _ (eq_ix2 y)).trans (Cert.Reference3Ideal.Value.inputOf_at _ _ _ (Cert.Reference3Ideal.Value.branch3_at _ _) (y 0) (y 1))
    · exact (Cert.Kernel3Ideal.Gen.array17 m c _ (fun r j => Cert.Reference3Ideal.Value.gatesGrad0 _ _ _ _ _ _ _ _ _ _ r j) (fun r j => Cert.Reference3Ideal.Value.gatesGrad1 _ _ _ _ _ _ _ _ _ _ r j)
        (fun r j => Cert.Reference3Ideal.Value.gatesGrad2 _ _ _ _ _ _ _ _ _ _ r j) (fun r j => Cert.Reference3Ideal.Value.gatesGrad3 _ _ _ _ _ _ _ _ _ _ r j)).symm
    · refine Eq.trans ?_ (Cert.Kernel3Ideal.Gen.array18 m c).symm
      exact funext fun y => (congrArg _ (eq_ix2 y)).trans (Cert.Reference3Ideal.Value.weightOf_at _ _ _ (Cert.Reference3Ideal.Value.branch0_at _ _) (y 0) (y 1))
    · exact (Cert.Kernel3Ideal.Gen.array19 m c _ (fun i j => Cert.Reference3Ideal.Value.unitWeight_lower _ _ _ _ i j) (fun i j => Cert.Reference3Ideal.Value.unitWeight_upper _ _ _ _ i j)).symm
    · refine Eq.trans ?_ (Cert.Kernel3Ideal.Gen.array20 m c).symm
      exact funext fun y => (congrArg _ (eq_ix2 y)).trans (Cert.Reference3Ideal.Value.weightOf_at _ _ _ (Cert.Reference3Ideal.Value.branch2_at _ _) (y 0) (y 1))
    · refine Eq.trans ?_ (Cert.Kernel3Ideal.Gen.array21 m c).symm
      exact funext fun y => (congrArg _ (eq_ix2 y)).trans (Cert.Reference3Ideal.Value.weightOf_at _ _ _ (Cert.Reference3Ideal.Value.branch3_at _ _) (y 0) (y 1))

end Cert.Proof
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Arrays
public import proofs.«01_k».proof.Proof.RefValue
public import proofs.«01_k».proof.Proof.Same
public import proofs.«01_k».proof.Proof.Gen.Kernel2.Frame
public import proofs.«01_k».proof.Proof.Swiglu
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.FfnIn
public import proofs.«01_k».proof.Proof.FfnOut
public import proofs.«01_k».proof.Proof.FfnGradOut
public import proofs.«01_k».proof.Proof.FfnGradIn
public import proofs.«01_k».proof.Proof.FfnGradX
public import proofs.«01_k».proof.Proof.MixerIn
public import proofs.«01_k».proof.Proof.MixerGradIn
public import proofs.«01_k».proof.Proof.MixerGradX
public import proofs.«01_k».proof.Proof.MixerGradOut
public import proofs.«01_k».proof.Proof.MixerGradMerged
public import proofs.«01_k».proof.Proof.MixerOut
public import proofs.«01_k».proof.Proof.MergeOut
public import proofs.«01_k».proof.Proof.MergeFrame
public import proofs.«01_k».proof.Proof.MergeClaims
public import Idealize.ShloMosaic.Adequacy
public import Idealize.ShloMosaic.Init
public import Idealize.ShloMosaic.Lib.Claim

@[expose] public section

noncomputable section

namespace Cert.Proof

open Idealize.ShloMosaic Idealize.SL.Sem Cert.StickBreaking

/-- The side conditions of the precondition. -/
theorem factsFinite : Cert.Pre_finite.Facts := ⟨by decide, by decide⟩

/-- An extended real whose absolute value compares less than infinity is a real number. -/
theorem coe_of_abs_lt {x : EReal} (h : cmpf (F := Ideal) (s := Cert.Pre_finite.S_) (φ := .f32) .olt (Host.absf fun _ => x) (constant Cert.Pre_finite.S_ .f32 0x7F800000#32) (fun i => i.elim0) = 1#1) :
    x = (x.toReal : EReal) := by
  induction x with
  | coe r => rfl
  | top =>
    have e : BitVec.ofBool (decide (max (⊤ : EReal) (-⊤) < Ideal.ofBits FTy.f32 0x7F800000#32)) = 1#1 := h
    rw [top_bits] at e; simp at e
  | bot =>
    have e : BitVec.ofBool (decide (max (⊥ : EReal) (-⊥) < Ideal.ofBits FTy.f32 0x7F800000#32)) = 1#1 := h
    rw [top_bits] at e; simp at e

/-- The kernel's frame on words: the run is stated over any float values, and the two programs have the same text. -/
theorem frame_kernel : Cert.quiescent_Kernel (hKernel := Cert.Kernel.Gen.facts) := fun m ρ _ => by
  rw [defs_same, main_same]
  exact Cert.KernelIdeal.Gen.kernel_frame (F := Bits) m ρ

/-- The kernel's frame over the extended reals. -/
theorem frame_kernelIdeal : Cert.quiescent_KernelIdeal (hKernelIdeal := Cert.KernelIdeal.Gen.facts) := fun m ρ _ =>
  Cert.KernelIdeal.Gen.kernel_frame (F := Ideal) m ρ

/-- The same under the precondition. -/
theorem frame_kernelIdeal_finite : Cert.quiescent_KernelIdeal_pre_finite (hKernelIdeal := Cert.KernelIdeal.Gen.facts) (hPre_finite := factsFinite) :=
  fun m ρ _ => Cert.KernelIdeal.Gen.kernel_frame (F := Ideal) m ρ

/-- The reference's frame: its run leaves the arguments, and it declares no semaphore. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run_steps (F := Ideal) m ρ)

/-- The same under the precondition. -/
theorem frame_referenceIdeal_finite : Cert.quiescent_ReferenceIdeal_pre_finite (hReferenceIdeal := Cert.ReferenceIdeal.Gen.facts) (hPre_finite := factsFinite) :=
  fun m ρ _ => frame_referenceIdeal m ρ trivial

/-- Arguments that satisfy the precondition are matrices of real numbers. -/
theorem real_of_finite {p : FVec Ideal Cert.Pre_finite.S2048x768 .f32} {g : FVec Ideal Cert.Pre_finite.S2048x256 .f32}
    (h : (@Cert.Pre_finite.fn factsFinite Ideal _ p g).1 = (fun _ => 1#1) ∧ (@Cert.Pre_finite.fn factsFinite Ideal _ p g).2 = (fun _ => 1#1)) :
    IsReal p ∧ IsReal g := by
  refine ⟨fun y => coe_of_abs_lt ?_, fun y => coe_of_abs_lt ?_⟩
  · have e := congrFun h.1 y
    exact e
  · have e := congrFun h.2 y
    exact e

/-- Over the extended reals kernel and reference end with the same three gradients. -/
theorem algebraic : Cert.algebraic_KernelIdeal_ReferenceIdeal_pre_finite (hKernelIdeal := Cert.KernelIdeal.Gen.facts)
    (hReferenceIdeal := Cert.ReferenceIdeal.Gen.facts) (hPre_finite := factsFinite) := fun m ρ m' ρ' hpre hm => by
  have hr := fun c => real_of_finite (hpre c)
  refine ⟨fun c => (Cert.KernelIdeal.Gen.dats m 0 c).arrAt 5 Cert.KernelIdeal.cfg0.N, fun c => (Cert.KernelIdeal.Gen.dats m 0 c).arrAt 6 Cert.KernelIdeal.cfg0.N,
    fun c => (Cert.KernelIdeal.Gen.dats m 0 c).arrAt 7 Cert.KernelIdeal.cfg0.N, ?_, ?_⟩
  · have hrun := Cert.KernelIdeal.Gen.run_main (F := Ideal) m ρ
    refine (θ_run Cert.KernelIdeal.defs _ _).mono (fun r h c => ⟨(h.1 c).1 5, (h.1 c).1 6, (h.1 c).1 7, (h.2 c).1, (h.2 c).2⟩)
      (θ_run_and hrun (Cert.KernelIdeal.Gen.frame_of m ρ (Cert.KernelIdeal.Gen.dats m) (Cert.KernelIdeal.Gen.A_eq m) hrun))
  · refine (θ_run Cert.ReferenceIdeal.defs _ _).mono (fun r h c => ⟨(h c).1.trans ?_, (h c).2.1.trans ?_, (h c).2.2.1.trans ?_, (h c).2.2.2⟩)
      (Cert.ReferenceIdeal.Value.run_steps (F := Ideal) m' ρ')
    all_goals rw [(hm c).1, (hm c).2]
    · refine Eq.trans ?_ (Cert.KernelIdeal.Gen.array_q (hr c).1 (hr c).2).symm
      exact funext fun y => (congrArg _ (eq_ix3 y)).trans (Cert.ReferenceIdeal.Value.result_q (hr c).1 (hr c).2 (y 0) (y 1) (y 2))
    · refine Eq.trans ?_ (Cert.KernelIdeal.Gen.array_k (hr c).1 (hr c).2).symm
      exact funext fun y => (congrArg _ (eq_ix3 y)).trans (Cert.ReferenceIdeal.Value.result_k (hr c).1 (hr c).2 (y 0) (y 1) (y 2))
    · refine Eq.trans ?_ (Cert.KernelIdeal.Gen.array_v (hr c).1 (hr c).2).symm
      exact funext fun y => (congrArg _ (eq_ix3 y)).trans (Cert.ReferenceIdeal.Value.result_v (hr c).1 (hr c).2 (y 0) (y 1) (y 2))

/-- The side conditions of the second precondition. -/
theorem factsFinite2 : Cert.Pre_finite2.Facts := ⟨by decide, by decide, by decide, by decide⟩

/-- The frame of the gate's gradient, on words. -/
theorem frame_kernel2 : Cert.quiescent_Kernel2 (hKernel2 := Cert.Kernel2.Gen.facts) := fun m ρ _ => Cert.Kernel2.Gen.frame m ρ

/-- The same over the extended reals. -/
theorem frame_kernel2Ideal : Cert.quiescent_Kernel2Ideal (hKernel2Ideal := Cert.Kernel2Ideal.Gen.facts) := fun m ρ _ => Cert.Kernel2Ideal.Gen.frame m ρ

/-- The same under the precondition. -/
theorem frame_kernel2Ideal_finite : Cert.quiescent_Kernel2Ideal_pre_finite2 (hKernel2Ideal := Cert.Kernel2Ideal.Gen.facts) (hPre_finite2 := factsFinite2) :=
  fun m ρ _ => Cert.Kernel2Ideal.Gen.frame m ρ

/-- The frame of the gate's reference. -/
theorem frame_reference2Ideal : Cert.quiescent_Reference2Ideal (hReference2Ideal := Cert.Reference2Ideal.Gen.facts) :=
  fun m ρ _ => (θ_run Cert.Reference2Ideal.defs _ _).mono
    (fun r h => ⟨fun c => (h c).2.2, Idealize.ShloMosaic.sem_eq_zero_of_no_sems (by decide) r.2⟩)
    (Cert.Reference2Ideal.Value.run_values m ρ)

/-- The same under the precondition. -/
theorem frame_reference2Ideal_finite : Cert.quiescent_Reference2Ideal_pre_finite2 (hReference2Ideal := Cert.Reference2Ideal.Gen.facts) (hPre_finite2 := factsFinite2) :=
  fun m ρ _ => frame_reference2Ideal m ρ trivial

/-- Arguments of the gate that satisfy the precondition are matrices of real numbers. -/
theorem real_of_finite2 {df : FVec Ideal Cert.Pre_finite2.S2048x1024 .bf16} {w : FVec Ideal Cert.Pre_finite2.S2816x1024 .bf16}
    {a b : FVec Ideal Cert.Pre_finite2.S2048x2816 .f32}
    (h : (@Cert.Pre_finite2.fn factsFinite2 Ideal _ df w a b).1 = (fun _ => 1#1) ∧ (@Cert.Pre_finite2.fn factsFinite2 Ideal _ df w a b).2.1 = (fun _ => 1#1)
      ∧ (@Cert.Pre_finite2.fn factsFinite2 Ideal _ df w a b).2.2.1 = (fun _ => 1#1) ∧ (@Cert.Pre_finite2.fn factsFinite2 Ideal _ df w a b).2.2.2 = (fun _ => 1#1)) :
    IsReal df ∧ IsReal w ∧ IsReal a ∧ IsReal b := by
  refine ⟨fun y => coe_of_abs_lt ?_, fun y => coe_of_abs_lt ?_, fun y => coe_of_abs_lt ?_, fun y => coe_of_abs_lt ?_⟩
  · have e := congrFun h.1 y
    exact e
  · have e := congrFun h.2.1 y
    exact e
  · have e := congrFun h.2.2.1 y
    exact e
  · have e := congrFun h.2.2.2 y
    exact e

/-- Over the extended reals kernel and reference end with the same two gradients of the gated product. -/
theorem algebraic2 : Cert.algebraic_Kernel2Ideal_Reference2Ideal_pre_finite2 (hKernel2Ideal := Cert.Kernel2Ideal.Gen.facts)
    (hReference2Ideal := Cert.Reference2Ideal.Gen.facts) (hPre_finite2 := factsFinite2) := fun m ρ m' ρ' hpre hm => by
  have hr := fun c => real_of_finite2 (hpre c)
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N, ?_, ?_⟩
  · exact (θ_run Cert.Kernel2Ideal.defs _ _).mono (fun r h c => h c) (Cert.Kernel2Ideal.Value.run_blocks (F := Ideal) m ρ)
  · refine (θ_run Cert.Reference2Ideal.defs _ _).mono (fun r h c => ⟨(h c).1.trans ?_, (h c).2.1.trans ?_, (h c).2.2⟩)
      (Cert.Reference2Ideal.Value.run_values m' ρ')
    all_goals simp only [(hm c).1, (hm c).2.1, (hm c).2.2.1, (hm c).2.2.2]
    · refine Eq.trans ?_ (Cert.Kernel2Ideal.Gen.array_a m c).symm
      exact funext fun y => (congrArg _ (eq_ix2 y)).trans ((Cert.Reference2Ideal.Value.gradA_eq (hr c).1 (hr c).2.1 (hr c).2.2.1 (hr c).2.2.2 (y 0) (y 1)).trans (by rw [← eq_ix2 y]))
    · refine Eq.trans ?_ (Cert.Kernel2Ideal.Gen.array_b m c).symm
      exact funext fun y => (congrArg _ (eq_ix2 y)).trans ((Cert.Reference2Ideal.Value.gradB_eq (y 0) (y 1)).trans (by rw [← eq_ix2 y]))

/-- The frame on words: the feed-forward layer's hidden activation. -/
theorem frame_kernel4 : Cert.quiescent_Kernel4 (hKernel4 := Cert.Kernel4.Gen.facts) := fun m ρ _ => Cert.Kernel4.Gen.frame m ρ

/-- The same over the extended reals. -/
theorem frame_kernel4Ideal : Cert.quiescent_Kernel4Ideal (hKernel4Ideal := Cert.Kernel4Ideal.Gen.facts) := fun m ρ _ => Cert.Kernel4Ideal.Gen.frame m ρ

/-- The frame of its reference. -/
theorem frame_reference4Ideal : Cert.quiescent_Reference4Ideal (hReference4Ideal := Cert.Reference4Ideal.Gen.facts) :=
  fun m ρ _ => (θ_run Cert.Reference4Ideal.defs _ _).mono
    (fun r h => ⟨fun c => (h c).2.2.2, Idealize.ShloMosaic.sem_eq_zero_of_no_sems (by decide) r.2⟩)
    (Cert.Reference4Ideal.Value.run_values m ρ)

/-- Over the extended reals kernel and reference end with the same: the feed-forward layer's hidden activation. -/
theorem algebraic4 : Cert.algebraic_Kernel4Ideal_Reference4Ideal (hKernel4Ideal := Cert.Kernel4Ideal.Gen.facts) (hReference4Ideal := Cert.Reference4Ideal.Gen.facts) := fun m ρ m' ρ' _ hm => by
  refine ⟨fun c => (Cert.Kernel4Ideal.Gen.dats m 0 c).arrAt 3 Cert.Kernel4Ideal.cfg0.N, fun c => (Cert.Kernel4Ideal.Gen.dats m 0 c).arrAt 4 Cert.Kernel4Ideal.cfg0.N,
    fun c => (Cert.Kernel4Ideal.Gen.dats m 0 c).arrAt 5 Cert.Kernel4Ideal.cfg0.N, ?_, ?_⟩
  · exact (θ_run Cert.Kernel4Ideal.defs _ _).mono (fun r h c => h c) (Cert.Kernel4Ideal.Value.run_blocks (F := Ideal) m ρ)
  · refine (θ_run Cert.Reference4Ideal.defs _ _).mono (fun r h c => ⟨(h c).1.trans ?_, (h c).2.1.trans ?_, (h c).2.2.1.trans ?_, (h c).2.2.2⟩)
      (Cert.Reference4Ideal.Value.run_values m' ρ')
    all_goals rw [(hm c).1, (hm c).2]
    · refine Eq.trans ?_ (Cert.Kernel4Ideal.Gen.array_a m c).symm
      exact funext fun y => (congrArg _ (eq_ix2 y)).trans (Cert.Reference4Ideal.Value.gate_eq _ _ (y 0) (y 1))
    · refine Eq.trans ?_ (Cert.Kernel4Ideal.Gen.array_b m c).symm
      exact funext fun y => (congrArg _ (eq_ix2 y)).trans (Cert.Reference4Ideal.Value.value_eq _ _ (y 0) (y 1))
    · refine Eq.trans ?_ (Cert.Kernel4Ideal.Gen.array_act m c).symm
      exact funext fun y => (congrArg _ (eq_ix2 y)).trans (Cert.Reference4Ideal.Value.act_eq _ _ (y 0) (y 1))

/-- The frame on words: the feed-forward layer's second product. -/
theorem frame_kernel5 : Cert.quiescent_Kernel5 (hKernel5 := Cert.Kernel5.Gen.facts) := fun m ρ _ => Cert.Kernel5.Gen.frame m ρ

/-- The same over the extended reals. -/
theorem frame_kernel5Ideal : Cert.quiescent_Kernel5Ideal (hKernel5Ideal := Cert.Kernel5Ideal.Gen.facts) := fun m ρ _ => Cert.Kernel5Ideal.Gen.frame m ρ

/-- The frame of its reference. -/
theorem frame_reference5Ideal : Cert.quiescent_Reference5Ideal (hReference5Ideal := Cert.Reference5Ideal.Gen.facts) :=
  fun m ρ _ => (θ_run Cert.Reference5Ideal.defs _ _).mono
    (fun r h => ⟨fun c => (h c).2, Idealize.ShloMosaic.sem_eq_zero_of_no_sems (by decide) r.2⟩)
    (Cert.Reference5Ideal.Value.run_value m ρ)

/-- Over the extended reals kernel and reference end with the same: the feed-forward layer's second product. -/
theorem algebraic5 : Cert.algebraic_Kernel5Ideal_Reference5Ideal (hKernel5Ideal := Cert.Kernel5Ideal.Gen.facts) (hReference5Ideal := Cert.Reference5Ideal.Gen.facts) := fun m ρ m' ρ' _ hm => by
  refine ⟨fun c => (Cert.Kernel5Ideal.Gen.dats m 0 c).arrAt 2 Cert.Kernel5Ideal.cfg0.N, ?_, ?_⟩
  · exact (θ_run Cert.Kernel5Ideal.defs _ _).mono (fun r h c => h c) (Cert.Kernel5Ideal.Value.run_blocks (F := Ideal) m ρ)
  · refine (θ_run Cert.Reference5Ideal.defs _ _).mono (fun r h c => ⟨(h c).1.trans ?_, (h c).2⟩) (Cert.Reference5Ideal.Value.run_value m' ρ')
    rw [(hm c).1, (hm c).2]
    refine Eq.trans ?_ (Cert.Kernel5Ideal.Gen.array m c).symm
    exact funext fun y => (congrArg _ (eq_ix2 y)).trans (Cert.Reference5Ideal.Value.product_eq _ _ (y 0) (y 1))

/-- The frame on words: the gradient of the feed-forward layer's second weight. -/
theorem frame_kernel6 : Cert.quiescent_Kernel6 (hKernel6 := Cert.Kernel6.Gen.facts) := fun m ρ _ => Cert.Kernel6.Gen.frame m ρ

/-- The same over the extended reals. -/
theorem frame_kernel6Ideal : Cert.quiescent_Kernel6Ideal (hKernel6Ideal := Cert.Kernel6Ideal.Gen.facts) := fun m ρ _ => Cert.Kernel6Ideal.Gen.frame m ρ

/-- The frame of its reference. -/
theorem frame_reference6Ideal : Cert.quiescent_Reference6Ideal (hReference6Ideal := Cert.Reference6Ideal.Gen.facts) :=
  fun m ρ _ => (θ_run Cert.Reference6Ideal.defs _ _).mono
    (fun r h => ⟨fun c => (h c).2, Idealize.ShloMosaic.sem_eq_zero_of_no_sems (by decide) r.2⟩)
    (Cert.Reference6Ideal.Value.run_value m ρ)

/-- Over the extended reals kernel and reference end with the same: the gradient of the feed-forward layer's second weight. -/
theorem algebraic6 : Cert.algebraic_Kernel6Ideal_Reference6Ideal (hKernel6Ideal := Cert.Kernel6Ideal.Gen.facts) (hReference6Ideal := Cert.Reference6Ideal.Gen.facts) := fun m ρ m' ρ' _ hm => by
  refine ⟨fun c => (Cert.Kernel6Ideal.Gen.dats m 0 c).arrAt 2 Cert.Kernel6Ideal.cfg0.N, ?_, ?_⟩
  · exact (θ_run Cert.Kernel6Ideal.defs _ _).mono (fun r h c => h c) (Cert.Kernel6Ideal.Value.run_blocks (F := Ideal) m ρ)
  · refine (θ_run Cert.Reference6Ideal.defs _ _).mono (fun r h c => ⟨(h c).1.trans ?_, (h c).2⟩) (Cert.Reference6Ideal.Value.run_value m' ρ')
    rw [(hm c).1, (hm c).2]
    refine Eq.trans ?_ (Cert.Kernel6Ideal.Gen.array m c).symm
    exact funext fun y => (congrArg _ (eq_ix2 y)).trans (Cert.Reference6Ideal.Value.product_eq _ _ (y 0) (y 1))

/-- The frame on words: the gradient of the feed-forward layer's first weight. -/
theorem frame_kernel7 : Cert.quiescent_Kernel7 (hKernel7 := Cert.Kernel7.Gen.facts) := fun m ρ _ => Cert.Kernel7.Gen.frame m ρ

/-- The same over the extended reals. -/
theorem frame_kernel7Ideal : Cert.quiescent_Kernel7Ideal (hKernel7Ideal := Cert.Kernel7Ideal.Gen.facts) := fun m ρ _ => Cert.Kernel7Ideal.Gen.frame m ρ

/-- The frame of its reference. -/
theorem frame_reference7Ideal : Cert.quiescent_Reference7Ideal (hReference7Ideal := Cert.Reference7Ideal.Gen.facts) :=
  fun m ρ _ => (θ_run Cert.Reference7Ideal.defs _ _).mono
    (fun r h => ⟨fun c => (h c).2, Idealize.ShloMosaic.sem_eq_zero_of_no_sems (by decide) r.2⟩)
    (Cert.Reference7Ideal.Value.run_value m ρ)

/-- Over the extended reals kernel and reference end with the same: the gradient of the feed-forward layer's first weight. -/
theorem algebraic7 : Cert.algebraic_Kernel7Ideal_Reference7Ideal (hKernel7Ideal := Cert.Kernel7Ideal.Gen.facts) (hReference7Ideal := Cert.Reference7Ideal.Gen.facts) := fun m ρ m' ρ' _ hm => by
  refine ⟨fun c => (Cert.Kernel7Ideal.Gen.dats m 0 c).arrAt 2 Cert.Kernel7Ideal.cfg0.N, ?_, ?_⟩
  · exact (θ_run Cert.Kernel7Ideal.defs _ _).mono (fun r h c => h c) (Cert.Kernel7Ideal.Value.run_blocks (F := Ideal) m ρ)
  · refine (θ_run Cert.Reference7Ideal.defs _ _).mono (fun r h c => ⟨(h c).1.trans ?_, (h c).2⟩) (Cert.Reference7Ideal.Value.run_value m' ρ')
    rw [(hm c).1, (hm c).2]
    refine Eq.trans ?_ (Cert.Kernel7Ideal.Gen.array m c).symm
    exact funext fun y => (congrArg _ (eq_ix2 y)).trans (Cert.Reference7Ideal.Value.product_eq _ _ (y 0) (y 1))

/-- The frame on words: the gradient of the feed-forward layer's input. -/
theorem frame_kernel8 : Cert.quiescent_Kernel8 (hKernel8 := Cert.Kernel8.Gen.facts) := fun m ρ _ => Cert.Kernel8.Gen.frame m ρ

/-- The same over the extended reals. -/
theorem frame_kernel8Ideal : Cert.quiescent_Kernel8Ideal (hKernel8Ideal := Cert.Kernel8Ideal.Gen.facts) := fun m ρ _ => Cert.Kernel8Ideal.Gen.frame m ρ

/-- The frame of its reference. -/
theorem frame_reference8Ideal : Cert.quiescent_Reference8Ideal (hReference8Ideal := Cert.Reference8Ideal.Gen.facts) :=
  fun m ρ _ => (θ_run Cert.Reference8Ideal.defs _ _).mono
    (fun r h => ⟨fun c => (h c).2, Idealize.ShloMosaic.sem_eq_zero_of_no_sems (by decide) r.2⟩)
    (Cert.Reference8Ideal.Value.run_value m ρ)

/-- Over the extended reals kernel and reference end with the same: the gradient of the feed-forward layer's input. -/
theorem algebraic8 : Cert.algebraic_Kernel8Ideal_Reference8Ideal (hKernel8Ideal := Cert.Kernel8Ideal.Gen.facts) (hReference8Ideal := Cert.Reference8Ideal.Gen.facts) := fun m ρ m' ρ' _ hm => by
  refine ⟨fun c => (Cert.Kernel8Ideal.Gen.dats m 0 c).arrAt 2 Cert.Kernel8Ideal.cfg0.N, ?_, ?_⟩
  · exact (θ_run Cert.Kernel8Ideal.defs _ _).mono (fun r h c => h c) (Cert.Kernel8Ideal.Value.run_blocks (F := Ideal) m ρ)
  · refine (θ_run Cert.Reference8Ideal.defs _ _).mono (fun r h c => ⟨(h c).1.trans ?_, (h c).2⟩) (Cert.Reference8Ideal.Value.run_value m' ρ')
    rw [(hm c).1, (hm c).2]
    refine Eq.trans ?_ (Cert.Kernel8Ideal.Gen.array m c).symm
    exact funext fun y => (congrArg _ (eq_ix2 y)).trans (Cert.Reference8Ideal.Value.product_eq _ _ (y 0) (y 1))

/-- The frame on words: the mixer's input projection. -/
theorem frame_kernel9 : Cert.quiescent_Kernel9 (hKernel9 := Cert.Kernel9.Gen.facts) := fun m ρ _ => Cert.Kernel9.Gen.frame m ρ

/-- The same over the extended reals. -/
theorem frame_kernel9Ideal : Cert.quiescent_Kernel9Ideal (hKernel9Ideal := Cert.Kernel9Ideal.Gen.facts) := fun m ρ _ => Cert.Kernel9Ideal.Gen.frame m ρ

/-- The frame of its reference. -/
theorem frame_reference9Ideal : Cert.quiescent_Reference9Ideal (hReference9Ideal := Cert.Reference9Ideal.Gen.facts) :=
  fun m ρ _ => (θ_run Cert.Reference9Ideal.defs _ _).mono
    (fun r h => ⟨fun c => (h c).2, Idealize.ShloMosaic.sem_eq_zero_of_no_sems (by decide) r.2⟩)
    (Cert.Reference9Ideal.Value.run_value m ρ)

/-- Over the extended reals kernel and reference end with the same: the mixer's input projection. -/
theorem algebraic9 : Cert.algebraic_Kernel9Ideal_Reference9Ideal (hKernel9Ideal := Cert.Kernel9Ideal.Gen.facts) (hReference9Ideal := Cert.Reference9Ideal.Gen.facts) := fun m ρ m' ρ' _ hm => by
  refine ⟨fun c => (Cert.Kernel9Ideal.Gen.dats m 0 c).arrAt 2 Cert.Kernel9Ideal.cfg0.N, ?_, ?_⟩
  · exact (θ_run Cert.Kernel9Ideal.defs _ _).mono (fun r h c => h c) (Cert.Kernel9Ideal.Value.run_blocks (F := Ideal) m ρ)
  · refine (θ_run Cert.Reference9Ideal.defs _ _).mono (fun r h c => ⟨(h c).1.trans ?_, (h c).2⟩) (Cert.Reference9Ideal.Value.run_value m' ρ')
    rw [(hm c).1, (hm c).2]
    refine Eq.trans ?_ (Cert.Kernel9Ideal.Gen.array m c).symm
    exact funext fun y => (congrArg _ (eq_ix2 y)).trans (Cert.Reference9Ideal.Value.product_eq _ _ (y 0) (y 1))

/-- The frame on words: the gradient of the mixer's input weight. -/
theorem frame_kernel10 : Cert.quiescent_Kernel10 (hKernel10 := Cert.Kernel10.Gen.facts) := fun m ρ _ => Cert.Kernel10.Gen.frame m ρ

/-- The same over the extended reals. -/
theorem frame_kernel10Ideal : Cert.quiescent_Kernel10Ideal (hKernel10Ideal := Cert.Kernel10Ideal.Gen.facts) := fun m ρ _ => Cert.Kernel10Ideal.Gen.frame m ρ

/-- The frame of its reference. -/
theorem frame_reference10Ideal : Cert.quiescent_Reference10Ideal (hReference10Ideal := Cert.Reference10Ideal.Gen.facts) :=
  fun m ρ _ => (θ_run Cert.Reference10Ideal.defs _ _).mono
    (fun r h => ⟨fun c => (h c).2, Idealize.ShloMosaic.sem_eq_zero_of_no_sems (by decide) r.2⟩)
    (Cert.Reference10Ideal.Value.run_value m ρ)

/-- Over the extended reals kernel and reference end with the same: the gradient of the mixer's input weight. -/
theorem algebraic10 : Cert.algebraic_Kernel10Ideal_Reference10Ideal (hKernel10Ideal := Cert.Kernel10Ideal.Gen.facts) (hReference10Ideal := Cert.Reference10Ideal.Gen.facts) := fun m ρ m' ρ' _ hm => by
  refine ⟨fun c => (Cert.Kernel10Ideal.Gen.dats m 0 c).arrAt 2 Cert.Kernel10Ideal.cfg0.N, ?_, ?_⟩
  · exact (θ_run Cert.Kernel10Ideal.defs _ _).mono (fun r h c => h c) (Cert.Kernel10Ideal.Value.run_blocks (F := Ideal) m ρ)
  · refine (θ_run Cert.Reference10Ideal.defs _ _).mono (fun r h c => ⟨(h c).1.trans ?_, (h c).2⟩) (Cert.Reference10Ideal.Value.run_value m' ρ')
    rw [(hm c).1, (hm c).2]
    refine Eq.trans ?_ (Cert.Kernel10Ideal.Gen.array m c).symm
    exact funext fun y => (congrArg _ (eq_ix2 y)).trans (Cert.Reference10Ideal.Value.product_eq _ _ (y 0) (y 1))

/-- The frame on words: the gradient of the mixer's input. -/
theorem frame_kernel11 : Cert.quiescent_Kernel11 (hKernel11 := Cert.Kernel11.Gen.facts) := fun m ρ _ => Cert.Kernel11.Gen.frame m ρ

/-- The same over the extended reals. -/
theorem frame_kernel11Ideal : Cert.quiescent_Kernel11Ideal (hKernel11Ideal := Cert.Kernel11Ideal.Gen.facts) := fun m ρ _ => Cert.Kernel11Ideal.Gen.frame m ρ

/-- The frame of its reference. -/
theorem frame_reference11Ideal : Cert.quiescent_Reference11Ideal (hReference11Ideal := Cert.Reference11Ideal.Gen.facts) :=
  fun m ρ _ => (θ_run Cert.Reference11Ideal.defs _ _).mono
    (fun r h => ⟨fun c => (h c).2, Idealize.ShloMosaic.sem_eq_zero_of_no_sems (by decide) r.2⟩)
    (Cert.Reference11Ideal.Value.run_value m ρ)

/-- Over the extended reals kernel and reference end with the same: the gradient of the mixer's input. -/
theorem algebraic11 : Cert.algebraic_Kernel11Ideal_Reference11Ideal (hKernel11Ideal := Cert.Kernel11Ideal.Gen.facts) (hReference11Ideal := Cert.Reference11Ideal.Gen.facts) := fun m ρ m' ρ' _ hm => by
  refine ⟨fun c => (Cert.Kernel11Ideal.Gen.dats m 0 c).arrAt 2 Cert.Kernel11Ideal.cfg0.N, ?_, ?_⟩
  · exact (θ_run Cert.Kernel11Ideal.defs _ _).mono (fun r h c => h c) (Cert.Kernel11Ideal.Value.run_blocks (F := Ideal) m ρ)
  · refine (θ_run Cert.Reference11Ideal.defs _ _).mono (fun r h c => ⟨(h c).1.trans ?_, (h c).2⟩) (Cert.Reference11Ideal.Value.run_value m' ρ')
    rw [(hm c).1, (hm c).2]
    refine Eq.trans ?_ (Cert.Kernel11Ideal.Gen.array m c).symm
    exact funext fun y => (congrArg _ (eq_ix2 y)).trans (Cert.Reference11Ideal.Value.product_eq _ _ (y 0) (y 1))

/-- The frame on words: the gradient of the mixer's output weight. -/
theorem frame_kernel12 : Cert.quiescent_Kernel12 (hKernel12 := Cert.Kernel12.Gen.facts) := fun m ρ _ => Cert.Kernel12.Gen.frame m ρ

/-- The same over the extended reals. -/
theorem frame_kernel12Ideal : Cert.quiescent_Kernel12Ideal (hKernel12Ideal := Cert.Kernel12Ideal.Gen.facts) := fun m ρ _ => Cert.Kernel12Ideal.Gen.frame m ρ

/-- The frame of its reference. -/
theorem frame_reference12Ideal : Cert.quiescent_Reference12Ideal (hReference12Ideal := Cert.Reference12Ideal.Gen.facts) :=
  fun m ρ _ => (θ_run Cert.Reference12Ideal.defs _ _).mono
    (fun r h => ⟨fun c => (h c).2, Idealize.ShloMosaic.sem_eq_zero_of_no_sems (by decide) r.2⟩)
    (Cert.Reference12Ideal.Value.run_value m ρ)

/-- Over the extended reals kernel and reference end with the same: the gradient of the mixer's output weight. -/
theorem algebraic12 : Cert.algebraic_Kernel12Ideal_Reference12Ideal (hKernel12Ideal := Cert.Kernel12Ideal.Gen.facts) (hReference12Ideal := Cert.Reference12Ideal.Gen.facts) := fun m ρ m' ρ' _ hm => by
  refine ⟨fun c => (Cert.Kernel12Ideal.Gen.dats m 0 c).arrAt 2 Cert.Kernel12Ideal.cfg0.N, ?_, ?_⟩
  · exact (θ_run Cert.Kernel12Ideal.defs _ _).mono (fun r h c => h c) (Cert.Kernel12Ideal.Value.run_blocks (F := Ideal) m ρ)
  · refine (θ_run Cert.Reference12Ideal.defs _ _).mono (fun r h c => ⟨(h c).1.trans ?_, (h c).2⟩) (Cert.Reference12Ideal.Value.run_value m' ρ')
    rw [(hm c).1, (hm c).2]
    refine Eq.trans ?_ (Cert.Kernel12Ideal.Gen.array m c).symm
    exact funext fun y => (congrArg _ (eq_ix2 y)).trans (Cert.Reference12Ideal.Value.product_eq _ _ (y 0) (y 1))

/-- The frame on words: the gradient of the merged branches. -/
theorem frame_kernel13 : Cert.quiescent_Kernel13 (hKernel13 := Cert.Kernel13.Gen.facts) := fun m ρ _ => Cert.Kernel13.Gen.frame m ρ

/-- The same over the extended reals. -/
theorem frame_kernel13Ideal : Cert.quiescent_Kernel13Ideal (hKernel13Ideal := Cert.Kernel13Ideal.Gen.facts) := fun m ρ _ => Cert.Kernel13Ideal.Gen.frame m ρ

/-- The frame of its reference. -/
theorem frame_reference13Ideal : Cert.quiescent_Reference13Ideal (hReference13Ideal := Cert.Reference13Ideal.Gen.facts) :=
  fun m ρ _ => (θ_run Cert.Reference13Ideal.defs _ _).mono
    (fun r h => ⟨fun c => (h c).2, Idealize.ShloMosaic.sem_eq_zero_of_no_sems (by decide) r.2⟩)
    (Cert.Reference13Ideal.Value.run_value m ρ)

/-- Over the extended reals kernel and reference end with the same: the gradient of the merged branches. -/
theorem algebraic13 : Cert.algebraic_Kernel13Ideal_Reference13Ideal (hKernel13Ideal := Cert.Kernel13Ideal.Gen.facts) (hReference13Ideal := Cert.Reference13Ideal.Gen.facts) := fun m ρ m' ρ' _ hm => by
  refine ⟨fun c => (Cert.Kernel13Ideal.Gen.dats m 0 c).arrAt 2 Cert.Kernel13Ideal.cfg0.N, ?_, ?_⟩
  · exact (θ_run Cert.Kernel13Ideal.defs _ _).mono (fun r h c => h c) (Cert.Kernel13Ideal.Value.run_blocks (F := Ideal) m ρ)
  · refine (θ_run Cert.Reference13Ideal.defs _ _).mono (fun r h c => ⟨(h c).1.trans ?_, (h c).2⟩) (Cert.Reference13Ideal.Value.run_value m' ρ')
    rw [(hm c).1, (hm c).2]
    refine Eq.trans ?_ (Cert.Kernel13Ideal.Gen.array m c).symm
    exact funext fun y => (congrArg _ (eq_ix2 y)).trans (Cert.Reference13Ideal.Value.product_eq _ _ (y 0) (y 1))

/-- The frame on words: the mixer's output projection. -/
theorem frame_kernel14 : Cert.quiescent_Kernel14 (hKernel14 := Cert.Kernel14.Gen.facts) := fun m ρ _ => Cert.Kernel14.Gen.frame m ρ

/-- The same over the extended reals. -/
theorem frame_kernel14Ideal : Cert.quiescent_Kernel14Ideal (hKernel14Ideal := Cert.Kernel14Ideal.Gen.facts) := fun m ρ _ => Cert.Kernel14Ideal.Gen.frame m ρ

/-- The frame of its reference. -/
theorem frame_reference14Ideal : Cert.quiescent_Reference14Ideal (hReference14Ideal := Cert.Reference14Ideal.Gen.facts) :=
  fun m ρ _ => (θ_run Cert.Reference14Ideal.defs _ _).mono
    (fun r h => ⟨fun c => (h c).2, Idealize.ShloMosaic.sem_eq_zero_of_no_sems (by decide) r.2⟩)
    (Cert.Reference14Ideal.Value.run_value m ρ)

/-- Over the extended reals kernel and reference end with the same: the mixer's output projection. -/
theorem algebraic14 : Cert.algebraic_Kernel14Ideal_Reference14Ideal (hKernel14Ideal := Cert.Kernel14Ideal.Gen.facts) (hReference14Ideal := Cert.Reference14Ideal.Gen.facts) := fun m ρ m' ρ' _ hm => by
  refine ⟨fun c => (Cert.Kernel14Ideal.Gen.dats m 0 c).arrAt 2 Cert.Kernel14Ideal.cfg0.N, ?_, ?_⟩
  · exact (θ_run Cert.Kernel14Ideal.defs _ _).mono (fun r h c => h c) (Cert.Kernel14Ideal.Value.run_blocks (F := Ideal) m ρ)
  · refine (θ_run Cert.Reference14Ideal.defs _ _).mono (fun r h c => ⟨(h c).1.trans ?_, (h c).2⟩) (Cert.Reference14Ideal.Value.run_value m' ρ')
    rw [(hm c).1, (hm c).2]
    refine Eq.trans ?_ (Cert.Kernel14Ideal.Gen.array m c).symm
    exact funext fun y => (congrArg _ (eq_ix2 y)).trans (Cert.Reference14Ideal.Value.product_eq _ _ (y 0) (y 1))

/-- The frame on words: the merged branches. -/
theorem frame_kernel15 : Cert.quiescent_Kernel15 (hKernel15 := Cert.Kernel15.Gen.facts) := fun m ρ _ => Cert.Kernel15.Gen.frame m ρ

/-- The same over the extended reals. -/
theorem frame_kernel15Ideal : Cert.quiescent_Kernel15Ideal (hKernel15Ideal := Cert.Kernel15Ideal.Gen.facts) := fun m ρ _ => Cert.Kernel15Ideal.Gen.frame m ρ

/-- The frame of its reference. -/
theorem frame_reference15Ideal : Cert.quiescent_Reference15Ideal (hReference15Ideal := Cert.Reference15Ideal.Gen.facts) :=
  fun m ρ _ => (θ_run Cert.Reference15Ideal.defs _ _).mono
    (fun r h => ⟨fun c => (h c).2, Idealize.ShloMosaic.sem_eq_zero_of_no_sems (by decide) r.2⟩)
    (Cert.Reference15Ideal.Value.run_value m ρ)

/-- Over the extended reals kernel and reference end with the same: the merged branches. -/
theorem algebraic15 : Cert.algebraic_Kernel15Ideal_Reference15Ideal (hKernel15Ideal := Cert.Kernel15Ideal.Gen.facts) (hReference15Ideal := Cert.Reference15Ideal.Gen.facts) := fun m ρ m' ρ' _ hm => by
  refine ⟨fun c => (Cert.Kernel15Ideal.Gen.dats m 0 c).arrAt 12 Cert.Kernel15Ideal.cfg0.N, ?_, ?_⟩
  · exact (θ_run Cert.Kernel15Ideal.defs _ _).mono (fun r h c => h c) (Cert.Kernel15Ideal.Value.run_blocks (F := Ideal) m ρ)
  · refine (θ_run Cert.Reference15Ideal.defs _ _).mono (fun r h c => ⟨(h c).1.trans ?_, (h c).2⟩) (Cert.Reference15Ideal.Value.run_value m' ρ')
    rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2]
    refine Eq.trans ?_ (Cert.Kernel15Ideal.Gen.array m c).symm
    exact funext fun y => (congrArg _ (eq_ix2 y)).trans (Cert.Reference15Ideal.Value.merged_eq _ _ _ _ _ _ _ _ _ (y 0) (y 1))

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts, Cert.Kernel9.Gen.facts,
    Cert.Kernel9Ideal.Gen.facts, Cert.Reference9Ideal.Gen.facts, Cert.Kernel10.Gen.facts, Cert.Kernel10Ideal.Gen.facts, Cert.Reference10Ideal.Gen.facts,
    Cert.Kernel11.Gen.facts, Cert.Kernel11Ideal.Gen.facts, Cert.Reference11Ideal.Gen.facts, Cert.Kernel12.Gen.facts, Cert.Kernel12Ideal.Gen.facts,
    Cert.Reference12Ideal.Gen.facts, Cert.Kernel13.Gen.facts, Cert.Kernel13Ideal.Gen.facts, Cert.Reference13Ideal.Gen.facts, Cert.Kernel14.Gen.facts,
    Cert.Kernel14Ideal.Gen.facts, Cert.Reference14Ideal.Gen.facts, Cert.Kernel15.Gen.facts, Cert.Kernel15Ideal.Gen.facts, Cert.Reference15Ideal.Gen.facts,
    factsFinite, factsFinite2, frame_kernel, frame_kernelIdeal, frame_kernelIdeal_finite,
    frame_referenceIdeal, frame_referenceIdeal_finite, frame_kernel2, frame_kernel2Ideal, frame_kernel2Ideal_finite,
    frame_reference2Ideal, frame_reference2Ideal_finite, frame_kernel3, frame_kernel3Ideal, frame_reference3Ideal,
    frame_kernel4, frame_kernel4Ideal, frame_reference4Ideal, frame_kernel5, frame_kernel5Ideal,
    frame_reference5Ideal, frame_kernel6, frame_kernel6Ideal, frame_reference6Ideal, frame_kernel7,
    frame_kernel7Ideal, frame_reference7Ideal, frame_kernel8, frame_kernel8Ideal, frame_reference8Ideal,
    frame_kernel9, frame_kernel9Ideal, frame_reference9Ideal, frame_kernel10, frame_kernel10Ideal,
    frame_reference10Ideal, frame_kernel11, frame_kernel11Ideal, frame_reference11Ideal, frame_kernel12,
    frame_kernel12Ideal, frame_reference12Ideal, frame_kernel13, frame_kernel13Ideal, frame_reference13Ideal,
    frame_kernel14, frame_kernel14Ideal, frame_reference14Ideal, frame_kernel15, frame_kernel15Ideal,
    frame_reference15Ideal, trivial, algebraic, trivial, algebraic2,
    trivial, algebraic3, trivial, algebraic4, trivial,
    algebraic5, trivial, algebraic6, trivial, algebraic7,
    trivial, algebraic8, trivial, algebraic9, trivial,
    algebraic10, trivial, algebraic11, trivial, algebraic12,
    trivial, algebraic13, trivial, algebraic14, trivial,
    algebraic15⟩

end Cert.Proof

end
